-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v30_0)) (v1 : (c : Dev Cert.Kernel6Ideal.nD) → Buf (Elt Ideal) ((c.tc : Thread Cert.Kernel6Ideal.nD Cert.Kernel6Ideal.τ).loc Cert.Kernel6Ideal.main_v30_1)) (v2 : (c : Dev Cert.Kernel6Ideal.nD) → Buf (Elt Ideal) ((c.tc : Thread Cert.Kernel6Ideal.nD Cert.Kernel6Ideal.τ).loc Cert.Kernel6Ideal.main_v30_2)) (v3 : (c : Dev Cert.Kernel6Ideal.nD) → Buf (Elt Ideal) ((c.tc : Thread Cert.Kernel6Ideal.nD Cert.Kernel6Ideal.τ).loc Cert.Kernel6Ideal.main_v30_3)) (v4 : (c : Dev Cert.Kernel6Ideal.nD) → Buf (Elt Ideal) ((c.tc : Thread Cert.Kernel6Ideal.nD Cert.Kernel6Ideal.τ).loc Cert.Kernel6Ideal.main_v30_4)) (v5 : (c : Dev Cert.Kernel6Ideal.nD) → Buf (Elt Ideal) ((c.tc : Thread Cert.Kernel6Ideal.nD Cert.Kernel6Ideal.τ).loc Cert.Kernel6Ideal.main_v30_5)) (v6 : (c : Dev Cert.Kernel6Ideal.nD) → Buf (Elt Ideal) ((c.tc : Thread Cert.Kernel6Ideal.nD Cert.Kernel6Ideal.τ).loc Cert.Kernel6Ideal.main_v30_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30_0) = v0 c
          ∧ r.2.mem ((c.tc : Thread Cert.Kernel6Ideal.nD Cert.Kernel6Ideal.τ).loc Cert.Kernel6Ideal.main_v30_1) = v1 c
          ∧ r.2.mem ((c.tc : Thread Cert.Kernel6Ideal.nD Cert.Kernel6Ideal.τ).loc Cert.Kernel6Ideal.main_v30_2) = v2 c
          ∧ r.2.mem ((c.tc : Thread Cert.Kernel6Ideal.nD Cert.Kernel6Ideal.τ).loc Cert.Kernel6Ideal.main_v30_3) = v3 c
          ∧ r.2.mem ((c.tc : Thread Cert.Kernel6Ideal.nD Cert.Kernel6Ideal.τ).loc Cert.Kernel6Ideal.main_v30_4) = v4 c
          ∧ r.2.mem ((c.tc : Thread Cert.Kernel6Ideal.nD Cert.Kernel6Ideal.τ).loc Cert.Kernel6Ideal.main_v30_5) = v5 c
          ∧ r.2.mem ((c.tc : Thread Cert.Kernel6Ideal.nD Cert.Kernel6Ideal.τ).loc Cert.Kernel6Ideal.main_v30_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v85) = v0 c
          ∧ r.2.mem ((c.tc : Thread Cert.Reference6Ideal.nD Cert.Reference6Ideal.τ).loc Cert.Reference6Ideal.main_v86) = v1 c
          ∧ r.2.mem ((c.tc : Thread Cert.Reference6Ideal.nD Cert.Reference6Ideal.τ).loc Cert.Reference6Ideal.main_v87) = v2 c
          ∧ r.2.mem ((c.tc : Thread Cert.Reference6Ideal.nD Cert.Reference6Ideal.τ).loc Cert.Reference6Ideal.main_v88) = v3 c
          ∧ r.2.mem ((c.tc : Thread Cert.Reference6Ideal.nD Cert.Reference6Ideal.τ).loc Cert.Reference6Ideal.main_v89) = v4 c
          ∧ r.2.mem ((c.tc : Thread Cert.Reference6Ideal.nD Cert.Reference6Ideal.τ).loc Cert.Reference6Ideal.main_v81) = v5 c
          ∧ r.2.mem ((c.tc : Thread Cert.Reference6Ideal.nD Cert.Reference6Ideal.τ).loc Cert.Reference6Ideal.main_v90) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_decays : Cert.Pre_decays.Facts) (hPre_finite : Cert.Pre_finite.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ preserves_Kernel_KernelIdeal
    ∧ algebraic_KernelIdeal_ReferenceIdeal_pre_decays (hKernelIdeal := hKernelIdeal) (hReferenceIdeal := hReferenceIdeal) (hPre_decays := hPre_decays)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
-- ==== Pre_decays.lean ====
abbrev S8x4096x4x64 : Shape := ⟨4, ![8, 4096, 4, 64]⟩
abbrev S8x4096x4x128 : Shape := ⟨4, ![8, 4096, 4, 128]⟩
abbrev S8x4096x512 : Shape := ⟨3, ![8, 4096, 512]⟩
abbrev S1x512 : Shape := ⟨2, ![1, 512]⟩
abbrev S_ : Shape := ⟨0, ![]⟩

class Facts : Prop where
  bcast_S_S8x4096x4x64 : S_.BroadcastsInDim S8x4096x4x64 (![] : Fin 0 → Fin S8x4096x4x64.rank)
  reducesTo_S8x4096x4x64_S_d0_1_2_3 : S8x4096x4x64.ReducesTo [0, 1, 2, 3] S_
  h_S_ : 0 < S_.numel

variable [Facts]

def fn {F : FTy → Type} [FloatOps F] (main_arg0 : FVec F S8x4096x4x64 .f32) (main_arg1 : FVec F S8x4096x4x64 .f32) (main_arg2 : FVec F S8x4096x4x128 .f32) (main_arg3 : FVec F S8x4096x4x64 .f32) (main_arg4 : FVec F S8x4096x512 .f32) (main_arg5 : FVec F S1x512 .f32) : IVec S_ 1 :=
  let main_cst : FVec F S_ .f32 := constant S_ .f32 0x00000000#32
  let main_v0 : FVec F S8x4096x4x64 .f32 := broadcastInDim S8x4096x4x64 ![] bcast_S_S8x4096x4x64 main_cst
  let main_v1 : IVec S8x4096x4x64 1 := cmpf .ole main_arg3 main_v0
  let main_c : IVec S_ 1 := constantI S_ 1 1#1
  let main_v2 : IVec S_ 1 := (fun x v => Host.reduce IntOp.andi x v reducesTo_S8x4096x4x64_S_d0_1_2_3 h_S_) main_v1 main_c
  main_v2
-- ==== Pre_finite.lean ====
abbrev S8x4096x1024 : Shape := ⟨3, ![8, 4096, 1024]⟩
abbrev S1x1024 : Shape := ⟨2, ![1, 1024]⟩
abbrev S1x1024x3096 : Shape := ⟨3, ![1, 1024, 3096]⟩
abbrev S1x8 : Shape := ⟨2, ![1, 8]⟩
abbrev S1x16x256 : Shape := ⟨3, ![1, 16, 256]⟩
abbrev S1x256 : Shape := ⟨2, ![1, 256]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3096 : S_.BroadcastsInDim S1x1024x3096 (![] : Fin 0 → Fin S1x1024x3096.rank)
  reducesTo_S1x1024x3096_S_d0_1_2 : S1x1024x3096.ReducesTo [0, 1, 2] S_
  bcast_S_S1x8 : S_.BroadcastsInDim S1x8 (![] : Fin 0 → Fin S1x8.rank)
  reducesTo_S1x8_S_d0_1 : S1x8.ReducesTo [0, 1] S_
  bcast_S_S1x16x256 : S_.BroadcastsInDim S1x16x256 (![] : Fin 0 → Fin S1x16x256.rank)
  reducesTo_S1x16x256_S_d0_1_2 : S1x16x256.ReducesTo [0, 1, 2] S_

variable [Facts]

def fn_part1 {F : FTy → Type} [FloatOps F] (main_arg4 : FVec F S1x16x256 .f32) (main_v13 : IVec S_ 1) (main_v16 : IVec S1x8 1) : IVec S_ 1 :=
  let main_c_5 : IVec S_ 1 := constantI S_ 1 1#1
  let main_v17 : IVec S_ 1 := (fun x v => Host.reduce IntOp.andi x v reducesTo_S1x8_S_d0_1 h_S_) main_v16 main_c_5
  let main_v18 : IVec S_ 1 := andi main_v13 main_v17
  let main_v19 : FVec F S1x16x256 .f32 := Host.absf main_arg4
  let main_cst_6 : FVec F S_ .f32 := constant S_ .f32 0x7F800000#32
  let main_v20 : FVec F S1x16x256 .f32 := broadcastInDim S1x16x256 ![] bcast_S_S1x16x256 main_cst_6
  let main_v21 : IVec S1x16x256 1 := cmpf .olt main_v19 main_v20
  let main_c_7 : IVec S_ 1 := constantI S_ 1 1#1
  let main_v22 : IVec S_ 1 := (fun x v => Host.reduce IntOp.andi x v reducesTo_S1x16x256_S_d0_1_2 h_S_) main_v21 main_c_7
  let main_v23 : IVec S_ 1 := andi main_v18 main_v22
  main_v23

def fn {F : FTy → Type} [FloatOps F] (main_arg0 : FVec F S8x4096x1024 .f32) (main_arg1 : FVec F S1x1024 .f32) (main_arg2 : FVec F S1x1024x3096 .f32) (main_arg3 : FVec F S1x8 .f32) (main_arg4 : FVec F S1x16x256 .f32) (main_arg5 : FVec F S1x256 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x3096 .f32 := Host.absf main_arg2
  let main_cst_2 : FVec F S_ .f32 := constant S_ .f32 0x7F800000#32
  let main_v10 : FVec F S1x1024x3096 .f32 := broadcastInDim S1x1024x3096 ![] bcast_S_S1x1024x3096 main_cst_2
  let main_v11 : IVec S1x1024x3096 1 := cmpf .olt main_v9 main_v10
  let main_c_3 : IVec S_ 1 := constantI S_ 1 1#1
  let main_v12 : IVec S_ 1 := (fun x v => Host.reduce IntOp.andi x v reducesTo_S1x1024x3096_S_d0_1_2 h_S_) main_v11 main_c_3
  let main_v13 : IVec S_ 1 := andi main_v8 main_v12
  let main_v14 : FVec F S1x8 .f32 := Host.absf main_arg3
  let main_cst_4 : FVec F S_ .f32 := constant S_ .f32 0x7F800000#32
  let main_v15 : FVec F S1x8 .f32 := broadcastInDim S1x8 ![] bcast_S_S1x8 main_cst_4
  let main_v16 : IVec S1x8 1 := cmpf .olt main_v14 main_v15
  fn_part1 (F := F) main_arg4 main_v13 main_v16
-- ==== Kernel.lean ====
abbrev S8x4096x4x64 : Shape := ⟨4, ![8, 4096, 4, 64]⟩
abbrev S8x4096x4x128 : Shape := ⟨4, ![8, 4096, 4, 128]⟩
abbrev S8x4096x512 : Shape := ⟨3, ![8, 4096, 512]⟩
abbrev S1x512 : Shape := ⟨2, ![1, 512]⟩
abbrev S8x4096x256 : Shape := ⟨3, ![8, 4096, 256]⟩
abbrev S_ : Shape := ⟨0, ![]⟩
abbrev S512 : Shape := ⟨1, ![512]⟩
abbrev S4x512x512 : Shape := ⟨3, ![4, 512, 512]⟩
abbrev S4x512x256 : Shape := ⟨3, ![4, 512, 256]⟩
abbrev S4x2x128x256 : Shape := ⟨4, ![4, 2, 128, 256]⟩
abbrev S1x128 : Shape := ⟨2, ![1, 128]⟩
abbrev S256x256 : Shape := ⟨2, ![256, 256]⟩
abbrev S512x128 : Shape := ⟨2, ![512, 128]⟩
abbrev S128x256 : Shape := ⟨2, ![128, 256]⟩
abbrev S1x256x256 : Shape := ⟨3, ![1, 256, 256]⟩
abbrev S512x256 : Shape := ⟨2, ![512, 256]⟩
abbrev S8x64x256 : Shape := ⟨3, ![8, 64, 256]⟩
abbrev S8x1x256 : Shape := ⟨3, ![8, 1, 256]⟩
abbrev S1x512x256 : Shape := ⟨3, ![1, 512, 256]⟩
abbrev S8x256 : Shape := ⟨2, ![8, 256]⟩
abbrev S120x256 : Shape := ⟨2, ![120, 256]⟩
abbrev S256x128 : Shape := ⟨2, ![256, 128]⟩
abbrev S64x128 : Shape := ⟨2, ![64, 128]⟩
abbrev S1x64x256 : Shape := ⟨3, ![1, 64, 256]⟩
abbrev S64x256 : Shape := ⟨2, ![64, 256]⟩
abbrev S1x1x128x256 : Shape := ⟨4, ![1, 1, 128, 256]⟩
abbrev S128x1 : Shape := ⟨2, ![128, 1]⟩
abbrev S1x256x128 : Shape := ⟨3, ![1, 256, 128]⟩
abbrev S512x1 : Shape := ⟨2, ![512, 1]⟩
abbrev S1x512x128 : Shape := ⟨3, ![1, 512, 128]⟩

abbrev nBuf : Space → Nat
  | .hbm => 26
  | .vmem => 12
  | .smem => 0
  | _ => 0

abbrev bufTy : (tb : Table) → Fin (tcTables nBuf tb) → BufTy
  | .hbm, ⟨0, _⟩ => ⟨S8x4096x4x64, .f32⟩
  | .hbm, ⟨1, _⟩ => ⟨S8x4096x4x64, .f32⟩
  | .hbm, ⟨2, _⟩ => ⟨S8x4096x4x128, .f32⟩
  | .hbm, ⟨3, _⟩ => ⟨S8x4096x4x64, .f32⟩
  | .hbm, ⟨4, _⟩ => ⟨S8x4096x512, .f32⟩
  | .hbm, ⟨5, _⟩ => ⟨S1x512, .f32⟩
  | .hbm, ⟨6, _⟩ => ⟨S8x4096x256, .f32⟩
  | .hbm, ⟨7, _⟩ => ⟨S8x4096x256, .f32⟩
  | .hbm, ⟨8, _⟩ => ⟨S8x4096x512, .f32⟩
  | .hbm, ⟨9, _⟩ => ⟨S8x4096x512, .bf16⟩
  | .hbm, ⟨10, _⟩ => ⟨S8x4096x512, .f32⟩
  | .hbm, ⟨11, _⟩ => ⟨S8x4096x512, .bf16⟩
  | .hbm, ⟨12, _⟩ => ⟨S8x4096x256, .f32⟩
  | .hbm, ⟨13, _⟩ => ⟨S8x4096x512, .f32⟩
  | .hbm, ⟨14, _⟩ => ⟨S8x4096x512, .f32⟩
  | .hbm, ⟨15, _⟩ => ⟨S_, .f32⟩
  | .hbm, ⟨16, _⟩ => ⟨S8x4096x512, .f32⟩
  | .hbm, ⟨17, _⟩ => ⟨S8x4096x512, .f32⟩
  | .hbm, ⟨18, _⟩ => ⟨S_, .f32⟩
  | .hbm, ⟨19, _⟩ => ⟨S8x4096x512, .f32⟩
  | .hbm, ⟨20, _⟩ => ⟨S8x4096x512, .f32⟩
  | .hbm, ⟨21, _⟩ => ⟨S8x4096x512, .f32⟩
  | .hbm, ⟨22, _⟩ => ⟨S8x4096x512, .bf16⟩
  | .hbm, ⟨23, _⟩ => ⟨S512, .f32⟩
  | .hbm, ⟨24, _⟩ => ⟨S1x512, .f32⟩
  | .hbm, ⟨25, _⟩ => ⟨S8x4096x512, .bf16⟩
  | .local _ .vmem, ⟨0, _⟩ => ⟨S4x512x512, .bf16⟩
  | .local _ .vmem, ⟨1, _⟩ => ⟨S4x512x512, .bf16⟩
  | .local _ .vmem, ⟨2, _⟩ => ⟨S4x512x512, .bf16⟩
  | .local _ .vmem, ⟨3, _⟩ => ⟨S4x512x512, .bf16⟩
  | .local _ .vmem, ⟨4, _⟩ => ⟨S4x512x256, .f32⟩
  | .local _ .vmem, ⟨5, _⟩ => ⟨S4x512x256, .f32⟩
  | .local _ .vmem, ⟨6, _⟩ => ⟨S4x512x512, .bf16⟩
  | .local _ .vmem, ⟨7, _⟩ => ⟨S4x512x512, .bf16⟩
  | .local _ .vmem, ⟨8, _⟩ => ⟨S1x512, .f32⟩
  | .local _ .vmem, ⟨9, _⟩ => ⟨S4x512x512, .bf16⟩
  | .local _ .vmem, ⟨10, _⟩ => ⟨S4x512x512, .bf16⟩
  | .local _ .vmem, ⟨11, _⟩ => ⟨S4x2x128x256, .f32⟩
  | _, _ => ⟨S8x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x4x64 : Shape := ⟨4, ![8, 4096, 4, 64]⟩
abbrev S8x4096x4x128 : Shape := ⟨4, ![8, 4096, 4, 128]⟩
abbrev S8x4096x512 : Shape := ⟨3, ![8, 4096, 512]⟩
abbrev S1x512 : Shape := ⟨2, ![1, 512]⟩
abbrev S8x64x64x4x64 : Shape := ⟨5, ![8, 64, 64, 4, 64]⟩
abbrev S8x4x64x64x64 : Shape := ⟨5, ![8, 4, 64, 64, 64]⟩
abbrev S_ : Shape := ⟨0, ![]⟩
abbrev S8x64x64x4x128 : Shape := ⟨5, ![8, 64, 64, 4, 128]⟩
abbrev S8x4x64x64x128 : Shape := ⟨5, ![8, 4, 64, 64, 128]⟩
abbrev S8x4x64x1x64 : Shape := ⟨5, ![8, 4, 64, 1, 64]⟩
abbrev S64x64 : Shape := ⟨2, ![64, 64]⟩
abbrev S8x4x64x64 : Shape := ⟨4, ![8, 4, 64, 64]⟩
abbrev S8x4x64x128 : Shape := ⟨4, ![8, 4, 64, 128]⟩
abbrev S64x8x4x64 : Shape := ⟨4, ![64, 8, 4, 64]⟩
abbrev S64x8x4x64x128 : Shape := ⟨5, ![64, 8, 4, 64, 128]⟩
abbrev S1x8x4x64 : Shape := ⟨4, ![1, 8, 4, 64]⟩
abbrev S8x4x64 : Shape := ⟨3, ![8, 4, 64]⟩
abbrev S1x8x4x64x128 : Shape := ⟨5, ![1, 8, 4, 64, 128]⟩
abbrev S8x4x64x1 : Shape := ⟨4, ![8, 4, 64, 1]⟩
abbrev S512 : Shape := ⟨1, ![512]⟩
abbrev S8x4096x4 : Shape := ⟨3, ![8, 4096, 4]⟩
abbrev S8x4096x4x1 : Shape := ⟨4, ![8, 4096, 4, 1]⟩
abbrev S4x128 : Shape := ⟨2, ![4, 128]⟩
abbrev S1x1x4x128 : Shape := ⟨4, ![1, 1, 4, 128]⟩

abbrev nBuf : Space → Nat
  | .hbm => 123
  | .vmem => 0
  | .smem => 0
  | _ => 0

abbrev bufTy : (tb : Table) → Fin (tcTables nBuf tb) → BufTy
  | .hbm, ⟨0, _⟩ => ⟨S8x4096x4x64, .f32⟩
  | .hbm, ⟨1, _⟩ => ⟨S8x4096x4x64, .f32⟩
  | .hbm, ⟨2, _⟩ => ⟨S8x4096x4x128, .f32⟩
  | .hbm, ⟨3, _⟩ => ⟨S8x4096x4x64, .f32⟩
  | .hbm, ⟨4, _⟩ => ⟨S8x4096x512, .f32⟩
  | .hbm, ⟨5, _⟩ => ⟨S1x512, .f32⟩
  | .hbm, ⟨6, _⟩ => ⟨S8x64x64x4x64, .f32⟩
  | .hbm, ⟨7, _⟩ => ⟨S8x4x64x64x64, .f32⟩
  | .hbm, ⟨8, _⟩ => ⟨S_, .f32⟩
  | .hbm, ⟨9, _⟩ => ⟨S8x4x64x64x64, .f32⟩
  | .hbm, ⟨10, _⟩ => ⟨S8x4x64x64x64, .f32⟩
  | .hbm, ⟨11, _⟩ => ⟨S8x64x64x4x64, .f32⟩
  | .hbm, ⟨12, _⟩ => ⟨S8x4x64x64x64, .f32⟩
  | .hbm, ⟨13, _⟩ => ⟨S8x64x64x4x128, .f32⟩
  | .hbm, ⟨14, _⟩ => ⟨S8x4x64x64x128, .f32⟩
  | .hbm, ⟨15, _⟩ => ⟨S8x64x64x4x64, .f32⟩
  | .hbm, ⟨16, _⟩ => ⟨S8x4x64x64x64, .f32⟩
  | .hbm, ⟨17, _⟩ => ⟨S_, .f32⟩
  | .hbm, ⟨18, _⟩ => ⟨S_, .f32⟩
  | .hbm, ⟨19, _⟩ => ⟨S8x4x64x64x64, .f32⟩
  | .hbm, ⟨20, _⟩ => ⟨S8x4x64x1x64, .f32⟩
  | .hbm, ⟨21, _⟩ => ⟨S8x4x64x64x64, .f32⟩
  | .hbm, ⟨22, _⟩ => ⟨S8x4x64x64x64, .f32⟩
  | .hbm, ⟨23, _⟩ => ⟨S8x4x64x64x64, .f32⟩
  | .hbm, ⟨24, _⟩ => ⟨S8x4x64x64x64, .f32⟩
  | .hbm, ⟨25, _⟩ => ⟨S8x4x64x64x64, .f32⟩
  | .hbm, ⟨26, _⟩ => ⟨S_, .i1⟩
  | .hbm, ⟨27, _⟩ => ⟨S64x64, .i1⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S_, .i1⟩
  | .hbm, ⟨35, _⟩ => ⟨S64x64, .i1⟩
  | .hbm, ⟨36, _⟩ => ⟨S64x64, .i1⟩
  | .hbm, ⟨37, _⟩ => ⟨S8x4x64x64x64, .f32⟩
  | .hbm, ⟨38, _⟩ => ⟨S_, .f32⟩
  | .hbm, ⟨39, _⟩ => ⟨S_, .f32⟩
  | .hbm, ⟨40, _⟩ => ⟨S8x4x64x64x64, .i1⟩
  | .hbm, ⟨41, _⟩ => ⟨S8x4x64x64x64, .f32⟩
  | .hbm, ⟨42, _⟩ => ⟨S8x4x64x64x64, .f32⟩
  | .hbm, ⟨43, _⟩ => ⟨S8x4x64x64x128, .f32⟩
  | .hbm, ⟨44, _⟩ => ⟨S8x4x64x64x64, .f32⟩
  | .hbm, ⟨45, _⟩ => ⟨S8x4x64x64x64, .f32⟩
  | .hbm, ⟨46, _⟩ => ⟨S8x4x64x64x64, .f32⟩
  | .hbm, ⟨47, _⟩ => ⟨S8x4x64x64x64, .f32⟩
  | .hbm, ⟨48, _⟩ => ⟨S8x4x64x64x128, .f32⟩
  | .hbm, ⟨49, _⟩ => ⟨S8x4x64x64, .f32⟩
  | .hbm, ⟨50, _⟩ => ⟨S8x4x64x64, .f32⟩
  | .hbm, ⟨51, _⟩ => ⟨S_, .f32⟩
  | .hbm, ⟨52, _⟩ => ⟨S8x4x64x128, .f32⟩
  | .hbm, ⟨53, _⟩ => ⟨S64x8x4x64, .f32⟩
  | .hbm, ⟨54, _⟩ => ⟨S64x8x4x64x128, .f32⟩
  | .hbm, ⟨55, _⟩ => ⟨S_, .f32⟩
  | .hbm, ⟨56, _⟩ => ⟨S64x8x4x64x128, .f32⟩
  | .hbm, ⟨57, _⟩ => ⟨S_, .i32⟩
  | .hbm, ⟨58, _⟩ => ⟨S64x8x4x64, .f32⟩
  | .hbm, ⟨59, _⟩ => ⟨S64x8x4x64x128, .f32⟩
  | .hbm, ⟨60, _⟩ => ⟨S_, .i32⟩
  | .hbm, ⟨61, _⟩ => ⟨S8x4x64x128, .f32⟩
  | .hbm, ⟨62, _⟩ => ⟨S64x8x4x64x128, .f32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x8x4x64, .f32⟩
  | .hbm, ⟨69, _⟩ => ⟨S8x4x64, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x8x4x64x128, .f32⟩
  | .hbm, ⟨75, _⟩ => ⟨S8x4x64x128, .f32⟩
  | .hbm, ⟨76, _⟩ => ⟨S8x4x64x1, .f32⟩
  | .hbm, ⟨77, _⟩ => ⟨S8x4x64x128, .f32⟩
  | .hbm, ⟨78, _⟩ => ⟨S8x4x64x128, .f32⟩
  | .hbm, ⟨79, _⟩ => ⟨S8x4x64x128, .f32⟩
  | .hbm, ⟨80, _⟩ => ⟨S1x8x4x64x128, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S64x8x4x64x128, .f32⟩
  | .hbm, ⟨86, _⟩ => ⟨S_, .i32⟩
  | .hbm, ⟨87, _⟩ => ⟨S_, .i32⟩
  | .hbm, ⟨88, _⟩ => ⟨S8x4x64x64x128, .f32⟩
  | .hbm, ⟨89, _⟩ => ⟨S8x4x64x64x128, .f32⟩
  | .hbm, ⟨90, _⟩ => ⟨S8x4x64x64x128, .f32⟩
  | .hbm, ⟨91, _⟩ => ⟨S8x64x64x4x128, .f32⟩
  | .hbm, ⟨92, _⟩ => ⟨S8x4096x4x128, .f32⟩
  | .hbm, ⟨93, _⟩ => ⟨S512, .f32⟩
  | .hbm, ⟨94, _⟩ => ⟨S8x4096x4x128, .f32⟩
  | .hbm, ⟨95, _⟩ => ⟨S_, .f32⟩
  | .hbm, ⟨96, _⟩ => ⟨S8x4096x4, .f32⟩
  | .hbm, ⟨97, _⟩ => ⟨S8x4096x4x1, .f32⟩
  | .hbm, ⟨98, _⟩ => ⟨S_, .f32⟩
  | .hbm, ⟨99, _⟩ => ⟨S8x4096x4x1, .f32⟩
  | .hbm, ⟨100, _⟩ => ⟨S8x4096x4x1, .f32⟩
  | .hbm, ⟨101, _⟩ => ⟨S_, .f32⟩
  | .hbm, ⟨102, _⟩ => ⟨S8x4096x4x1, .f32⟩
  | .hbm, ⟨103, _⟩ => ⟨S8x4096x4x1, .f32⟩
  | .hbm, ⟨104, _⟩ => ⟨S8x4096x4x1, .f32⟩
  | .hbm, ⟨105, _⟩ => ⟨S8x4096x4x128, .f32⟩
  | .hbm, ⟨106, _⟩ => ⟨S8x4096x4x128, .f32⟩
  | .hbm, ⟨107, _⟩ => ⟨S4x128, .f32⟩
  | .hbm, ⟨108, _⟩ => ⟨S1x1x4x128, .f32⟩
  | .hbm, ⟨109, _⟩ => ⟨S8x4096x4x128, .f32⟩
  | .hbm, ⟨110, _⟩ => ⟨S8x4096x4x128, .f32⟩
  | .hbm, ⟨111, _⟩ => ⟨S8x4096x512, .f32⟩
  | .hbm, ⟨112, _⟩ => ⟨S8x4096x512, .f32⟩
  | .hbm, ⟨113, _⟩ => ⟨S8x4096x512, .f32⟩
  | .hbm, ⟨114, _⟩ => ⟨S_, .f32⟩
  | .hbm, ⟨115, _⟩ => ⟨S8x4096x512, .f32⟩
  | .hbm, ⟨116, _⟩ => ⟨S8x4096x512, .f32⟩
  | .hbm, ⟨117, _⟩ => ⟨S_, .f32⟩
  | .hbm, ⟨118, _⟩ => ⟨S8x4096x512, .f32⟩
  | .hbm, ⟨119, _⟩ => ⟨S8x4096x512, .f32⟩
  | .hbm, ⟨120, _⟩ => ⟨S8x4096x512, .f32⟩
  | .hbm, ⟨121, _⟩ => ⟨S8x4096x512, .f32⟩
  | .hbm, ⟨122, _⟩ => ⟨S8x4096x512, .bf16⟩
  | _, _ => ⟨S8x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_call0_cst : Ref sig .tc := ⟨.hbm, 17, rfl⟩
abbrev main_call0_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_0 : Ref sig .tc := ⟨.hbm, 34, rfl⟩
abbrev main_call1_v5 : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_c_3 : Ref sig .tc := ⟨.hbm, 57, rfl⟩
abbrev main_v33_0 : Ref sig .tc := ⟨.hbm, 58, rfl⟩
abbrev main_v33_1 : Ref sig .tc := ⟨.hbm, 59, rfl⟩
abbrev main_v33_2 : Ref sig .tc := ⟨.hbm, 60, rfl⟩
abbrev main_v33_3 : Ref sig .tc := ⟨.hbm, 61, rfl⟩
abbrev main_v33_4 : Ref sig .tc := ⟨.hbm, 62, rfl⟩
abbrev main_while0c_c_11 : Ref sig .tc := ⟨.hbm, 63, rfl⟩
abbrev main_while0c_v58 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_call3_v0 : Ref sig .tc := ⟨.hbm, 68, rfl⟩
abbrev main_while0b_v58 : Ref sig .tc := ⟨.hbm, 69, rfl⟩
abbrev main_while0b_call4_c : Ref sig .tc := ⟨.hbm, 70, rfl⟩
abbrev main_while0b_call4_c_0 : Ref sig .tc := ⟨.hbm, 71, rfl⟩
abbrev main_while0b_call4_c_1 : Ref sig .tc := ⟨.hbm, 72, rfl⟩
abbrev main_while0b_call4_c_2 : Ref sig .tc := ⟨.hbm, 73, rfl⟩
abbrev main_while0b_call4_v0 : Ref sig .tc := ⟨.hbm, 74, rfl⟩
abbrev main_while0b_v59 : Ref sig .tc := ⟨.hbm, 75, rfl⟩
abbrev main_while0b_v60 : Ref sig .tc := ⟨.hbm, 76, rfl⟩
abbrev main_while0b_v61 : Ref sig .tc := ⟨.hbm, 77, rfl⟩
abbrev main_while0b_v62 : Ref sig .tc := ⟨.hbm, 78, rfl⟩
abbrev main_while0b_v63 : Ref sig .tc := ⟨.hbm, 79, rfl⟩
abbrev main_while0b_call5_v0 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_c_2 : Ref sig .tc := ⟨.hbm, 84, rfl⟩
abbrev main_while0b_v64 : Ref sig .tc := ⟨.hbm, 85, rfl⟩
abbrev main_while0b_c_11 : Ref sig .tc := ⟨.hbm, 86, rfl⟩
abbrev main_while0b_v65 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_cst_4 : Ref sig .tc := ⟨.hbm, 95, rfl⟩
abbrev main_v41 : Ref sig .tc := ⟨.hbm, 96, rfl⟩
abbrev main_v42 : Ref sig .tc := ⟨.hbm, 97, rfl⟩
abbrev main_cst_5 : Ref sig .tc := ⟨.hbm, 98, rfl⟩
abbrev main_v43 : Ref sig .tc := ⟨.hbm, 99, rfl⟩
abbrev main_v44 : Ref sig .tc := ⟨.hbm, 100, rfl⟩
abbrev main_cst_6 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_call6_v0 : Ref sig .tc := ⟨.hbm, 112, rfl⟩
abbrev main_call6_v1 : Ref sig .tc := ⟨.hbm, 113, rfl⟩
abbrev main_call6_cst : Ref sig .tc := ⟨.hbm, 114, rfl⟩
abbrev main_call6_v2 : Ref sig .tc := ⟨.hbm, 115, rfl⟩
abbrev main_call6_v3 : Ref sig .tc := ⟨.hbm, 116, rfl⟩
abbrev main_call6_cst_0 : Ref sig .tc := ⟨.hbm, 117, rfl⟩
abbrev main_call6_v4 : Ref sig .tc := ⟨.hbm, 118, rfl⟩
abbrev main_call6_v5 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32768x1024 : Shape := ⟨2, ![32768, 1024]⟩
abbrev S1024x2816 : Shape := ⟨2, ![1024, 2816]⟩
abbrev S2816x1024 : Shape := ⟨2, ![2816, 1024]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S128x2816 : Shape := ⟨2, ![128, 2816]⟩

abbrev nBuf : Space → Nat
  | .hbm => 20
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S32768x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S1024, .f32⟩
  | .hbm, ⟨18, _⟩ => ⟨S1x1024, .f32⟩
  | .hbm, ⟨19, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S8x4096x2816, .f32⟩
  | .hbm, ⟨28, _⟩ => ⟨S8x4096x2816, .f32⟩
  | .hbm, ⟨29, _⟩ => ⟨S8x4096x2816, .f32⟩
  | .hbm, ⟨30, _⟩ => ⟨S_, .f32⟩
  | .hbm, ⟨31, _⟩ => ⟨S8x4096x2816, .f32⟩
  | .hbm, ⟨32, _⟩ => ⟨S8x4096x2816, .f32⟩
  | .hbm, ⟨33, _⟩ => ⟨S_, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x1024, .f32⟩
  | .hbm, ⟨40, _⟩ => ⟨S1024, .f32⟩
  | .hbm, ⟨41, _⟩ => ⟨S8x4096x1024, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x1, .f32⟩
  | .hbm, ⟨52, _⟩ => ⟨S8x4096x1024, .f32⟩
  | .hbm, ⟨53, _⟩ => ⟨S8x4096x1024, .f32⟩
  | .hbm, ⟨54, _⟩ => ⟨S1x1x1024, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1, .f32⟩
  | .hbm, ⟨72, _⟩ => ⟨S8x4096x1024, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | .hbm, ⟨77, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32768x1024 : Shape := ⟨2, ![32768, 1024]⟩
abbrev S1024x2816 : Shape := ⟨2, ![1024, 2816]⟩
abbrev S2816x1024 : Shape := ⟨2, ![2816, 1024]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S128x2816 : Shape := ⟨2, ![128, 2816]⟩

abbrev nBuf : Space → Nat
  | .hbm => 20
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S32768x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S1024, .f32⟩
  | .hbm, ⟨18, _⟩ => ⟨S1x1024, .f32⟩
  | .hbm, ⟨19, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S8x4096x2816, .f32⟩
  | .hbm, ⟨28, _⟩ => ⟨S8x4096x2816, .f32⟩
  | .hbm, ⟨29, _⟩ => ⟨S8x4096x2816, .f32⟩
  | .hbm, ⟨30, _⟩ => ⟨S_, .f32⟩
  | .hbm, ⟨31, _⟩ => ⟨S8x4096x2816, .f32⟩
  | .hbm, ⟨32, _⟩ => ⟨S8x4096x2816, .f32⟩
  | .hbm, ⟨33, _⟩ => ⟨S_, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x1024, .f32⟩
  | .hbm, ⟨40, _⟩ => ⟨S1024, .f32⟩
  | .hbm, ⟨41, _⟩ => ⟨S8x4096x1024, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x1, .f32⟩
  | .hbm, ⟨52, _⟩ => ⟨S8x4096x1024, .f32⟩
  | .hbm, ⟨53, _⟩ => ⟨S8x4096x1024, .f32⟩
  | .hbm, ⟨54, _⟩ => ⟨S1x1x1024, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096x512 : Shape := ⟨3, ![8, 4096, 512]⟩
abbrev S8x256x2048 : Shape := ⟨3, ![8, 256, 2048]⟩
abbrev S1x1024x1024 : Shape := ⟨3, ![1, 1024, 1024]⟩
abbrev S1x1024 : Shape := ⟨2, ![1, 1024]⟩
abbrev S32768x1024 : Shape := ⟨2, ![32768, 1024]⟩
abbrev S32768x512 : Shape := ⟨2, ![32768, 512]⟩
abbrev S512x32768 : Shape := ⟨2, ![512, 32768]⟩
abbrev S2048x2048 : Shape := ⟨2, ![2048, 2048]⟩
abbrev S1024x1024 : Shape := ⟨2, ![1024, 1024]⟩
abbrev S1024 : Shape := ⟨1, ![1024]⟩
abbrev S512x1024 : Shape := ⟨2, ![512, 1024]⟩
abbrev S1024x512 : Shape := ⟨2, ![1024, 512]⟩
abbrev S256x2048 : Shape := ⟨2, ![256, 2048]⟩
abbrev S512x256 : Shape := ⟨2, ![512, 256]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x256 : Shape := ⟨2, ![256, 256]⟩

abbrev nBuf : Space → Nat
  | .hbm => 31
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x256x2048, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S32768x1024, .f32⟩
  | .hbm, ⟨11, _⟩ => ⟨S32768x512, .f32⟩
  | .hbm, ⟨12, _⟩ => ⟨S512x32768, .f32⟩
  | .hbm, ⟨13, _⟩ => ⟨S512x32768, .bf16⟩
  | .hbm, ⟨14, _⟩ => ⟨S32768x512, .f32⟩
  | .hbm, ⟨15, _⟩ => ⟨S32768x512, .bf16⟩
  | .hbm, ⟨16, _⟩ => ⟨S2048x2048, .f32⟩
  | .hbm, ⟨17, _⟩ => ⟨S2048x2048, .bf16⟩
  | .hbm, ⟨18, _⟩ => ⟨S1024x1024, .f32⟩
  | .hbm, ⟨19, _⟩ => ⟨S1024x1024, .bf16⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S256x2048, .bf16⟩
  | .local _ .vmem, ⟨7, _⟩ => ⟨S256x2048, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8x4096x1024 : Shape := ⟨3, ![8, 4096, 1024]⟩
abbrev S8x4096x512 : Shape := ⟨3, ![8, 4096, 512]⟩
abbrev S8x256x2048 : Shape := ⟨3, ![8, 256, 2048]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x2x4x256 : Shape := ⟨5, ![8, 256, 2, 4, 256]⟩
abbrev S8x256x1x4x256 : Shape := ⟨5, ![8, 256, 1, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S32768x1024 : Shape := ⟨2, ![32768, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x256x2048, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S8x4096x1024, .f32⟩
  | .hbm, ⟨11, _⟩ => ⟨S1024x1024, .f32⟩
  | .hbm, ⟨12, _⟩ => ⟨S8x4096x1024, .f32⟩
  | .hbm, ⟨13, _⟩ => ⟨S1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S1024x1024, .f32⟩
  | .hbm, ⟨49, _⟩ => ⟨S1024x1024, .f32⟩
  | .hbm, ⟨50, _⟩ => ⟨S8x4096x1024, .f32⟩
  | .hbm, ⟨51, _⟩ => ⟨S8x4096x4x256, .f32⟩
  | .hbm, ⟨52, _⟩ => ⟨S8x256x2x4x256, .f32⟩
  | .hbm, ⟨53, _⟩ => ⟨S8x256x1x4x256, .f32⟩
  | .hbm, ⟨54, _⟩ => ⟨S8x256x4x256, .f32⟩
  | .hbm, ⟨55, _⟩ => ⟨S8x4x4096x256, .f32⟩
  | .hbm, ⟨56, _⟩ => ⟨S_, .f32⟩
  | .hbm, ⟨57, _⟩ => ⟨S8x4x4096x256, .f32⟩
  | .hbm, ⟨58, _⟩ => ⟨S8x4x4096x256, .f32⟩
  | .hbm, ⟨59, _⟩ => ⟨S_, .f32⟩
  | .hbm, ⟨60, _⟩ => ⟨S8x4x4096, .f32⟩
  | .hbm, ⟨61, _⟩ => ⟨S_, .f32⟩
  | .hbm, ⟨62, _⟩ => ⟨S8x4x4096, .f32⟩
  | .hbm, ⟨63, _⟩ => ⟨S8x4x4096, .f32⟩
  | .hbm, ⟨64, _⟩ => ⟨S8x4x4096x1, .f32⟩
  | .hbm, ⟨65, _⟩ => ⟨S8x4x4096x256, .f32⟩
  | .hbm, ⟨66, _⟩ => ⟨S8x4x4096x256, .f32⟩
  | .hbm, ⟨67, _⟩ => ⟨S8x4x4096x256, .f32⟩
  | .hbm, ⟨68, _⟩ => ⟨S_, .f32⟩
  | .hbm, ⟨69, _⟩ => ⟨S8x4x4096, .f32⟩
  | .hbm, ⟨70, _⟩ => ⟨S8x4x4096x1, .f32⟩
  | .hbm, ⟨71, _⟩ => ⟨S8x4x4096x256, .f32⟩
  | .hbm, ⟨72, _⟩ => ⟨S8x4x4096x256, .f32⟩
  | .hbm, ⟨73, _⟩ => ⟨S8x256x1x4x256, .f32⟩
  | .hbm, ⟨74, _⟩ => ⟨S8x256x4x256, .f32⟩
  | .hbm, ⟨75, _⟩ => ⟨S8x4x256x4096, .f32⟩
  | .hbm, ⟨76, _⟩ => ⟨S8x4096x4x256, .f32⟩
  | .hbm, ⟨77, _⟩ => ⟨S8x4096x1024, .f32⟩
  | .hbm, ⟨78, _⟩ => ⟨S8x4096x1024, .f32⟩
  | .hbm, ⟨79, _⟩ => ⟨S1024, .f32⟩
  | .hbm, ⟨80, _⟩ => ⟨S8x4096x1024, .f32⟩
  | .hbm, ⟨81, _⟩ => ⟨S_, .f32⟩
  | .hbm, ⟨82, _⟩ => ⟨S8x4096, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S8x4096x1, .f32⟩
  | .hbm, ⟨91, _⟩ => ⟨S8x4096x1024, .f32⟩
  | .hbm, ⟨92, _⟩ => ⟨S8x4096x1024, .f32⟩
  | .hbm, ⟨93, _⟩ => ⟨S1x1x1024, .f32⟩
  | .hbm, ⟨94, _⟩ => ⟨S8x4096x1024, .f32⟩
  | .hbm, ⟨95, _⟩ => ⟨S8x4096x1024, .f32⟩
  | .hbm, ⟨96, _⟩ => ⟨S8x4096x1024, .f32⟩
  | .hbm, ⟨97, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Kernel5.lean ====
abbrev S8x256x1024 : Shape := ⟨3, ![8, 256, 1024]⟩
abbrev S1x1024 : Shape := ⟨2, ![1, 1024]⟩
abbrev S1x1024x2048 : Shape := ⟨3, ![1, 1024, 2048]⟩
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S1024x2048, .f32⟩
  | .hbm, ⟨7, _⟩ => ⟨S1024x2048, .bf16⟩
  | .hbm, ⟨8, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .bf16⟩
  | .local _ .vmem, ⟨5, _⟩ => ⟨S256x2048, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x256x1024 : Shape := ⟨3, ![8, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x2048 : Shape := ⟨2, ![1024, 2048]⟩
abbrev S8x256x2048 : Shape := ⟨3, ![8, 256, 2048]⟩
abbrev S2048x2048 : Shape := ⟨2, ![2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1024x2048, .f32⟩
  | .hbm, ⟨21, _⟩ => ⟨S8x256x2048, .f32⟩
  | .hbm, ⟨22, _⟩ => ⟨S2048x2048, .f32⟩
  | .hbm, ⟨23, _⟩ => ⟨S2048x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S8x4096x1024 : Shape := ⟨3, ![8, 4096, 1024]⟩
abbrev S1x1024 : Shape := ⟨2, ![1, 1024]⟩
abbrev S1x1024x3096 : Shape := ⟨3, ![1, 1024, 3096]⟩
abbrev S1x8 : Shape := ⟨2, ![1, 8]⟩
abbrev S1x16x256 : Shape := ⟨3, ![1, 16, 256]⟩
abbrev S1x256 : Shape := ⟨2, ![1, 256]⟩
abbrev S128x512 : Shape := ⟨2, ![128, 512]⟩
abbrev S128x128 : Shape := ⟨2, ![128, 128]⟩
abbrev S32768x1024 : Shape := ⟨2, ![32768, 1024]⟩
abbrev S1024x3096 : Shape := ⟨2, ![1024, 3096]⟩
abbrev S1024x512 : Shape := ⟨2, ![1024, 512]⟩
abbrev S_ : Shape := ⟨0, ![]⟩
abbrev S512x1024 : Shape := ⟨2, ![512, 1024]⟩
abbrev S1024x1024 : Shape := ⟨2, ![1024, 1024]⟩
abbrev S1024x8 : Shape := ⟨2, ![1024, 8]⟩
abbrev S1024x16 : Shape := ⟨2, ![1024, 16]⟩
abbrev S1024x24 : Shape := ⟨2, ![1024, 24]⟩
abbrev S1024x128 : Shape := ⟨2, ![1024, 128]⟩
abbrev S8 : Shape := ⟨1, ![8]⟩
abbrev S1x128 : Shape := ⟨2, ![1, 128]⟩
abbrev S16x256 : Shape := ⟨2, ![16, 256]⟩
abbrev S128x256 : Shape := ⟨2, ![128, 256]⟩
abbrev S1024 : Shape := ⟨1, ![1024]⟩
abbrev S256 : Shape := ⟨1, ![256]⟩
abbrev S128x1024x256 : Shape := ⟨3, ![128, 1024, 256]⟩
abbrev S128x640x256 : Shape := ⟨3, ![128, 640, 256]⟩
abbrev S32768x512 : Shape := ⟨2, ![32768, 512]⟩
abbrev S32768x256 : Shape := ⟨2, ![32768, 256]⟩
abbrev S4x1024x256 : Shape := ⟨3, ![4, 1024, 256]⟩
abbrev S4x640x256 : Shape := ⟨3, ![4, 640, 256]⟩
abbrev S1024x256 : Shape := ⟨2, ![1024, 256]⟩
abbrev S256x256 : Shape := ⟨2, ![256, 256]⟩
abbrev S256x1024 : Shape := ⟨2, ![256, 1024]⟩
abbrev S256x1 : Shape := ⟨2, ![256, 1]⟩
abbrev S256x512 : Shape := ⟨2, ![256, 512]⟩
abbrev S256x128 : Shape := ⟨2, ![256, 128]⟩
abbrev S512x256 : Shape := ⟨2, ![512, 256]⟩
abbrev S48x256 : Shape := ⟨2, ![48, 256]⟩
abbrev S64x256 : Shape := ⟨2, ![64, 256]⟩
abbrev S1x64x256 : Shape := ⟨3, ![1, 64, 256]⟩
abbrev S1x48x256 : Shape := ⟨3, ![1, 48, 256]⟩

abbrev nBuf : Space → Nat
  | .hbm => 52
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3096, .f32⟩
  | .hbm, ⟨3, _⟩ => ⟨S1x8, .f32⟩
  | .hbm, ⟨4, _⟩ => ⟨S1x16x256, .f32⟩
  | .hbm, ⟨5, _⟩ => ⟨S1x256, .f32⟩
  | .hbm, ⟨6, _⟩ => ⟨S128x512, .bf16⟩
  | .hbm, ⟨7, _⟩ => ⟨S128x128, .bf16⟩
  | .hbm, ⟨8, _⟩ => ⟨S32768x1024, .f32⟩
  | .hbm, ⟨9, _⟩ => ⟨S1024x3096, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S512x1024, .f32⟩
  | .hbm, ⟨15, _⟩ => ⟨S512x1024, .bf16⟩
  | .hbm, ⟨16, _⟩ => ⟨S1024x512, .f32⟩
  | .hbm, ⟨17, _⟩ => ⟨S1024x512, .bf16⟩
  | .hbm, ⟨18, _⟩ => ⟨S1024x512, .f32⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024x512, .f32⟩
  | .hbm, ⟨24, _⟩ => ⟨S1024x512, .bf16⟩
  | .hbm, ⟨25, _⟩ => ⟨S1024x8, .f32⟩
  | .hbm, ⟨26, _⟩ => ⟨S1024x16, .f32⟩
  | .hbm, ⟨27, _⟩ => ⟨S1024x24, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x128, .bf16⟩
  | .hbm, ⟨32, _⟩ => ⟨S8, .f32⟩
  | .hbm, ⟨33, _⟩ => ⟨S1x8, .f32⟩
  | .hbm, ⟨34, _⟩ => ⟨S_, .i32⟩
  | .hbm, ⟨35, _⟩ => ⟨S_, .f32⟩
  | .hbm, ⟨36, _⟩ => ⟨S1x128, .f32⟩
  | .hbm, ⟨37, _⟩ => ⟨S16x256, .f32⟩
  | .hbm, ⟨38, _⟩ => ⟨S_, .i32⟩
  | .hbm, ⟨39, _⟩ => ⟨S_, .f32⟩
  | .hbm, ⟨40, _⟩ => ⟨S128x256, .f32⟩
  | .hbm, ⟨41, _⟩ => ⟨S1024, .f32⟩
  | .hbm, ⟨42, _⟩ => ⟨S1x1024, .f32⟩
  | .hbm, ⟨43, _⟩ => ⟨S256, .f32⟩
  | .hbm, ⟨44, _⟩ => ⟨S1x256, .f32⟩
  | .hbm, ⟨45, _⟩ => ⟨S32768x1024, .bf16⟩
  | .hbm, ⟨46, _⟩ => ⟨S128x1024x256, .bf16⟩
  | .hbm, ⟨47, _⟩ => ⟨S128x640x256, .bf16⟩
  | .hbm, ⟨48, _⟩ => ⟨S32768x512, .bf16⟩
  | .hbm, ⟨49, _⟩ => ⟨S32768x512, .bf16⟩
  | .hbm, ⟨50, _⟩ => ⟨S32768x256, .f32⟩
  | .hbm, ⟨51, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x128, .bf16⟩
  | .local _ .vmem, ⟨9, _⟩ => ⟨S1x128, .f32⟩
  | .local _ .vmem, ⟨10, _⟩ => ⟨S128x512, .bf16⟩
  | .local _ .vmem, ⟨11, _⟩ => ⟨S128x128, .bf16⟩
  | .local _ .vmem, ⟨12, _⟩ => ⟨S128x256, .f32⟩
  | .local _ .vmem, ⟨13, _⟩ => ⟨S1x256, .f32⟩
  | .local _ .vmem, ⟨14, _⟩ => ⟨S1024x1024, .bf16⟩
  | .local _ .vmem, ⟨15, _⟩ => ⟨S1024x1024, .bf16⟩
  | .local _ .vmem, ⟨16, _⟩ => ⟨S4x1024x256, .bf16⟩
  | .local _ .vmem, ⟨17, _⟩ => ⟨S4x1024x256, .bf16⟩
  | .local _ .vmem, ⟨18, _⟩ => ⟨S4x640x256, .bf16⟩
  | .local _ .vmem, ⟨19, _⟩ => ⟨S4x640x256, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x256, .f32⟩
  | .local _ .vmem, ⟨25, _⟩ => ⟨S1024x256, .f32⟩
  | .local _ .vmem, ⟨26, _⟩ => ⟨S1024x512, .bf16⟩
  | .local _ .vmem, ⟨27, _⟩ => ⟨S1024x512, .bf16⟩
  | .local _ .vmem, ⟨28, _⟩ => ⟨S1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_call2_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev main_v30_2 : Ref sig .tc := ⟨.hbm, 47, rfl⟩
abbrev main_v30_3 : Ref sig .tc := ⟨.hbm, 48, rfl⟩
abbrev main_v30_4 : Ref sig .tc := ⟨.hbm, 49, rfl⟩
abbrev main_v30_5 : Ref sig .tc := ⟨.hbm, 50, rfl⟩
abbrev main_v30_6 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x640x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference6Ideal.lean ====
abbrev S8x4096x1024 : Shape := ⟨3, ![8, 4096, 1024]⟩
abbrev S1x1024 : Shape := ⟨2, ![1, 1024]⟩
abbrev S1x1024x3096 : Shape := ⟨3, ![1, 1024, 3096]⟩
abbrev S1x8 : Shape := ⟨2, ![1, 8]⟩
abbrev S1x16x256 : Shape := ⟨3, ![1, 16, 256]⟩
abbrev S1x256 : Shape := ⟨2, ![1, 256]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3096 : Shape := ⟨2, ![1024, 3096]⟩
abbrev S8x4096x3096 : Shape := ⟨3, ![8, 4096, 3096]⟩
abbrev S8x4096x8 : Shape := ⟨3, ![8, 4096, 8]⟩
abbrev S8 : Shape := ⟨1, ![8]⟩
abbrev S1x1x8 : Shape := ⟨3, ![1, 1, 8]⟩
abbrev S32768x4x2x1 : Shape := ⟨4, ![32768, 4, 2, 1]⟩
abbrev S8x4096x512 : Shape := ⟨3, ![8, 4096, 512]⟩
abbrev S32768x4x2x64 : Shape := ⟨4, ![32768, 4, 2, 64]⟩
abbrev S32768x4x2x3 : Shape := ⟨4, ![32768, 4, 2, 3]⟩
abbrev S32768x4x2x60 : Shape := ⟨4, ![32768, 4, 2, 60]⟩
abbrev S32768x4x1x64 : Shape := ⟨4, ![32768, 4, 1, 64]⟩
abbrev S32768x4x64 : Shape := ⟨3, ![32768, 4, 64]⟩
abbrev S32768x4x256 : Shape := ⟨3, ![32768, 4, 256]⟩
abbrev S32768x1024 : Shape := ⟨2, ![32768, 1024]⟩
abbrev S32768x4x2x2 : Shape := ⟨4, ![32768, 4, 2, 2]⟩
abbrev S32768x4x2x58 : Shape := ⟨4, ![32768, 4, 2, 58]⟩
abbrev S128x256x1024 : Shape := ⟨3, ![128, 256, 1024]⟩
abbrev S128x1024x256 : Shape := ⟨3, ![128, 1024, 256]⟩
abbrev S128x256x8x64 : Shape := ⟨4, ![128, 256, 8, 64]⟩
abbrev S128x256x8x1 : Shape := ⟨4, ![128, 256, 8, 1]⟩
abbrev S128x256x8x15 : Shape := ⟨4, ![128, 256, 8, 15]⟩
abbrev S128x256x8x80 : Shape := ⟨4, ![128, 256, 8, 80]⟩
abbrev S128x8x80x256 : Shape := ⟨4, ![128, 8, 80, 256]⟩
abbrev S128x640x256 : Shape := ⟨3, ![128, 640, 256]⟩
abbrev S32768x512 : Shape := ⟨2, ![32768, 512]⟩
abbrev S8x4096x16 : Shape := ⟨3, ![8, 4096, 16]⟩
abbrev S16x256 : Shape := ⟨2, ![16, 256]⟩
abbrev S8x4096x256 : Shape := ⟨3, ![8, 4096, 256]⟩
abbrev S256 : Shape := ⟨1, ![256]⟩
abbrev S1x1x256 : Shape := ⟨3, ![1, 1, 256]⟩
abbrev S32768x256 : Shape := ⟨2, ![32768, 256]⟩

abbrev nBuf : Space → Nat
  | .hbm => 149
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x3096, .f32⟩
  | 3 => ⟨S1x8, .f32⟩
  | 4 => ⟨S1x16x256, .f32⟩
  | 5 => ⟨S1x256, .f32⟩
  | 6 => ⟨S1024, .f32⟩
  | 7 => ⟨S8x4096x1024, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x1024, .f32⟩
  | 19 => ⟨S8x4096x1024, .f32⟩
  | 20 => ⟨S1x1x1024, .f32⟩
  | 21 => ⟨S8x4096x1024, .f32⟩
  | 22 => ⟨S8x4096x1024, .f32⟩
  | 23 => ⟨S1024x3096, .f32⟩
  | 24 => ⟨S8x4096x3096, .f32⟩
  | 25 => ⟨S8x4096x8, .f32⟩
  | 26 => ⟨S8, .f32⟩
  | 27 => ⟨S1x1x8, .f32⟩
  | 28 => ⟨S8x4096x8, .f32⟩
  | 29 => ⟨S8x4096x8, .f32⟩
  | 30 => ⟨S8x4096x8, .f32⟩
  | 31 => ⟨S_, .f32⟩
  | 32 => ⟨S8x4096x8, .f32⟩
  | 33 => ⟨S8x4096x8, .f32⟩
  | 34 => ⟨S8x4096x8, .f32⟩
  | 35 => ⟨S8x4096x8, .f32⟩
  | 36 => ⟨S8x4096x8, .i1⟩
  | 37 => ⟨S8x4096x8, .f32⟩
  | 38 => ⟨S8x4096x8, .f32⟩
  | 39 => ⟨S8x4096x8, .f32⟩
  | 40 => ⟨S8x4096x8, .f32⟩
  | 41 => ⟨S8x4096x8, .f32⟩
  | 42 => ⟨S8x4096x8, .f32⟩
  | 43 => ⟨S8x4096x8, .f32⟩
  | 44 => ⟨S8x4096x8, .f32⟩
  | 45 => ⟨S8x4096x8, .f32⟩
  | 46 => ⟨S_, .f32⟩
  | 47 => ⟨S_, .f32⟩
  | 48 => ⟨S8x4096x8, .f32⟩
  | 49 => ⟨S_, .f32⟩
  | 50 => ⟨S8x4096x8, .f32⟩
  | 51 => ⟨S8x4096x8, .f32⟩
  | 52 => ⟨S32768x4x2x1, .f32⟩
  | 53 => ⟨S8x4096x512, .f32⟩
  | 54 => ⟨S32768x4x2x64, .f32⟩
  | 55 => ⟨S_, .f32⟩
  | 56 => ⟨S32768x4x2x3, .f32⟩
  | 57 => ⟨S32768x4x2x1, .f32⟩
  | 58 => ⟨S_, .f32⟩
  | 59 => ⟨S32768x4x2x60, .f32⟩
  | 60 => ⟨S32768x4x2x64, .f32⟩
  | 61 => ⟨S32768x4x1x64, .f32⟩
  | 62 => ⟨S32768x4x64, .f32⟩
  | 63 => ⟨S32768x4x1x64, .f32⟩
  | 64 => ⟨S32768x4x64, .f32⟩
  | 65 => ⟨S32768x4x1x64, .f32⟩
  | 66 => ⟨S32768x4x64, .f32⟩
  | 67 => ⟨S32768x4x1x64, .f32⟩
  | 68 => ⟨S32768x4x64, .f32⟩
  | 69 => ⟨S32768x4x256, .f32⟩
  | 70 => ⟨S32768x1024, .f32⟩
  | 71 => ⟨S8x4096x512, .f32⟩
  | 72 => ⟨S_, .f32⟩
  | 73 => ⟨S8x4096x512, .f32⟩
  | 74 => ⟨S8x4096x512, .f32⟩
  | 75 => ⟨S32768x4x2x64, .f32⟩
  | 76 => ⟨S_, .f32⟩
  | 77 => ⟨S32768x4x2x2, .f32⟩
  | 78 => ⟨S_, .f32⟩
  | 79 => ⟨S32768x4x2x58, .f32⟩
  | 80 => ⟨S32768x4x2x64, .f32⟩
  | 81 => ⟨S32768x4x1x64, .f32⟩
  | 82 => ⟨S32768x4x64, .f32⟩
  | 83 => ⟨S32768x4x1x64, .f32⟩
  | 84 => ⟨S32768x4x64, .f32⟩
  | 85 => ⟨S32768x4x1x64, .f32⟩
  | 86 => ⟨S32768x4x64, .f32⟩
  | 87 => ⟨S32768x4x1x64, .f32⟩
  | 88 => ⟨S32768x4x64, .f32⟩
  | 89 => ⟨S32768x4x256, .f32⟩
  | 90 => ⟨S128x256x1024, .f32⟩
  | 91 => ⟨S128x1024x256, .f32⟩
  | 92 => ⟨S8x4096x512, .f32⟩
  | 93 => ⟨S128x256x8x64, .f32⟩
  | 94 => ⟨S_, .f32⟩
  | 95 => ⟨S128x256x8x1, .f32⟩
  | 96 => ⟨S_, .f32⟩
  | 97 => ⟨S128x256x8x15, .f32⟩
  | 98 => ⟨S128x256x8x80, .f32⟩
  | 99 => ⟨S128x8x80x256, .f32⟩
  | 100 => ⟨S128x640x256, .f32⟩
  | 101 => ⟨S8x4096x512, .f32⟩
  | 102 => ⟨S32768x512, .f32⟩
  | 103 => ⟨S8x4096x512, .f32⟩
  | 104 => ⟨S32768x512, .f32⟩
  | 105 => ⟨S8x4096x16, .f32⟩
  | 106 => ⟨S16x256, .f32⟩
  | 107 => ⟨S8x4096x256, .f32⟩
  | 108 => ⟨S256, .f32⟩
  | 109 => ⟨S1x1x256, .f32⟩
  | 110 => ⟨S8x4096x256, .f32⟩
  | 111 => ⟨S8x4096x256, .f32⟩
  | 112 => ⟨S8x4096x256, .f32⟩
  | 113 => ⟨S_, .f32⟩
  | 114 => ⟨S8x4096x256, .f32⟩
  | 115 => ⟨S8x4096x256, .f32⟩
  | 116 => ⟨S8x4096x256, .f32⟩
  | 117 => ⟨S8x4096x256, .f32⟩
  | 118 => ⟨S8x4096x256, .i1⟩
  | 119 => ⟨S8x4096x256, .f32⟩
  | 120 => ⟨S8x4096x256, .f32⟩
  | 121 => ⟨S8x4096x256, .f32⟩
  | 122 => ⟨S8x4096x256, .f32⟩
  | 123 => ⟨S8x4096x256, .f32⟩
  | 124 => ⟨S8x4096x256, .f32⟩
  | 125 => ⟨S8x4096x256, .f32⟩
  | 126 => ⟨S8x4096x256, .f32⟩
  | 127 => ⟨S8x4096x256, .f32⟩
  | _ => ⟨S8x4096x1024, .f32⟩

abbrev hbmTy0_1 (i : Nat) : BufTy := match i % 128 with
  | 0 => ⟨S_, .f32⟩
  | 1 => ⟨S8x4096x256, .f32⟩
  | 2 => ⟨S8x4096x256, .f32⟩
  | 3 => ⟨S32768x256, .f32⟩
  | 4 => ⟨S8x4096x512, .f32⟩
  | 5 => ⟨S8x4096x512, .f32⟩
  | 6 => ⟨S8x4096x512, .f32⟩
  | 7 => ⟨S_, .f32⟩
  | 8 => ⟨S8x4096x512, .f32⟩
  | 9 => ⟨S8x4096x512, .f32⟩
  | 10 => ⟨S_, .f32⟩
  | 11 => ⟨S8x4096x512, .f32⟩
  | 12 => ⟨S8x4096x512, .f32⟩
  | 13 => ⟨S8x4096x512, .f32⟩
  | 14 => ⟨S32768x512, .f32⟩
  | 15 => ⟨S32768x1024, .bf16⟩
  | 16 => ⟨S128x1024x256, .bf16⟩
  | 17 => ⟨S128x640x256, .bf16⟩
  | 18 => ⟨S32768x512, .bf16⟩
  | 19 => ⟨S32768x512, .bf16⟩
  | 20 => ⟨S32768x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v21 : Ref sig .tc := ⟨.hbm, 45, rfl⟩
abbrev main_call1_call0_cst : Ref sig .tc := ⟨.hbm, 46, rfl⟩
abbrev main_call1_call0_v0 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_v28 : Ref sig .tc := ⟨.hbm, 56, rfl⟩
abbrev main_v29 : Ref sig .tc := ⟨.hbm, 57, rfl⟩
abbrev main_cst_4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_5 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_cst_7 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_8 : Ref sig .tc := ⟨.hbm, 94, rfl⟩
abbrev main_v62 : Ref sig .tc := ⟨.hbm, 95, rfl⟩
abbrev main_cst_9 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call2_v0 : Ref sig .tc := ⟨.hbm, 112, rfl⟩
abbrev main_call2_call0_cst : Ref sig .tc := ⟨.hbm, 113, rfl⟩
abbrev main_call2_call0_v0 : Ref sig .tc := ⟨.hbm, 114, rfl⟩
abbrev main_call2_call0_v1 : Ref sig .tc := ⟨.hbm, 115, rfl⟩
abbrev main_call2_call0_v2 : Ref sig .tc := ⟨.hbm, 116, rfl⟩
abbrev main_call2_call0_v3 : Ref sig .tc := ⟨.hbm, 117, rfl⟩
abbrev main_call2_call0_v4 : Ref sig .tc := ⟨.hbm, 118, rfl⟩
abbrev main_call2_call0_v5 : Ref sig .tc := ⟨.hbm, 119, rfl⟩
abbrev main_call2_call0_v6 : Ref sig .tc := ⟨.hbm, 120, rfl⟩
abbrev main_call2_call0_v7 : Ref sig .tc := ⟨.hbm, 121, rfl⟩
abbrev main_call2_call0_v8 : Ref sig .tc := ⟨.hbm, 122, rfl⟩
abbrev main_call2_call0_v9 : Ref sig .tc := ⟨.hbm, 123, rfl⟩
abbrev main_call2_call0_v10 : Ref sig .tc := ⟨.hbm, 124, rfl⟩
abbrev main_call2_call0_v11 : Ref sig .tc := ⟨.hbm, 125, rfl⟩
abbrev main_call2_v1 : Ref sig .tc := ⟨.hbm, 126, rfl⟩
abbrev main_v78 : Ref sig .tc := ⟨.hbm, 127, rfl⟩
abbrev main_cst_10 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_call3_v0 : Ref sig .tc := ⟨.hbm, 133, rfl⟩
abbrev main_call3_v1 : Ref sig .tc := ⟨.hbm, 134, rfl⟩
abbrev main_call3_cst : Ref sig .tc := ⟨.hbm, 135, rfl⟩
abbrev main_call3_v2 : Ref sig .tc := ⟨.hbm, 136, rfl⟩
abbrev main_call3_v3 : Ref sig .tc := ⟨.hbm, 137, rfl⟩
abbrev main_call3_cst_0 : Ref sig .tc := ⟨.hbm, 138, rfl⟩
abbrev main_call3_v4 : Ref sig .tc := ⟨.hbm, 139, rfl⟩
abbrev main_call3_v5 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩

abbrev nD : Nat := 1
abbrev τ : Topo := Topo.v7x

variable {F : FTy → Type} [FloatOps F]
-- ==== Proof.Rows.lean ====
/-
  The layer's row formulas on the extended reals: what one row of a norm, of the gated feed-forward network and of the
  two feed-forward blocks holds, as functions of the row and of the weights. Both the kernels' results and the
  references' results are read as these.
-/
module

public import Idealize.ShloMosaic.PureOps.Ideal
public import Mathlib.Data.EReal.Operations
public import Mathlib.Algebra.BigOperators.Fin

@[expose] public section

noncomputable section

namespace Cert.Proof.Rows

open Idealize.ShloMosaic

/-- The reciprocal root of a row's mean square plus the layer's epsilon; `N` is the printed row length. -/
def scale {n : ℕ} (N : EReal) (x : Fin n → EReal) : EReal :=
  Ideal.rsqrt (Ideal.div (∑ k, x k * x k) N + Ideal.ofBits .f32 0x358637BD#32)

/-- A row under its root-mean-square norm with the gain `g`. -/
def rms {n : ℕ} (N : EReal) (x g : Fin n → EReal) (c : Fin n) : EReal := x c * scale N x * g c

/-- A row times a matrix. -/
def rowMul {n p : ℕ} (x : Fin n → EReal) (w : Fin n → Fin p → EReal) (c : Fin p) : EReal := ∑ k, x k * w k c

/-- The hidden row of the gated network: the gate's product, times its logistic, times the other product. -/
def gated {n p : ℕ} (x : Fin n → EReal) (wg wu : Fin n → Fin p → EReal) (c : Fin p) : EReal :=
  rowMul x wg c * Ideal.logistic (rowMul x wg c) * rowMul x wu c

/-- The printed row length 1024. -/
abbrev width : EReal := Ideal.ofBits .f32 0x44800000#32

/-- The feed-forward block on a row: the row plus half the normed network of its norm. -/
def ffn {n p : ℕ} (x g : Fin n → EReal) (wg wu : Fin n → Fin p → EReal) (wd : Fin p → Fin n → EReal) (gp : Fin n → EReal)
    (c : Fin n) : EReal :=
  x c + Ideal.ofBits .f32 0x3F000000#32 * rms width (rowMul (gated (rms width x g) wg wu) wd) gp c

/-- The last feed-forward block on a row: the block, normed once more. -/
def ffnLast {n p : ℕ} (x g : Fin n → EReal) (wg wu : Fin n → Fin p → EReal) (wd : Fin p → Fin n → EReal) (gp gf : Fin n → EReal) :
    Fin n → EReal :=
  rms width (ffn x g wg wu wd gp) gf

/-- A row's largest entry, at least −∞. -/
def peak {n : ℕ} (s : Fin n → EReal) : EReal := Finset.fold max (Ideal.ofBits .f32 0xFF800000#32) s Finset.univ

/-- A row's softmax: the exponentials of its distances to the largest entry, over their sum. -/
def soft {n : ℕ} (s : Fin n → EReal) (k : Fin n) : EReal :=
  Ideal.div (Ideal.exp (s k - peak s)) (∑ j, Ideal.exp (s j - peak s))

/-- The printed factor 1/16 of the memory heads' scores. -/
abbrev sixteenth : EReal := Ideal.ofBits .f32 0x3D800000#32

/-- One head of the attention into the memory: query row `q` of four heads side by side, memory rows `kv` of the four
    heads' keys and then the four heads' values. -/
def memHead (q : Fin 1024 → EReal) (kv : Fin 256 → Fin 2048 → EReal) (h : Fin 4) (e : Fin 256) : EReal :=
  ∑ k, soft (fun k => ∑ d : Fin 256, q ⟨256 * h + d, by omega⟩ * kv k ⟨256 * h + d, by omega⟩) k
    * kv k ⟨1024 + 256 * h + e, by omega⟩

/-- The four heads side by side. -/
def attended (q : Fin 1024 → EReal) (kv : Fin 256 → Fin 2048 → EReal) (c : Fin 1024) : EReal :=
  memHead q kv ⟨c / 256, by omega⟩ ⟨c % 256, by omega⟩

/-- The row after the mixer: the row plus the normed projection `y` of the mixer's heads. -/
def mixed {n : ℕ} (x y gp : Fin n → EReal) (c : Fin n) : EReal := x c + rms width y gp c

/-- The attention into the memory on a row `x`: the row plus the normed projection of the heads on its norm. -/
def memory (x gpre : Fin 1024 → EReal) (wq : Fin 1024 → Fin 1024 → EReal) (kv : Fin 256 → Fin 2048 → EReal)
    (wo : Fin 1024 → Fin 1024 → EReal) (gm : Fin 1024 → EReal) : Fin 1024 → EReal :=
  mixed x (rowMul (attended (fun l => rowMul (rms width x gpre) wq l * sixteenth) kv) wo) gm

/-- Two half rows `a` and `b` side by side times a matrix. -/
def joint {p : ℕ} (a b : Fin 512 → EReal) (w : Fin 1024 → Fin p → EReal) (c : Fin p) : EReal :=
  ∑ k, a k * w ⟨k, by omega⟩ c + ∑ k : Fin 512, b k * w ⟨512 + k, by omega⟩ c

/-- A concatenated row's product is the sum of the halves' products. -/
theorem rowMul_joint {p : ℕ} (a b : Fin 512 → EReal) (w : Fin 1024 → Fin p → EReal) (c : Fin p) :
    rowMul (fun k : Fin 1024 => if h : (k : ℕ) < 512 then a ⟨k, h⟩ else b ⟨k - 512, by omega⟩) w c = joint a b w c := by
  unfold rowMul joint
  rw [Fin.sum_univ_add (a := 512) (b := 512)]
  refine congrArg₂ (· + ·) (Finset.sum_congr rfl fun k _ => ?_) (Finset.sum_congr rfl fun k _ => ?_)
  · exact congrArg (· * w (Fin.castAdd 512 k) c) (dif_pos (show ((Fin.castAdd 512 k : Fin (512 + 512)) : ℕ) < 512 from k.2))
  · refine (congrArg (· * w (Fin.natAdd 512 k) c) (dif_neg (show ¬ ((Fin.natAdd 512 k : Fin (512 + 512)) : ℕ) < 512 by simp))).trans ?_
    exact congrArg₂ (· * ·) (congrArg b (Fin.ext (by simp))) rfl

/-- The printed −∞ is the least extended real. -/
theorem ofBits_bot : Ideal.ofBits .f32 0xFF800000#32 = ⊥ := by simp [Ideal.ofBits, Ideal.ieee]

/-- A factor that is a nonnegative real leaves a sum. -/
theorem sum_mul_of_nonneg {ι : Type*} (t : Finset ι) (f : ι → EReal) {s : EReal} (h : 0 ≤ s) (h' : s ≠ ⊤) :
    ∑ k ∈ t, f k * s = (∑ k ∈ t, f k) * s := by
  classical
  induction t using Finset.induction_on with
  | empty => simp
  | insert a t ha ih => rw [Finset.sum_insert ha, Finset.sum_insert ha, ih, EReal.right_distrib_of_nonneg_of_ne_top h h']

/-- The printed factor is the real 1/16. -/
theorem sixteenth_eq : sixteenth = (((1 : ℝ) / 16 : ℝ) : EReal) := by
  simp [sixteenth, Ideal.ofBits, Ideal.ieee, -EReal.coe_mul]; norm_num

/-- The printed factor is not below zero. -/
theorem sixteenth_nonneg : 0 ≤ sixteenth := by rw [sixteenth_eq]; exact_mod_cast (by norm_num : (0 : ℝ) ≤ 1 / 16)

/-- The printed factor is finite. -/
theorem sixteenth_ne_top : sixteenth ≠ ⊤ := by rw [sixteenth_eq]; exact EReal.coe_ne_top _

/-- Scaling the query's entries scales its score. -/
theorem score_scaled {n : ℕ} (q k : Fin n → EReal) :
    ∑ d, q d * sixteenth * k d = (∑ d, q d * k d) * sixteenth := by
  rw [← sum_mul_of_nonneg _ _ sixteenth_nonneg sixteenth_ne_top]
  exact Finset.sum_congr rfl fun d _ => by rw [mul_assoc, mul_comm sixteenth, ← mul_assoc]

/-- A maximum with −∞ in front of a row's largest entry changes nothing. -/
theorem max_peak {n : ℕ} (s : Fin n → EReal) : max (Ideal.ofBits .f32 0xFF800000#32) (peak s) = peak s := by
  rw [ofBits_bot]; exact max_eq_right bot_le

end Cert.Proof.Rows

end
-- ==== Proof.FfnFinal.lean ====
module

public import proofs.«01_k».proof.Defs
public import proofs.«01_k».proof.Proof.Rows
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Proof

/-- What the body computes for one group of 128 rows: norm, gated product, down product, half residual, norm. -/
def tile {F : FTy → Type} [FloatOps F] (x : Vec F S128x1024 .f32) (g : Vec F S1x1024 .f32)
    (wg wu : Vec F S1024x2816 .bf16) (wd : Vec F S2816x1024 .bf16) (gp gf : Vec F S1x1024 .f32) : FVec F S128x1024 .f32 :=
  k0_pay42 (k0_pay2 x) (k0_pay34 (k0_pay24 (k0_pay10 x g) wg wu) wd) gp gf

/-- The normed rows at an index. -/
theorem norm_apply (x : Vec Ideal S128x1024 .f32) (g : Vec Ideal S1x1024 .f32) (r : Fin 128) (c : Fin 1024) :
    k0_pay10 x g (ix2 r c) = Rows.rms Rows.width (fun k => x (ix2 r k)) (fun k => g (ix2 0 k)) c := by
  unfold k0_pay10 k0_pay2
  pointwise
  rfl

/-- The hidden rows at an index. -/
theorem hidden_apply (x : FVec Ideal S128x1024 .bf16) (wg wu : Vec Ideal S1024x2816 .bf16) (r : Fin 128) (c : Fin 2816) :
    k0_pay24 x wg wu (ix2 r c)
      = Rows.gated (fun k => x (ix2 r k)) (fun k l => wg (ix2 k l)) (fun k l => wu (ix2 k l)) c := by
  unfold k0_pay24
  pointwise [dot_S128x1024_S1024x2816_S128x2816_1_0_0_1_n_n]
  rfl

/-- The down product at an index. -/
theorem down_apply (h : FVec Ideal S128x2816 .bf16) (wd : Vec Ideal S2816x1024 .bf16) (r : Fin 128) (c : Fin 1024) :
    k0_pay34 h wd (ix2 r c) = Rows.rowMul (fun k => h (ix2 r k)) (fun k l => wd (ix2 k l)) c := by
  unfold k0_pay34
  pointwise [dot_S128x2816_S2816x1024_S128x1024_1_0_0_1_n_n]
  rfl

/-- The residual and the last norm at an index. -/
theorem last_apply (x y : FVec Ideal S128x1024 .f32) (gp gf : Vec Ideal S1x1024 .f32) (r : Fin 128) (c : Fin 1024) :
    k0_pay42 x y gp gf (ix2 r c)
      = Rows.rms Rows.width (fun k => x (ix2 r k) + Ideal.ofBits .f32 0x3F000000#32
          * Rows.rms Rows.width (fun l => y (ix2 r l)) (fun l => gp (ix2 0 l)) k) (fun k => gf (ix2 0 k)) c := by
  unfold k0_pay42
  pointwise
  rfl

/-- A group of 128 rows at an index: the block's row formula. -/
theorem tile_apply (x : Vec Ideal S128x1024 .f32) (g : Vec Ideal S1x1024 .f32) (wg wu : Vec Ideal S1024x2816 .bf16)
    (wd : Vec Ideal S2816x1024 .bf16) (gp gf : Vec Ideal S1x1024 .f32) (r : Fin 128) (c : Fin 1024) :
    tile x g wg wu wd gp gf (ix2 r c)
      = Rows.ffnLast (fun k => x (ix2 r k)) (fun k => g (ix2 0 k)) (fun k l => wg (ix2 k l)) (fun k l => wu (ix2 k l))
          (fun k l => wd (ix2 k l)) (fun k => gp (ix2 0 k)) (fun k => gf (ix2 0 k)) c := by
  unfold tile
  simp only [last_apply, down_apply, hidden_apply, norm_apply]
  unfold k0_pay2
  pointwise
  rfl

/-- A load of 128 rows of the input block from row `o`, at an index. -/
theorem rows_apply (x0 : Vec Ideal S1024x1024 .f32) (o : ℕ) (inb : ∀ a, (![o, 0] : Fin 2 → ℕ) a + S128x1024.size a ≤ S1024x1024.size a)
    (r : Fin 128) (k R : Fin 1024) (h : (R : ℕ) = o + r) :
    View.ld x0 (Rect.unit (s := S1024x1024) ![o, 0] S128x1024.size inb) (ix2 r k) = x0 (ix2 R k) := by
  refine congrArg x0 (funext fun a => Fin.ext ?_)
  rw [Rect.idx_unit_val]
  match a with
  | ⟨0, _⟩ => exact h.symm
  | ⟨1, _⟩ => exact Nat.zero_add _

/-- One group of rows of the input block at an index: if `x` is the block's rows from `o`, the group's row `y 0` is the
    row formula of the block's row `o + y 0`. -/
theorem group_apply (x0 : Vec Ideal S1024x1024 .f32) (x1 : Vec Ideal S1x1024 .f32) (x2 x3 : Vec Ideal S1024x2816 .bf16)
    (x4 : Vec Ideal S2816x1024 .bf16) (x5 x6 : Vec Ideal S1x1024 .f32) (x : Vec Ideal S128x1024 .f32) (o : ℕ)
    (hx : ∀ (r : Fin 128) (k R : Fin 1024), (R : ℕ) = o + r → x (ix2 r k) = x0 (ix2 R k))
    (y : S128x1024.Idx) (z : S1024x1024.Idx) (h0 : (z 0 : ℕ) = o + (y 0 : ℕ)) (h1 : (z 1 : ℕ) = (y 1 : ℕ)) :
    tile x (View.ld x1 r0_8) (View.ld x2 r0_9) (View.ld x3 r0_9) (View.ld x4 r0_10) (View.ld x5 r0_8) (View.ld x6 r0_8) y
      = Rows.ffnLast (fun k => x0 (ix2 (z 0) k)) (fun k => x1 (ix2 0 k)) (fun k l => x2 (ix2 k l)) (fun k l => x3 (ix2 k l))
          (fun k l => x4 (ix2 k l)) (fun k => x5 (ix2 0 k)) (fun k => x6 (ix2 0 k)) (z 1) := by
  simp (disch := decide) only [View.ld_unit_lit]
  idx_vars y
  rw [tile_apply]
  have e : ∀ k : Fin 1024, x (ix2 y0 k) = x0 (ix2 (z 0) k) := fun k => hx _ _ _ h0
  simp only [e]
  exact congrArg _ (Fin.ext h1.symm)

/-- The staging block after a point, at an index: the row formula of the input block's row. -/
theorem out_apply (x0 : Vec Ideal S1024x1024 .f32) (x1 : Vec Ideal S1x1024 .f32) (x2 x3 : Vec Ideal S1024x2816 .bf16)
    (x4 : Vec Ideal S2816x1024 .bf16) (x5 x6 : Vec Ideal S1x1024 .f32) (y : S1024x1024.Idx) :
    out0_7 x0 x1 x2 x3 x4 x5 x6 y
      = Rows.ffnLast (fun k => x0 (ix2 (y 0) k)) (fun k => x1 (ix2 0 k)) (fun k l => x2 (ix2 k l)) (fun k l => x3 (ix2 k l))
          (fun k l => x4 (ix2 k l)) (fun k => x5 (ix2 0 k)) (fun k => x6 (ix2 0 k)) (y 1) := by
  unfold out0_7
  canon_tiles x h
  · exact group_apply x0 x1 x2 x3 x4 x5 x6 (View.ld x0 r0_7) 896 (rows_apply x0 _ _) x _ h0 h1
  · exact group_apply x0 x1 x2 x3 x4 x5 x6 (View.ld x0 r0_6) 768 (rows_apply x0 _ _) x _ h0 h1
  · exact group_apply x0 x1 x2 x3 x4 x5 x6 (View.ld x0 r0_5) 640 (rows_apply x0 _ _) x _ h0 h1
  · exact group_apply x0 x1 x2 x3 x4 x5 x6 (View.ld x0 r0_4) 512 (rows_apply x0 _ _) x _ h0 h1
  · exact group_apply x0 x1 x2 x3 x4 x5 x6 (View.ld x0 r0_3) 384 (rows_apply x0 _ _) x _ h0 h1
  · exact group_apply x0 x1 x2 x3 x4 x5 x6 (View.ld x0 r0_2) 256 (rows_apply x0 _ _) x _ h0 h1
  · exact group_apply x0 x1 x2 x3 x4 x5 x6 (View.ld x0 r0_1) 128 (rows_apply x0 _ _) x _ h0 h1
  · exact group_apply x0 x1 x2 x3 x4 x5 x6 (View.ld x0 r0_0) 0 (rows_apply x0 _ _) x _ (by omega) h1

variable (m : (ℓ : Loc nD τ sig) → Buf (Elt Ideal) ℓ) (ρ : Dev nD → PrngReg)

/-- The result array as one function of the launched arguments: row `R` is token `R % 4096` of sequence `R / 4096`. -/
def result (c : Dev nD) : Buf (Elt Ideal) ((c : Thread nD τ).loc main_v12) := fun i : S32768x1024.Idx =>
  Rows.ffnLast
    (fun k => V m c main_v0 (ix2 (i 0) k)) (fun k => V m c main_v3 (ix2 0 k))
    (fun k l => V m c main_v5 (ix2 k l)) (fun k l => V m c main_v7 (ix2 k l)) (fun k l => V m c main_v9 (ix2 k l))
    (fun k => V m c main_v11 (ix2 0 k)) (fun k => V m c main_v1 (ix2 0 k)) (i 1)

/-- Where each window's block stands at a point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- The result array after the run. -/
theorem final (c : Dev nD) : (dats m 0 c).arrAt 7 cfg0.N = result m c := by
  refine (dats m 0 c).arrAt_eq_of_covers 7 _ (by decide +kernel) fun t hf y => ?_
  blk_simp
  rw [after0_7]
  refine (out_apply _ _ _ _ _ _ _ y).trans ?_
  unfold result
  have e0 : ∀ k : Fin 1024, iblk m c 0 t (ix2 (y 0) k) = V m c main_v0 (ix2 ((win0_7.blk t).view.emb y 0) k) :=
    fun k => by blk_ext [iblk, idx t]
  have e1 : ∀ k : Fin 1024, iblk m c 1 t (ix2 0 k) = V m c main_v3 (ix2 0 k) := fun k => by blk_ext [iblk, idx t]
  have e2 : ∀ (k : Fin 1024) (l : Fin 2816), iblk m c 2 t (ix2 k l) = V m c main_v5 (ix2 k l) :=
    fun k l => by blk_ext [iblk, idx t]
  have e3 : ∀ (k : Fin 1024) (l : Fin 2816), iblk m c 3 t (ix2 k l) = V m c main_v7 (ix2 k l) :=
    fun k l => by blk_ext [iblk, idx t]
  have e4 : ∀ (k : Fin 2816) (l : Fin 1024), iblk m c 4 t (ix2 k l) = V m c main_v9 (ix2 k l) :=
    fun k l => by blk_ext [iblk, idx t]
  have e5 : ∀ k : Fin 1024, iblk m c 5 t (ix2 0 k) = V m c main_v11 (ix2 0 k) := fun k => by blk_ext [iblk, idx t]
  have e6 : ∀ k : Fin 1024, iblk m c 6 t (ix2 0 k) = V m c main_v1 (ix2 0 k) := fun k => by blk_ext [iblk, idx t]
  have e7 : y 1 = (win0_7.blk t).view.emb y 1 := Fin.ext (by blk_simp [idx t])
  simp only [e0, e1, e2, e3, e4, e5, e6, e7]

end Cert.Kernel2Ideal.Ffn

namespace Cert.Reference2Ideal.Ffn

open Cert.Reference2Ideal Cert.Reference2Ideal.Gen Idealize.ShloMosaic Idealize.ShloMosaic.TcCoe Idealize.SL.Sem
open Cert.Proof

/-- The reference's root-mean-square norm. -/
def norm {F : FTy → Type} [FloatOps F] (x : FVec F S8x4096x1024 .f32) (g : FVec F S1024 .f32) : FVec F S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32)
      reducesTo_S8x4096x1024_S8x4096_d2 h_S_)) (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g))

/-- The reference's hidden activations of a normed input: `silu (h·wg) * (h·wu)`. -/
def hidden {F : FTy → Type} [FloatOps F] (h : FVec F S8x4096x1024 .f32) (wg wu : FVec F S1024x2816 .f32) : FVec F S8x4096x2816 .f32 :=
  mulf (mulf (Host.dotGeneral dot_S8x4096x1024_S1024x2816_S8x4096x2816_2_0_01_1_n_n none h wg)
    (Host.divf (broadcastInDim S8x4096x2816 ![] bcast_S_S8x4096x2816 (constant S_ .f32 0x3F800000#32))
      (addf (broadcastInDim S8x4096x2816 ![] bcast_S_S8x4096x2816 (constant S_ .f32 0x3F800000#32))
        (Host.exp (Host.negf (Host.dotGeneral dot_S8x4096x1024_S1024x2816_S8x4096x2816_2_0_01_1_n_n none h wg))))))
    (Host.dotGeneral dot_S8x4096x1024_S1024x2816_S8x4096x2816_2_0_01_1_n_n none h wu)

/-- The reference's down product. -/
def down {F : FTy → Type} [FloatOps F] (h : FVec F S8x4096x2816 .f32) (wd : FVec F S2816x1024 .f32) : FVec F S8x4096x1024 .f32 :=
  Host.dotGeneral dot_S8x4096x2816_S2816x1024_S8x4096x1024_2_0_01_1_n_n none h wd

/-- The reference's residual step: `x + 0.5 * norm y`. -/
def residual {F : FTy → Type} [FloatOps F] (x y : FVec F S8x4096x1024 .f32) (g : FVec F S1024 .f32) : FVec F S8x4096x1024 .f32 :=
  addf x (mulf (broadcastInDim S8x4096x1024 ![] bcast_S_S8x4096x1024 (constant S_ .f32 0x3F000000#32)) (norm y g))

/-- The reference's normed rows at an index. -/
theorem norm_apply (x : FVec Ideal S8x4096x1024 .f32) (g : FVec Ideal S1024 .f32) (b : Fin 8) (t : Fin 4096) (c : Fin 1024) :
    norm x g (ix3 b t c) = Rows.rms Rows.width (fun k => x (ix3 b t k)) (fun k => g (ix1 k)) c := by
  unfold norm
  pointwise
  rfl

/-- The reference's gated hidden rows at an index. -/
theorem hidden_apply (h : FVec Ideal S8x4096x1024 .f32) (wg wu : FVec Ideal S1024x2816 .f32) (b : Fin 8) (t : Fin 4096) (c : Fin 2816) :
    hidden h wg wu (ix3 b t c)
      = Rows.gated (fun k => h (ix3 b t k)) (fun k l => wg (ix2 k l)) (fun k l => wu (ix2 k l)) c := by
  unfold hidden
  pointwise [dot_S8x4096x1024_S1024x2816_S8x4096x2816_2_0_01_1_n_n]
  rfl

/-- The reference's hidden rows times the down matrix at an index. -/
theorem down_apply (h : FVec Ideal S8x4096x2816 .f32) (wd : FVec Ideal S2816x1024 .f32) (b : Fin 8) (t : Fin 4096) (c : Fin 1024) :
    down h wd (ix3 b t c)
      = Rows.rowMul (fun k => h (ix3 b t k)) (fun k l => wd (ix2 k l)) c := by
  unfold down
  pointwise [dot_S8x4096x2816_S2816x1024_S8x4096x1024_2_0_01_1_n_n]
  rfl

/-- The reference's half step from its input along the normed rows at an index. -/
theorem residual_apply (x y : FVec Ideal S8x4096x1024 .f32) (g : FVec Ideal S1024 .f32) (b : Fin 8) (t : Fin 4096) (c : Fin 1024) :
    residual x y g (ix3 b t c) = x (ix3 b t c) + Ideal.ofBits .f32 0x3F000000#32
      * Rows.rms Rows.width (fun k => y (ix3 b t k)) (fun k => g (ix1 k)) c := by
  unfold residual
  pointwise [norm_apply]

/-- The reference's result of its arguments, by its stages. -/
def whole {F : FTy → Type} [FloatOps F] (x : FVec F S8x4096x1024 .f32) (g : FVec F S1x1024 .f32) (wg wu : FVec F S1x1024x2816 .f32)
    (wd : FVec F S1x2816x1024 .f32) (gp : FVec F S1x1024 .f32) (gf : FVec F S1024 .f32) : FVec F S32768x1024 .f32 :=
  shapeCast S32768x1024 (norm
    (residual x
      (down (hidden (norm x (shapeCast S1024 g shapeCasts_S1x1024_S1024))
          (shapeCast S1024x2816 wg shapeCasts_S1x1024x2816_S1024x2816) (shapeCast S1024x2816 wu shapeCasts_S1x1024x2816_S1024x2816))
        (shapeCast S2816x1024 wd shapeCasts_S1x2816x1024_S2816x1024))
      (shapeCast S1024 gp shapeCasts_S1x1024_S1024))
    gf) shapeCasts_S8x4096x1024_S32768x1024

/-- It at an index: the row formula of the arguments. -/
theorem whole_apply (x : FVec Ideal S8x4096x1024 .f32) (g : FVec Ideal S1x1024 .f32) (wg wu : FVec Ideal S1x1024x2816 .f32)
    (wd : FVec Ideal S1x2816x1024 .f32) (gp : FVec Ideal S1x1024 .f32) (gf : FVec Ideal S1024 .f32) (i0 : Fin 32768) (i1 : Fin 1024) :
    whole x g wg wu wd gp gf (ix2 i0 i1)
      = Rows.ffnLast (fun k => x (ix3 ⟨i0 / 4096, by omega⟩ ⟨i0 % 4096, by omega⟩ k)) (fun k => g (ix2 0 k))
          (fun k l => wg (ix3 0 k l)) (fun k l => wu (ix3 0 k l)) (fun k l => wd (ix3 0 k l)) (fun k => gp (ix2 0 k))
          (fun k => gf (ix1 k)) i1 := by
  unfold whole
  pointwise [norm_apply, residual_apply, down_apply, hidden_apply]
  rfl

/-- The reference's composed term is that result of the launched arguments. -/
theorem res_eq {F : FTy → Type} [FloatOps F] (m : (ℓ : Loc nD τ sig) → Buf (Elt F) ℓ) (c : Dev nD) :
    Value.res_main_v52 m c = whole (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := rfl

end Cert.Reference2Ideal.Ffn

namespace Cert.Kernel2Ideal.Ffn

open Cert.Kernel2Ideal Cert.Kernel2Ideal.Gen Idealize.ShloMosaic Idealize.ShloMosaic.TcCoe Idealize.SL.Sem
open Cert.Proof

variable (m : (ℓ : Loc nD τ sig) → Buf (Elt Ideal) ℓ)

/-- The kernel's result at an index: the same row formula of the launched arguments. -/
theorem result_apply (c : Dev nD) (i0 : Fin 32768) (i1 : Fin 1024) : result m c (ix2 i0 i1)
    = Rows.ffnLast
        (fun k => m ((c : Thread nD τ).loc main_arg0) (ix3 ⟨i0 / 4096, by omega⟩ ⟨i0 % 4096, by omega⟩ k))
        (fun k => m ((c : Thread nD τ).loc main_arg1) (ix2 0 k)) (fun k l => m ((c : Thread nD τ).loc main_arg2) (ix3 0 k l))
        (fun k l => m ((c : Thread nD τ).loc main_arg3) (ix3 0 k l)) (fun k l => m ((c : Thread nD τ).loc main_arg4) (ix3 0 k l))
        (fun k => m ((c : Thread nD τ).loc main_arg5) (ix2 0 k)) (fun k => m ((c : Thread nD τ).loc main_arg6) (ix1 k)) i1 := by
  have e0 : ∀ k : Fin 1024, V m c main_v0 (ix2 i0 k)
      = m ((c : Thread nD τ).loc main_arg0) (ix3 ⟨i0 / 4096, by omega⟩ ⟨i0 % 4096, by omega⟩ k) := fun k => by
    entry_read; pointwise
  have e1 : ∀ k : Fin 1024, V m c main_v3 (ix2 0 k) = m ((c : Thread nD τ).loc main_arg1) (ix2 0 k) := fun k => by
    entry_read; pointwise
  have e2 : ∀ (k : Fin 1024) (l : Fin 2816), V m c main_v5 (ix2 k l) = m ((c : Thread nD τ).loc main_arg2) (ix3 0 k l) :=
    fun k l => by entry_read; pointwise
  have e3 : ∀ (k : Fin 1024) (l : Fin 2816), V m c main_v7 (ix2 k l) = m ((c : Thread nD τ).loc main_arg3) (ix3 0 k l) :=
    fun k l => by entry_read; pointwise
  have e4 : ∀ (k : Fin 2816) (l : Fin 1024), V m c main_v9 (ix2 k l) = m ((c : Thread nD τ).loc main_arg4) (ix3 0 k l) :=
    fun k l => by entry_read; pointwise
  have e5 : ∀ k : Fin 1024, V m c main_v11 (ix2 0 k) = m ((c : Thread nD τ).loc main_arg5) (ix2 0 k) := fun k => by
    entry_read; pointwise
  have e6 : ∀ k : Fin 1024, V m c main_v1 (ix2 0 k) = m ((c : Thread nD τ).loc main_arg6) (ix1 k) := fun k => by
    entry_read; pointwise
  show Rows.ffnLast (fun k => V m c main_v0 (ix2 i0 k)) (fun k => V m c main_v3 (ix2 0 k))
    (fun k l => V m c main_v5 (ix2 k l)) (fun k l => V m c main_v7 (ix2 k l)) (fun k l => V m c main_v9 (ix2 k l))
    (fun k => V m c main_v11 (ix2 0 k)) (fun k => V m c main_v1 (ix2 0 k)) i1 = _
  rw [funext e0, funext e1, funext fun k => funext (e2 k), funext fun k => funext (e3 k), funext fun k => funext (e4 k),
    funext e5, funext e6]

end Cert.Kernel2Ideal.Ffn

namespace Cert.Proof.FfnFinal

open Idealize.ShloMosaic Idealize.ShloMosaic.TcCoe Idealize.SL.Sem

/-- The generated frame of the last feed-forward block's kernel. -/
theorem frame_kernel : Cert.quiescent_Kernel2 := fun m ρ _ => Cert.Kernel2.Gen.frame m ρ
/-- The idealized kernel's generated frame. -/
theorem frame_ideal : Cert.quiescent_Kernel2Ideal := fun m ρ _ => Cert.Kernel2Ideal.Gen.frame m ρ

/-- The reference's frame: its run, read at the arguments; it declares no semaphore. -/
theorem frame_reference : Cert.quiescent_Reference2Ideal := fun m ρ _ =>
  (θ_run Cert.Reference2Ideal.defs _ _).mono (fun r h => ⟨fun c => (h c).2,
      sem_eq_zero_of_no_sems (by decide) r.2⟩)
    (Cert.Reference2Ideal.Value.run (F := Ideal) m ρ)

/-- On the extended reals the kernel's result is the reference's, index by index. -/
theorem algebraic : Cert.algebraic_Kernel2Ideal_Reference2Ideal := by
  intro m ρ m' ρ' _ hagree
  refine ⟨fun c => Cert.Kernel2Ideal.Ffn.result m c, ?_, ?_⟩
  · exact (θ_run Cert.Kernel2Ideal.defs _ _).mono
      (fun _ h c => ⟨(h c).1.trans (Cert.Kernel2Ideal.Ffn.final m c), (h c).2⟩)
      (Cert.Kernel2Ideal.Value.run_blocks (F := Ideal) m ρ)
  refine (θ_run Cert.Reference2Ideal.defs _ _).mono (fun _ h c => ⟨(h c).1.trans ?_, (h c).2⟩)
    (Cert.Reference2Ideal.Value.run (F := Ideal) m' ρ')
  refine funext fun i => ?_
  obtain ⟨a0, a1, a2, a3, a4, a5, a6⟩ := hagree c
  have key : ∀ (i0 : Fin 32768) (i1 : Fin 1024),
      Cert.Reference2Ideal.Value.res_main_v52 m' c (ix2 i0 i1) = Cert.Kernel2Ideal.Ffn.result m c (ix2 i0 i1) := fun i0 i1 => by
    rw [Cert.Reference2Ideal.Ffn.res_eq, Cert.Reference2Ideal.Ffn.whole_apply, Cert.Kernel2Ideal.Ffn.result_apply, a0, a1, a2, a3, a4, a5, a6]
  have hi : i = ix2 (i 0 : Fin 32768) (i 1 : Fin 1024) := by funext a; fin_cases a <;> rfl
  rw [hi]
  exact key _ _

end Cert.Proof.FfnFinal

end
-- ==== Proof.GlaTile.lean ====
/-
  The gated linear attention's tile: the terms one sequence of the tile computes, each written once for every sequence,
  pair of heads and chunk, and what one grid point leaves in the output block and in the carried states.
-/
module

public import proofs.«01_k».proof.Proof.FfnFinal
public import proofs.«01_k».proof.Proof.Gen.KernelIdeal.Value

@[expose] public section

set_option maxRecDepth 16384

noncomputable section

namespace Cert.KernelIdeal.Gla

open Cert.KernelIdeal Cert.KernelIdeal.Gen Idealize.ShloMosaic Idealize.ShloMosaic.TcCoe Idealize.SL.Sem

/-- A rectangle of one sequence lies in its block. -/
theorem inb3 {a b c u v w k r o : ℕ} (hk : k + u ≤ a) (hr : r + v ≤ b) (ho : o + w ≤ c) :
    ∀ i, (![k, r, o] : Fin 3 → ℕ) i + (![u, v, w] : Fin 3 → ℕ) i ≤ (![a, b, c] : Fin 3 → ℕ) i := by
  intro i; fin_cases i <;> simpa

/-- A rectangle of a matrix lies in it. -/
theorem inb2 {a b u v r o : ℕ} (hr : r + u ≤ a) (ho : o + v ≤ b) :
    ∀ i, (![r, o] : Fin 2 → ℕ) i + (![u, v] : Fin 2 → ℕ) i ≤ (![a, b] : Fin 2 → ℕ) i := by
  intro i; fin_cases i <;> simpa

/-- A pair's states lie in the carried array. -/
theorem inb4 {k p : ℕ} (hk : k < 4) (hp : p < 2) :
    ∀ i, (![k, p, 0, 0] : Fin 4 → ℕ) i + (![1, 1, 128, 256] : Fin 4 → ℕ) i ≤ (![4, 2, 128, 256] : Fin 4 → ℕ) i := by
  intro i; fin_cases i <;> simp <;> omega

/-- A rectangle of a matrix lies in it. -/
theorem slices2 {a b u v r o : ℕ} (hr : r + u ≤ a) (ho : o + v ≤ b) : (⟨2, ![a, b]⟩ : Shape).Slices ![r, o] ⟨2, ![u, v]⟩ := by
  refine ⟨rfl, fun i => ?_⟩
  fin_cases i <;> simpa

section
variable {F : FTy → Type} [FloatOps F]

/-- The cumulative log decays of a sequence's 512 rows, chunk by chunk. -/
def cum (x2 : Vec F S4x512x256 .f32) (k : ℕ) (hk : k < 4) : FVec F S512x256 .f32 :=
  k0_pay14 k0_pay5 (View.ld x2 (Rect.unit ![k, 0, 0] ![1, 256, 256] (inb3 (by omega) (by omega) (by omega))))
    (View.ld x2 (Rect.unit ![k, 256, 0] ![1, 256, 256] (inb3 (by omega) (by omega) (by omega))))

/-- A sequence's queries. -/
def qOf (x0 : Vec F S4x512x512 .bf16) (k : ℕ) (hk : k < 4) : Vec F S1x512x256 .bf16 :=
  View.ld x0 (Rect.unit ![k, 0, 0] ![1, 512, 256] (inb3 (by omega) (by omega) (by omega)))

/-- A sequence's keys. -/
def kOf (x0 : Vec F S4x512x512 .bf16) (k : ℕ) (hk : k < 4) : Vec F S1x512x256 .bf16 :=
  View.ld x0 (Rect.unit ![k, 0, 256] ![1, 512, 256] (inb3 (by omega) (by omega) (by omega)))

/-- A chunk's update of a pair's states: its keys against its values. -/
def kvAt (kr : FVec F S512x256 .bf16) (o : ℕ) (ho : o + 128 ≤ 256) (n : ℕ) (hn : n < 8) (v : Vec F S1x64x256 .bf16) : FVec F S128x256 .f32 :=
  matmul dot_S64x128_S64x256_S128x256_0_0_1_1_n_n none
    (extractStridedSlice S64x128 ![64 * n, o] kr (slices2 (by omega) (by omega)))
    (shapeCast S64x256 v shapeCasts_S1x64x256_S64x256) (constant S128x256 .f32 0x00000000#32)

/-- A pair's states before chunk `n` of the tile. -/
def stAt (x0 : Vec F S4x512x512 .bf16) (x1 : Vec F S4x512x512 .bf16) (x2 : Vec F S4x512x256 .f32) (s : Vec F S4x2x128x256 .f32)
    (k : ℕ) (hk : k < 4) (p : ℕ) (hp : p < 2) : (n : ℕ) → n ≤ 8 → FVec F S128x256 .f32
  | 0, _ => shapeCast S128x256 (View.ld s (Rect.unit ![k, p, 0, 0] ![1, 1, 128, 256] (inb4 hk hp))) shapeCasts_S1x1x128x256_S128x256
  | n + 1, h =>
    addf (mulf (stAt x0 x1 x2 s k hk p hp n (by omega))
        (broadcastTo S128x256 (extractStridedSlice S128x1 ![128 * p, n] (k0_pay23 (cum x2 k hk)) (slices2 (by omega) (by omega))) broadcasts_S128x1_S128x256))
      (kvAt (k0_pay21 (cum x2 k hk) (kOf x0 k hk)) (128 * p) (by omega) n (by omega)
        (View.ld x1 (Rect.unit ![k, 64 * n, 256 * p] ![1, 64, 256] (inb3 (by omega) (by omega) (by omega)))))

/-- A pair's states after the tile, as they are stored. -/
def stored (x0 : Vec F S4x512x512 .bf16) (x1 : Vec F S4x512x512 .bf16) (x2 : Vec F S4x512x256 .f32) (s : Vec F S4x2x128x256 .f32)
    (k : ℕ) (hk : k < 4) (p : ℕ) (hp : p < 2) : FVec F S1x1x128x256 .f32 :=
  shapeCast S1x1x128x256 (stAt x0 x1 x2 s k hk p hp 8 le_rfl) shapeCasts_S128x256_S1x1x128x256

/-- Which entries of a pair's states are a head's own: its keys' rows against its values' columns. -/
def own : IVec S128x256 1 := k0_pay11 k0_pay9 k0_pay10 1#32

/-- What a chunk's queries read of a pair's states. -/
def interAt (qd : FVec F S512x256 .bf16) (o : ℕ) (ho : o + 128 ≤ 256) (n : ℕ) (hn : n < 8) (st : FVec F S128x256 .f32) : FVec F S64x256 .f32 :=
  matmul dot_S64x128_S128x256_S64x256_1_0_0_1_n_n none
    (extractStridedSlice S64x128 ![64 * n, o] qd (slices2 (by omega) (by omega)))
    (truncf .bf16 (select own st (broadcast S128x256 (Scalar.ofBits .f32 0x00000000#32))) bitsLt_bf16_f32)
    (constant S64x256 .f32 0x00000000#32)

/-- The chunks' readings of a pair's states, one under the other. -/
def inter (x0 : Vec F S4x512x512 .bf16) (x1 : Vec F S4x512x512 .bf16) (x2 : Vec F S4x512x256 .f32) (s : Vec F S4x2x128x256 .f32)
    (k : ℕ) (hk : k < 4) (p : ℕ) (hp : p < 2) : FVec F S512x256 .f32 :=
  concatenate S512x256 0 (List.ofFn fun n : Fin 8 => ⟨S64x256, interAt (k0_pay20 (cum x2 k hk) (qOf x0 k hk)) (128 * p) (by omega) n n.isLt
    (stAt x0 x1 x2 s k hk p hp n (by omega))⟩) concatenates_S64x256_S64x256_S64x256_S64x256_S64x256_S64x256_S64x256_S64x256_S512x256_d0

/-- The decayed queries of one head: the other head of its pair is masked. -/
def headQ (x0 : Vec F S4x512x512 .bf16) (x2 : Vec F S4x512x256 .f32) (k : ℕ) (hk : k < 4) (p : ℕ) (hp : p < 2) (mask : IVec S1x128 1) :
    FVec F S512x128 .bf16 :=
  select (broadcastTo S512x128 (shapeCast S1x128 mask shapeCasts_S1x128_S1x128) broadcasts_S1x128_S512x128)
    (extractStridedSlice S512x128 ![0, 128 * p] (k0_pay20 (cum x2 k hk) (qOf x0 k hk)) (slices2 (by omega) (by omega))) k0_pay6

/-- A head's scores within half a tile, the later and the other chunks' masked. -/
def attAt (x0 : Vec F S4x512x512 .bf16) (x2 : Vec F S4x512x256 .f32) (k : ℕ) (hk : k < 4) (p : ℕ) (hp : p < 2) (mask : IVec S1x128 1)
    (u : ℕ) (hu : u < 2) : FVec F S256x256 .bf16 :=
  truncf .bf16 (select k0_pay4 (matmul dot_S256x128_S256x128_S256x256_1_1_0_0_n_n none
      (extractStridedSlice S256x128 ![256 * u, 0] (headQ x0 x2 k hk p hp mask) (slices2 (by omega) (by omega)))
      (extractStridedSlice S256x128 ![256 * u, 128 * p] (k0_pay22 (cum x2 k hk) (kOf x0 k hk)) (slices2 (by omega) (by omega)))
      (constant S256x256 .f32 0x00000000#32)) (broadcast S256x256 (Scalar.ofBits .f32 0x00000000#32))) bitsLt_bf16_f32

/-- A head's rows normalised by their mean square, weighted and gated. -/
def normed (o : FVec F S512x128 .f32) (g : Vec F S1x128 .f32) (r : Vec F S1x512x128 .bf16) : FVec F S512x128 .f32 :=
  mulf (mulf (mulf o (broadcastTo S512x128 (rsqrt (addf (divf (shapeCast S512x1
      (multiReduction .add [1] S512 (mulf o o) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128))
    (extf .f32 (shapeCast S512x128 r shapeCasts_S1x512x128_S512x128) bitsLt_bf16_f32)

/-- Scores of half a tile against the values. -/
def half (A : FVec F S256x256 .bf16) (x1 : Vec F S4x512x512 .bf16) (k : ℕ) (hk : k < 4) (o : ℕ) (ho : o + 128 ≤ 512) (u : ℕ) (hu : u + 256 ≤ 512) : FVec F S256x128 .f32 :=
  matmul dot_S256x256_S256x128_S256x128_1_0_0_1_n_n none A
    (shapeCast S256x128 (View.ld x1 (Rect.unit ![k, u, o] ![1, 256, 128] (inb3 (by omega) (by omega) (by omega)))) shapeCasts_S1x256x128_S256x128)
    (constant S256x128 .f32 0x00000000#32)

/-- Two half tiles, and a head's columns of the states read, put together. -/
def joined (H0 H1 : FVec F S256x128 .f32) (I : FVec F S512x256 .f32) (e : ℕ) (he : e < 2) : FVec F S512x128 .f32 :=
  addf (concatenate S512x128 0 [⟨S256x128, H0⟩, ⟨S256x128, H1⟩] concatenates_S256x128_S256x128_S512x128_d0)
    (extractStridedSlice S512x128 ![0, 128 * e] I (slices2 (by omega) (by omega)))

/-- A head's rows before the normalisation: the scores against the values, and the states read. -/
def before (x0 : Vec F S4x512x512 .bf16) (x1 : Vec F S4x512x512 .bf16) (x2 : Vec F S4x512x256 .f32) (s : Vec F S4x2x128x256 .f32)
    (k : ℕ) (hk : k < 4) (p : ℕ) (hp : p < 2) (e : ℕ) (he : e < 2) (mask : IVec S1x128 1) : FVec F S512x128 .f32 :=
  joined (half (attAt x0 x2 k hk p hp mask 0 (by omega)) x1 k hk (256 * p + 128 * e) (by omega) 0 (by omega))
    (half (attAt x0 x2 k hk p hp mask 1 (by omega)) x1 k hk (256 * p + 128 * e) (by omega) 256 (by omega)) (inter x0 x1 x2 s k hk p hp) e he

/-- A head's output of one sequence, as it is stored: its rows normalised and gated. -/
def headOut (x0 : Vec F S4x512x512 .bf16) (x1 : Vec F S4x512x512 .bf16) (x2 : Vec F S4x512x256 .f32) (x3 : Vec F S4x512x512 .bf16)
    (x4 : Vec F S1x512 .f32) (s : Vec F S4x2x128x256 .f32)
    (k : ℕ) (hk : k < 4) (p : ℕ) (hp : p < 2) (e : ℕ) (he : e < 2) (mask : IVec S1x128 1) : FVec F S1x512x128 .bf16 :=
  shapeCast S1x512x128 (truncf .bf16 (normed (before x0 x1 x2 s k hk p hp e he mask)
    (View.ld x4 (Rect.unit ![0, 256 * p + 128 * e] ![1, 128] (inb2 (by omega) (by omega))))
    (View.ld x3 (Rect.unit ![k, 0, 256 * p + 128 * e] ![1, 512, 128] (inb3 (by omega) (by omega) (by omega))))) bitsLt_bf16_f32)
    shapeCasts_S512x128_S1x512x128

/-- What a grid point leaves in the carried states, from those before it; `rest` are
    earlier stores, which these cover. -/
def statesOf (x0 : Vec F S4x512x512 .bf16) (x1 : Vec F S4x512x512 .bf16) (x2 : Vec F S4x512x256 .f32) (s : Vec F S4x2x128x256 .f32)
    (rest : List (View.Piece (Elt F) S4x2x128x256 .f32)) : Vec F S4x2x128x256 .f32 :=
  View.canon (
    ⟨Rect.unit ![3, 1, 0, 0] ![1, 1, 128, 256] inb_S4x2x128x256_S1x1x128x256_3_1_0_0, stored x0 x1 x2 s 3 (by omega) 1 (by omega)⟩ ::
    ⟨Rect.unit ![3, 0, 0, 0] ![1, 1, 128, 256] inb_S4x2x128x256_S1x1x128x256_3_0_0_0, stored x0 x1 x2 s 3 (by omega) 0 (by omega)⟩ ::
    ⟨Rect.unit ![2, 1, 0, 0] ![1, 1, 128, 256] inb_S4x2x128x256_S1x1x128x256_2_1_0_0, stored x0 x1 x2 s 2 (by omega) 1 (by omega)⟩ ::
    ⟨Rect.unit ![2, 0, 0, 0] ![1, 1, 128, 256] inb_S4x2x128x256_S1x1x128x256_2_0_0_0, stored x0 x1 x2 s 2 (by omega) 0 (by omega)⟩ ::
    ⟨Rect.unit ![1, 1, 0, 0] ![1, 1, 128, 256] inb_S4x2x128x256_S1x1x128x256_1_1_0_0, stored x0 x1 x2 s 1 (by omega) 1 (by omega)⟩ ::
    ⟨Rect.unit ![1, 0, 0, 0] ![1, 1, 128, 256] inb_S4x2x128x256_S1x1x128x256_1_0_0_0, stored x0 x1 x2 s 1 (by omega) 0 (by omega)⟩ ::
    ⟨Rect.unit ![0, 1, 0, 0] ![1, 1, 128, 256] inb_S4x2x128x256_S1x1x128x256_0_1_0_0, stored x0 x1 x2 s 0 (by omega) 1 (by omega)⟩ ::
    ⟨Rect.unit ![0, 0, 0, 0] ![1, 1, 128, 256] inb_S4x2x128x256_S1x1x128x256_0_0_0_0, stored x0 x1 x2 s 0 (by omega) 0 (by omega)⟩ ::
    rest)

/-- What a grid point leaves in the output block, from the states before it. -/
def outOf (x0 : Vec F S4x512x512 .bf16) (x1 : Vec F S4x512x512 .bf16) (x2 : Vec F S4x512x256 .f32) (x3 : Vec F S4x512x512 .bf16)
    (x4 : Vec F S1x512 .f32) (s : Vec F S4x2x128x256 .f32) : Vec F S4x512x512 .bf16 :=
  View.canon [
    ⟨Rect.unit ![3, 0, 384] ![1, 512, 128] inb_S4x512x512_S1x512x128_3_0_384, headOut x0 x1 x2 x3 x4 s 3 (by omega) 1 (by omega) 1 (by omega) k0_pay8⟩,
    ⟨Rect.unit ![3, 0, 256] ![1, 512, 128] inb_S4x512x512_S1x512x128_3_0_256, headOut x0 x1 x2 x3 x4 s 3 (by omega) 1 (by omega) 0 (by omega) k0_pay3⟩,
    ⟨Rect.unit ![3, 0, 128] ![1, 512, 128] inb_S4x512x512_S1x512x128_3_0_128, headOut x0 x1 x2 x3 x4 s 3 (by omega) 0 (by omega) 1 (by omega) k0_pay7⟩,
    ⟨Rect.unit ![3, 0, 0] ![1, 512, 128] inb_S4x512x512_S1x512x128_3_0_0, headOut x0 x1 x2 x3 x4 s 3 (by omega) 0 (by omega) 0 (by omega) k0_pay3⟩,
    ⟨Rect.unit ![2, 0, 384] ![1, 512, 128] inb_S4x512x512_S1x512x128_2_0_384, headOut x0 x1 x2 x3 x4 s 2 (by omega) 1 (by omega) 1 (by omega) k0_pay8⟩,
    ⟨Rect.unit ![2, 0, 256] ![1, 512, 128] inb_S4x512x512_S1x512x128_2_0_256, headOut x0 x1 x2 x3 x4 s 2 (by omega) 1 (by omega) 0 (by omega) k0_pay3⟩,
    ⟨Rect.unit ![2, 0, 128] ![1, 512, 128] inb_S4x512x512_S1x512x128_2_0_128, headOut x0 x1 x2 x3 x4 s 2 (by omega) 0 (by omega) 1 (by omega) k0_pay7⟩,
    ⟨Rect.unit ![2, 0, 0] ![1, 512, 128] inb_S4x512x512_S1x512x128_2_0_0, headOut x0 x1 x2 x3 x4 s 2 (by omega) 0 (by omega) 0 (by omega) k0_pay3⟩,
    ⟨Rect.unit ![1, 0, 384] ![1, 512, 128] inb_S4x512x512_S1x512x128_1_0_384, headOut x0 x1 x2 x3 x4 s 1 (by omega) 1 (by omega) 1 (by omega) k0_pay8⟩,
    ⟨Rect.unit ![1, 0, 256] ![1, 512, 128] inb_S4x512x512_S1x512x128_1_0_256, headOut x0 x1 x2 x3 x4 s 1 (by omega) 1 (by omega) 0 (by omega) k0_pay3⟩,
    ⟨Rect.unit ![1, 0, 128] ![1, 512, 128] inb_S4x512x512_S1x512x128_1_0_128, headOut x0 x1 x2 x3 x4 s 1 (by omega) 0 (by omega) 1 (by omega) k0_pay7⟩,
    ⟨Rect.unit ![1, 0, 0] ![1, 512, 128] inb_S4x512x512_S1x512x128_1_0_0, headOut x0 x1 x2 x3 x4 s 1 (by omega) 0 (by omega) 0 (by omega) k0_pay3⟩,
    ⟨Rect.unit ![0, 0, 384] ![1, 512, 128] inb_S4x512x512_S1x512x128_0_0_384, headOut x0 x1 x2 x3 x4 s 0 (by omega) 1 (by omega) 1 (by omega) k0_pay8⟩,
    ⟨Rect.unit ![0, 0, 256] ![1, 512, 128] inb_S4x512x512_S1x512x128_0_0_256, headOut x0 x1 x2 x3 x4 s 0 (by omega) 1 (by omega) 0 (by omega) k0_pay3⟩,
    ⟨Rect.unit ![0, 0, 128] ![1, 512, 128] inb_S4x512x512_S1x512x128_0_0_128, headOut x0 x1 x2 x3 x4 s 0 (by omega) 0 (by omega) 1 (by omega) k0_pay7⟩,
    ⟨Rect.unit ![0, 0, 0] ![1, 512, 128] inb_S4x512x512_S1x512x128_0_0_0, headOut x0 x1 x2 x3 x4 s 0 (by omega) 0 (by omega) 0 (by omega) k0_pay3⟩]

end

end Cert.KernelIdeal.Gla
-- ==== Proof.GlaRows.lean ====
/-
  The gated linear attention of one head on the extended reals: a chunk's cumulative log decays, its scores, the
  recursion of the states over the chunks, and the normalised, gated output row. Chunks are numbered; `L n`, `Q n`,
  `K n`, `V n` are chunk `n`'s log decays, queries, keys and values, each 64 rows.
-/
module

public import Idealize.ShloMosaic.PureOps.Ideal
public import Mathlib.Data.EReal.Operations
public import Mathlib.Algebra.BigOperators.Fin

@[expose] public section

noncomputable section

namespace Cert.Proof.Gla

open Idealize.ShloMosaic

/-- A chunk's log decays added up from its first row. -/
def cum (L : Fin 64 → Fin 64 → EReal) (a d : Fin 64) : EReal := ∑ b, if b ≤ a then L b d else 0

/-- The printed scale of the queries. -/
abbrev eighth : EReal := Ideal.ofBits .f32 0x3E000000#32

/-- A chunk's queries, scaled and decayed from the chunk's start. -/
def query (L Q : Fin 64 → Fin 64 → EReal) (a d : Fin 64) : EReal := Q a d * eighth * Ideal.exp (cum L a d)

/-- A chunk's keys with the decay from the chunk's start taken back. -/
def keyUp (L K : Fin 64 → Fin 64 → EReal) (a d : Fin 64) : EReal := K a d * Ideal.exp (-cum L a d)

/-- A chunk's keys decayed to the chunk's end. -/
def keyEnd (L K : Fin 64 → Fin 64 → EReal) (a d : Fin 64) : EReal := K a d * Ideal.exp (cum L 63 d - cum L a d)

/-- What a chunk adds to the states. -/
def update (L K : Fin 64 → Fin 64 → EReal) (V : Fin 64 → Fin 128 → EReal) (d : Fin 64) (e : Fin 128) : EReal :=
  ∑ a, keyEnd L K a d * V a e

/-- The states before chunk `n`. -/
def state (L K : ℕ → Fin 64 → Fin 64 → EReal) (V : ℕ → Fin 64 → Fin 128 → EReal) : ℕ → Fin 64 → Fin 128 → EReal
  | 0 => fun _ _ => 0
  | n + 1 => fun d e => state L K V n d e * Ideal.exp (cum (L n) 63 d) + update (L n) (K n) (V n) d e

/-- A chunk's scores: row `a` reads the rows up to it. -/
def score (L Q K : Fin 64 → Fin 64 → EReal) (a b : Fin 64) : EReal :=
  if b ≤ a then ∑ d, query L Q a d * keyUp L K b d else 0

/-- A chunk's output before the normalisation, from the states before it. -/
def mixed (L Q K : Fin 64 → Fin 64 → EReal) (V : Fin 64 → Fin 128 → EReal) (S : Fin 64 → Fin 128 → EReal) (a : Fin 64) (e : Fin 128) : EReal :=
  (∑ b, score L Q K a b * V b e) + ∑ d, query L Q a d * S d e

/-- A row normalised by its mean square, weighted by `g` and gated by `r`. -/
def gated (o g r : Fin 128 → EReal) (e : Fin 128) : EReal :=
  o e * Ideal.rsqrt (Ideal.div (∑ k, o k * o k) (Ideal.ofBits .f32 0x43000000#32) + Ideal.ofBits .f32 0x358637BD#32) * g e * r e

/-- Row `b` of chunk `n` of a sequence. -/
def row (n : ℕ) (b : Fin 64) : Fin 4096 := ⟨(64 * n + b) % 4096, Nat.mod_lt _ (by norm_num)⟩

/-- A sequence's array by chunks. -/
def chunks {n : ℕ} (x : Fin 4096 → Fin n → EReal) (k : ℕ) (b : Fin 64) (d : Fin n) : EReal := x (row k b) d

/-- A gate's activation. -/
def silu (r : EReal) : EReal := r * Ideal.div (Ideal.ofBits .f32 0x3F800000#32) (Ideal.ofBits .f32 0x3F800000#32 + Ideal.exp (-r))

/-- A head's output row at a token: the chunk's rows from the states before it, normalised, weighted and gated. -/
def head (L Q K : Fin 4096 → Fin 64 → EReal) (V : Fin 4096 → Fin 128 → EReal) (g r : Fin 128 → EReal) (T : Fin 4096) (f : Fin 128) : EReal :=
  gated (fun f => mixed (chunks L ((T : ℕ) / 64)) (chunks Q ((T : ℕ) / 64)) (chunks K ((T : ℕ) / 64)) (chunks V ((T : ℕ) / 64))
    (state (chunks L) (chunks K) (chunks V) ((T : ℕ) / 64)) ⟨(T : ℕ) % 64, by omega⟩ f) g r f

/-- A sum over `M` blocks of `B` terms of which one block alone is not zero. -/
theorem sum_one_block {M B T : ℕ} (hT : M * B = T) (f : Fin T → EReal) (c : ℕ) (hc : c < M)
    (h : ∀ j : Fin T, (j : ℕ) / B ≠ c → f j = 0) :
    ∑ j, f j = ∑ b : Fin B, f ⟨B * c + b, by
      have h1 := b.isLt
      calc B * c + b < B * c + B := by omega
        _ = B * (c + 1) := by ring
        _ ≤ B * M := Nat.mul_le_mul_left _ hc
        _ = T := by rw [mul_comm]; exact hT⟩ := by
  subst hT
  rw [← finProdFinEquiv.sum_comp, Fintype.sum_prod_type, Finset.sum_eq_single (⟨c, hc⟩ : Fin M)]
  · refine Finset.sum_congr rfl fun b _ => congrArg f (Fin.ext ?_)
    simp [finProdFinEquiv]; omega
  · intro c' _ hne
    refine Finset.sum_eq_zero fun b _ => h _ ?_
    have hB : 0 < B := lt_of_le_of_lt (Nat.zero_le _) b.isLt
    have e : ((finProdFinEquiv (c', b) : Fin (M * B)) : ℕ) = (b : ℕ) + B * c' := by simp [finProdFinEquiv]
    rw [e, Nat.add_mul_div_left _ _ hB, Nat.div_eq_of_lt b.isLt, zero_add]
    exact fun h => hne (Fin.ext h)
  · intro h; exact absurd (Finset.mem_univ _) h

/-- A log decay written as its three parts, each the rest after the parts before: of a value that is not above zero the
    parts add up to it, and under a 0/1 weight too. -/
theorem three_parts (x : EReal) (hx : x ≤ 0) : x + (x - x) + ((x - x) - (x - x)) = x := by
  induction x with
  | bot => simp
  | coe x => norm_cast; simp
  | top => exact absurd hx (by simp)

end Cert.Proof.Gla
-- ==== Proof.GlaIndex.lean ====
module

public import proofs.«01_k».proof.Proof.GlaTile
public import proofs.«01_k».proof.Proof.GlaRows

@[expose] public section

set_option maxRecDepth 16384

noncomputable section

namespace Cert.KernelIdeal.Gla

open Cert.KernelIdeal Cert.KernelIdeal.Gen Idealize.ShloMosaic Idealize.ShloMosaic.TcCoe Idealize.SL.Sem
open Cert.Proof

/-- The unsigned comparison of a row's distance to a column with the row's place in its chunk: the column is in the same
    chunk and not later. -/
theorem causal_apply (i j : Fin 256) : k0_pay4 (ix2 i j) = if (j : ℕ) ≤ i ∧ (j : ℕ) / 64 = (i : ℕ) / 64 then 1#1 else 0#1 := by
  unfold k0_pay4
  pointwise
  have e : (BitVec.ofNat 32 (i : ℕ) &&& 63#32).toNat = (i : ℕ) % 64 := by
    rw [BitVec.toNat_and]
    have := Nat.and_two_pow_sub_one_eq_mod (i : ℕ) 6
    simp only [BitVec.toNat_ofNat]
    rw [Nat.mod_eq_of_lt (by omega : (i : ℕ) < 2 ^ 32)]
    simpa using this
  have d : (BitVec.ofNat 32 (i : ℕ) - BitVec.ofNat 32 (j : ℕ)).toNat = (2 ^ 32 - (j : ℕ) + i) % 2 ^ 32 := by
    rw [BitVec.toNat_sub]
    simp only [BitVec.toNat_ofNat]
    rw [Nat.mod_eq_of_lt (by omega : (i : ℕ) < 2 ^ 32), Nat.mod_eq_of_lt (by omega : (j : ℕ) < 2 ^ 32)]
  show BitVec.ofBool (decide ((BitVec.ofNat 32 (i : ℕ) - BitVec.ofNat 32 (j : ℕ)).toNat ≤ (BitVec.ofNat 32 (i : ℕ) &&& 63#32).toNat)) = _
  rw [e, d]
  split_ifs with h
  · rw [decide_eq_true (by omega)]; rfl
  · rw [decide_eq_false (by omega)]; rfl

/-- The 0/1 matrix of the cumulative sums. -/
theorem tri_apply (i j : Fin 256) : k0_pay5 (F := Ideal) (ix2 i j) = if (j : ℕ) ≤ i ∧ (j : ℕ) / 64 = (i : ℕ) / 64 then 1 else 0 := by
  have e : k0_pay5 (F := Ideal) (ix2 i j) = Scalar.select (k0_pay4 (ix2 i j)) 1 0 := by
    unfold k0_pay5
    pointwise
  rw [e, causal_apply]
  split_ifs <;> rfl

/-- A row's head, as the floor division is printed. -/
theorem rowHead (i : Fin 128) : Scalar.select
        (IntOp.andi
          (IntOp.cmpi CmpIPredicate.ne
            (IntOp.subi (BitVec.setWidth 32 (IntOp.cmpi CmpIPredicate.sgt (BitVec.ofNat 32 ↑i) 0#32))
              (BitVec.setWidth 32 (IntOp.cmpi CmpIPredicate.slt (BitVec.ofNat 32 ↑i) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 ↑i) 64#32) 0#32))
        (IntOp.subi (IntOp.divsi ArithUnit.vector (BitVec.ofNat 32 ↑i) 64#32) 1#32)
        (IntOp.divsi ArithUnit.vector (BitVec.ofNat 32 ↑i) 64#32) = BitVec.ofNat 32 ((i : ℕ) / 64) := by
  revert i; decide +kernel

/-- A column's head, as the floor division is printed. -/
theorem colHead (j : Fin 256) : Scalar.select
        (IntOp.andi
          (IntOp.cmpi CmpIPredicate.ne
            (IntOp.subi (BitVec.setWidth 32 (IntOp.cmpi CmpIPredicate.sgt (BitVec.ofNat 32 ↑j) 0#32))
              (BitVec.setWidth 32 (IntOp.cmpi CmpIPredicate.slt (BitVec.ofNat 32 ↑j) 0#32)))
            (Scalar.subi (Scalar.extui (Scalar.cmpi CmpIPredicate.sgt 128#32 0#32))
              (Scalar.extui (Scalar.cmpi CmpIPredicate.slt 128#32 0#32))))
          (IntOp.cmpi CmpIPredicate.ne (IntOp.remsi ArithUnit.vector (BitVec.ofNat 32 ↑j) 128#32) 0#32))
        (IntOp.subi (IntOp.divsi ArithUnit.vector (BitVec.ofNat 32 ↑j) 128#32) 1#32)
        (IntOp.divsi ArithUnit.vector (BitVec.ofNat 32 ↑j) 128#32) = BitVec.ofNat 32 ((j : ℕ) / 128) := by
  revert j; decide +kernel

/-- An entry of a pair's states is a head's own when its row's head is its column's. -/
theorem own_apply (i : Fin 128) (j : Fin 256) : own (ix2 i j) = if (i : ℕ) / 64 = (j : ℕ) / 128 then 1#1 else 0#1 := by
  unfold own k0_pay11 k0_pay9 k0_pay10
  pointwise
  rw [rowHead, colHead]
  show BitVec.ofBool (BitVec.ofNat 32 ((i : ℕ) / 64) == BitVec.ofNat 32 ((j : ℕ) / 128)) = _
  split_ifs with h
  · rw [h]; simp
  · have : BitVec.ofNat 32 ((i : ℕ) / 64) ≠ BitVec.ofNat 32 ((j : ℕ) / 128) := fun e => h (by
      have := congrArg BitVec.toNat e
      simp only [BitVec.toNat_ofNat] at this
      rwa [Nat.mod_eq_of_lt (by omega), Nat.mod_eq_of_lt (by omega)] at this)
    rw [beq_eq_false_iff_ne.mpr this]; rfl

/-- The 0/1 matrix against the three parts of 256 log decays that are not above zero: the sum over the row's chunk up to
    the row. -/
theorem tri_sum (x : Fin 256 → EReal) (hx : ∀ j, x j ≤ 0) (i : Fin 256) :
    (∑ j, k0_pay5 (F := Ideal) (ix2 i j) * x j) + (∑ j, k0_pay5 (F := Ideal) (ix2 i j) * (x j - x j))
        + ∑ j, k0_pay5 (F := Ideal) (ix2 i j) * (x j - x j - (x j - x j))
      = ∑ b : Fin 64, if (b : ℕ) ≤ (i : ℕ) % 64 then x ⟨64 * ((i : ℕ) / 64) + b, by omega⟩ else 0 := by
  rw [← Finset.sum_add_distrib, ← Finset.sum_add_distrib]
  have e : ∀ j : Fin 256, k0_pay5 (F := Ideal) (ix2 i j) * x j + k0_pay5 (F := Ideal) (ix2 i j) * (x j - x j)
      + k0_pay5 (F := Ideal) (ix2 i j) * (x j - x j - (x j - x j)) = if (j : ℕ) ≤ i ∧ (j : ℕ) / 64 = (i : ℕ) / 64 then x j else 0 := fun j => by
    rw [tri_apply]
    split_ifs
    · simp only [one_mul]; exact Gla.three_parts _ (hx j)
    · simp
  simp only [e]
  rw [Gla.sum_one_block (M := 4) (B := 64) (by norm_num) _ ((i : ℕ) / 64) (by omega) (fun j h => if_neg (by tauto))]
  refine Finset.sum_congr rfl fun b _ => if_congr ?_ rfl rfl
  constructor <;> intro h <;> simp only at h ⊢ <;> omega

/-- The cumulative log decays at an index. -/
theorem cum_apply (x2 : Vec Ideal S4x512x256 .f32) (hx : ∀ i, x2 i ≤ 0) (k : ℕ) (hk : k < 4) (i : Fin 512) (j : Fin 256) :
    cum x2 k hk (ix2 i j) = ∑ b : Fin 64, if (b : ℕ) ≤ (i : ℕ) % 64 then x2 (ix3 ⟨k, hk⟩ ⟨64 * ((i : ℕ) / 64) + b, by omega⟩ j) else 0 := by
  unfold cum k0_pay14
  pointwise [dot_S256x256_S256x256_S256x256_1_0_0_1_n_n]
  by_cases h : (i : ℕ) < 256
  · rw [dif_pos h]
    refine (tri_sum (fun l => x2 (ix3 ⟨k, hk⟩ ⟨l, by omega⟩ j)) (fun _ => hx _) ⟨i, h⟩).trans ?_
    rfl
  · rw [dif_neg h]
    refine (tri_sum (fun l => x2 (ix3 ⟨k, hk⟩ ⟨256 + l, by omega⟩ j)) (fun _ => hx _) ⟨i - 256, by omega⟩).trans ?_
    refine Finset.sum_congr rfl fun b _ => if_congr ?_ (congrArg x2 ?_) rfl
    · simp only; omega
    · exact congrArg (fun r => ix3 (⟨k, hk⟩ : Fin 4) r j) (Fin.ext (by simp only; omega))

/-- The decays over whole chunks, transposed, at an index. -/
theorem decay_apply (b : FVec Ideal S512x256 .f32) (i : Fin 256) (j : Fin 128) (hj : (j : ℕ) < 8) :
    k0_pay23 b (ix2 i j) = Ideal.exp (b (ix2 ⟨64 * (j : ℕ) + 63, by omega⟩ i)) := by
  unfold k0_pay23 k0_pay18
  pointwise
  rw [dif_pos hj]
  exact congrArg (fun r => Ideal.exp (b (ix2 r i))) (Fin.ext (by simp only; omega))

/-- The keys decayed to their chunk's end at an index. -/
theorem kr_apply (b : FVec Ideal S512x256 .f32) (x : Vec Ideal S1x512x256 .bf16) (i : Fin 512) (j : Fin 256) :
    k0_pay21 b x (ix2 i j) = x (ix3 0 i j) * Ideal.exp (b (ix2 ⟨64 * ((i : ℕ) / 64) + 63, by omega⟩ j) - b (ix2 i j)) := by
  unfold k0_pay21 k0_pay18 k0_pay19
  pointwise
  exact congrArg (fun r => x (ix3 0 i j) * Ideal.exp (b (ix2 r j) - b (ix2 i j))) (Fin.ext (by simp only; omega))

/-- The decayed queries at an index. -/
theorem qd_apply (b : FVec Ideal S512x256 .f32) (x : Vec Ideal S1x512x256 .bf16) (i : Fin 512) (j : Fin 256) :
    k0_pay20 b x (ix2 i j) = x (ix3 0 i j) * Gla.eighth * Ideal.exp (b (ix2 i j)) := by
  unfold k0_pay20
  pointwise

/-- The keys with their decay taken back at an index. -/
theorem kinv_apply (b : FVec Ideal S512x256 .f32) (x : Vec Ideal S1x512x256 .bf16) (i : Fin 512) (j : Fin 256) :
    k0_pay22 b x (ix2 i j) = x (ix3 0 i j) * Ideal.exp (- b (ix2 i j)) := by
  unfold k0_pay22 k0_pay19
  pointwise
  rw [sub_eq_add_neg, zero_add]

/-- A chunk's update at an index. -/
theorem kvAt_apply (kr : FVec Ideal S512x256 .bf16) (o : ℕ) (ho : o + 128 ≤ 256) (n : ℕ) (hn : n < 8) (v : Vec Ideal S1x64x256 .bf16) (i : Fin 128) (j : Fin 256) :
    kvAt kr o ho n hn v (ix2 i j) = ∑ a : Fin 64, kr (ix2 ⟨64 * n + a, by omega⟩ ⟨o + i, by omega⟩) * v (ix3 0 a j) := by
  unfold kvAt
  pointwise [dot_S64x128_S64x256_S128x256_0_0_1_1_n_n]

/-- A chunk's reading of the states at an index: the other head's entries are masked. -/
theorem interAt_apply (qd : FVec Ideal S512x256 .bf16) (o : ℕ) (ho : o + 128 ≤ 256) (n : ℕ) (hn : n < 8) (st : FVec Ideal S128x256 .f32)
    (i : Fin 64) (j : Fin 256) :
    interAt qd o ho n hn st (ix2 i j)
      = ∑ d : Fin 64, qd (ix2 ⟨64 * n + i, by omega⟩ ⟨o + (64 * ((j : ℕ) / 128) + d), by omega⟩) * st (ix2 ⟨64 * ((j : ℕ) / 128) + d, by omega⟩ j) := by
  unfold interAt
  pointwise [dot_S64x128_S128x256_S64x256_1_0_0_1_n_n]
  rw [Gla.sum_one_block (M := 2) (B := 64) (by norm_num) _ ((j : ℕ) / 128) (by omega) (fun l h => by rw [own_apply, if_neg h]; rfl)]
  refine Finset.sum_congr rfl fun d _ => ?_
  rw [own_apply, if_pos (by simp only; omega)]
  rfl

/-- A head's masked queries at an index. -/
theorem headQ_apply (x0 : Vec Ideal S4x512x512 .bf16) (x2 : Vec Ideal S4x512x256 .f32) (k : ℕ) (hk : k < 4) (p : ℕ) (hp : p < 2) (mask : IVec S1x128 1)
    (i : Fin 512) (l : Fin 128) : headQ x0 x2 k hk p hp mask (ix2 i l) =
      Scalar.select (mask (ix2 0 l)) (k0_pay20 (cum x2 k hk) (qOf x0 k hk) (ix2 i ⟨128 * p + l, by omega⟩)) 0 := by
  unfold headQ k0_pay6
  pointwise

/-- The chunks' readings of the states at an index: the row's chunk reads the states before it. -/
theorem inter_apply (x0 : Vec Ideal S4x512x512 .bf16) (x1 : Vec Ideal S4x512x512 .bf16) (x2 : Vec Ideal S4x512x256 .f32) (s : Vec Ideal S4x2x128x256 .f32)
    (k : ℕ) (hk : k < 4) (p : ℕ) (hp : p < 2) (i : Fin 512) (j : Fin 256) :
    inter x0 x1 x2 s k hk p hp (ix2 i j) = interAt (k0_pay20 (cum x2 k hk) (qOf x0 k hk)) (128 * p) (by omega) ((i : ℕ) / 64) (by omega)
      (stAt x0 x1 x2 s k hk p hp ((i : ℕ) / 64) (by omega)) (ix2 ⟨(i : ℕ) % 64, by omega⟩ j) := by
  unfold inter
  refine concatenate_ofFn_apply (t := S512x256) (s₁ := S64x256) 0
    (fun n : Fin 8 => interAt (k0_pay20 (cum x2 k hk) (qOf x0 k hk)) (128 * p) (by omega) n n.isLt (stAt x0 x1 x2 s k hk p hp n (by omega)))
    _ rfl 64 rfl (ix2 i j) ⟨(i : ℕ) / 64, by omega⟩ rfl (ix2 ⟨(i : ℕ) % 64, by omega⟩ j) rfl ?_
  intro b hb
  fin_cases b
  · exact absurd rfl hb
  · rfl

/-- A head's rows normalised and gated at an index. -/
theorem normed_apply (o : FVec Ideal S512x128 .f32) (g : Vec Ideal S1x128 .f32) (r : Vec Ideal S1x512x128 .bf16) (i : Fin 512) (j : Fin 128) :
    normed o g r (ix2 i j) = Gla.gated (fun e => o (ix2 i e)) (fun e => g (ix2 0 e)) (fun e => r (ix3 0 i e)) j := by
  unfold normed Gla.gated
  pointwise

/-- A head's output block at an index, from its rows before the normalisation. -/
theorem headOut_apply (x0 : Vec Ideal S4x512x512 .bf16) (x1 : Vec Ideal S4x512x512 .bf16) (x2 : Vec Ideal S4x512x256 .f32) (x3 : Vec Ideal S4x512x512 .bf16)
    (x4 : Vec Ideal S1x512 .f32) (s : Vec Ideal S4x2x128x256 .f32)
    (k : ℕ) (hk : k < 4) (p : ℕ) (hp : p < 2) (e : ℕ) (he : e < 2) (mask : IVec S1x128 1) (i : Fin 512) (j : Fin 128) :
    headOut x0 x1 x2 x3 x4 s k hk p hp e he mask (ix3 0 i j) = Gla.gated (fun c => before x0 x1 x2 s k hk p hp e he mask (ix2 i c))
      (fun c => x4 (ix2 0 ⟨256 * p + 128 * e + c, by omega⟩)) (fun c => x3 (ix3 ⟨k, hk⟩ i ⟨256 * p + 128 * e + c, by omega⟩)) j := by
  unfold headOut
  generalize before x0 x1 x2 s k hk p hp e he mask = o
  pointwise [normed_apply]

/-- Half a tile's product at an index. -/
theorem half_dot (A : FVec Ideal S256x256 .bf16) (W : FVec Ideal S256x128 .bf16) (i : Fin 256) (j : Fin 128) :
    matmul dot_S256x256_S256x128_S256x128_1_0_0_1_n_n none A W (constant S256x128 .f32 0x00000000#32) (ix2 i j) = ∑ b, A (ix2 i b) * W (ix2 b j) := by
  pointwise [dot_S256x256_S256x128_S256x128_1_0_0_1_n_n]

/-- Half a tile's values at an index. -/
theorem half_ld (x1 : Vec Ideal S4x512x512 .bf16) (k : ℕ) (hk : k < 4) (o : ℕ) (ho : o + 128 ≤ 512) (u : ℕ) (hu : u + 256 ≤ 512)
    (i : Fin 256) (j : Fin 128) :
    shapeCast S256x128 (View.ld x1 (Rect.unit ![k, u, o] ![1, 256, 128] (inb3 (by omega) (by omega) (by omega)))) shapeCasts_S1x256x128_S256x128 (ix2 i j)
      = x1 (ix3 ⟨k, hk⟩ ⟨u + i, by omega⟩ ⟨o + j, by omega⟩) := by
  have e (w : Vec Ideal S1x256x128 .bf16) : shapeCast S256x128 w shapeCasts_S1x256x128_S256x128 (ix2 i j) = w (ix3 0 i j) := by
    pointwise
  refine (e _).trans (congrArg x1 (funext fun a => Fin.ext ?_))
  refine (Rect.idx_unit_val ..).trans ?_
  fin_cases a <;> simp

/-- Scores of half a tile against the values at an index. -/
theorem half_apply (A : FVec Ideal S256x256 .bf16) (x1 : Vec Ideal S4x512x512 .bf16) (k : ℕ) (hk : k < 4) (o : ℕ) (ho : o + 128 ≤ 512) (u : ℕ) (hu : u + 256 ≤ 512)
    (i : Fin 256) (j : Fin 128) :
    half A x1 k hk o ho u hu (ix2 i j) = ∑ b, A (ix2 i b) * x1 (ix3 ⟨k, hk⟩ ⟨u + b, by omega⟩ ⟨o + j, by omega⟩) := by
  unfold half
  rw [half_dot]
  exact Finset.sum_congr rfl fun b _ => congrArg₂ (· * ·) rfl (half_ld x1 k hk o ho u hu b j)

/-- The put-together rows at an index. -/
theorem joined_apply (H0 H1 : FVec Ideal S256x128 .f32) (I : FVec Ideal S512x256 .f32) (e : ℕ) (he : e < 2) (i : Fin 512) (j : Fin 128) :
    joined H0 H1 I e he (ix2 i j) = (if h : (i : ℕ) < 256 then H0 (ix2 ⟨i, h⟩ j) else H1 (ix2 ⟨(i : ℕ) - 256, by omega⟩ j)) + I (ix2 i ⟨128 * e + j, by omega⟩) := by
  unfold joined
  pointwise

/-! ## A chunk's arrays, one head's -/

/-- A chunk's log decays. -/
def logs (x2 : Vec Ideal S4x512x256 .f32) (k : ℕ) (hk : k < 4) (p : ℕ) (hp : p < 2) (e : ℕ) (he : e < 2) (n : ℕ) (hn : n < 8) (b d : Fin 64) : EReal :=
  x2 (ix3 ⟨k, hk⟩ ⟨64 * n + b, by omega⟩ ⟨128 * p + 64 * e + d, by omega⟩)

/-- A chunk's queries. -/
def queries (x0 : Vec Ideal S4x512x512 .bf16) (k : ℕ) (hk : k < 4) (p : ℕ) (hp : p < 2) (e : ℕ) (he : e < 2) (n : ℕ) (hn : n < 8) (b d : Fin 64) : EReal :=
  x0 (ix3 ⟨k, hk⟩ ⟨64 * n + b, by omega⟩ ⟨128 * p + 64 * e + d, by omega⟩)

/-- A chunk's keys. -/
def keys (x0 : Vec Ideal S4x512x512 .bf16) (k : ℕ) (hk : k < 4) (p : ℕ) (hp : p < 2) (e : ℕ) (he : e < 2) (n : ℕ) (hn : n < 8) (b d : Fin 64) : EReal :=
  x0 (ix3 ⟨k, hk⟩ ⟨64 * n + b, by omega⟩ ⟨256 + (128 * p + 64 * e + d), by omega⟩)

/-- A chunk's values. -/
def values (x1 : Vec Ideal S4x512x512 .bf16) (k : ℕ) (hk : k < 4) (p : ℕ) (hp : p < 2) (e : ℕ) (he : e < 2) (n : ℕ) (hn : n < 8) (b : Fin 64) (f : Fin 128) : EReal :=
  x1 (ix3 ⟨k, hk⟩ ⟨64 * n + b, by omega⟩ ⟨256 * p + 128 * e + f, by omega⟩)

section
variable (x0 : Vec Ideal S4x512x512 .bf16) (x1 : Vec Ideal S4x512x512 .bf16) (x2 : Vec Ideal S4x512x256 .f32) (hx : ∀ i, x2 i ≤ 0)
  (s : Vec Ideal S4x2x128x256 .f32) (k : ℕ) (hk : k < 4) (p : ℕ) (hp : p < 2) (e : ℕ) (he : e < 2) (n : ℕ) (hn : n < 8)
include hx

/-- The cumulative log decays of a chunk's row. -/
theorem cum_chunk (a d : Fin 64) (i : Fin 512) (j : Fin 256) (hi : (i : ℕ) = 64 * n + a) (hj : (j : ℕ) = 128 * p + 64 * e + d) :
    cum x2 k hk (ix2 i j) = Cert.Proof.Gla.cum (logs x2 k hk p hp e he n hn) a d := by
  obtain ⟨i, _⟩ := i
  obtain ⟨j, _⟩ := j
  simp only at hi hj
  subst hi hj
  rw [cum_apply x2 hx]
  refine Finset.sum_congr rfl fun b _ => if_congr ?_ (congrArg x2 ?_) rfl
  · rw [Fin.le_def]; simp only; omega
  · exact congrArg (fun r => ix3 (⟨k, hk⟩ : Fin 4) r (⟨128 * p + 64 * e + d, by omega⟩ : Fin 256)) (Fin.ext (by simp only; omega))

/-- The decayed queries of a chunk's row. -/
theorem query_chunk (a d : Fin 64) (i : Fin 512) (j : Fin 256) (hi : (i : ℕ) = 64 * n + a) (hj : (j : ℕ) = 128 * p + 64 * e + d) :
    k0_pay20 (cum x2 k hk) (qOf x0 k hk) (ix2 i j) = Gla.query (logs x2 k hk p hp e he n hn) (queries x0 k hk p hp e he n hn) a d := by
  rw [qd_apply, cum_chunk x2 hx k hk p hp e he n hn a d i j hi hj]
  obtain ⟨i, _⟩ := i
  obtain ⟨j, _⟩ := j
  simp only at hi hj
  subst hi hj
  unfold qOf
  pointwise
  rfl

/-- The keys of a chunk's row, their decay taken back. -/
theorem keyUp_chunk (a d : Fin 64) (i : Fin 512) (j : Fin 256) (hi : (i : ℕ) = 64 * n + a) (hj : (j : ℕ) = 128 * p + 64 * e + d) :
    k0_pay22 (cum x2 k hk) (kOf x0 k hk) (ix2 i j) = Gla.keyUp (logs x2 k hk p hp e he n hn) (keys x0 k hk p hp e he n hn) a d := by
  rw [kinv_apply, cum_chunk x2 hx k hk p hp e he n hn a d i j hi hj]
  obtain ⟨i, _⟩ := i
  obtain ⟨j, _⟩ := j
  simp only at hi hj
  subst hi hj
  unfold kOf
  pointwise
  rfl

/-- The keys of a chunk's row, decayed to the chunk's end. -/
theorem keyEnd_chunk (a d : Fin 64) (i : Fin 512) (j : Fin 256) (hi : (i : ℕ) = 64 * n + a) (hj : (j : ℕ) = 128 * p + 64 * e + d) :
    k0_pay21 (cum x2 k hk) (kOf x0 k hk) (ix2 i j) = Gla.keyEnd (logs x2 k hk p hp e he n hn) (keys x0 k hk p hp e he n hn) a d := by
  rw [kr_apply, cum_chunk x2 hx k hk p hp e he n hn a d i j hi hj,
    cum_chunk x2 hx k hk p hp e he n hn 63 d _ j (by simp only; omega) hj]
  obtain ⟨i, _⟩ := i
  obtain ⟨j, _⟩ := j
  simp only at hi hj
  subst hi hj
  unfold kOf
  pointwise
  rfl

/-- A pair's states one chunk on, at a head's own entries. -/
theorem stAt_succ (d : Fin 64) (f : Fin 128) (i : Fin 128) (j : Fin 256) (hi : (i : ℕ) = 64 * e + d) (hj : (j : ℕ) = 128 * e + f) :
    stAt x0 x1 x2 s k hk p hp (n + 1) hn (ix2 i j) = stAt x0 x1 x2 s k hk p hp n (by omega) (ix2 i j) * Ideal.exp (Cert.Proof.Gla.cum (logs x2 k hk p hp e he n hn) 63 d)
      + Gla.update (logs x2 k hk p hp e he n hn) (keys x0 k hk p hp e he n hn) (values x1 k hk p hp e he n hn) d f := by
  rw [stAt]
  pointwise [kvAt_apply]
  rw [decay_apply _ _ _ hn, cum_chunk x2 hx k hk p hp e he n hn 63 d _ _ (by simp) (by simp only; omega)]
  refine congrArg₂ (· + ·) rfl (Finset.sum_congr rfl fun a _ => ?_)
  rw [keyEnd_chunk x0 x2 hx k hk p hp e he n hn a d _ _ rfl (by simp only; omega)]
  refine congrArg₂ (· * ·) rfl (congrArg (fun c => x1 (ix3 (⟨k, hk⟩ : Fin 4) (⟨64 * n + a, by omega⟩ : Fin 512) c)) (Fin.ext (by simp only; omega)))

variable (mask : IVec S1x128 1) (hm : ∀ l : Fin 128, mask (ix2 0 l) = if (l : ℕ) / 64 = e then 1#1 else 0#1)
include hm

/-- A head's scores at an index of half a tile. -/
theorem attAt_apply (u : ℕ) (hu : u < 2) (i j : Fin 256) (a b : Fin 64) (hi : 256 * u + (i : ℕ) = 64 * n + a) (hj : 256 * u + (j : ℕ) = 64 * n + b) :
    attAt x0 x2 k hk p hp mask u hu (ix2 i j)
      = Gla.score (logs x2 k hk p hp e he n hn) (queries x0 k hk p hp e he n hn) (keys x0 k hk p hp e he n hn) a b := by
  unfold attAt
  pointwise [dot_S256x128_S256x128_S256x256_1_1_0_0_n_n]
  rw [causal_apply]
  unfold Gla.score
  by_cases h : b ≤ a
  · rw [if_pos h, if_pos (by rw [Fin.le_def] at h; omega)]
    refine (Gla.sum_one_block (M := 2) (B := 64) (by norm_num) _ e he (fun l h => by rw [headQ_apply, hm, if_neg h]; exact zero_mul _)).trans ?_
    refine Finset.sum_congr rfl fun d _ => ?_
    rw [headQ_apply, hm, if_pos (by simp only; omega), keyUp_chunk x0 x2 hx k hk p hp e he n hn b d _ _ hj (by simp only; omega)]
    refine congrArg₂ (· * ·) (query_chunk x0 x2 hx k hk p hp e he n hn a d _ _ hi (by simp only; omega)) rfl
  · rw [if_neg h, if_neg (by rw [Fin.le_def] at h; omega)]
    rfl

/-- A score is nothing across chunks. -/
theorem attAt_zero (u : ℕ) (hu : u < 2) (i j : Fin 256) (h : (j : ℕ) / 64 ≠ (i : ℕ) / 64) : attAt x0 x2 k hk p hp mask u hu (ix2 i j) = 0 := by
  unfold attAt
  pointwise [dot_S256x128_S256x128_S256x256_1_1_0_0_n_n]
  rw [causal_apply, if_neg (by tauto)]
  rfl

/-- A row of scores against the values of half a tile: the row's chunk alone counts. -/
theorem intra_apply (u : ℕ) (hu : u < 2) (i : Fin 256) (a : Fin 64) (hi : 256 * u + (i : ℕ) = 64 * n + a) (f : Fin 128) (y : Fin 256 → EReal)
    (hy : ∀ (j : Fin 256) (b : Fin 64), 256 * u + (j : ℕ) = 64 * n + b → y j = values x1 k hk p hp e he n hn b f) :
    ∑ j, attAt x0 x2 k hk p hp mask u hu (ix2 i j) * y j
      = ∑ b, Gla.score (logs x2 k hk p hp e he n hn) (queries x0 k hk p hp e he n hn) (keys x0 k hk p hp e he n hn) a b * values x1 k hk p hp e he n hn b f := by
  refine (Gla.sum_one_block (M := 4) (B := 64) (by norm_num) _ ((i : ℕ) / 64) (by omega)
    (fun j h => by rw [attAt_zero x0 x2 hx k hk p hp e mask hm u hu i j h, zero_mul])).trans ?_
  refine Finset.sum_congr rfl fun b _ => ?_
  rw [attAt_apply x0 x2 hx k hk p hp e he n hn mask hm u hu i _ a b hi (by simp only; omega), hy _ b (by simp only; omega)]

/-- A head's row before the normalisation: the chunk's mixed row from the states before the chunk. -/
theorem before_apply (i : Fin 512) (a : Fin 64) (hi : (i : ℕ) = 64 * n + a) (f : Fin 128) :
    before x0 x1 x2 s k hk p hp e he mask (ix2 i f)
      = Gla.mixed (logs x2 k hk p hp e he n hn) (queries x0 k hk p hp e he n hn) (keys x0 k hk p hp e he n hn) (values x1 k hk p hp e he n hn)
          (fun d f => stAt x0 x1 x2 s k hk p hp n (by omega) (ix2 ⟨64 * e + d, by omega⟩ ⟨128 * e + f, by omega⟩)) a f := by
  have hA := intra_apply x0 x1 x2 hx k hk p hp e he n hn mask hm
  have hI : inter x0 x1 x2 s k hk p hp (ix2 i ⟨128 * e + f, by omega⟩) = ∑ d, Gla.query (logs x2 k hk p hp e he n hn) (queries x0 k hk p hp e he n hn) a d
      * stAt x0 x1 x2 s k hk p hp n (by omega) (ix2 ⟨64 * e + d, by omega⟩ ⟨128 * e + f, by omega⟩) := by
    rw [inter_apply, interAt_apply]
    obtain rfl : n = (i : ℕ) / 64 := by omega
    refine Finset.sum_congr rfl fun d _ => ?_
    rw [query_chunk x0 x2 hx k hk p hp e he _ hn a d _ _ (by simp only; omega) (by simp only; omega)]
    refine congrArg₂ (· * ·) rfl (congrArg (fun r => stAt x0 x1 x2 s k hk p hp ((i : ℕ) / 64) (by omega) (ix2 r (⟨128 * e + f, by omega⟩ : Fin 256)))
      (Fin.ext (by simp only; omega)))
  unfold before
  rw [joined_apply, hI]
  refine congrArg₂ (· + ·) ?_ rfl
  split_ifs with h
  · rw [half_apply]
    refine hA 0 (by omega) _ a (by simp only; omega) f (fun b => x1 (ix3 ⟨k, hk⟩ ⟨0 + b, by omega⟩ ⟨256 * p + 128 * e + f, by omega⟩)) (fun j b hj => ?_)
    exact congrArg (fun r => x1 (ix3 (⟨k, hk⟩ : Fin 4) r (⟨256 * p + 128 * e + f, by omega⟩ : Fin 512))) (Fin.ext (by simp only; omega))
  · rw [half_apply]
    refine hA 1 (by omega) _ a (by simp only; omega) f (fun b => x1 (ix3 ⟨k, hk⟩ ⟨256 + b, by omega⟩ ⟨256 * p + 128 * e + f, by omega⟩)) (fun j b hj => ?_)
    exact congrArg (fun r => x1 (ix3 (⟨k, hk⟩ : Fin 4) r (⟨256 * p + 128 * e + f, by omega⟩ : Fin 512))) (Fin.ext (by simp only; omega))
end

end Cert.KernelIdeal.Gla
-- ==== Proof.GlaState.lean ====
/-
  One grid point of the gated linear attention on the extended reals: if the carried states are those before the point's
  first chunk, it leaves those after its last, and its output block holds the rows of the chunks' recursion.
-/
module

public import proofs.«01_k».proof.Proof.GlaIndex
public import Idealize.ShloMosaic.Lib.Pipeline.ReadBack

@[expose] public section

set_option maxRecDepth 16384

noncomputable section

namespace Cert.KernelIdeal.Gla

open Cert.KernelIdeal Cert.KernelIdeal.Gen Idealize.ShloMosaic Idealize.ShloMosaic.TcCoe Idealize.SL.Sem
open Cert.Proof

/-- The first head's lanes. -/
theorem first_mask : ∀ l : Fin 128, k0_pay3 (ix2 0 l) = if (l : ℕ) / 64 = 0 then 1#1 else 0#1 := by
  decide +kernel

/-- The second head's lanes, in the first pair. -/
theorem second_mask : ∀ l : Fin 128, k0_pay7 (ix2 0 l) = if (l : ℕ) / 64 = 1 then 1#1 else 0#1 := by
  decide +kernel

/-- The second head's lanes, in the second pair. -/
theorem second_mask' : ∀ l : Fin 128, k0_pay8 (ix2 0 l) = if (l : ℕ) / 64 = 1 then 1#1 else 0#1 := by
  decide +kernel

/-- The states stored, at an index. -/
theorem stored_apply (x0 : Vec Ideal S4x512x512 .bf16) (x1 : Vec Ideal S4x512x512 .bf16) (x2 : Vec Ideal S4x512x256 .f32) (s : Vec Ideal S4x2x128x256 .f32)
    (k : ℕ) (hk : k < 4) (p : ℕ) (hp : p < 2) (x : S1x1x128x256.Idx) :
    stored x0 x1 x2 s k hk p hp x = stAt x0 x1 x2 s k hk p hp 8 le_rfl (ix2 (x 2) (x 3)) := by
  unfold stored
  generalize stAt x0 x1 x2 s k hk p hp 8 _ = S
  idx_vars x
  pointwise

/-- The states a tile starts from, at an index. -/
theorem stAt_zero (x0 : Vec Ideal S4x512x512 .bf16) (x1 : Vec Ideal S4x512x512 .bf16) (x2 : Vec Ideal S4x512x256 .f32) (s : Vec Ideal S4x2x128x256 .f32)
    (k : ℕ) (hk : k < 4) (p : ℕ) (hp : p < 2) (i : Fin 128) (j : Fin 256) :
    stAt x0 x1 x2 s k hk p hp 0 (by omega) (ix2 i j) = s (ix4 ⟨k, hk⟩ ⟨p, hp⟩ i j) := by
  have e (w : Vec Ideal S1x1x128x256 .f32) : shapeCast S128x256 w shapeCasts_S1x1x128x256_S128x256 (ix2 i j) = w (ix4 0 0 i j) := by
    pointwise
  refine (e _).trans (congrArg s (funext fun a => Fin.ext ?_))
  refine (Rect.idx_unit_val ..).trans ?_
  fin_cases a <;> simp

/-- The states after a point, at every entry. -/
def left (x0 : Vec Ideal S4x512x512 .bf16) (x1 : Vec Ideal S4x512x512 .bf16) (x2 : Vec Ideal S4x512x256 .f32) (s : Vec Ideal S4x2x128x256 .f32)
    (y : S4x2x128x256.Idx) : EReal :=
  stAt x0 x1 x2 s (y 0 : Fin 4) (y 0 : Fin 4).isLt (y 1 : Fin 2) (y 1 : Fin 2).isLt 8 le_rfl (ix2 (y 2) (y 3))

/-- A store of a pair's states is a block of `left`. -/
theorem stored_piece (x0 : Vec Ideal S4x512x512 .bf16) (x1 : Vec Ideal S4x512x512 .bf16) (x2 : Vec Ideal S4x512x256 .f32) (s : Vec Ideal S4x2x128x256 .f32)
    (k : ℕ) (hk : k < 4) (p : ℕ) (hp : p < 2) (inb) (x : S1x1x128x256.Idx) :
    stored x0 x1 x2 s k hk p hp x = left x0 x1 x2 s ((Rect.unit (s := S4x2x128x256) ![k, p, 0, 0] ![1, 1, 128, 256] inb).emb x) := by
  have key : ∀ y : S4x2x128x256.Idx, (y 0 : ℕ) = k → (y 1 : ℕ) = p → (y 2 : ℕ) = x 2 → (y 3 : ℕ) = x 3 → stored x0 x1 x2 s k hk p hp x = left x0 x1 x2 s y := by
    intro y e0 e1 e2 e3
    subst e0 e1
    rw [stored_apply]
    unfold left
    exact congrArg₂ (fun i j => stAt x0 x1 x2 s (y 0 : Fin 4) (y 0 : Fin 4).isLt (y 1 : Fin 2) (y 1 : Fin 2).isLt 8 le_rfl (ix2 i j)) (Fin.ext e2.symm) (Fin.ext e3.symm)
  refine key _ ?_ ?_ ?_ ?_ <;> refine (Rect.idx_unit_val ..).trans ?_
  · have := (x 0 : Fin 1).isLt
    simp
  · have := (x 1 : Fin 1).isLt
    simp
  · simp
  · simp

/-- The states after a point, at an index. -/
theorem statesOf_apply (x0 : Vec Ideal S4x512x512 .bf16) (x1 : Vec Ideal S4x512x512 .bf16) (x2 : Vec Ideal S4x512x256 .f32) (s : Vec Ideal S4x2x128x256 .f32)
    (rest) (y : S4x2x128x256.Idx) : statesOf x0 x1 x2 s rest y = left x0 x1 x2 s y := by
  unfold statesOf
  refine View.canon_append_of_piecesOf (left x0 x1 x2 s) rest [_, _, _, _, _, _, _, _] ⟨?_, ?_, ?_, ?_, ?_, ?_, ?_, ?_, trivial⟩ y ?_
  · exact stored_piece x0 x1 x2 s 3 _ 1 _ inb_S4x2x128x256_S1x1x128x256_3_1_0_0
  · exact stored_piece x0 x1 x2 s 3 _ 0 _ inb_S4x2x128x256_S1x1x128x256_3_0_0_0
  · exact stored_piece x0 x1 x2 s 2 _ 1 _ inb_S4x2x128x256_S1x1x128x256_2_1_0_0
  · exact stored_piece x0 x1 x2 s 2 _ 0 _ inb_S4x2x128x256_S1x1x128x256_2_0_0_0
  · exact stored_piece x0 x1 x2 s 1 _ 1 _ inb_S4x2x128x256_S1x1x128x256_1_1_0_0
  · exact stored_piece x0 x1 x2 s 1 _ 0 _ inb_S4x2x128x256_S1x1x128x256_1_0_0_0
  · exact stored_piece x0 x1 x2 s 0 _ 1 _ inb_S4x2x128x256_S1x1x128x256_0_1_0_0
  · exact stored_piece x0 x1 x2 s 0 _ 0 _ inb_S4x2x128x256_S1x1x128x256_0_0_0_0
  · exact View.cover_of_tiledL _ ![1, 1, 128, 256] (by sl_kernel_rfl) y

/-- A head's log decays of a sequence, by chunks. -/
def logsOf (la : Vec Ideal S8x4096x256 .f32) (B : Fin 8) (h : Fin 4) (n : ℕ) (b d : Fin 64) : EReal := la (ix3 B (Gla.row n b) ⟨64 * h + d, by omega⟩)

/-- A head's queries of a sequence, by chunks. -/
def queriesOf (qk : Vec Ideal S8x4096x512 .bf16) (B : Fin 8) (h : Fin 4) (n : ℕ) (b d : Fin 64) : EReal := qk (ix3 B (Gla.row n b) ⟨64 * h + d, by omega⟩)

/-- A head's keys of a sequence, by chunks. -/
def keysOf (qk : Vec Ideal S8x4096x512 .bf16) (B : Fin 8) (h : Fin 4) (n : ℕ) (b d : Fin 64) : EReal := qk (ix3 B (Gla.row n b) ⟨256 + (64 * h + d), by omega⟩)

/-- A head's values of a sequence, by chunks. -/
def valuesOf (v : Vec Ideal S8x4096x512 .bf16) (B : Fin 8) (h : Fin 4) (n : ℕ) (b : Fin 64) (f : Fin 128) : EReal := v (ix3 B (Gla.row n b) ⟨128 * h + f, by omega⟩)

/-- A head's states before chunk `n` of a sequence. -/
def stateOf (qk : Vec Ideal S8x4096x512 .bf16) (v : Vec Ideal S8x4096x512 .bf16) (la : Vec Ideal S8x4096x256 .f32) (B : Fin 8) (h : Fin 4) : ℕ → Fin 64 → Fin 128 → EReal :=
  Gla.state (logsOf la B h) (keysOf qk B h) (valuesOf v B h)

/-- The output row of a head at a token, from the whole arrays. -/
def rowOf (qk : Vec Ideal S8x4096x512 .bf16) (v : Vec Ideal S8x4096x512 .bf16) (la : Vec Ideal S8x4096x256 .f32) (sr : Vec Ideal S8x4096x512 .bf16) (g : Vec Ideal S1x512 .f32)
    (B : Fin 8) (T : Fin 4096) (h : Fin 4) (f : Fin 128) : EReal :=
  Gla.gated (fun f => Gla.mixed (logsOf la B h ((T : ℕ) / 64)) (queriesOf qk B h ((T : ℕ) / 64)) (keysOf qk B h ((T : ℕ) / 64)) (valuesOf v B h ((T : ℕ) / 64))
      (stateOf qk v la B h ((T : ℕ) / 64)) ⟨(T : ℕ) % 64, by omega⟩ f)
    (fun f => g (ix2 0 ⟨128 * h + f, by omega⟩)) (fun f => sr (ix3 B T ⟨128 * h + f, by omega⟩)) f

/-- Carried states are, on each head's own entries, those before the first chunk of tile `i` of the sequences from `4 * b`. -/
def Holds (qk : Vec Ideal S8x4096x512 .bf16) (v : Vec Ideal S8x4096x512 .bf16) (la : Vec Ideal S8x4096x256 .f32) (s : Vec Ideal S4x2x128x256 .f32) (b i : ℕ) : Prop :=
  ∀ (k : Fin 4) (p e : Fin 2) (d : Fin 64) (f : Fin 128) (hB : 4 * b + (k : ℕ) < 8),
    s (ix4 k p ⟨64 * e + d, by omega⟩ ⟨128 * e + f, by omega⟩) = stateOf qk v la ⟨4 * b + k, hB⟩ ⟨2 * p + e, by omega⟩ (8 * i) d f

section
variable (qk : Vec Ideal S8x4096x512 .bf16) (v : Vec Ideal S8x4096x512 .bf16) (la : Vec Ideal S8x4096x256 .f32) (sr : Vec Ideal S8x4096x512 .bf16) (g : Vec Ideal S1x512 .f32)
  (x0 : Vec Ideal S4x512x512 .bf16) (x1 : Vec Ideal S4x512x512 .bf16) (x2 : Vec Ideal S4x512x256 .f32) (x3 : Vec Ideal S4x512x512 .bf16)
  (b : ℕ) (hb : b < 2) (i : ℕ) (hi : i < 8)
  (h0 : ∀ (k : Fin 4) (r : Fin 512) (l : Fin 512) (hB : 4 * b + (k : ℕ) < 8) (hT : 512 * i + (r : ℕ) < 4096), x0 (ix3 k r l) = qk (ix3 ⟨4 * b + k, hB⟩ ⟨512 * i + r, hT⟩ l))
  (h1 : ∀ (k : Fin 4) (r : Fin 512) (l : Fin 512) (hB : 4 * b + (k : ℕ) < 8) (hT : 512 * i + (r : ℕ) < 4096), x1 (ix3 k r l) = v (ix3 ⟨4 * b + k, hB⟩ ⟨512 * i + r, hT⟩ l))
  (h2 : ∀ (k : Fin 4) (r : Fin 512) (l : Fin 256) (hB : 4 * b + (k : ℕ) < 8) (hT : 512 * i + (r : ℕ) < 4096), x2 (ix3 k r l) = la (ix3 ⟨4 * b + k, hB⟩ ⟨512 * i + r, hT⟩ l))
  (h3 : ∀ (k : Fin 4) (r : Fin 512) (l : Fin 512) (hB : 4 * b + (k : ℕ) < 8) (hT : 512 * i + (r : ℕ) < 4096), x3 (ix3 k r l) = sr (ix3 ⟨4 * b + k, hB⟩ ⟨512 * i + r, hT⟩ l))
  (k : ℕ) (hk : k < 4) (p : ℕ) (hp : p < 2) (e : ℕ) (he : e < 2)

include hi h2 in
/-- A tile's log decays are the sequence's. -/
theorem logs_eq (n : ℕ) (hn : n < 8) : logs x2 k hk p hp e he n hn = logsOf la ⟨4 * b + k, by omega⟩ ⟨2 * p + e, by omega⟩ (8 * i + n) := by
  funext r d
  unfold logs logsOf Gla.row
  refine (h2 _ _ _ (by simp only; omega) (by simp only; omega)).trans ?_
  exact congrArg₂ (fun r c => la (ix3 (⟨4 * b + k, by omega⟩ : Fin 8) r c)) (Fin.ext (by simp only; omega)) (Fin.ext (by simp only; omega))

include hi h0 in
/-- A tile's queries are the sequence's. -/
theorem queries_eq (n : ℕ) (hn : n < 8) : queries x0 k hk p hp e he n hn = queriesOf qk ⟨4 * b + k, by omega⟩ ⟨2 * p + e, by omega⟩ (8 * i + n) := by
  funext r d
  unfold queries queriesOf Gla.row
  refine (h0 _ _ _ (by simp only; omega) (by simp only; omega)).trans ?_
  exact congrArg₂ (fun r c => qk (ix3 (⟨4 * b + k, by omega⟩ : Fin 8) r c)) (Fin.ext (by simp only; omega)) (Fin.ext (by simp only; omega))

include hi h0 in
/-- A tile's keys are the sequence's. -/
theorem keys_eq (n : ℕ) (hn : n < 8) : keys x0 k hk p hp e he n hn = keysOf qk ⟨4 * b + k, by omega⟩ ⟨2 * p + e, by omega⟩ (8 * i + n) := by
  funext r d
  unfold keys keysOf Gla.row
  refine (h0 _ _ _ (by simp only; omega) (by simp only; omega)).trans ?_
  exact congrArg₂ (fun r c => qk (ix3 (⟨4 * b + k, by omega⟩ : Fin 8) r c)) (Fin.ext (by simp only; omega)) (Fin.ext (by simp only; omega))

include hi h1 in
/-- A tile's values are the sequence's. -/
theorem values_eq (n : ℕ) (hn : n < 8) : values x1 k hk p hp e he n hn = valuesOf v ⟨4 * b + k, by omega⟩ ⟨2 * p + e, by omega⟩ (8 * i + n) := by
  funext r d
  unfold values valuesOf Gla.row
  refine (h1 _ _ _ (by simp only; omega) (by simp only; omega)).trans ?_
  exact congrArg₂ (fun r c => v (ix3 (⟨4 * b + k, by omega⟩ : Fin 8) r c)) (Fin.ext (by simp only; omega)) (Fin.ext (by simp only; omega))

variable (s : Vec Ideal S4x2x128x256 .f32)

include hb hi h0 h1 h2 in
/-- The states before each of a tile's chunks. -/
theorem stAt_eq (hx : ∀ i, x2 i ≤ 0) (hs : Holds qk v la s b i) (n : ℕ) (hn : n ≤ 8) (d : Fin 64) (f : Fin 128) :
    stAt x0 x1 x2 s k hk p hp n hn (ix2 ⟨64 * e + d, by omega⟩ ⟨128 * e + f, by omega⟩)
      = stateOf qk v la ⟨4 * b + k, by omega⟩ ⟨2 * p + e, by omega⟩ (8 * i + n) d f := by
  induction n with
  | zero => exact (stAt_zero x0 x1 x2 s k hk p hp _ _).trans (hs ⟨k, hk⟩ ⟨p, hp⟩ ⟨e, he⟩ d f (by simp only; omega))
  | succ n ih =>
    rw [stAt_succ x0 x1 x2 hx s k hk p hp e he n hn d f _ _ rfl rfl, ih (by omega), logs_eq la x2 b hb i hi h2, keys_eq qk x0 b hb i hi h0,
      values_eq v x1 b hb i hi h1]
    rfl

include hb hi h0 h1 h2 in
/-- The states a point leaves. -/
theorem statesOf_holds (hx : ∀ i, x2 i ≤ 0) (hs : Holds qk v la s b i) (rest) : Holds qk v la (statesOf x0 x1 x2 s rest) b (i + 1) := by
  intro k p e d f hB
  rw [statesOf_apply]
  exact stAt_eq qk v la x0 x1 x2 b hb i hi h0 h1 h2 k k.isLt p p.isLt e e.isLt s hx hs 8 le_rfl d f

include hb hi h0 h1 h2 h3 in
/-- An output block at an index. -/
theorem headOut_eq (hx : ∀ i, x2 i ≤ 0) (hs : Holds qk v la s b i) (mask : IVec S1x128 1) (hm : ∀ l : Fin 128, mask (ix2 0 l) = if (l : ℕ) / 64 = e then 1#1 else 0#1)
    (r : Fin 512) (f : Fin 128) :
    headOut x0 x1 x2 x3 g s k hk p hp e he mask (ix3 0 r f)
      = rowOf qk v la sr g ⟨4 * b + k, by omega⟩ ⟨512 * i + r, by omega⟩ ⟨2 * p + e, by omega⟩ f := by
  rw [headOut_apply]
  have hn : (r : ℕ) / 64 < 8 := by omega
  have e1 : (512 * i + (r : ℕ)) / 64 = 8 * i + (r : ℕ) / 64 := by omega
  have e2 : (512 * i + (r : ℕ)) % 64 = (r : ℕ) % 64 := by omega
  unfold rowOf
  refine congr (congr (congr (congrArg Gla.gated ?_) ?_) ?_) rfl <;> funext f
  · rw [before_apply x0 x1 x2 hx s k hk p hp e he ((r : ℕ) / 64) hn mask hm r ⟨(r : ℕ) % 64, by omega⟩ (by simp only; omega) f,
      logs_eq la x2 b hb i hi h2, queries_eq qk x0 b hb i hi h0, keys_eq qk x0 b hb i hi h0, values_eq v x1 b hb i hi h1]
    have hst : (fun (d : Fin 64) (f : Fin 128) => stAt x0 x1 x2 s k hk p hp ((r : ℕ) / 64) (by omega) (ix2 ⟨64 * e + d, by omega⟩ ⟨128 * e + f, by omega⟩))
        = stateOf qk v la ⟨4 * b + k, by omega⟩ ⟨2 * p + e, by omega⟩ (8 * i + (r : ℕ) / 64) := by
      funext d f
      exact stAt_eq qk v la x0 x1 x2 b hb i hi h0 h1 h2 k hk p hp e he s hx hs _ _ d f
    rw [hst]
    simp only [e1, e2]
  · exact congrArg (fun c => g (ix2 0 c)) (Fin.ext (by simp only; omega))
  · refine (h3 _ _ _ (by simp only; omega) (by omega)).trans ?_
    exact congrArg (fun c => sr (ix3 _ _ c)) (Fin.ext (by simp only; omega))

include hb hi h0 h1 h2 h3 in
/-- What a point leaves in the output block, at an index. -/
theorem outOf_eq (hx : ∀ i, x2 i ≤ 0) (hs : Holds qk v la s b i) (y : S4x512x512.Idx) (B : Fin 8) (T : Fin 4096) (h : Fin 4) (f : Fin 128)
    (hB : (B : ℕ) = 4 * b + y 0) (hT : (T : ℕ) = 512 * i + y 1) (hf : (y 2 : ℕ) = 128 * h + f) :
    outOf x0 x1 x2 x3 g s y = rowOf qk v la sr g B T h f := by
  have key : ∀ (k : ℕ) (hk : k < 4) (p : ℕ) (hp : p < 2) (e : ℕ) (he : e < 2) (mask : IVec S1x128 1) (hm : ∀ l : Fin 128, mask (ix2 0 l) = if (l : ℕ) / 64 = e then 1#1 else 0#1)
      (x : S1x512x128.Idx) (B : Fin 8) (T : Fin 4096) (h : Fin 4) (f : Fin 128), (B : ℕ) = 4 * b + k → (T : ℕ) = 512 * i + (x 1 : Fin 512) → (h : ℕ) = 2 * p + e →
      (f : ℕ) = (x 2 : Fin 128) → headOut x0 x1 x2 x3 g s k hk p hp e he mask x = rowOf qk v la sr g B T h f := by
    intro k hk p hp e he mask hm x B T h f hB hT hh hf
    refine Eq.trans ?_ ((headOut_eq qk v la sr g x0 x1 x2 x3 b hb i hi h0 h1 h2 h3 k hk p hp e he s hx hs mask hm (x 1) (x 2)).trans ?_)
    · refine congrArg _ (funext fun a => ?_)
      fin_cases a
      · exact Subsingleton.elim (α := Fin 1) _ _
      · rfl
      · rfl
    · exact congr (congr (congr (congrArg (rowOf qk v la sr g) (Fin.ext hB.symm)) (Fin.ext hT.symm)) (Fin.ext hh.symm)) (Fin.ext hf.symm)
  have k3 := first_mask
  have k7 := second_mask
  have k8 := second_mask'
  unfold outOf
  canon_tiles x z
  · exact key 3 _ 1 _ 1 _ _ k8 x B T h f (by omega) (by omega) (by omega) (by omega)
  · exact key 3 _ 1 _ 0 _ _ k3 x B T h f (by omega) (by omega) (by omega) (by omega)
  · exact key 3 _ 0 _ 1 _ _ k7 x B T h f (by omega) (by omega) (by omega) (by omega)
  · exact key 3 _ 0 _ 0 _ _ k3 x B T h f (by omega) (by omega) (by omega) (by omega)
  · exact key 2 _ 1 _ 1 _ _ k8 x B T h f (by omega) (by omega) (by omega) (by omega)
  · exact key 2 _ 1 _ 0 _ _ k3 x B T h f (by omega) (by omega) (by omega) (by omega)
  · exact key 2 _ 0 _ 1 _ _ k7 x B T h f (by omega) (by omega) (by omega) (by omega)
  · exact key 2 _ 0 _ 0 _ _ k3 x B T h f (by omega) (by omega) (by omega) (by omega)
  · exact key 1 _ 1 _ 1 _ _ k8 x B T h f (by omega) (by omega) (by omega) (by omega)
  · exact key 1 _ 1 _ 0 _ _ k3 x B T h f (by omega) (by omega) (by omega) (by omega)
  · exact key 1 _ 0 _ 1 _ _ k7 x B T h f (by omega) (by omega) (by omega) (by omega)
  · exact key 1 _ 0 _ 0 _ _ k3 x B T h f (by omega) (by omega) (by omega) (by omega)
  · exact key 0 _ 1 _ 1 _ _ k8 x B T h f (by omega) (by omega) (by omega) (by omega)
  · exact key 0 _ 1 _ 0 _ _ k3 x B T h f (by omega) (by omega) (by omega) (by omega)
  · exact key 0 _ 0 _ 1 _ _ k7 x B T h f (by omega) (by omega) (by omega) (by omega)
  · exact key 0 _ 0 _ 0 _ _ k3 x B T h f (by omega) (by omega) (by omega) (by omega)

end

end Cert.KernelIdeal.Gla
-- ==== Proof.GlaOpen.lean ====
/-
  What one grid point of the gated linear attention leaves in the output block and in the carried states.
-/
module

public import proofs.«01_k».proof.Proof.GlaTile
public import Idealize.ShloMosaic.Lib.Pipeline.ReadBack

@[expose] public section

set_option maxRecDepth 16384

noncomputable section

namespace Cert.KernelIdeal.Gla

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

set_option maxHeartbeats 2000000 in
/-- The states after a point that goes on. -/
theorem states_B (c : Dev nD) (t : Fin cfg0.N) (h : ¬ t.val % 8 = 0) (s)
    (hs : (outsAt0 m c (t.val - 1) (Nat.lt_of_le_of_lt (Nat.sub_le t.val 1) t.isLt)).2 = s) :
    (outsAt0 m c t.val t.isLt).2 = statesOf (iblk m c 0 t) (iblk m c 1 t) (iblk m c 2 t) s [] := by
  rw [outsAt0_B m c t h]
  frame_out
  simp only [read_unread_whole, hs]
  rfl

set_option maxHeartbeats 2000000 in
/-- The states after a sequence's first point. -/
theorem states_A (c : Dev nD) (t : Fin cfg0.N) (h : t.val % 8 = 0) :
    ∃ rest, (outsAt0 m c t.val t.isLt).2 = statesOf (iblk m c 0 t) (iblk m c 1 t) (iblk m c 2 t) k0_pay2 rest := by
  rw [outsAt0_A m c t h]
  frame_open
  simp (disch := decide) only [↓ View.readCov_skip, ↓ View.readCov_cons_toLoadRect, ↓ View.readCov_fill]
  frame_out
  exact ⟨_, rfl⟩

set_option maxHeartbeats 400000 in
/-- The output block of a point that goes on. -/
theorem block_B (c : Dev nD) (t : Fin cfg0.N) (h : ¬ t.val % 8 = 0) (s)
    (hs : (outsAt0 m c (t.val - 1) (Nat.lt_of_le_of_lt (Nat.sub_le t.val 1) t.isLt)).2 = s) :
    (outsAt0 m c t.val t.isLt).1
      = outOf (iblk m c 0 t) (iblk m c 1 t) (iblk m c 2 t) (iblk m c 3 t) (iblk m c 4 t) s := by
  rw [outsAt0_B m c t h]
  frame_out
  simp only [read_unread_whole, hs]
  rfl

set_option maxHeartbeats 400000 in
/-- The output block of a sequence's first point. -/
theorem block_A (c : Dev nD) (t : Fin cfg0.N) (h : t.val % 8 = 0) :
    (outsAt0 m c t.val t.isLt).1
      = outOf (iblk m c 0 t) (iblk m c 1 t) (iblk m c 2 t) (iblk m c 3 t) (iblk m c 4 t) k0_pay2 := by
  rw [outsAt0_A m c t h]
  frame_open
  simp (disch := decide) only [↓ View.readCov_skip, ↓ View.readCov_cons_toLoadRect, ↓ View.readCov_fill]
  frame_out
  rfl

end Cert.KernelIdeal.Gla
-- ==== Proof.GlaValue.lean ====
/-
  The gated linear attention: the carried states over the grid's points, the array the call returns, and that array as
  a formula of the arguments.
-/
module

public import proofs.«01_k».proof.Proof.GlaState
public import proofs.«01_k».proof.Proof.GlaOpen
public import proofs.«01_k».proof.Proof.Gen.KernelIdeal.Value

@[expose] public section

set_option maxRecDepth 16384

noncomputable section

namespace Cert.KernelIdeal.Gla

open Cert.KernelIdeal Cert.KernelIdeal.Gen Idealize.ShloMosaic Idealize.ShloMosaic.TcCoe Idealize.SL.Sem
open Cert.Proof

variable (m : (ℓ : Loc nD τ sig) → Buf (Elt Ideal) ℓ) (c : Dev nD)

/-- The head of a column of the result. -/
def headAt (j : Fin 512) : Fin 4 := ⟨j / 128, by omega⟩

/-- The lane of a column of the result within its head. -/
def laneAt (j : Fin 512) : Fin 128 := ⟨j % 128, Nat.mod_lt _ (by norm_num)⟩

/-- The result array as one function of the prepared arrays. -/
def result : Buf (Elt Ideal) ((c : Thread nD τ).loc main_v17) := fun i : S8x4096x512.Idx =>
  rowOf (V m c main_v3) (V m c main_v5) (V m c main_v6) (V m c main_v14) (V m c main_v16) (i 0) (i 1)
    (headAt (i 2)) (laneAt (i 2))

/-- Where each window's block stands at a point. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0] ∧ win0_4.index t = ![0, 0]
    ∧ win0_5.index t = ![t.val / 8, t.val % 8, 0] :=
  (by decide +kernel : ∀ t : Fin grid0.N, _)

/-- The grid has sixteen points. -/
theorem points (t : Fin cfg0.N) : t.val < 16 := lt_of_lt_of_eq t.isLt (by decide +kernel)

/-- A point's queries and keys are the array's. -/
theorem blk0 (t : Fin cfg0.N) (k : Fin 4) (r : Fin 512) (l : Fin 512) (hB : 4 * (t.val / 8) + (k : ℕ) < 8) (hT : 512 * (t.val % 8) + (r : ℕ) < 4096) :
    iblk m c 0 t (ix3 k r l) = V m c main_v3 (ix3 ⟨4 * (t.val / 8) + k, hB⟩ ⟨512 * (t.val % 8) + r, hT⟩ l) := by
  blk_ext [iblk, idx t]

/-- A point's values are the array's. -/
theorem blk1 (t : Fin cfg0.N) (k : Fin 4) (r : Fin 512) (l : Fin 512) (hB : 4 * (t.val / 8) + (k : ℕ) < 8) (hT : 512 * (t.val % 8) + (r : ℕ) < 4096) :
    iblk m c 1 t (ix3 k r l) = V m c main_v5 (ix3 ⟨4 * (t.val / 8) + k, hB⟩ ⟨512 * (t.val % 8) + r, hT⟩ l) := by
  blk_ext [iblk, idx t]

/-- A point's log decays are the array's. -/
theorem blk2 (t : Fin cfg0.N) (k : Fin 4) (r : Fin 512) (l : Fin 256) (hB : 4 * (t.val / 8) + (k : ℕ) < 8) (hT : 512 * (t.val % 8) + (r : ℕ) < 4096) :
    iblk m c 2 t (ix3 k r l) = V m c main_v6 (ix3 ⟨4 * (t.val / 8) + k, hB⟩ ⟨512 * (t.val % 8) + r, hT⟩ l) := by
  blk_ext [iblk, idx t]

/-- A point's gates are the array's. -/
theorem blk3 (t : Fin cfg0.N) (k : Fin 4) (r : Fin 512) (l : Fin 512) (hB : 4 * (t.val / 8) + (k : ℕ) < 8) (hT : 512 * (t.val % 8) + (r : ℕ) < 4096) :
    iblk m c 3 t (ix3 k r l) = V m c main_v14 (ix3 ⟨4 * (t.val / 8) + k, hB⟩ ⟨512 * (t.val % 8) + r, hT⟩ l) := by
  blk_ext [iblk, idx t]

/-- A point's norm weights are the array's. -/
theorem blk4 (t : Fin cfg0.N) (r : Fin 1) (l : Fin 512) : iblk m c 4 t (ix2 r l) = V m c main_v16 (ix2 r l) := by
  blk_ext [iblk, idx t]

/-- No element is above zero. -/
def NotAbove {s : Shape} (x : Vec Ideal s .f32) : Prop := ∀ i, x i ≤ 0

/-- A sequence's first states are nothing. -/
theorem holds_zero (qk : Vec Ideal S8x4096x512 .bf16) (v : Vec Ideal S8x4096x512 .bf16) (la : Vec Ideal S8x4096x256 .f32) (b : ℕ) : Holds qk v la (k0_pay2 (F := Ideal)) b 0 := by
  intro k p e d f hB
  unfold k0_pay2
  pointwise
  rfl

variable (hla : NotAbove (s := S8x4096x256) (V m c main_v6))
include hla

/-- A point's log decays are not above zero. -/
theorem blk2_le (t : Fin cfg0.N) : NotAbove (s := S4x512x256) (iblk m c 2 t) := by
  intro i
  have hN := points t
  have b0 : (i 0 : ℕ) < 4 := (i 0).isLt
  have b1 : (i 1 : ℕ) < 512 := (i 1).isLt
  have e : i = ix3 (i 0 : Fin 4) (i 1 : Fin 512) (i 2 : Fin 256) := by funext a; fin_cases a <;> rfl
  rw [e]
  exact le_of_eq_of_le (blk2 m c t _ _ _ (by omega) (by omega)) (hla _)

/-- The states a point leaves. -/
theorem holds (n : ℕ) (hn : n < cfg0.N) : Holds (V m c main_v3) (V m c main_v5) (V m c main_v6) (outsAt0 m c n hn).2 (n / 8) (n % 8 + 1) := by
  induction n with
  | zero =>
    obtain ⟨rest, h⟩ := states_A m c ⟨0, hn⟩ rfl
    rw [h]
    exact statesOf_holds _ _ _ _ _ _ _ (by simp) _ (by simp) (blk0 m c ⟨0, hn⟩) (blk1 m c ⟨0, hn⟩) (blk2 m c ⟨0, hn⟩) _ (blk2_le m c hla _) (holds_zero _ _ _ _) rest
  | succ n ih =>
    have hN := points ⟨n + 1, hn⟩
    simp only at hN
    by_cases h8 : (n + 1) % 8 = 0
    · obtain ⟨rest, h⟩ := states_A m c ⟨n + 1, hn⟩ h8
      rw [h]
      have := statesOf_holds _ _ _ _ _ _ ((n + 1) / 8) (by omega) ((n + 1) % 8) (by omega) (blk0 m c ⟨n + 1, hn⟩) (blk1 m c ⟨n + 1, hn⟩) (blk2 m c ⟨n + 1, hn⟩) _ (blk2_le m c hla _)
        (by rw [h8]; exact holds_zero _ _ _ _) rest
      exact this
    · have ih' := ih (by omega)
      have h := states_B m c ⟨n + 1, hn⟩ h8 _ rfl
      rw [h]
      have e1 : n / 8 = (n + 1) / 8 := by omega
      have e2 : n % 8 + 1 = (n + 1) % 8 := by omega
      rw [e1, e2] at ih'
      exact statesOf_holds _ _ _ _ _ _ ((n + 1) / 8) (by omega) ((n + 1) % 8) (by omega) (blk0 m c ⟨n + 1, hn⟩) (blk1 m c ⟨n + 1, hn⟩) (blk2 m c ⟨n + 1, hn⟩) _ (blk2_le m c hla _)
        ih' []

/-- What a point leaves in the output block, at an index. -/
theorem block (t : Fin cfg0.N) (y : S4x512x512.Idx) (B : Fin 8) (T : Fin 4096) (h : Fin 4) (f : Fin 128)
    (hB : (B : ℕ) = 4 * (t.val / 8) + y 0) (hT : (T : ℕ) = 512 * (t.val % 8) + y 1) (hf : (y 2 : ℕ) = 128 * h + f) :
    (outsAt0 m c t.val t.isLt).1 y = rowOf (V m c main_v3) (V m c main_v5) (V m c main_v6) (V m c main_v14) (V m c main_v16) B T h f := by
  have hN := points t
  have e4 : iblk m c 4 t = V m c main_v16 := by
    funext i
    have e : i = ix2 (i 0 : Fin 1) (i 1 : Fin 512) := by funext a; fin_cases a <;> rfl
    exact e ▸ blk4 m c t (i 0) (i 1)
  by_cases h8 : t.val % 8 = 0
  · rw [block_A m c t h8, e4]
    exact outOf_eq _ _ _ _ _ _ _ _ _ _ (by omega) _ (by omega) (blk0 m c t) (blk1 m c t) (blk2 m c t) (blk3 m c t) _ (blk2_le m c hla t)
      (by rw [h8]; exact holds_zero _ _ _ _) y B T h f hB hT hf
  · rw [block_B m c t h8 _ rfl, e4]
    have hs := holds m c hla (t.val - 1) (by omega)
    have e1 : (t.val - 1) / 8 = t.val / 8 := by omega
    have e2 : (t.val - 1) % 8 + 1 = t.val % 8 := by omega
    rw [e1, e2] at hs
    exact outOf_eq _ _ _ _ _ _ _ _ _ _ (by omega) _ (by omega) (blk0 m c t) (blk1 m c t) (blk2 m c t) (blk3 m c t) _ (blk2_le m c hla t) hs y B T h f hB hT hf

/-- The result array after the run. -/
theorem final : (dats m 0 c).arrAt 5 cfg0.N = result m c := by
  refine (dats m 0 c).arrAt_eq_of_covers 5 _ (by decide +kernel) fun t hf y => ?_
  blk_simp
  rw [after0_5]
  exact block m c hla t y _ _ _ _ (by blk_simp [idx t]; omega) (by blk_simp [idx t]; omega) (by blk_simp [idx t, headAt, laneAt]; exact (Nat.div_add_mod _ _).symm)

omit hla in
/-- The prepared log decays at an index. -/
theorem logs_entry (B : Fin 8) (T : Fin 4096) (h : Fin 4) (d : Fin 64) :
    V m c main_v6 (ix3 B T ⟨64 * h + d, by omega⟩) = m ((c : Thread nD τ).loc main_arg3) (ix4 B T h d) := by
  have a : (64 * (h : ℕ) + d) / 64 = h := by omega
  have b : (64 * (h : ℕ) + d) % 64 = d := by omega
  entry_read; pointwise

omit hla in
/-- The prepared queries at an index. -/
theorem queries_entry (B : Fin 8) (T : Fin 4096) (h : Fin 4) (d : Fin 64) :
    V m c main_v3 (ix3 B T ⟨64 * h + d, by omega⟩) = m ((c : Thread nD τ).loc main_arg0) (ix4 B T h d) := by
  have a : (64 * (h : ℕ) + d) / 64 = h := by omega
  have b : (64 * (h : ℕ) + d) % 64 = d := by omega
  entry_read; pointwise
  rw [dif_pos (by omega)]
  exact congrArg₂ (fun (h : Fin 4) (d : Fin 64) => m ((c : Thread nD τ).loc main_arg0) (ix4 B T h d)) (Fin.ext a) (Fin.ext b)

omit hla in
/-- The prepared keys at an index. -/
theorem keys_entry (B : Fin 8) (T : Fin 4096) (h : Fin 4) (d : Fin 64) :
    V m c main_v3 (ix3 B T ⟨256 + (64 * h + d), by omega⟩) = m ((c : Thread nD τ).loc main_arg1) (ix4 B T h d) := by
  have a : (64 * (h : ℕ) + d) / 64 = h := by omega
  have b : (64 * (h : ℕ) + d) % 64 = d := by omega
  entry_read; pointwise
  exact congrArg₂ (fun (h : Fin 4) (d : Fin 64) => m ((c : Thread nD τ).loc main_arg1) (ix4 B T h d)) (Fin.ext a) (Fin.ext b)

omit hla in
/-- The prepared values at an index. -/
theorem values_entry (B : Fin 8) (T : Fin 4096) (h : Fin 4) (f : Fin 128) :
    V m c main_v5 (ix3 B T ⟨128 * h + f, by omega⟩) = m ((c : Thread nD τ).loc main_arg2) (ix4 B T h f) := by
  have a : (128 * (h : ℕ) + f) / 128 = h := by omega
  have b : (128 * (h : ℕ) + f) % 128 = f := by omega
  entry_read; pointwise
  exact congrArg₂ (fun (h : Fin 4) (d : Fin 128) => m ((c : Thread nD τ).loc main_arg2) (ix4 B T h d)) (Fin.ext a) (Fin.ext b)

omit hla in
/-- The prepared gates at an index. -/
theorem gates_entry (B : Fin 8) (T : Fin 4096) (j : Fin 512) :
    V m c main_v14 (ix3 B T j) = Gla.silu (m ((c : Thread nD τ).loc main_arg4) (ix3 B T j)) := by
  unfold Gla.silu
  entry_read; pointwise

omit hla in
/-- The prepared norm weights at an index. -/
theorem weights_entry (j : Fin 512) : V m c main_v16 (ix2 0 j) = m ((c : Thread nD τ).loc main_arg5) (ix2 0 j) := by
  entry_read; pointwise

omit hla in
/-- The result array at an index, as a formula of the arguments. -/
theorem result_apply (B : Fin 8) (T : Fin 4096) (h : Fin 4) (f : Fin 128) (j : Fin 512) (hj : (j : ℕ) = 128 * h + f) :
    result m c (ix3 B T j) = Gla.head (fun t d => m ((c : Thread nD τ).loc main_arg3) (ix4 B t h d)) (fun t d => m ((c : Thread nD τ).loc main_arg0) (ix4 B t h d))
      (fun t d => m ((c : Thread nD τ).loc main_arg1) (ix4 B t h d)) (fun t d => m ((c : Thread nD τ).loc main_arg2) (ix4 B t h d))
      (fun f => m ((c : Thread nD τ).loc main_arg5) (ix2 0 ⟨128 * h + f, by omega⟩))
      (fun f => Gla.silu (m ((c : Thread nD τ).loc main_arg4) (ix3 B T ⟨128 * h + f, by omega⟩))) T f := by
  have eh : headAt j = h := Fin.ext (by unfold headAt; simp only; omega)
  have ef : laneAt j = f := Fin.ext (by unfold laneAt; simp only; omega)
  have eL : logsOf (V m c main_v6) B h = Gla.chunks (fun t d => m ((c : Thread nD τ).loc main_arg3) (ix4 B t h d)) := by
    funext n b d; exact logs_entry m c B _ h d
  have eQ : queriesOf (V m c main_v3) B h = Gla.chunks (fun t d => m ((c : Thread nD τ).loc main_arg0) (ix4 B t h d)) := by
    funext n b d; exact queries_entry m c B _ h d
  have eK : keysOf (V m c main_v3) B h = Gla.chunks (fun t d => m ((c : Thread nD τ).loc main_arg1) (ix4 B t h d)) := by
    funext n b d; exact keys_entry m c B _ h d
  have eV : valuesOf (V m c main_v5) B h = Gla.chunks (fun t d => m ((c : Thread nD τ).loc main_arg2) (ix4 B t h d)) := by
    funext n b d; exact values_entry m c B _ h d
  change rowOf _ _ _ _ _ B T (headAt j) (laneAt j) = _
  rw [eh, ef]
  unfold rowOf stateOf Gla.head
  rw [eL, eQ, eK, eV]
  refine congr (congr (congrArg (Gla.gated _) ?_) ?_) rfl
  · funext f; exact weights_entry m c _
  · funext f; exact gates_entry m c _ _ _

omit hla in
/-- The prepared log decays are not above zero if the arguments are not. -/
theorem logs_le (h : NotAbove (s := S8x4096x4x64) (m ((c : Thread nD τ).loc main_arg3))) :
    NotAbove (s := S8x4096x256) (V m c main_v6) := by
  intro i
  have b2 : (i 2 : ℕ) < 256 := (i 2).isLt
  have e : i = ix3 (i 0 : Fin 8) (i 1 : Fin 4096) (⟨64 * (⟨(i 2 : ℕ) / 64, by omega⟩ : Fin 4) + (⟨(i 2 : ℕ) % 64, by omega⟩ : Fin 64), by simp only; omega⟩ : Fin 256) := by
    funext a
    fin_cases a
    · rfl
    · rfl
    · exact Fin.ext (Nat.div_add_mod _ _).symm
  rw [e]
  exact le_of_eq_of_le (logs_entry m c (i 0) (i 1) ⟨(i 2 : ℕ) / 64, by omega⟩ ⟨(i 2 : ℕ) % 64, by omega⟩) (h _)

end Cert.KernelIdeal.Gla
-- ==== Proof.GlaRef.lean ====
/-
  The gated linear attention's reference: its arrays before the loop over the chunks, by chunk and row.
-/
module

public import proofs.«01_k».proof.Proof.GlaRows
public import proofs.«01_k».proof.Proof.FfnFinal
public import proofs.«01_k».proof.Proof.Gen.ReferenceIdeal.Run

@[expose] public section

set_option maxRecDepth 16384

noncomputable section

namespace Cert.ReferenceIdeal.Gla

open Cert.ReferenceIdeal Cert.ReferenceIdeal.Gen Cert.ReferenceIdeal.Value Idealize.ShloMosaic Idealize.ShloMosaic.TcCoe Idealize.ShloMosaic.StableHlo Idealize.SL.Sem

section Stages
variable {F : FTy → Type} [FloatOps F]

/-- A (8,4096,4,64) array by heads and chunks. -/
def narrow (x : FVec F S8x4096x4x64 .f32) : FVec F S8x4x64x64x64 .f32 :=
  transpose S8x4x64x64x64 [0, 3, 1, 2, 4] (shapeCast S8x64x64x4x64 x shapeCasts_S8x4096x4x64_S8x64x64x4x64) transposes_S8x64x64x4x64_S8x4x64x64x64_0_3_1_2_4

/-- A (8,4096,4,128) array by heads and chunks. -/
def wide (x : FVec F S8x4096x4x128 .f32) : FVec F S8x4x64x64x128 .f32 :=
  transpose S8x4x64x64x128 [0, 3, 1, 2, 4] (shapeCast S8x64x64x4x128 x shapeCasts_S8x4096x4x128_S8x64x64x4x128) transposes_S8x64x64x4x128_S8x4x64x64x128_0_3_1_2_4

/-- The running sums of the log decays inside the chunks. -/
def sums (x : FVec F S8x4x64x64x64 .f32) : FVec F S8x4x64x64x64 .f32 :=
  Host.reduceWindowAdd ![1, 1, 1, 64, 1] ![1, 1, 1, 1, 1] ![0, 0, 0, 63, 0] ![0, 0, 0, 0, 0] x
    (broadcastInDim S_ ![] bcast_S_S_ (constant (F := F) S_ .f32 0x00000000#32))
    reduceWindows_S8x4x64x64x64_S8x4x64x64x64_w1s1p0_0_w1s1p0_0_w1s1p0_0_w64s1p63_0_w1s1p0_0 h_S_

/-- The scaled queries with their decay. -/
def queries (q s : FVec F S8x4x64x64x64 .f32) : FVec F S8x4x64x64x64 .f32 :=
  mulf (mulf q (broadcastInDim S8x4x64x64x64 ![] bcast_S_S8x4x64x64x64 (constant (F := F) S_ .f32 0x3E000000#32))) (Host.exp s)

/-- The keys with the decay taken back. -/
def keys (k s : FVec F S8x4x64x64x64 .f32) : FVec F S8x4x64x64x64 .f32 := mulf k (Host.exp (Host.negf s))

/-- The lower triangle. -/
def lower : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The scores inside the chunks. -/
def scores (q k : FVec F S8x4x64x64x64 .f32) : FVec F S8x4x64x64x64 .f32 :=
  select (broadcastInDim S8x4x64x64x64 ![3, 4] bcast_S64x64_S8x4x64x64x64_3_4 lower)
    (Host.dotGeneral dot_S8x4x64x64x64_S8x4x64x64x64_S8x4x64x64x64_4_4_3_3_012_012 none q k)
    (broadcastInDim S8x4x64x64x64 ![] bcast_S_S8x4x64x64x64 (id (constant (F := F) S_ .f32 0x00000000#32)))

/-- What the rows read inside their own chunks. -/
def inner (s : FVec F S8x4x64x64x64 .f32) (v : FVec F S8x4x64x64x128 .f32) : FVec F S8x4x64x64x128 .f32 :=
  Host.dotGeneral dot_S8x4x64x64x64_S8x4x64x64x128_S8x4x64x64x128_4_3_3_4_012_012 none s v

/-- The chunks' last running sums. -/
def lasts (s : FVec F S8x4x64x64x64 .f32) : FVec F S8x4x64x1x64 .f32 :=
  extractStridedSlice S8x4x64x1x64 ![0, 0, 0, 63, 0] s slices_S8x4x64x64x64_S8x4x64x1x64_0_0_0_63_0

/-- The keys decayed to the chunks' ends. -/
def ends (k s : FVec F S8x4x64x64x64 .f32) : FVec F S8x4x64x64x64 .f32 :=
  mulf k (Host.exp (subf (broadcastInDim S8x4x64x64x64 ![0, 1, 2, 3, 4] bcast_S8x4x64x1x64_S8x4x64x64x64_0_1_2_3_4 (lasts s)) s))

/-- What the chunks add to the states, chunk first. -/
def updates (e : FVec F S8x4x64x64x64 .f32) (v : FVec F S8x4x64x64x128 .f32) : FVec F S64x8x4x64x128 .f32 :=
  transpose S64x8x4x64x128 [2, 0, 1, 3, 4] (Host.dotGeneral dot_S8x4x64x64x64_S8x4x64x64x128_S8x4x64x64x128_3_3_4_4_012_012 none e v) transposes_S8x4x64x64x128_S64x8x4x64x128_2_0_1_3_4

/-- The chunks' decays, chunk first. -/
def falls (s : FVec F S8x4x64x64x64 .f32) : FVec F S64x8x4x64 .f32 :=
  transpose S64x8x4x64 [2, 0, 1, 3] (Host.exp (shapeCast S8x4x64x64 (lasts s) shapeCasts_S8x4x64x1x64_S8x4x64x64)) transposes_S8x4x64x64_S64x8x4x64_2_0_1_3

end Stages

section Entry
variable {F : FTy → Type} [FloatOps F]
variable (m : (ℓ : Loc nD τ sig) → Buf (Elt F) ℓ) (c : Dev nD)

/-- The loop's entry holds the decays of the chunks. -/
theorem entry_falls : entryContents preI m c (Proc.devRef .tc main_v33_0) = falls (sums (narrow (m ((c : Thread nD τ).loc main_arg3)))) := by
  simp only [entryContents, afterL_cons, afterL_nil]
  after_reads_simp
  rfl

/-- The loop's entry holds the updates of the chunks. -/
theorem entry_updates : entryContents preI m c (Proc.devRef .tc main_v33_1)
    = updates (ends (narrow (m ((c : Thread nD τ).loc main_arg1))) (sums (narrow (m ((c : Thread nD τ).loc main_arg3))))) (wide (m ((c : Thread nD τ).loc main_arg2))) := by
  simp only [entryContents, afterL_cons, afterL_nil]
  after_reads_simp
  rfl

/-- The loop's entry holds the zero states. -/
theorem entry_state : entryContents preI m c (Proc.devRef .tc main_v33_3) = broadcastInDim S8x4x64x128 ![] bcast_S_S8x4x64x128 (constant (F := F) S_ .f32 0x00000000#32) := by
  simp only [entryContents, afterL_cons, afterL_nil]
  after_reads_simp
  rfl

/-- The loop's entry holds the decayed queries. -/
theorem entry_queries : entryContents preI m c (Proc.devRef .tc main_v13) = queries (narrow (m ((c : Thread nD τ).loc main_arg0))) (sums (narrow (m ((c : Thread nD τ).loc main_arg3)))) := by
  simp only [entryContents, afterL_cons, afterL_nil]
  after_reads_simp
  rfl

/-- The loop's entry holds what the rows read inside their chunks. -/
theorem entry_inner : entryContents preI m c (Proc.devRef .tc main_v21)
    = inner (scores (queries (narrow (m ((c : Thread nD τ).loc main_arg0))) (sums (narrow (m ((c : Thread nD τ).loc main_arg3)))))
        (keys (narrow (m ((c : Thread nD τ).loc main_arg1))) (sums (narrow (m ((c : Thread nD τ).loc main_arg3)))))) (wide (m ((c : Thread nD τ).loc main_arg2))) := by
  simp only [entryContents, afterL_cons, afterL_nil]
  after_reads_simp
  rfl

end Entry

/-- A left fold of additions is the start and the sum. -/
theorem fold_add {ι : Type} (l : List ι) (f : ι → EReal) : ∀ v, l.foldl (fun r n => r + f n) v = v + (l.map f).sum := by
  induction l with
  | nil => intro v; simp
  | cons a l ih => intro v; rw [List.foldl_cons, ih, List.map_cons, List.sum_cons, add_assoc]

/-- A window sum from zero is the sum over the window, a position of the padding counting zero. -/
theorem window_sum {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm) : ℕ) * strides a + (w a : ℕ) ∧ (j (a.cast h.1.symm) : ℕ) * strides a + (w a : ℕ) - lo a < s.size a
          then x (fun a => ⟨(j (a.cast h.1.symm) : ℕ) * strides a + (w a : ℕ) - lo a, (hin a).2⟩) else 0 := by
  rw [← Equiv.sum_comp (Shape.rowMajor ⟨s.rank, window⟩).symm, Fin.sum_univ_def]
  refine Eq.trans ((fold_add _ _ 0).trans (zero_add _)) ?_
  congr!

/-- The running sums at an index. -/
theorem sums_apply (x : FVec Ideal S8x4x64x64x64 .f32) (b : Fin 8) (h : Fin 4) (n a d : Fin 64) :
    sums x (ix5 b h n a d) = ∑ i : Fin 64, if i ≤ a then x (ix5 b h n i d) else 0 := by
  have hz : (broadcastInDim S_ ![] bcast_S_S_ (constant (F := Ideal) S_ .f32 0x00000000#32)) (Shape.Idx.first h_S_) = (0 : EReal) := by
    pointwise
  unfold sums Host.reduceWindowAdd
  rw [hz]
  refine (window_sum (s := S8x4x64x64x64) (t := S8x4x64x64x64) _ _ _ _ _ x _).trans ?_
  refine (sum_idx5 (n0 := 1) (n1 := 1) (n2 := 1) (n3 := 64) (n4 := 1) _).trans ?_
  simp only [Fin.sum_univ_one, Fin.isValue]
  have key : ∀ w : Fin 64, (if hin : ∀ e : Fin 5, (![0, 0, 0, 63, 0] : Fin 5 → ℕ) e ≤ ((ix5 b h n a d : S8x4x64x64x64.Idx) e : ℕ) * (![1, 1, 1, 1, 1] : Fin 5 → ℕ) e + ((ix5 (0 : Fin 1) (0 : Fin 1) (0 : Fin 1) w (0 : Fin 1) : (⟨5, ![1, 1, 1, 64, 1]⟩ : Shape).Idx) e : ℕ) ∧ ((ix5 b h n a d : S8x4x64x64x64.Idx) e : ℕ) * (![1, 1, 1, 1, 1] : Fin 5 → ℕ) e + ((ix5 (0 : Fin 1) (0 : Fin 1) (0 : Fin 1) w (0 : Fin 1) : (⟨5, ![1, 1, 1, 64, 1]⟩ : Shape).Idx) e : ℕ) - (![0, 0, 0, 63, 0] : Fin 5 → ℕ) e < S8x4x64x64x64.size e
        then x (fun e => ⟨((ix5 b h n a d : S8x4x64x64x64.Idx) e : ℕ) * (![1, 1, 1, 1, 1] : Fin 5 → ℕ) e + ((ix5 (0 : Fin 1) (0 : Fin 1) (0 : Fin 1) w (0 : Fin 1) : (⟨5, ![1, 1, 1, 64, 1]⟩ : Shape).Idx) e : ℕ) - (![0, 0, 0, 63, 0] : Fin 5 → ℕ) e, (hin e).2⟩) else (0 : EReal))
      = if hw : 63 ≤ (a : ℕ) + w then x (ix5 b h n ⟨(a : ℕ) + w - 63, by omega⟩ d) else 0 := by
    intro w
    by_cases hw : 63 ≤ (a : ℕ) + w
    · rw [dif_pos hw, dif_pos]
      · refine congrArg x (funext fun e => Fin.ext ?_)
        fin_cases e <;> simp [ix5]
      · intro e
        fin_cases e <;> simp [ix5] <;> omega
    · rw [dif_neg hw, dif_neg]
      intro hin
      have := (hin 3).1
      simp [ix5] at this
      omega
  refine (Finset.sum_congr rfl fun w _ => key w).trans ?_
  refine Finset.sum_bij_ne_zero (fun w _ _ => ⟨((a : ℕ) + w - 63) % 64, Nat.mod_lt _ (by norm_num)⟩) (fun _ _ _ => Finset.mem_univ _) ?_ ?_ ?_
  · intro w _ hw w' _ hw' e
    have g : 63 ≤ (a : ℕ) + w := by by_contra g; exact hw (dif_neg g)
    have g' : 63 ≤ (a : ℕ) + w' := by by_contra g; exact hw' (dif_neg g)
    have e' := congrArg Fin.val e
    simp only at e'
    exact Fin.ext (by omega)
  · intro i _ hi
    have g : i ≤ a := by by_contra g; exact hi (if_neg g)
    have g' : (i : ℕ) ≤ a := g
    refine ⟨⟨(i : ℕ) + 63 - a, by omega⟩, Finset.mem_univ _, ?_, ?_⟩
    · have e : (⟨(a : ℕ) + ((i : ℕ) + 63 - a) - 63, by omega⟩ : Fin 64) = i := Fin.ext (by simp only; omega)
      rw [if_pos g] at hi
      rw [dif_pos (by simp only; omega)]
      simp only [e]
      exact hi
    · exact Fin.ext (by simp only; omega)
  · intro w _ hw
    have g : 63 ≤ (a : ℕ) + w := by by_contra g; exact hw (dif_neg g)
    have e : (⟨((a : ℕ) + w - 63) % 64, Nat.mod_lt _ (by norm_num)⟩ : Fin 64) = ⟨(a : ℕ) + w - 63, by omega⟩ := Fin.ext (by simp only; omega)
    rw [dif_pos g, e, if_pos (show (⟨(a : ℕ) + w - 63, by omega⟩ : Fin 64) ≤ a from by show (a : ℕ) + w - 63 ≤ a; omega)]

/-- A narrow array by heads and chunks at an index. -/
theorem narrow_apply (x : FVec Ideal S8x4096x4x64 .f32) (b : Fin 8) (h : Fin 4) (n a d : Fin 64) :
    narrow x (ix5 b h n a d) = x (ix4 b (Proof.Gla.row n a) h d) := by
  unfold narrow
  pointwise
  exact congrArg x (congrArg (fun t => ix4 b t h d) (Fin.ext (by show (n : ℕ) * 64 + a = (64 * (n : ℕ) + a) % 4096; omega)))

/-- A wide array by heads and chunks at an index. -/
theorem wide_apply (x : FVec Ideal S8x4096x4x128 .f32) (b : Fin 8) (h : Fin 4) (n a : Fin 64) (e : Fin 128) :
    wide x (ix5 b h n a e) = x (ix4 b (Proof.Gla.row n a) h e) := by
  unfold wide
  pointwise
  exact congrArg x (congrArg (fun t => ix4 b t h e) (Fin.ext (by show (n : ℕ) * 64 + a = (64 * (n : ℕ) + a) % 4096; omega)))

/-- The decayed queries at an index. -/
theorem queries_apply (q s : FVec Ideal S8x4x64x64x64 .f32) (b : Fin 8) (h : Fin 4) (n a d : Fin 64) :
    queries q s (ix5 b h n a d) = q (ix5 b h n a d) * Proof.Gla.eighth * Ideal.exp (s (ix5 b h n a d)) := by
  unfold queries
  pointwise

/-- The keys with the decay taken back at an index. -/
theorem keys_apply (k s : FVec Ideal S8x4x64x64x64 .f32) (b : Fin 8) (h : Fin 4) (n a d : Fin 64) :
    keys k s (ix5 b h n a d) = k (ix5 b h n a d) * Ideal.exp (-s (ix5 b h n a d)) := by
  unfold keys
  pointwise

/-- The lower triangle at an index. -/
theorem lower_apply : ∀ a b : Fin 64, lower (ix2 a b) = if b ≤ a then 1#1 else 0#1 := by
  decide +kernel

/-- The scores at an index. -/
theorem scores_apply (q k : FVec Ideal S8x4x64x64x64 .f32) (b : Fin 8) (h : Fin 4) (n a i : Fin 64) :
    scores q k (ix5 b h n a i) = if i ≤ a then ∑ d : Fin 64, q (ix5 b h n a d) * k (ix5 b h n i d) else 0 := by
  unfold scores
  pointwise [dot_S8x4x64x64x64_S8x4x64x64x64_S8x4x64x64x64_4_4_3_3_012_012, lower_apply]
  by_cases h' : i ≤ a
  · rw [if_pos h', if_pos h']
    rfl
  · rw [if_neg h', if_neg h']
    exact Ideal.ofBits_zero .f32

/-- What a row reads inside its chunk at an index. -/
theorem inner_apply (s : FVec Ideal S8x4x64x64x64 .f32) (v : FVec Ideal S8x4x64x64x128 .f32) (b : Fin 8) (h : Fin 4) (n a : Fin 64) (e : Fin 128) :
    inner s v (ix5 b h n a e) = ∑ i : Fin 64, s (ix5 b h n a i) * v (ix5 b h n i e) := by
  unfold inner
  pointwise [dot_S8x4x64x64x64_S8x4x64x64x128_S8x4x64x64x128_4_3_3_4_012_012]

/-- A chunk's last running sum at an index. -/
theorem lasts_apply (s : FVec Ideal S8x4x64x64x64 .f32) (b : Fin 8) (h : Fin 4) (n d : Fin 64) :
    lasts s (ix5 b h n 0 d) = s (ix5 b h n 63 d) := by
  unfold lasts
  pointwise

/-- The keys decayed to the chunk's end at an index. -/
theorem ends_apply (k s : FVec Ideal S8x4x64x64x64 .f32) (b : Fin 8) (h : Fin 4) (n a d : Fin 64) :
    ends k s (ix5 b h n a d) = k (ix5 b h n a d) * Ideal.exp (s (ix5 b h n 63 d) - s (ix5 b h n a d)) := by
  unfold ends
  pointwise [lasts_apply]

/-- What a chunk adds to the states at an index. -/
theorem updates_apply (s : FVec Ideal S8x4x64x64x64 .f32) (v : FVec Ideal S8x4x64x64x128 .f32) (b : Fin 8) (h : Fin 4) (n d : Fin 64) (e : Fin 128) :
    updates s v (ix5 n b h d e) = ∑ a : Fin 64, s (ix5 b h n a d) * v (ix5 b h n a e) := by
  unfold updates
  pointwise [dot_S8x4x64x64x64_S8x4x64x64x128_S8x4x64x64x128_3_3_4_4_012_012]

/-- A chunk's decay at an index. -/
theorem falls_apply (s : FVec Ideal S8x4x64x64x64 .f32) (b : Fin 8) (h : Fin 4) (n d : Fin 64) :
    falls s (ix4 n b h d) = Ideal.exp (s (ix5 b h n 63 d)) := by
  unfold falls
  pointwise [lasts_apply]

/-- A slice of one chunk of the decays. -/
theorem slice_falls (x : FVec Ideal S64x8x4x64 .f32) (f : Fin 4 → ℤ) (n : Fin 64) (h0 : f 0 = (n : ℕ)) (h1 : f 1 = 0) (h2 : f 2 = 0) (h3 : f 3 = 0)
    (b : Fin 8) (h : Fin 4) (d : Fin 64) :
    Host.dynamicSlice S1x8x4x64 x f sliceFits_S64x8x4x64_S1x8x4x64 (ix4 0 b h d) = x (ix4 n b h d) := by
  rw [Host.dynamicSlice_apply]
  refine congrArg x (funext fun a => Fin.ext ?_)
  have hn := n.isLt
  fin_cases a
  · exact congrArg (· + 0) (Host.clampedStart_of_le (s := S64x8x4x64) (t := S1x8x4x64) rfl f 0 n h0 (by show (n : ℕ) + 1 ≤ 64; omega))
  · exact (congrArg (· + (b : ℕ)) (Host.clampedStart_of_le (s := S64x8x4x64) (t := S1x8x4x64) rfl f 1 0 h1 (by decide))).trans (Nat.zero_add _)
  · exact (congrArg (· + (h : ℕ)) (Host.clampedStart_of_le (s := S64x8x4x64) (t := S1x8x4x64) rfl f 2 0 h2 (by decide))).trans (Nat.zero_add _)
  · exact (congrArg (· + (d : ℕ)) (Host.clampedStart_of_le (s := S64x8x4x64) (t := S1x8x4x64) rfl f 3 0 h3 (by decide))).trans (Nat.zero_add _)

/-- A slice of one chunk of the updates. -/
theorem slice_updates (x : FVec Ideal S64x8x4x64x128 .f32) (f : Fin 5 → ℤ) (n : Fin 64) (h0 : f 0 = (n : ℕ)) (h1 : f 1 = 0) (h2 : f 2 = 0) (h3 : f 3 = 0) (h4 : f 4 = 0)
    (b : Fin 8) (h : Fin 4) (d : Fin 64) (e : Fin 128) :
    Host.dynamicSlice S1x8x4x64x128 x f sliceFits_S64x8x4x64x128_S1x8x4x64x128 (ix5 0 b h d e) = x (ix5 n b h d e) := by
  rw [Host.dynamicSlice_apply]
  refine congrArg x (funext fun a => Fin.ext ?_)
  have hn := n.isLt
  fin_cases a
  · exact congrArg (· + 0) (Host.clampedStart_of_le (s := S64x8x4x64x128) (t := S1x8x4x64x128) rfl f 0 n h0 (by show (n : ℕ) + 1 ≤ 64; omega))
  · exact (congrArg (· + (b : ℕ)) (Host.clampedStart_of_le (s := S64x8x4x64x128) (t := S1x8x4x64x128) rfl f 1 0 h1 (by decide))).trans (Nat.zero_add _)
  · exact (congrArg (· + (h : ℕ)) (Host.clampedStart_of_le (s := S64x8x4x64x128) (t := S1x8x4x64x128) rfl f 2 0 h2 (by decide))).trans (Nat.zero_add _)
  · exact (congrArg (· + (d : ℕ)) (Host.clampedStart_of_le (s := S64x8x4x64x128) (t := S1x8x4x64x128) rfl f 3 0 h3 (by decide))).trans (Nat.zero_add _)
  · exact (congrArg (· + (e : ℕ)) (Host.clampedStart_of_le (s := S64x8x4x64x128) (t := S1x8x4x64x128) rfl f 4 0 h4 (by decide))).trans (Nat.zero_add _)

/-- A chunk written to the history: that chunk is new, the others are as they were. -/
theorem write_history (x : FVec Ideal S64x8x4x64x128 .f32) (u : FVec Ideal S1x8x4x64x128 .f32) (f : Fin 5 → ℤ) (n k : Fin 64)
    (h0 : f 0 = (n : ℕ)) (h1 : f 1 = 0) (h2 : f 2 = 0) (h3 : f 3 = 0) (h4 : f 4 = 0) (b : Fin 8) (h : Fin 4) (d : Fin 64) (e : Fin 128) :
    Host.dynamicUpdateSlice x u f updateFits_S64x8x4x64x128_S1x8x4x64x128 (ix5 k b h d e) = if k = n then u (ix5 0 b h d e) else x (ix5 k b h d e) := by
  rw [Host.dynamicUpdateSlice_apply]
  have hn := n.isLt
  have c0 : Host.clampedStart S64x8x4x64x128 S1x8x4x64x128 rfl f 0 = n := Host.clampedStart_of_le (s := S64x8x4x64x128) (t := S1x8x4x64x128) rfl f 0 n h0 (by show (n : ℕ) + 1 ≤ 64; omega)
  have c1 : Host.clampedStart S64x8x4x64x128 S1x8x4x64x128 rfl f 1 = 0 := Host.clampedStart_of_le (s := S64x8x4x64x128) (t := S1x8x4x64x128) rfl f 1 0 h1 (by decide)
  have c2 : Host.clampedStart S64x8x4x64x128 S1x8x4x64x128 rfl f 2 = 0 := Host.clampedStart_of_le (s := S64x8x4x64x128) (t := S1x8x4x64x128) rfl f 2 0 h2 (by decide)
  have c3 : Host.clampedStart S64x8x4x64x128 S1x8x4x64x128 rfl f 3 = 0 := Host.clampedStart_of_le (s := S64x8x4x64x128) (t := S1x8x4x64x128) rfl f 3 0 h3 (by decide)
  have c4 : Host.clampedStart S64x8x4x64x128 S1x8x4x64x128 rfl f 4 = 0 := Host.clampedStart_of_le (s := S64x8x4x64x128) (t := S1x8x4x64x128) rfl f 4 0 h4 (by decide)
  by_cases hk : k = n
  · rw [if_pos hk, dif_pos]
    · refine congrArg u (funext fun a => Fin.ext ?_)
      fin_cases a
      · exact (congrArg (fun z => (k : ℕ) - z) c0).trans (by rw [hk]; exact Nat.sub_self _)
      · exact congrArg (fun z => (b : ℕ) - z) c1
      · exact congrArg (fun z => (h : ℕ) - z) c2
      · exact congrArg (fun z => (d : ℕ) - z) c3
      · exact congrArg (fun z => (e : ℕ) - z) c4
    · intro a
      fin_cases a
      · exact ⟨c0.le.trans (by rw [hk]; exact le_rfl), by show (k : ℕ) < Host.clampedStart S64x8x4x64x128 S1x8x4x64x128 rfl f 0 + 1; rw [c0, hk]; omega⟩
      · exact ⟨c1.le.trans (Nat.zero_le _), by show (b : ℕ) < Host.clampedStart S64x8x4x64x128 S1x8x4x64x128 rfl f 1 + 8; omega⟩
      · exact ⟨c2.le.trans (Nat.zero_le _), by show (h : ℕ) < Host.clampedStart S64x8x4x64x128 S1x8x4x64x128 rfl f 2 + 4; omega⟩
      · exact ⟨c3.le.trans (Nat.zero_le _), by show (d : ℕ) < Host.clampedStart S64x8x4x64x128 S1x8x4x64x128 rfl f 3 + 64; omega⟩
      · exact ⟨c4.le.trans (Nat.zero_le _), by show (e : ℕ) < Host.clampedStart S64x8x4x64x128 S1x8x4x64x128 rfl f 4 + 128; omega⟩
  · rw [if_neg hk, dif_neg]
    intro hin
    have g := hin 0
    have g1 : (n : ℕ) ≤ k := c0 ▸ g.1
    have g2 : (k : ℕ) < n + 1 := c0 ▸ g.2
    exact hk (Fin.ext (by omega))

section Loop
variable {F : FTy → Type} [FloatOps F]

/-- Where a trip reads or writes: the chunk the counter names. -/
def at4 (i : IVec S_ 32) : Fin 4 → ℤ := fun k => (((![i, constantI S_ 32 0#32, constantI S_ 32 0#32, constantI S_ 32 0#32] : Fin 4 → IVec S_ 32)) k (Shape.Idx.first h_S_)).toInt

/-- The same for arrays of one more axis. -/
def at5 (i : IVec S_ 32) : Fin 5 → ℤ := fun k => (((![i, constantI S_ 32 0#32, constantI S_ 32 0#32, constantI S_ 32 0#32, constantI S_ 32 0#32] : Fin 5 → IVec S_ 32)) k (Shape.Idx.first h_S_)).toInt

/-- The states after a trip. -/
def nextState (i : IVec S_ 32) (D : FVec F S64x8x4x64 .f32) (U : FVec F S64x8x4x64x128 .f32) (S : FVec F S8x4x64x128 .f32) : FVec F S8x4x64x128 .f32 :=
  addf (mulf (broadcastInDim S8x4x64x128 ![0, 1, 2, 3] bcast_S8x4x64x1_S8x4x64x128_0_1_2_3 (broadcastInDim S8x4x64x1 ![0, 1, 2] bcast_S8x4x64_S8x4x64x1_0_1_2
      (shapeCast S8x4x64 (Host.dynamicSlice S1x8x4x64 D (at4 i) sliceFits_S64x8x4x64_S1x8x4x64) shapeCasts_S1x8x4x64_S8x4x64))) S)
    (shapeCast S8x4x64x128 (Host.dynamicSlice S1x8x4x64x128 U (at5 i) sliceFits_S64x8x4x64x128_S1x8x4x64x128) shapeCasts_S1x8x4x64x128_S8x4x64x128)

/-- The history after a trip. -/
def nextHistory (i : IVec S_ 32) (H : FVec F S64x8x4x64x128 .f32) (S : FVec F S8x4x64x128 .f32) : FVec F S64x8x4x64x128 .f32 :=
  Host.dynamicUpdateSlice H (broadcastInDim S1x8x4x64x128 ![1, 2, 3, 4] bcast_S8x4x64x128_S1x8x4x64x128_1_2_3_4 S) (at5 i) updateFits_S64x8x4x64x128_S1x8x4x64x128

/-- A trip's states. -/
theorem step_state (V : Valuation τ sig (Elt F)) : step_main_v33_3 V
    = nextState (V (Proc.devRef .tc main_v33_2)) (V (Proc.devRef .tc main_v33_0)) (V (Proc.devRef .tc main_v33_1)) (V (Proc.devRef .tc main_v33_3)) := by
  unfold step_main_v33_3 nextState at4 at5
  rfl

/-- A trip's history. -/
theorem step_history (V : Valuation τ sig (Elt F)) : step_main_v33_4 V
    = nextHistory (V (Proc.devRef .tc main_v33_2)) (V (Proc.devRef .tc main_v33_4)) (V (Proc.devRef .tc main_v33_3)) := by
  unfold step_main_v33_4 nextHistory at5
  rfl
end Loop

/-- A chunk's number read back. -/
theorem toInt_chunk : ∀ n : Fin 64, (BitVec.ofNat 32 (n : ℕ)).toInt = ((n : ℕ) : ℤ) := by
  decide +kernel

/-- The states after a trip at an index. -/
theorem nextState_apply (i : IVec S_ 32) (n : Fin 64) (hi : i (Shape.Idx.first h_S_) = BitVec.ofNat 32 n) (D : FVec Ideal S64x8x4x64 .f32)
    (U : FVec Ideal S64x8x4x64x128 .f32) (S : FVec Ideal S8x4x64x128 .f32) (b : Fin 8) (h : Fin 4) (d : Fin 64) (e : Fin 128) :
    nextState i D U S (ix4 b h d e) = D (ix4 n b h d) * S (ix4 b h d e) + U (ix5 n b h d e) := by
  have hn : (i (Shape.Idx.first h_S_)).toInt = (n : ℕ) := by
    rw [hi]
    exact toInt_chunk n
  have e4 := slice_falls D (at4 i) n hn rfl rfl rfl b h d
  have e5 := slice_updates U (at5 i) n hn rfl rfl rfl rfl b h d e
  have cast4 : ∀ x : FVec Ideal S1x8x4x64 .f32, shapeCast S8x4x64 x shapeCasts_S1x8x4x64_S8x4x64 (ix3 b h d) = x (ix4 0 b h d) := fun x => by pointwise
  have cast5 : ∀ x : FVec Ideal S1x8x4x64x128 .f32, shapeCast S8x4x64x128 x shapeCasts_S1x8x4x64x128_S8x4x64x128 (ix4 b h d e) = x (ix5 0 b h d e) := fun x => by pointwise
  have wide4 : ∀ x : FVec Ideal S8x4x64 .f32, broadcastInDim S8x4x64x128 ![0, 1, 2, 3] bcast_S8x4x64x1_S8x4x64x128_0_1_2_3 (broadcastInDim S8x4x64x1 ![0, 1, 2] bcast_S8x4x64_S8x4x64x1_0_1_2 x) (ix4 b h d e) = x (ix3 b h d) := fun x => by pointwise
  refine congr_arg₂ (fun x y : EReal => x * S (ix4 b h d e) + y) ((wide4 _).trans ((cast4 _).trans e4)) ((cast5 _).trans e5)

/-- The history after a trip at an index. -/
theorem nextHistory_apply (i : IVec S_ 32) (n k : Fin 64) (hi : i (Shape.Idx.first h_S_) = BitVec.ofNat 32 n)
    (H : FVec Ideal S64x8x4x64x128 .f32) (S : FVec Ideal S8x4x64x128 .f32) (b : Fin 8) (h : Fin 4) (d : Fin 64) (e : Fin 128) :
    nextHistory i H S (ix5 k b h d e) = if k = n then S (ix4 b h d e) else H (ix5 k b h d e) := by
  have hn : (i (Shape.Idx.first h_S_)).toInt = (n : ℕ) := by
    rw [hi]
    exact toInt_chunk n
  have up : broadcastInDim S1x8x4x64x128 ![1, 2, 3, 4] bcast_S8x4x64x128_S1x8x4x64x128_1_2_3_4 S (ix5 0 b h d e) = S (ix4 b h d e) := by pointwise
  rw [← up]
  exact write_history H _ (at5 i) n k hn rfl rfl rfl rfl b h d e

section Chunks
variable (q k la : FVec Ideal S8x4096x4x64 .f32) (v : FVec Ideal S8x4096x4x128 .f32) (b : Fin 8) (h : Fin 4)

/-- A head's sequence of a narrow array. -/
abbrev seq64 (x : FVec Ideal S8x4096x4x64 .f32) (b : Fin 8) (h : Fin 4) : Fin 4096 → Fin 64 → EReal := fun t d => x (ix4 b t h d)

/-- A head's sequence of a wide array. -/
abbrev seq128 (x : FVec Ideal S8x4096x4x128 .f32) (b : Fin 8) (h : Fin 4) : Fin 4096 → Fin 128 → EReal := fun t d => x (ix4 b t h d)

/-- The states of a head before a chunk. -/
abbrev states (n : ℕ) : Fin 64 → Fin 128 → EReal :=
  Proof.Gla.state (Proof.Gla.chunks (seq64 la b h)) (Proof.Gla.chunks (seq64 k b h)) (Proof.Gla.chunks (seq128 v b h)) n

/-- The running sums of the arguments. -/
theorem sums_all (n a d : Fin 64) : sums (narrow la) (ix5 b h n a d) = Proof.Gla.cum (Proof.Gla.chunks (seq64 la b h) n) a d := by
  rw [sums_apply]
  unfold Proof.Gla.cum
  refine Finset.sum_congr rfl fun i _ => ?_
  rw [narrow_apply]
  rfl

/-- The chunks' decays of the arguments. -/
theorem falls_all (n d : Fin 64) : falls (sums (narrow la)) (ix4 n b h d) = Ideal.exp (Proof.Gla.cum (Proof.Gla.chunks (seq64 la b h) n) 63 d) := by
  rw [falls_apply, sums_all]

/-- The decayed queries of the arguments. -/
theorem queries_all (n a d : Fin 64) : queries (narrow q) (sums (narrow la)) (ix5 b h n a d)
    = Proof.Gla.query (Proof.Gla.chunks (seq64 la b h) n) (Proof.Gla.chunks (seq64 q b h) n) a d := by
  rw [queries_apply, sums_all, narrow_apply]
  rfl

/-- The updates of the arguments. -/
theorem updates_all (n d : Fin 64) (e : Fin 128) : updates (ends (narrow k) (sums (narrow la))) (wide v) (ix5 n b h d e)
    = Proof.Gla.update (Proof.Gla.chunks (seq64 la b h) n) (Proof.Gla.chunks (seq64 k b h) n) (Proof.Gla.chunks (seq128 v b h) n) d e := by
  rw [updates_apply]
  unfold Proof.Gla.update
  refine Finset.sum_congr rfl fun a _ => ?_
  rw [ends_apply, sums_all, sums_all, narrow_apply, wide_apply]
  rfl

/-- What a row reads inside its chunk, of the arguments. -/
theorem inner_all (n a : Fin 64) (e : Fin 128) :
    inner (scores (queries (narrow q) (sums (narrow la))) (keys (narrow k) (sums (narrow la)))) (wide v) (ix5 b h n a e)
      = ∑ i, Proof.Gla.score (Proof.Gla.chunks (seq64 la b h) n) (Proof.Gla.chunks (seq64 q b h) n) (Proof.Gla.chunks (seq64 k b h) n) a i
          * Proof.Gla.chunks (seq128 v b h) n i e := by
  rw [inner_apply]
  refine Finset.sum_congr rfl fun i _ => ?_
  rw [scores_apply, wide_apply]
  unfold Proof.Gla.score
  refine congrArg (· * _) (if_congr Iff.rfl (Finset.sum_congr rfl fun d _ => ?_) rfl)
  rw [queries_all, keys_apply, sums_all, narrow_apply]
  rfl

/-- What the loop's buffers hold before trip `n`. -/
structure Trip (X : Valuation τ sig (Elt Ideal)) (n : ℕ) : Prop where
  falls : (X (Proc.devRef .tc main_v33_0) : FVec Ideal S64x8x4x64 .f32) = falls (sums (narrow la))
  updates : (X (Proc.devRef .tc main_v33_1) : FVec Ideal S64x8x4x64x128 .f32) = updates (ends (narrow k) (sums (narrow la))) (wide v)
  counter : (X (Proc.devRef .tc main_v33_2) : IVec S_ 32) = fun _ => BitVec.ofNat 32 n
  state : ∀ b h d e, (X (Proc.devRef .tc main_v33_3) : FVec Ideal S8x4x64x128 .f32) (ix4 b h d e) = states k la v b h n d e
  history : ∀ (j : Fin 64) b h d e, (j : ℕ) < n → (X (Proc.devRef .tc main_v33_4) : FVec Ideal S64x8x4x64x128 .f32) (ix5 j b h d e) = states k la v b h j d e

variable {k la v}
/-- A trip takes what the buffers hold to the next chunk. -/
theorem Trip.next {X : Valuation τ sig (Elt Ideal)} {n : ℕ} (t : Trip k la v X n) (hn : n < 64) : Trip k la v (STEP X) (n + 1) where
  falls := (STEP_main_v33_0 X).trans t.falls
  updates := (STEP_main_v33_1 X).trans t.updates
  counter := by
    refine (STEP_main_v33_2 X).trans ?_
    unfold step_main_v33_2
    refine (congrArg (fun z : IVec S_ 32 => addi z (constantI S_ 32 1#32)) t.counter).trans (funext fun _ => ?_)
    show BitVec.ofNat 32 n + BitVec.ofNat 32 1 = BitVec.ofNat 32 (n + 1)
    rw [BitVec.ofNat_add]
  state := fun b h d e => by
    have e1 := (STEP_main_v33_3 X).trans (step_state X)
    refine (congrFun e1 (ix4 b h d e)).trans ?_
    rw [nextState_apply _ ⟨n, hn⟩ (by rw [t.counter])]
    rw [t.state, t.falls, t.updates, falls_all, updates_all, mul_comm]
    rfl
  history := fun j b h d e hj => by
    have e1 := (STEP_main_v33_4 X).trans (step_history X)
    refine (congrFun e1 (ix5 j b h d e)).trans ?_
    rw [nextHistory_apply _ ⟨n, hn⟩ j (by rw [t.counter])]
    by_cases g : j = ⟨n, hn⟩
    · rw [if_pos g, t.state, g]
    · rw [if_neg g]
      have g' : (j : ℕ) ≠ n := fun e => g (Fin.ext e)
      exact t.history j b h d e (by omega)

/-- Before trip `n` the buffers hold the states of chunk `n`. -/
theorem Trip.all {W : Valuation τ sig (Elt Ideal)} (t : Trip k la v W 0) : ∀ n ≤ 64, Trip k la v (STEP^[n] W) n
  | 0, _ => t
  | n + 1, hn => by
    rw [Function.iterate_succ_apply']
    exact (Trip.all t n (by omega)).next (by omega)

end Chunks

/-- The loop's entry holds zero states. -/
theorem entry_trip (m : (ℓ : Loc nD τ sig) → Buf (Elt Ideal) ℓ) (c : Dev nD) :
    Trip (m ((c : Thread nD τ).loc main_arg1)) (m ((c : Thread nD τ).loc main_arg3)) (m ((c : Thread nD τ).loc main_arg2)) (entryContents preI m c) 0 where
  falls := entry_falls m c
  updates := entry_updates m c
  counter := ctr_entry m c
  state := fun b h d e => by
    refine (congrFun (entry_state m c) (ix4 b h d e)).trans ?_
    exact Ideal.ofBits_zero .f32
  history := fun j b h d e hj => absurd hj (Nat.not_lt_zero _)

section Tail
variable {F : FTy → Type} [FloatOps F]

/-- The rows before the normalisation, by token and head. -/
def rows (s : FVec F S8x4x64x64x128 .f32) (q : FVec F S8x4x64x64x64 .f32) (H : FVec F S64x8x4x64x128 .f32) : FVec F S8x4096x4x128 .f32 :=
  shapeCast S8x4096x4x128 (transpose S8x64x64x4x128 [0, 2, 3, 1, 4] (addf s
    (Host.dotGeneral dot_S8x4x64x64x64_S8x4x64x64x128_S8x4x64x64x128_4_3_3_4_012_012 none q
      (transpose S8x4x64x64x128 [1, 2, 0, 3, 4] H transposes_S64x8x4x64x128_S8x4x64x64x128_1_2_0_3_4)))
    transposes_S8x4x64x64x128_S8x64x64x4x128_0_2_3_1_4) shapeCasts_S8x64x64x4x128_S8x4096x4x128

/-- The rows' sums of squares. -/
def squares (o : FVec F S8x4096x4x128 .f32) : FVec F S8x4096x4 .f32 :=
  Host.reduceAdd (mulf o o) (constant (F := F) S_ .f32 0x00000000#32) reducesTo_S8x4096x4x128_S8x4096x4_d3 h_S_

/-- The rows normalised, from their sums of squares. -/
def normed (o : FVec F S8x4096x4x128 .f32) (z : FVec F S8x4096x4 .f32) : FVec F S8x4096x4x128 .f32 :=
  mulf o (broadcastInDim S8x4096x4x128 ![0, 1, 2, 3] bcast_S8x4096x4x1_S8x4096x4x128_0_1_2_3 (Host.rsqrt (addf
    (Host.divf (broadcastInDim S8x4096x4x1 ![0, 1, 2] bcast_S8x4096x4_S8x4096x4x1_0_1_2 z)
      (broadcastInDim S8x4096x4x1 ![] bcast_S_S8x4096x4x1 (constant (F := F) S_ .f32 0x43000000#32)))
    (broadcastInDim S8x4096x4x1 ![] bcast_S_S8x4096x4x1 (constant (F := F) S_ .f32 0x358637BD#32)))))

/-- The weights of the normalisation. -/
def weights (g : FVec F S1x512 .f32) : FVec F S8x4096x4x128 .f32 :=
  broadcastInDim S8x4096x4x128 ![0, 1, 2, 3] bcast_S1x1x4x128_S8x4096x4x128_0_1_2_3 (broadcastInDim S1x1x4x128 ![2, 3] bcast_S4x128_S1x1x4x128_2_3
    (shapeCast S4x128 (shapeCast S512 g shapeCasts_S1x512_S512) shapeCasts_S512_S4x128))

/-- The gates. -/
def gates (r : FVec F S8x4096x512 .f32) : FVec F S8x4096x512 .f32 :=
  mulf r (Host.divf (broadcastInDim S8x4096x512 ![] bcast_S_S8x4096x512 (constant (F := F) S_ .f32 0x3F800000#32))
    (addf (broadcastInDim S8x4096x512 ![] bcast_S_S8x4096x512 (constant (F := F) S_ .f32 0x3F800000#32)) (Host.exp (Host.negf r))))

/-- The result, of the rows, their sums of squares, the weights and the gates. -/
def gatedRows (o : FVec F S8x4096x4x128 .f32) (z : FVec F S8x4096x4 .f32) (g : FVec F S1x512 .f32) (r : FVec F S8x4096x512 .f32) : FVec F S8x4096x512 .bf16 :=
  truncf .bf16 (mulf (shapeCast S8x4096x512 (mulf (normed o z) (weights g)) shapeCasts_S8x4096x4x128_S8x4096x512) (gates r)) bitsLt_bf16_f32

/-- The result of the buffers after the loop. -/
def tail (s : FVec F S8x4x64x64x128 .f32) (q : FVec F S8x4x64x64x64 .f32) (H : FVec F S64x8x4x64x128 .f32) (g : FVec F S1x512 .f32)
    (r : FVec F S8x4096x512 .f32) : FVec F S8x4096x512 .bf16 :=
  gatedRows (rows s q H) (squares (rows s q H)) g r

/-- The operations after the loop leave that result. -/
theorem tail_eq (X : Valuation τ sig (Elt F)) : afterL postI X (Proc.devRef .tc main_v57)
    = tail (X (Proc.devRef .tc main_v21)) (X (Proc.devRef .tc main_v13)) (X (Proc.devRef .tc main_v33_4)) (X (Proc.devRef .tc main_arg5)) (X (Proc.devRef .tc main_arg4)) := by
  simp only [postI, afterL_cons, afterL_nil]
  after_reads_simp
  rfl

/-- What the loop leaves as it was. -/
abbrev kept : List (Ref sig .tc) := [main_v21, main_v13, main_arg0, main_arg1, main_arg2, main_arg3, main_arg4, main_arg5]

/-- A trip leaves them. -/
theorem trip_kept (X : Valuation τ sig (Elt F)) : ∀ j ∈ kept, afterL bodyI (after condOps X) (Proc.devRef .tc j) = X (Proc.devRef .tc j) := by
  intro j hj
  fin_cases hj <;>
  · simp only [bodyI, condOps, afterL_cons, afterL_nil]
    after_reads_simp

/-- The loop and its last test leave them. -/
theorem loop_kept (m : (ℓ : Loc nD τ sig) → Buf (Elt F) ℓ) (c : Dev nD) : ∀ n, ∀ j ∈ kept, atK m n c (Proc.devRef .tc j) = entryContents preI m c (Proc.devRef .tc j)
  | 0, _, _ => rfl
  | n + 1, j, hj => (trip_kept (atK m n c) j hj).trans (loop_kept m c n j hj)

/-- The operations around the loop leave the arguments. -/
theorem args_kept (m : (ℓ : Loc nD τ sig) → Buf (Elt F) ℓ) (c : Dev nD) : ∀ j ∈ ([main_arg0, main_arg1, main_arg2, main_arg3, main_arg4, main_arg5] : List (Ref sig .tc)),
    entryContents preI m c (Proc.devRef .tc j) = m ((c : Thread nD τ).loc j) := by
  intro j hj
  fin_cases hj <;>
  · simp only [entryContents, afterL_cons, afterL_nil]
    after_reads_simp
    try rfl

/-- The operations after the loop leave the arguments. -/
theorem post_kept (X : Valuation τ sig (Elt F)) : ∀ j ∈ ([main_arg0, main_arg1, main_arg2, main_arg3, main_arg4, main_arg5] : List (Ref sig .tc)),
    afterL postI (after condOps X) (Proc.devRef .tc j) = X (Proc.devRef .tc j) := by
  intro j hj
  fin_cases hj <;>
  · simp only [postI, condOps, afterL_cons, afterL_nil]
    after_reads_simp

/-- The last test leaves what the operations after the loop read. -/
theorem test_kept (X : Valuation τ sig (Elt F)) : ∀ j ∈ kept, after condOps X (Proc.devRef .tc j) = X (Proc.devRef .tc j) := by
  intro j hj
  fin_cases hj <;>
  · simp only [condOps]
    after_reads_simp

end Tail

/-- The rows at an index. -/
theorem rows_apply (s : FVec Ideal S8x4x64x64x128 .f32) (q : FVec Ideal S8x4x64x64x64 .f32) (H : FVec Ideal S64x8x4x64x128 .f32)
    (b : Fin 8) (T : Fin 4096) (h : Fin 4) (e : Fin 128) (n a : Fin 64) (hn : (n : ℕ) = T / 64) (ha : (a : ℕ) = T % 64) :
    rows s q H (ix4 b T h e) = s (ix5 b h n a e) + ∑ d : Fin 64, q (ix5 b h n a d) * H (ix5 n b h d e) := by
  obtain ⟨n, _⟩ := n
  obtain ⟨a, _⟩ := a
  simp only at hn ha
  subst hn ha
  unfold rows
  pointwise [dot_S8x4x64x64x64_S8x4x64x64x128_S8x4x64x64x128_4_3_3_4_012_012]

/-- The sums of squares at an index. -/
theorem squares_apply (o : FVec Ideal S8x4096x4x128 .f32) (b : Fin 8) (T : Fin 4096) (h : Fin 4) :
    squares o (ix3 b T h) = ∑ e : Fin 128, o (ix4 b T h e) * o (ix4 b T h e) := by
  unfold squares
  pointwise

/-- The normalised rows at an index. -/
theorem normed_apply (o : FVec Ideal S8x4096x4x128 .f32) (z : FVec Ideal S8x4096x4 .f32) (b : Fin 8) (T : Fin 4096) (h : Fin 4) (e : Fin 128) :
    normed o z (ix4 b T h e) = o (ix4 b T h e) * Ideal.rsqrt (Ideal.div (z (ix3 b T h)) (Ideal.ofBits .f32 0x43000000#32) + Ideal.ofBits .f32 0x358637BD#32) := by
  unfold normed
  pointwise

/-- The weights at an index. -/
theorem weights_apply (g : FVec Ideal S1x512 .f32) (b : Fin 8) (T : Fin 4096) (h : Fin 4) (e : Fin 128) :
    weights g (ix4 b T h e) = g (ix2 0 ⟨(h : ℕ) * 128 + e, by omega⟩) := by
  unfold weights
  pointwise

/-- The gates at an index. -/
theorem gates_apply (r : FVec Ideal S8x4096x512 .f32) (b : Fin 8) (T : Fin 4096) (j : Fin 512) :
    gates r (ix3 b T j) = Proof.Gla.silu (r (ix3 b T j)) := by
  unfold gates Proof.Gla.silu
  pointwise

/-- The result at an index. -/
theorem gatedRows_apply (o : FVec Ideal S8x4096x4x128 .f32) (z : FVec Ideal S8x4096x4 .f32) (g : FVec Ideal S1x512 .f32) (r : FVec Ideal S8x4096x512 .f32)
    (b : Fin 8) (T : Fin 4096) (j : Fin 512) :
    gatedRows o z g r (ix3 b T j) = normed o z (ix4 b T ⟨(j : ℕ) / 128, by omega⟩ ⟨(j : ℕ) % 128, by omega⟩)
      * g (ix2 0 ⟨(j : ℕ) / 128 * 128 + (j : ℕ) % 128, by omega⟩) * Proof.Gla.silu (r (ix3 b T j)) := by
  unfold gatedRows
  pointwise [weights_apply, gates_apply]

end Cert.ReferenceIdeal.Gla

end
-- ==== Proof.GlaClaims.lean ====
/-
  The gated linear attention: the reference's result, the precondition, the claims.
-/
module

public import proofs.«01_k».proof.Defs
public import proofs.«01_k».proof.Proof.GlaValue
public import proofs.«01_k».proof.Proof.GlaRef
public import proofs.«01_k».proof.Proof.Gen.Kernel.Frame
public import Idealize.ShloMosaic.Lib.ReduceAll

@[expose] public section

set_option maxRecDepth 16384

noncomputable section

namespace Cert.ReferenceIdeal.Gla

open Cert.ReferenceIdeal Cert.ReferenceIdeal.Gen Cert.ReferenceIdeal.Value Idealize.ShloMosaic Idealize.ShloMosaic.TcCoe Idealize.ShloMosaic.StableHlo Idealize.SL.Sem

section Final
variable (m : (ℓ : Loc nD τ sig) → Buf (Elt Ideal) ℓ) (c : Dev nD)

/-- The arguments are as they were at the program's end. -/
theorem final_args : ∀ j ∈ ([main_arg0, main_arg1, main_arg2, main_arg3, main_arg4, main_arg5] : List (Ref sig .tc)),
    finalContents condOps preI bodyI postI 64 m c (Proc.devRef .tc j) = m ((c : Thread nD τ).loc j) := fun j hj =>
  (post_kept (atK m 64 c) j hj).trans ((loop_kept m c 64 j (by revert j; decide)).trans (args_kept m c j hj))

/-- The result at the program's end. -/
theorem final_tail : ∃ H : FVec Ideal S64x8x4x64x128 .f32,
    (∀ (n : Fin 64) b h d e, H (ix5 n b h d e) = states (m ((c : Thread nD τ).loc main_arg1)) (m ((c : Thread nD τ).loc main_arg3)) (m ((c : Thread nD τ).loc main_arg2)) b h n d e)
    ∧ finalContents condOps preI bodyI postI 64 m c (Proc.devRef .tc main_v57)
      = tail (inner (scores (queries (narrow (m ((c : Thread nD τ).loc main_arg0))) (sums (narrow (m ((c : Thread nD τ).loc main_arg3)))))
          (keys (narrow (m ((c : Thread nD τ).loc main_arg1))) (sums (narrow (m ((c : Thread nD τ).loc main_arg3)))))) (wide (m ((c : Thread nD τ).loc main_arg2))))
        (queries (narrow (m ((c : Thread nD τ).loc main_arg0))) (sums (narrow (m ((c : Thread nD τ).loc main_arg3))))) H
        (m ((c : Thread nD τ).loc main_arg5)) (m ((c : Thread nD τ).loc main_arg4)) := by
  have t := (entry_trip m c).all 64 le_rfl
  refine ⟨(STEP^[64] (entryContents preI m c)) (Proc.devRef .tc main_v33_4), fun n b h d e => t.history n b h d e n.isLt, ?_⟩
  have k0 : ∀ j ∈ kept, after condOps (atK m 64 c) (Proc.devRef .tc j) = entryContents preI m c (Proc.devRef .tc j) := fun j hj =>
    (test_kept (atK m 64 c) j hj).trans (loop_kept m c 64 j hj)
  have e21 := (k0 main_v21 (by decide)).trans (entry_inner m c)
  have e13 := (k0 main_v13 (by decide)).trans (entry_queries m c)
  have e5 := (k0 main_arg5 (by decide)).trans (args_kept m c main_arg5 (by decide))
  have e4 := (k0 main_arg4 (by decide)).trans (args_kept m c main_arg4 (by decide))
  have eH := (cond_keeps (atK m 64 c) main_v33_4 (by decide)).trans (atK_agree m c 64 main_v33_4 (by decide))
  refine (tail_eq (after condOps (atK m 64 c))).trans ?_
  rw [e21, e13, e5, e4, eH]

/-- The result at an index, as a formula of the arguments. -/
theorem tail_apply (q k la : FVec Ideal S8x4096x4x64 .f32) (v : FVec Ideal S8x4096x4x128 .f32) (H : FVec Ideal S64x8x4x64x128 .f32)
    (hH : ∀ (n : Fin 64) b h d e, H (ix5 n b h d e) = states k la v b h n d e) (g : FVec Ideal S1x512 .f32) (r : FVec Ideal S8x4096x512 .f32)
    (B : Fin 8) (T : Fin 4096) (h : Fin 4) (f : Fin 128) (j : Fin 512) (hj : (j : ℕ) = 128 * h + f) :
    tail (inner (scores (queries (narrow q) (sums (narrow la))) (keys (narrow k) (sums (narrow la)))) (wide v)) (queries (narrow q) (sums (narrow la))) H g r (ix3 B T j)
      = Proof.Gla.head (seq64 la B h) (seq64 q B h) (seq64 k B h) (seq128 v B h) (fun f => g (ix2 0 ⟨128 * h + f, by omega⟩))
          (fun f => Proof.Gla.silu (r (ix3 B T ⟨128 * h + f, by omega⟩))) T f := by
  have er : ∀ e : Fin 128, rows (inner (scores (queries (narrow q) (sums (narrow la))) (keys (narrow k) (sums (narrow la)))) (wide v)) (queries (narrow q) (sums (narrow la))) H (ix4 B T h e)
      = Proof.Gla.mixed (Proof.Gla.chunks (seq64 la B h) ((T : ℕ) / 64)) (Proof.Gla.chunks (seq64 q B h) ((T : ℕ) / 64)) (Proof.Gla.chunks (seq64 k B h) ((T : ℕ) / 64))
          (Proof.Gla.chunks (seq128 v B h) ((T : ℕ) / 64)) (states k la v B h ((T : ℕ) / 64)) ⟨(T : ℕ) % 64, by omega⟩ e := fun e => by
    rw [rows_apply _ _ _ B T h e ⟨(T : ℕ) / 64, by omega⟩ ⟨(T : ℕ) % 64, by omega⟩ rfl rfl, inner_all]
    refine congrArg (_ + ·) (Finset.sum_congr rfl fun d _ => ?_)
    rw [queries_all, hH]
  have eh : (⟨(j : ℕ) / 128, by omega⟩ : Fin 4) = h := Fin.ext (by simp only; omega)
  have ef : (⟨(j : ℕ) % 128, by omega⟩ : Fin 128) = f := Fin.ext (by simp only; omega)
  have ej : (⟨(j : ℕ) / 128 * 128 + (j : ℕ) % 128, by omega⟩ : Fin 512) = ⟨128 * h + f, by omega⟩ := Fin.ext (by simp only; omega)
  have ej' : j = ⟨128 * h + f, by omega⟩ := Fin.ext hj
  unfold tail
  rw [gatedRows_apply, eh, ef, ej, normed_apply, squares_apply]
  simp only [er]
  exact congrArg (fun t => _ * Proof.Gla.silu (r (ix3 B T t))) ej'

end Final

end Cert.ReferenceIdeal.Gla

namespace Cert.Proof.Gla

open Idealize.ShloMosaic Idealize.ShloMosaic.TcCoe Idealize.ShloMosaic.StableHlo Idealize.SL.Sem

/-- The precondition's shape relations. -/
theorem decays_facts : Cert.Pre_decays.Facts := ⟨by decide, by decide, by decide⟩

/-- Under the precondition no log decay is above zero. -/
theorem logs_le [hPre_decays : Cert.Pre_decays.Facts] (m : (ℓ : Loc Cert.KernelIdeal.nD Cert.KernelIdeal.τ Cert.KernelIdeal.sig) → Buf (Elt Ideal) ℓ) (h : Cert.Pre_KernelIdeal_decays m)
    (c : Dev Cert.KernelIdeal.nD) :
    Cert.KernelIdeal.Gla.NotAbove (s := Cert.KernelIdeal.S8x4096x4x64) (m ((c.tc : Thread Cert.KernelIdeal.nD Cert.KernelIdeal.τ).loc Cert.KernelIdeal.main_arg3)) := by
  intro i
  have e := congrFun (h c) (Shape.Idx.first Cert.Pre_decays.Facts.h_S_)
  have e1 := Host.reduce_andi_all _ _ _ _ _ e i
  have e2 : ∀ x : EReal, Ideal.cmp .ole x (Ideal.ofBits .f32 0x00000000#32) = 1#1 → x ≤ 0 := fun x hx => by
    rw [Ideal.ofBits_zero_f32] at hx
    by_contra hn
    simp [Ideal.cmp, hn] at hx
  exact e2 _ e1

/-- The kernel program runs and leaves its arguments. -/
theorem frame_kernel : Cert.quiescent_Kernel := fun m ρ _ => Cert.Kernel.Gen.frame m ρ

/-- The idealized kernel program runs and leaves its arguments. -/
theorem frame_ideal : Cert.quiescent_KernelIdeal := fun m ρ _ => Cert.KernelIdeal.Gen.frame m ρ

/-- So it does under the precondition. -/
theorem frame_ideal_pre [hPre_decays : Cert.Pre_decays.Facts] : Cert.quiescent_KernelIdeal_pre_decays := fun m ρ _ => Cert.KernelIdeal.Gen.frame m ρ

/-- The reference program runs, leaves its arguments and ends at its final buffers. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v57)
        = finalContents Cert.ReferenceIdeal.Value.condOps Cert.ReferenceIdeal.Value.preI Cert.ReferenceIdeal.Value.bodyI Cert.ReferenceIdeal.Value.postI 64 m c (Proc.devRef .tc Cert.ReferenceIdeal.main_v57)
      ∧ ∀ j ∈ ([Cert.ReferenceIdeal.main_arg0, Cert.ReferenceIdeal.main_arg1, Cert.ReferenceIdeal.main_arg2, Cert.ReferenceIdeal.main_arg3, Cert.ReferenceIdeal.main_arg4, Cert.ReferenceIdeal.main_arg5] : List (Ref Cert.ReferenceIdeal.sig .tc)),
          r.2.mem ((c.tc : Thread Cert.ReferenceIdeal.nD Cert.ReferenceIdeal.τ).loc j) = m ((c.tc : Thread Cert.ReferenceIdeal.nD Cert.ReferenceIdeal.τ).loc j)) :=
  (θ_run Cert.ReferenceIdeal.defs _ _).mono (fun r h c => ⟨h c _ rfl, fun j hj =>
    (h c j (by revert j; decide)).trans (Cert.ReferenceIdeal.Gla.final_args m c j hj)⟩) (Cert.ReferenceIdeal.Value.run_fold m ρ)

/-- The reference program runs and leaves its arguments. -/
theorem frame_reference : Cert.quiescent_ReferenceIdeal := fun m ρ _ =>
  (θ_run Cert.ReferenceIdeal.defs _ _).mono (fun r h => ⟨fun c => ⟨(h c).2 _ (by decide), (h c).2 _ (by decide), (h c).2 _ (by decide), (h c).2 _ (by decide),
    (h c).2 _ (by decide), (h c).2 _ (by decide)⟩, sem_eq_zero_of_no_sems (by decide) r.2⟩) (run_reference m ρ)

/-- So it does under the precondition. -/
theorem frame_reference_pre [hPre_decays : Cert.Pre_decays.Facts] : Cert.quiescent_ReferenceIdeal_pre_decays := fun m ρ _ => frame_reference m ρ trivial

/-- If no log decay is above zero, the kernel's result over the extended reals is the reference's. -/
theorem algebraic [hPre_decays : Cert.Pre_decays.Facts] : Cert.algebraic_KernelIdeal_ReferenceIdeal_pre_decays := by
  intro m ρ m' ρ' hpre hagree
  refine ⟨fun c => Cert.KernelIdeal.Gla.result m c, ?_, ?_⟩
  · exact (θ_run Cert.KernelIdeal.defs _ _).mono (fun _ h c => ⟨(h c).1.trans (Cert.KernelIdeal.Gla.final m c (Cert.KernelIdeal.Gla.logs_le m c (logs_le m hpre c))), (h c).2⟩)
      (Cert.KernelIdeal.Value.run_blocks (F := Ideal) m ρ)
  refine (θ_run Cert.ReferenceIdeal.defs _ _).mono (fun r h c => ⟨(h c).1.trans ?_, (h c).2 _ (by decide), (h c).2 _ (by decide), (h c).2 _ (by decide), (h c).2 _ (by decide),
    (h c).2 _ (by decide), (h c).2 _ (by decide)⟩) (run_reference m' ρ')
  obtain ⟨H, hH, e⟩ := Cert.ReferenceIdeal.Gla.final_tail m' c
  obtain ⟨a0, a1, a2, a3, a4, a5⟩ := hagree c
  refine e.trans (funext fun i => ?_)
  idx_vars i
  have b2 := i2.isLt
  refine (Cert.ReferenceIdeal.Gla.tail_apply _ _ _ _ H hH _ _ i0 i1 ⟨(i2 : ℕ) / 128, by omega⟩ ⟨(i2 : ℕ) % 128, by omega⟩ i2 (by simp only; omega)).trans ?_
  refine Eq.trans ?_ (Cert.KernelIdeal.Gla.result_apply m c i0 i1 ⟨(i2 : ℕ) / 128, by omega⟩ ⟨(i2 : ℕ) % 128, by omega⟩ i2 (by simp only; omega)).symm
  rw [a0, a1, a2, a3, a4, a5]

end Cert.Proof.Gla
-- ==== Proof.InTile.lean ====
/-
  The input projection: what one group of 256 rows computes, at an index.
-/
module

public import proofs.«01_k».proof.Proof.Rows
public import proofs.«01_k».proof.Proof.Gen.Kernel6Ideal.Skeleton
public import Idealize.ShloMosaic.Lib.Pipeline.ValueKit
public import Idealize.ShloMosaic.Lib.Pointwise

@[expose] public section

set_option maxRecDepth 16384

noncomputable section

namespace Cert.Kernel6Ideal.In

open Cert.Kernel6Ideal Cert.Kernel6Ideal.Gen Idealize.ShloMosaic Idealize.ShloMosaic.TcCoe Idealize.SL.Sem
open Cert.Proof

/-- The normed rows of a group at an index. -/
theorem normed_apply (x : Vec Ideal S256x1024 .f32) (g : Vec Ideal S1x1024 .f32) (r : Fin 256) (c : Fin 1024) :
    k0_pay5 x g (ix2 r c) = Rows.rms Rows.width (fun k => x (ix2 r k)) (fun k => g (ix2 0 k)) c := by
  unfold k0_pay5
  pointwise
  rfl

/-- The joint product of queries, keys and values at an index: its first half. -/
theorem firsts_apply (h : FVec Ideal S256x1024 .bf16) (w : Vec Ideal S1024x1024 .bf16) (r : Fin 256) (c : Fin 512) :
    k0_pay16 h w (ix2 r c) = ∑ k, h (ix2 r k) * w (ix2 k ⟨c, by omega⟩) := by
  unfold k0_pay16 k0_pay12
  pointwise [dot_S256x1024_S1024x1024_S256x1024_1_0_0_1_n_n]

/-- Its second half. -/
theorem seconds_apply (h : FVec Ideal S256x1024 .bf16) (w : Vec Ideal S1024x1024 .bf16) (r : Fin 256) (c : Fin 512) :
    k0_pay17 h w (ix2 r c) = ∑ k, h (ix2 r k) * w (ix2 k ⟨512 + c, by omega⟩) := by
  unfold k0_pay17 k0_pay12
  pointwise [dot_S256x1024_S1024x1024_S256x1024_1_0_0_1_n_n]

/-- The product times its logistic at an index. -/
theorem swished_apply (h : FVec Ideal S256x1024 .bf16) (w : Vec Ideal S1024x512 .bf16) (r : Fin 256) (c : Fin 512) :
    k0_pay26 h w (ix2 r c) = (∑ k, h (ix2 r k) * w (ix2 k c)) * Ideal.logistic (∑ k, h (ix2 r k) * w (ix2 k c)) := by
  unfold k0_pay26
  pointwise [dot_S256x1024_S1024x512_S256x512_1_0_0_1_n_n]

/-- The small products at an index. -/
theorem small_apply (h : FVec Ideal S256x1024 .bf16) (w : Vec Ideal S1024x128 .bf16) (r : Fin 256) (c : Fin 128) :
    k0_pay30 h w (ix2 r c) = ∑ k, h (ix2 r k) * w (ix2 k c) := by
  unfold k0_pay30
  pointwise [dot_S256x1024_S1024x128_S256x128_1_0_0_1_n_n]

/-- The logarithm of the logistic as the call computes it. -/
def logSig (x : EReal) : EReal :=
  min x 0 - Ideal.log1p (Ideal.exp (0 - FloatOps.absf (F := Ideal) (φ := .f32) x))

/-- The gate's input as the call computes it: the products of the parts, plus the bias. -/
def gateIn (s : Fin 128 → EReal) (w : Fin 128 → EReal) (b : EReal) : EReal :=
  ∑ k, s k * w k + ∑ k, (s k - s k) * w k + ∑ k, s k * (w k - w k) + b

/-- The log decays of a group at an index. -/
theorem decay_apply (s : FVec Ideal S256x128 .f32) (w : Vec Ideal S128x256 .f32) (b : Vec Ideal S1x256 .f32) (r : Fin 256) (c : Fin 256) :
    k0_pay309 s w b (ix2 r c)
      = Ideal.div (logSig (gateIn (fun k => s (ix2 r k)) (fun k => w (ix2 k c)) (b (ix2 0 c)))) (Ideal.ofBits .f32 0x41800000#32) := by
  unfold k0_pay309 k0_pay308 k0_pay307 k0_pay306
  pointwise [dot_S256x128_S128x256_S256x256_1_0_0_1_n_n]
  rfl

/-- The transposed values of a group at an index. -/
theorem values_apply (h : FVec Ideal S256x1024 .bf16) (w : Vec Ideal S512x1024 .bf16) (c : Fin 512) (r : Fin 256) :
    k0_pay124 h w (ix2 c r) = ∑ k, w (ix2 c k) * h (ix2 r k) := by
  unfold k0_pay124
  pointwise [dot_S512x1024_S256x1024_S512x256_1_1_0_0_n_n]

/-- Sixty-four rows from `o` on of the transposed values, as the block's piece holds them. -/
theorem head_apply (v : FVec Ideal S512x256 .bf16) (o : ℕ) (hs) (a : Fin 1) (c : Fin 64) (r : Fin 256) (C : Fin 512) (hC : (C : ℕ) = o + c) :
    shapeCast S1x64x256 (extractStridedSlice S64x256 ![o, 0] v hs) shapeCasts_S64x256_S1x64x256 (ix3 a c r) = v (ix2 C r) := by
  pointwise
  exact congrArg (fun i => v (ix2 i r)) (Fin.ext hC.symm)

/-- The sixteen rows below a head's values, as the block's piece holds them: a row of ones, then zeros. -/
theorem ones_apply (a : Fin 1) (c : Fin 16) (r : Fin 256) :
    shapeCast S1x16x256 (k0_pay128 (F := Ideal)) shapeCasts_S16x256_S1x16x256 (ix3 a c r)
      = if (c : ℕ) = 0 then 1 else 0 := by
  unfold k0_pay128
  pointwise
  have e : ∀ c : Fin 16, IntOp.cmpi .eq (BitVec.ofNat 32 (c : ℕ)) 0#32 = if (c : ℕ) = 0 then 1#1 else 0#1 := by decide
  rw [e c]
  split_ifs <;> rfl

end Cert.Kernel6Ideal.In

end
-- ==== Proof.InMath.lean ====
/-
  Facts on the extended reals for the input projection: rows of real entries stay real, the gate's product in three parts
  is the plain product, and the logarithm of the logistic in two forms is one function.
-/
module

public import proofs.«01_k».proof.Proof.Rows

@[expose] public section

noncomputable section

namespace Cert.Proof.Inp

open Idealize.ShloMosaic

/-- The extended real is a real number. -/
def IsReal (a : EReal) : Prop := ∃ r : ℝ, a = (r : EReal)

/-- Sums of two reals are real. -/
theorem IsReal.add {a b : EReal} : IsReal a → IsReal b → IsReal (a + b) := by
  rintro ⟨r, rfl⟩ ⟨s, rfl⟩
  exact ⟨r + s, (EReal.coe_add r s).symm⟩

/-- Products of two reals are real. -/
theorem IsReal.mul {a b : EReal} : IsReal a → IsReal b → IsReal (a * b) := by
  rintro ⟨r, rfl⟩ ⟨s, rfl⟩
  exact ⟨r * s, (EReal.coe_mul r s).symm⟩

/-- The sum of a row of reals as a real. -/
theorem coe_total {ι : Type*} (t : Finset ι) (r : ι → ℝ) : ((∑ i ∈ t, r i : ℝ) : EReal) = ∑ i ∈ t, (r i : EReal) := by
  classical
  induction t using Finset.induction_on with
  | empty => simp
  | insert a t ha ih => rw [Finset.sum_insert ha, Finset.sum_insert ha, EReal.coe_add, ih]

/-- Finite sums of reals are real. -/
theorem IsReal.sum {ι : Type*} (t : Finset ι) (f : ι → EReal) (h : ∀ i, IsReal (f i)) : IsReal (∑ i ∈ t, f i) := by
  choose r hr using h
  exact ⟨∑ i ∈ t, r i, by simp only [hr]; exact (coe_total t r).symm⟩

/-- A real number less itself is zero. -/
theorem IsReal.sub_self {a : EReal} : IsReal a → a - a = 0 := by
  rintro ⟨r, rfl⟩
  rw [← EReal.coe_sub]
  simp

/-- An extended real of finite magnitude is real. -/
theorem isReal_of_abs {a : EReal} (h : max a (-a) < ⊤) : IsReal a := by
  induction a with
  | bot => simp at h
  | top => simp at h
  | coe r => exact ⟨r, rfl⟩

/-- The reciprocal root of a row of reals' mean square plus the layer's epsilon is real. -/
theorem scale_real {n : ℕ} (x : Fin n → EReal) (hx : ∀ k, IsReal (x k)) : IsReal (Rows.scale Rows.width x) := by
  choose r hr using hx
  have es : ∑ k, x k * x k = ((∑ k, r k * r k : ℝ) : EReal) := by
    rw [coe_total]
    exact Finset.sum_congr rfl fun k _ => by rw [hr k, EReal.coe_mul]
  have ew : Rows.width = ((1024 : ℝ) : EReal) := by
    simp [Rows.width, Ideal.ofBits, Ideal.ieee, -EReal.coe_mul]; norm_num
  obtain ⟨e, he, hp⟩ : ∃ e : ℝ, Ideal.ofBits .f32 0x358637BD#32 = (e : EReal) ∧ 0 < e :=
    ⟨_, by simp [Ideal.ofBits, Ideal.ieee, -EReal.coe_mul]; rfl, by norm_num⟩
  have hs : 0 ≤ ∑ k, r k * r k := Finset.sum_nonneg fun k _ => mul_self_nonneg _
  have hd : Ideal.div ((∑ k, r k * r k : ℝ) : EReal) ((1024 : ℝ) : EReal) = (((∑ k, r k * r k) * (1024 : ℝ)⁻¹ : ℝ) : EReal) := by
    unfold Ideal.div
    rw [if_neg (by exact_mod_cast (by norm_num : (1024 : ℝ) ≠ 0)), EReal.coe_mul, EReal.coe_inv]
  unfold Rows.scale
  rw [es, ew, he, hd, ← EReal.coe_add]
  have hq : 0 < (∑ k, r k * r k) * (1024 : ℝ)⁻¹ + e := by positivity
  refine ⟨(Real.sqrt ((∑ k, r k * r k) * (1024 : ℝ)⁻¹ + e))⁻¹, ?_⟩
  show (if (∑ k, r k * r k) * (1024 : ℝ)⁻¹ + e < 0 then (⊥ : EReal) else if (∑ k, r k * r k) * (1024 : ℝ)⁻¹ + e = 0 then ⊤ else _) = _
  rw [if_neg (not_lt.mpr hq.le), if_neg hq.ne']

/-- A normed row of reals is real. -/
theorem rms_real {n : ℕ} (x g : Fin n → EReal) (hx : ∀ k, IsReal (x k)) (hg : ∀ k, IsReal (g k)) (k : Fin n) :
    IsReal (Rows.rms Rows.width x g k) :=
  ((hx k).mul (scale_real x hx)).mul (hg k)

/-- The product of a row of reals and a matrix of reals is real. -/
theorem rowMul_real {n p : ℕ} (x : Fin n → EReal) (w : Fin n → Fin p → EReal) (hx : ∀ k, IsReal (x k)) (hw : ∀ k l, IsReal (w k l)) (l : Fin p) :
    IsReal (Rows.rowMul x w l) :=
  IsReal.sum _ _ fun k => (hx k).mul (hw k l)

/-- A sum over 128 lanes that is nothing outside lanes 8 to 23 is the sum over those 16. -/
theorem sum_lanes (f : Fin 128 → EReal) (h : ∀ k : Fin 128, ¬ (8 ≤ (k : ℕ) ∧ (k : ℕ) < 24) → f k = 0) :
    ∑ k, f k = ∑ k : Fin 16, f ⟨8 + k, by omega⟩ := by
  rw [Fin.sum_univ_add (a := 8) (b := 120), Finset.sum_eq_zero fun k _ => h _ (by simp), zero_add,
    Fin.sum_univ_add (a := 16) (b := 104)]
  rw [Finset.sum_eq_zero (s := Finset.univ (α := Fin 104)) fun k _ => h _ (by simp; omega), add_zero]
  exact Finset.sum_congr rfl fun k _ => congrArg f (Fin.ext (by simp))

/-- The gate's product in three parts is the plain product, if the 16 lanes hold reals and the others' weights nothing. -/
theorem three_parts (s w : Fin 128 → EReal) (h0 : ∀ k : Fin 128, ¬ (8 ≤ (k : ℕ) ∧ (k : ℕ) < 24) → w k = 0)
    (hs : ∀ k : Fin 16, IsReal (s ⟨8 + k, by omega⟩)) (hw : ∀ k : Fin 16, IsReal (w ⟨8 + k, by omega⟩)) :
    ∑ k, s k * w k + ∑ k, (s k - s k) * w k + ∑ k, s k * (w k - w k)
      = ∑ k : Fin 16, s ⟨8 + k, by omega⟩ * w ⟨8 + k, by omega⟩ := by
  rw [sum_lanes (fun k => s k * w k) fun k hk => by rw [h0 k hk, mul_zero],
    sum_lanes (fun k => (s k - s k) * w k) fun k hk => by rw [h0 k hk, mul_zero],
    sum_lanes (fun k => s k * (w k - w k)) fun k hk => by rw [h0 k hk]; simp]
  simp only [(hs _).sub_self, (hw _).sub_self, zero_mul, mul_zero, Finset.sum_const_zero, add_zero]

/-- The logarithm of one plus the exponential of a magnitude's negative is real. -/
theorem tail_real (x : EReal) : IsReal (Ideal.log1p (Ideal.exp (-max x (-x)))) := by
  have key : ∀ r : ℝ, 0 ≤ r → IsReal (Ideal.log1p (r : EReal)) := fun r hr => by
    refine ⟨Real.log (1 + r), ?_⟩
    unfold Ideal.log1p
    rw [← EReal.coe_one, ← EReal.coe_add]
    show (if 1 + r ≤ 0 then (⊥ : EReal) else _) = _
    rw [if_neg (by linarith)]
  have z : IsReal (Ideal.log1p (Ideal.exp ⊥)) := by
    have e : Ideal.exp ⊥ = ((0 : ℝ) : EReal) := rfl
    rw [e]
    exact key 0 le_rfl
  induction x with
  | bot => simpa using z
  | top => simpa using z
  | coe r =>
    have e : -max (r : EReal) (-(r : EReal)) = ((-max r (-r) : ℝ) : EReal) := by
      rw [← EReal.coe_neg, ← EReal.coe_strictMono.monotone.map_max, ← EReal.coe_neg]
    rw [e]
    exact key _ (Real.exp_pos _).le

/-- The logarithm of the logistic: less the softplus of the negative is the smaller of the number and zero less the
    logarithm of one plus the exponential of the magnitude's negative. -/
theorem log_logistic (x : EReal) :
    -(max (-x) 0 + Ideal.log1p (Ideal.exp (-max (-x) (- -x)))) = min x 0 - Ideal.log1p (Ideal.exp (-max x (-x))) := by
  obtain ⟨r, hr⟩ := tail_real x
  rw [neg_neg, max_comm (-x) x, hr, EReal.neg_add (Or.inr (EReal.coe_ne_top r)) (Or.inr (EReal.coe_ne_bot r))]
  congr 1
  rcases le_total x 0 with h | h
  · rw [min_eq_left h, max_eq_left (by simpa using h), neg_neg]
  · rw [min_eq_right h, max_eq_right (by simpa using h), neg_zero]

end Cert.Proof.Inp
-- ==== Proof.InSums.lean ====
/-
  The input projection: the running sums of the log forget gates of a group of 256 rows, and their packed lanes.
-/
module

public import proofs.«01_k».proof.Proof.InTile
public import proofs.«01_k».proof.Proof.InMath

@[expose] public section

set_option maxRecDepth 16384

noncomputable section

namespace Cert.Kernel6Ideal.In

open Cert.Kernel6Ideal Cert.Kernel6Ideal.Gen Idealize.ShloMosaic Idealize.ShloMosaic.TcCoe Idealize.SL.Sem
open Cert.Proof

/-- The base-two logarithm of Euler's number, as the programs spell it. -/
abbrev log2e : EReal := Ideal.ofBits .f32 0x3FB8AA3B#32

/-- The lanes' numbers. -/
abbrev lanes : IVec S1x128 32 := iota .tc S1x128 32 [1] iota_S1x128_d1_w32

/-- The row sums of a group's three packed parts, as the call computes them from the small products and the biases. -/
def parts (s : FVec Ideal S256x128 .f32) (b : Vec Ideal S1x128 .f32) : FVec Ideal S256x128 .f32 := k0_pay47 lanes k0_pay4 s b

/-- A group's running sums: those of its rows on top of the carried ones. -/
def sums (s : FVec Ideal S256x128 .f32) (b : Vec Ideal S1x128 .f32) (x : FVec Ideal S1x128 .f32) : FVec Ideal S256x128 .f32 :=
  k0_pay49 x (parts s b) (k0_pay48 lanes)

/-- The sums a group hands on. -/
def lasts (s : FVec Ideal S256x128 .f32) (b : Vec Ideal S1x128 .f32) (x : FVec Ideal S1x128 .f32) : FVec Ideal S1x128 .f32 :=
  k0_pay50 x (parts s b) (k0_pay48 lanes)

/-- A group's packed sums. -/
def packed (s : FVec Ideal S256x128 .f32) (b : Vec Ideal S1x128 .f32) (x : FVec Ideal S1x128 .f32) : FVec Ideal S256x128 .bf16 :=
  k0_pay51 x (parts s b) (k0_pay48 lanes)

/-- The logarithm of the logistic of a real is real. -/
theorem logSig_real {x : EReal} (hx : Inp.IsReal x) : Inp.IsReal (logSig x) := by
  obtain ⟨r, rfl⟩ := hx
  obtain ⟨q, hq⟩ := Inp.tail_real (r : EReal)
  have e : FloatOps.absf (F := Ideal) (φ := .f32) (r : EReal) = max (r : EReal) (-(r : EReal)) := rfl
  unfold logSig
  rw [e, zero_sub, hq]
  refine ⟨min r 0 - q, ?_⟩
  rw [EReal.coe_sub, EReal.coe_strictMono.monotone.map_min]
  rfl

/-- The log forget gate of a row and a lane; no gate beyond the eight heads' lanes. -/
def gateAt (s : FVec Ideal S256x128 .f32) (b : Vec Ideal S1x128 .f32) (r : Fin 256) (l : Fin 128) : EReal :=
  if (l : ℕ) < 8 then logSig (s (ix2 r l) + b (ix2 0 l)) else 0

/-- A gate is real if the small products and the biases are. -/
theorem gateAt_real (s : FVec Ideal S256x128 .f32) (b : Vec Ideal S1x128 .f32) (hs : ∀ i, Inp.IsReal (s i)) (hb : ∀ i, Inp.IsReal (b i)) (r : Fin 256) (l : Fin 128) :
    Inp.IsReal (gateAt s b r l) := by
  unfold gateAt
  split_ifs
  · exact logSig_real ((hs _).add (hb _))
  · exact ⟨0, rfl⟩

/-- A lane rolled by `n`. -/
def rolled (n : ℕ) (l : Fin 128) : Fin 128 := ⟨((l : ℕ) + 128 - n) % 128, Nat.mod_lt _ (by norm_num)⟩

/-- A choice by a comparison of small numbers. -/
theorem select_lt {α : Type} (l n : ℕ) (hl : l < 2 ^ 31) (hn : n < 2 ^ 31) (x y : α) :
    Scalar.select (IntOp.cmpi CmpIPredicate.slt (BitVec.ofNat 32 l) (BitVec.ofNat 32 n)) x y = if l < n then x else y := by
  have d : IntOp.cmpi CmpIPredicate.slt (BitVec.ofNat 32 l) (BitVec.ofNat 32 n) = BitVec.ofBool (decide (l < n)) := by
    show BitVec.ofBool ((BitVec.ofNat 32 l).slt (BitVec.ofNat 32 n)) = _
    congr 1
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  rw [d]
  split_ifs with h
  · rw [decide_eq_true h]; rfl
  · rw [decide_eq_false h]; rfl

/-- A choice by a comparison of small numbers, equality allowed. -/
theorem select_le {α : Type} (l n : ℕ) (hl : l < 2 ^ 31) (hn : n < 2 ^ 31) (x y : α) :
    Scalar.select (IntOp.cmpi CmpIPredicate.sle (BitVec.ofNat 32 l) (BitVec.ofNat 32 n)) x y = if l ≤ n then x else y := by
  have d : IntOp.cmpi CmpIPredicate.sle (BitVec.ofNat 32 l) (BitVec.ofNat 32 n) = BitVec.ofBool (decide (l ≤ n)) := by
    show BitVec.ofBool ((BitVec.ofNat 32 l).sle (BitVec.ofNat 32 n)) = _
    congr 1
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  rw [d]
  split_ifs with h
  · rw [decide_eq_true h]; rfl
  · rw [decide_eq_false h]; rfl

/-- The row sums of the packed parts at an index: the gates up to the row, a gate's other parts being nothing. -/
theorem parts_apply (s : FVec Ideal S256x128 .f32) (b : Vec Ideal S1x128 .f32) (hs : ∀ i, Inp.IsReal (s i)) (hb : ∀ i, Inp.IsReal (b i))
    (r : Fin 256) (l : Fin 128) :
    parts s b (ix2 r l) = ∑ k : Fin 256, if (k : ℕ) ≤ r then gateAt s b k l else 0 := by
  have e : parts s b (ix2 r l) = ∑ k : Fin 256, if (k : ℕ) ≤ r then
      (gateAt s b k l + (gateAt s b k (rolled 8 l) - gateAt s b k (rolled 8 l))
        + (gateAt s b k (rolled 16 l) - gateAt s b k (rolled 16 l) - (gateAt s b k (rolled 16 l) - gateAt s b k (rolled 16 l)))) else 0 := by
    unfold parts k0_pay47 k0_pay4
    pointwise [dot_S256x256_S256x128_S256x128_1_0_0_1_n_n]
    refine Finset.sum_congr rfl fun k _ => ?_
    rw [select_le _ _ (by omega) (by omega)]
    simp only [show ∀ n, n < 2 ^ 31 → ∀ x y : EReal, Scalar.select (IntOp.cmpi CmpIPredicate.slt (BitVec.ofNat 32 n) 8#32) x y = if n < 8 then x else y from
      fun n h => select_lt n 8 h (by norm_num), show ((l : ℕ) + 128 - 8) % 128 < 2 ^ 31 by omega, show ((l : ℕ) + 128 - 16) % 128 < 2 ^ 31 by omega,
      show (l : ℕ) < 2 ^ 31 by omega]
    rfl
  rw [e]
  refine Finset.sum_congr rfl fun k _ => if_congr Iff.rfl ?_ rfl
  rw [(gateAt_real s b hs hb k _).sub_self, (gateAt_real s b hs hb k (rolled 16 l)).sub_self, add_zero, sub_zero, add_zero]

/-- No gate beyond the heads' lanes: nothing to sum. -/
theorem gates_none (s : FVec Ideal S256x128 .f32) (b : Vec Ideal S1x128 .f32) (r : Fin 256) (l : Fin 128) (hl : ¬ (l : ℕ) < 8) :
    (∑ k : Fin 256, if (k : ℕ) ≤ r then gateAt s b k l else 0) = 0 := by
  refine Finset.sum_eq_zero fun k _ => ?_
  rw [gateAt, if_neg hl, ite_self]

/-- A group's running sums at an index: lanes of no head hold what was carried. -/
theorem sums_apply (s : FVec Ideal S256x128 .f32) (b : Vec Ideal S1x128 .f32) (x : FVec Ideal S1x128 .f32) (hs : ∀ i, Inp.IsReal (s i)) (hb : ∀ i, Inp.IsReal (b i))
    (r : Fin 256) (l : Fin 128) :
    sums s b x (ix2 r l) = (∑ k : Fin 256, if (k : ℕ) ≤ r then gateAt s b k l else 0) + x (ix2 0 l) := by
  unfold sums k0_pay49 k0_pay48
  pointwise
  refine congrArg (· + x (ix2 0 l)) ?_
  rw [select_lt l 8 (by omega) (by norm_num)]
  by_cases h : (l : ℕ) < 8
  · rw [if_pos h, parts_apply s b hs hb, parts_apply s b hs hb, parts_apply s b hs hb, gates_none s b r ⟨((l : ℕ) + 128 - 120) % 128, _⟩ (by simp only; omega),
      gates_none s b r ⟨((l : ℕ) + 128 - 112) % 128, _⟩ (by simp only; omega), add_zero, add_zero]
  · rw [if_neg h, gates_none s b r l h]

/-- A group's running sums are real if what they are made of is. -/
theorem sums_real (s : FVec Ideal S256x128 .f32) (b : Vec Ideal S1x128 .f32) (x : FVec Ideal S1x128 .f32) (hs : ∀ i, Inp.IsReal (s i)) (hb : ∀ i, Inp.IsReal (b i))
    (hx : ∀ i, Inp.IsReal (x i)) (r : Fin 256) (l : Fin 128) : Inp.IsReal (sums s b x (ix2 r l)) := by
  rw [sums_apply s b x hs hb]
  refine (Inp.IsReal.sum _ _ fun k => ?_).add (hx _)
  split_ifs
  · exact gateAt_real s b hs hb k l
  · exact ⟨0, rfl⟩

/-- The sums a group hands on at an index. -/
theorem lasts_apply (s : FVec Ideal S256x128 .f32) (b : Vec Ideal S1x128 .f32) (x : FVec Ideal S1x128 .f32) (l : Fin 128) :
    lasts s b x (ix2 0 l) = sums s b x (ix2 ⟨255, by norm_num⟩ l) := by
  unfold lasts sums k0_pay50
  pointwise

/-- The base-two logarithm of Euler's number is a nonnegative real. -/
theorem log2e_coe : ∃ q : ℝ, 0 ≤ q ∧ log2e = (q : EReal) := by
  refine ⟨12102203 / 8388608, by norm_num, ?_⟩
  simp [log2e, Ideal.ofBits, Ideal.ieee, -EReal.coe_mul]; norm_num

/-- A group's packed sums at an index: the sums in the heads' lanes, a one in lane 24. -/
theorem packed_apply (s : FVec Ideal S256x128 .f32) (b : Vec Ideal S1x128 .f32) (x : FVec Ideal S1x128 .f32) (hs : ∀ i, Inp.IsReal (s i)) (hb : ∀ i, Inp.IsReal (b i))
    (hx : ∀ i, Inp.IsReal (x i)) (h0 : ∀ l : Fin 128, ¬ (l : ℕ) < 8 → x (ix2 0 l) = 0) (r : Fin 256) (l : Fin 128) :
    packed s b x (ix2 r l) = if (l : ℕ) < 8 then sums s b x (ix2 r l) * log2e else if (l : ℕ) = 24 then 1 else 0 := by
  have hr : ∀ l : Fin 128, Inp.IsReal (sums s b x (ix2 r l) * log2e) := fun l =>
    (sums_real s b x hs hb hx r l).mul (by obtain ⟨q, _, hq⟩ := log2e_coe; exact ⟨q, hq⟩)
  have e : packed s b x (ix2 r l) = sums s b x (ix2 r l) * log2e
      + (sums s b x (ix2 r (rolled 8 l)) * log2e - sums s b x (ix2 r (rolled 8 l)) * log2e)
      + (sums s b x (ix2 r (rolled 16 l)) * log2e - sums s b x (ix2 r (rolled 16 l)) * log2e
        - (sums s b x (ix2 r (rolled 16 l)) * log2e - sums s b x (ix2 r (rolled 16 l)) * log2e))
      + if (l : ℕ) = 24 then 1 else 0 := by
    unfold packed k0_pay51
    pointwise
    refine congrArg₂ (· + ·) rfl ?_
    revert l; intro l
    have : ∀ l : Fin 128, IntOp.cmpi CmpIPredicate.eq (BitVec.ofNat 32 l) 24#32 = if (l : ℕ) = 24 then 1#1 else 0#1 := by decide +kernel
    rw [this]
    split_ifs <;> rfl
  rw [e, (hr _).sub_self, (hr (rolled 16 l)).sub_self, add_zero, sub_zero, add_zero]
  by_cases h : (l : ℕ) < 8
  · rw [if_pos h, if_neg (by omega), add_zero]
  · rw [if_neg h, sums_apply s b x hs hb, gates_none s b r l h, h0 l h, add_zero, zero_mul, zero_add]

/-- The second group's small products are computed as the first's. -/
theorem small2 (h : FVec Ideal S256x1024 .bf16) (w : Vec Ideal S1024x128 .bf16) : k0_pay31 h w = k0_pay30 h w := rfl
/-- The third group's small products are computed as the first's. -/
theorem small3 (h : FVec Ideal S256x1024 .bf16) (w : Vec Ideal S1024x128 .bf16) : k0_pay32 h w = k0_pay30 h w := rfl
/-- The last group's small products are computed as the first's. -/
theorem small4 (h : FVec Ideal S256x1024 .bf16) (w : Vec Ideal S1024x128 .bf16) : k0_pay33 h w = k0_pay30 h w := rfl

/-- The first group hands on its last sums. -/
theorem lasts1 (h : FVec Ideal S256x1024 .bf16) (w : Vec Ideal S1024x128 .bf16) (b : Vec Ideal S1x128 .f32) (x : FVec Ideal S1x128 .f32) :
    k0_pay39 (iota .tc S1x128 32 [1] iota_S1x128_d1_w32) k0_pay4 x (k0_pay34 (iota .tc S1x128 32 [1] iota_S1x128_d1_w32)) (k0_pay36 h w b) (k0_pay37 h w b) = lasts (k0_pay30 h w) b x := rfl
/-- The second group hands on its last sums. -/
theorem lasts2 (s : FVec Ideal S256x128 .f32) (b : Vec Ideal S1x128 .f32) (x : FVec Ideal S1x128 .f32) :
    k0_pay50 x (k0_pay47 (iota .tc S1x128 32 [1] iota_S1x128_d1_w32) k0_pay4 s b) (k0_pay48 (iota .tc S1x128 32 [1] iota_S1x128_d1_w32)) = lasts s b x := rfl
/-- The third group hands on its last sums. -/
theorem lasts3 (s : FVec Ideal S256x128 .f32) (b : Vec Ideal S1x128 .f32) (x : FVec Ideal S1x128 .f32) :
    k0_pay58 (iota .tc S1x128 32 [1] iota_S1x128_d1_w32) k0_pay4 x (k0_pay52 (iota .tc S1x128 32 [1] iota_S1x128_d1_w32)) (k0_pay54 s b) (k0_pay55 s b) k0_pay56 = lasts s b x := rfl
/-- The last group hands on its last sums. -/
theorem lasts4 (s : FVec Ideal S256x128 .f32) (b : Vec Ideal S1x128 .f32) (x : FVec Ideal S1x128 .f32) :
    k0_pay69 (iota .tc S1x128 32 [1] iota_S1x128_d1_w32) x (k0_pay66 (iota .tc S1x128 32 [1] iota_S1x128_d1_w32) k0_pay4 s b) 8#32 = lasts s b x := by
  have e : k0_pay67 (iota .tc S1x128 32 [1] iota_S1x128_d1_w32) x (k0_pay66 (iota .tc S1x128 32 [1] iota_S1x128_d1_w32) k0_pay4 s b) 8#32 = sums s b x := rfl
  funext i
  obtain ⟨a, l, rfl⟩ : ∃ a l, i = ix2 a l := ⟨i 0, i 1, by funext a; fin_cases a <;> rfl⟩
  obtain rfl : a = 0 := Subsingleton.elim _ _
  rw [lasts_apply]
  unfold k0_pay69
  rw [e]
  pointwise

/-- The first group packs its sums. -/
theorem packed1 (h : FVec Ideal S256x1024 .bf16) (w : Vec Ideal S1024x128 .bf16) (b : Vec Ideal S1x128 .f32) (x : FVec Ideal S1x128 .f32) :
    k0_pay46 (k0_pay44 (iota .tc S1x128 32 [1] iota_S1x128_d1_w32) k0_pay4 x (k0_pay34 (iota .tc S1x128 32 [1] iota_S1x128_d1_w32)) (k0_pay36 h w b) (k0_pay37 h w b))
      (k0_pay45 (iota .tc S1x128 32 [1] iota_S1x128_d1_w32) k0_pay4 x (k0_pay34 (iota .tc S1x128 32 [1] iota_S1x128_d1_w32)) (k0_pay36 h w b) (k0_pay37 h w b)) 16#32 = packed (k0_pay30 h w) b x := by
  have e : k0_pay38 (iota .tc S1x128 32 [1] iota_S1x128_d1_w32) k0_pay4 x (k0_pay34 (iota .tc S1x128 32 [1] iota_S1x128_d1_w32)) (k0_pay36 h w b) (k0_pay37 h w b) = k0_pay49 x (parts (k0_pay30 h w) b) (k0_pay48 lanes) := rfl
  unfold k0_pay46 k0_pay44 k0_pay45 k0_pay43 packed k0_pay51
  simp only [e]
  rfl
/-- The second group packs its sums. -/
theorem packed2 (s : FVec Ideal S256x128 .f32) (b : Vec Ideal S1x128 .f32) (x : FVec Ideal S1x128 .f32) :
    k0_pay51 x (k0_pay47 (iota .tc S1x128 32 [1] iota_S1x128_d1_w32) k0_pay4 s b) (k0_pay48 (iota .tc S1x128 32 [1] iota_S1x128_d1_w32)) = packed s b x := rfl
/-- The third group packs its sums. -/
theorem packed3 (s : FVec Ideal S256x128 .f32) (b : Vec Ideal S1x128 .f32) (x : FVec Ideal S1x128 .f32) :
    k0_pay65 (k0_pay63 (iota .tc S1x128 32 [1] iota_S1x128_d1_w32) k0_pay4 x (k0_pay52 (iota .tc S1x128 32 [1] iota_S1x128_d1_w32)) (k0_pay54 s b) (k0_pay55 s b) k0_pay56)
      (k0_pay64 (iota .tc S1x128 32 [1] iota_S1x128_d1_w32) k0_pay4 x (k0_pay52 (iota .tc S1x128 32 [1] iota_S1x128_d1_w32)) (k0_pay54 s b) (k0_pay55 s b) k0_pay56) = packed s b x := rfl
/-- The last group packs its sums. -/
theorem packed4 (s : FVec Ideal S256x128 .f32) (b : Vec Ideal S1x128 .f32) (x : FVec Ideal S1x128 .f32) :
    k0_pay68 (iota .tc S1x128 32 [1] iota_S1x128_d1_w32) x (k0_pay66 (iota .tc S1x128 32 [1] iota_S1x128_d1_w32) k0_pay4 s b) 8#32 = packed s b x := rfl

end Cert.Kernel6Ideal.In

end
-- ==== Proof.InOpen.lean ====
/-
  What one grid point of the input projection leaves in its output blocks.
-/
module

public import proofs.«01_k».proof.Proof.InTile
public import proofs.«01_k».proof.Proof.Gen.Kernel6Ideal.Frame
public import Idealize.ShloMosaic.Lib.Pipeline.ReadBack

@[expose] public section

set_option maxRecDepth 16384

noncomputable section

namespace Cert.Kernel6Ideal.In

open Cert.Proof
open Cert.Kernel6Ideal Cert.Kernel6Ideal.Gen Idealize.ShloMosaic Idealize.ShloMosaic.TcCoe Idealize.SL.Sem

/-- A block's contents from its pieces: the pieces agree with one function and cover the block. -/
theorem canon_of {s : Shape} {e : EltTy} (G : s.Idx → Elt Ideal e) (L : List (View.Piece (Elt Ideal) s e)) (h : View.PiecesOf G L) (y : s.Idx)
    (hc : ∃ p ∈ L, y ∈ p.1.set) : View.canon L y = G y := by
  have e := View.canon_append_of_piecesOf G [] L h y hc
  rwa [List.append_nil] at e

/-- The normed row of a block of rows. -/
def norm (x0 : Vec Ideal S1024x1024 .f32) (x1 : Vec Ideal S1x1024 .f32) (R : Fin 1024) : Fin 1024 → EReal :=
  Rows.rms Rows.width (fun k => x0 (ix2 R k)) (fun k => x1 (ix2 0 k))

/-- A group's normed rows are rows of the block. -/
theorem group_apply (x0 : Vec Ideal S1024x1024 .f32) (x1 : Vec Ideal S1x1024 .f32) (o : ℕ) (inb) (r : Fin 256) (k R : Fin 1024) (hR : (R : ℕ) = o + r) :
    k0_pay5 (View.ld x0 (Rect.unit (s := S1024x1024) ![o, 0] ![256, 1024] inb)) x1 (ix2 r k) = norm x0 x1 R k := by
  refine (normed_apply _ _ r k).trans ?_
  unfold norm
  have e : ∀ k : Fin 1024, View.ld x0 (Rect.unit (s := S1024x1024) ![o, 0] ![256, 1024] inb) (ix2 r k) = x0 (ix2 R k) := fun k =>
    congrArg x0 (funext fun a => Fin.ext (by rw [Rect.idx_unit_val]; fin_cases a <;> simp [hR]))
  simp only [e]

/-- A column of the joint product's first half. -/
def low (i : Fin 512) : Fin 1024 := ⟨i, by omega⟩

/-- A column of its second half. -/
def high (i : Fin 512) : Fin 1024 := ⟨512 + i, by omega⟩

/-- The queries and keys of a block of rows. -/
def firsts (x0 : Vec Ideal S1024x1024 .f32) (x1 : Vec Ideal S1x1024 .f32) (x5 : Vec Ideal S1024x1024 .bf16) : Vec Ideal S1024x512 .bf16 :=
  fun y => Rows.rowMul (norm x0 x1 (y 0)) (fun k l => x5 (ix2 k l)) (low (y 1))

/-- The values of a block of rows. -/
def seconds (x0 : Vec Ideal S1024x1024 .f32) (x1 : Vec Ideal S1x1024 .f32) (x5 : Vec Ideal S1024x1024 .bf16) : Vec Ideal S1024x512 .bf16 :=
  fun y => Rows.rowMul (norm x0 x1 (y 0)) (fun k l => x5 (ix2 k l)) (high (y 1))

/-- The gates of a block of rows. -/
def swished (x0 : Vec Ideal S1024x1024 .f32) (x1 : Vec Ideal S1x1024 .f32) (x6 : Vec Ideal S1024x512 .bf16) : Vec Ideal S1024x512 .bf16 :=
  fun y => Rows.rowMul (norm x0 x1 (y 0)) (fun k l => x6 (ix2 k l)) (y 1)
    * Ideal.logistic (Rows.rowMul (norm x0 x1 (y 0)) (fun k l => x6 (ix2 k l)) (y 1))

/-- The log decays of a block of rows. -/
def decays (x0 : Vec Ideal S1024x1024 .f32) (x1 : Vec Ideal S1x1024 .f32) (x7 : Vec Ideal S1024x128 .bf16) (x11 : Vec Ideal S128x256 .f32)
    (x12 : Vec Ideal S1x256 .f32) : Vec Ideal S1024x256 .f32 :=
  fun y => Ideal.div (logSig (gateIn (Rows.rowMul (norm x0 x1 (y 0)) (fun k l => x7 (ix2 k l))) (fun k => x11 (ix2 k (y 1))) (x12 (ix2 0 (y 1)))))
    (Ideal.ofBits .f32 0x41800000#32)

/-- A row `r` of the stacked values of a group `b` at a token `j`: per head 64 values, a one and 15 zeros. -/
def stackedAt (x0 : Vec Ideal S1024x1024 .f32) (x1 : Vec Ideal S1x1024 .f32) (x4 : Vec Ideal S512x1024 .bf16) (b : Fin 4) (r : Fin 640) (j : Fin 256) : EReal :=
  if h : (r : ℕ) % 80 < 64 then
    ∑ k, x4 (ix2 ⟨64 * ((r : ℕ) / 80) + (r : ℕ) % 80, by omega⟩ k) * norm x0 x1 ⟨256 * (b : ℕ) + (j : ℕ), by omega⟩ k
  else if (r : ℕ) % 80 = 64 then 1 else 0

/-- The stacked values of a block of rows. -/
def stacked (x0 : Vec Ideal S1024x1024 .f32) (x1 : Vec Ideal S1x1024 .f32) (x4 : Vec Ideal S512x1024 .bf16) : Vec Ideal S4x640x256 .bf16 :=
  fun y => stackedAt x0 x1 x4 (y 0) (y 1) (y 2)

/-- One group's queries and keys are the block's. -/
theorem firsts_piece (x0 : Vec Ideal S1024x1024 .f32) (x1 : Vec Ideal S1x1024 .f32) (x5 : Vec Ideal S1024x1024 .bf16) (o : ℕ) (inb) (inb') (x : S256x512.Idx) :
    k0_pay16 (k0_pay5 (View.ld x0 (Rect.unit (s := S1024x1024) ![o, 0] ![256, 1024] inb)) x1) x5 x
      = firsts x0 x1 x5 ((Rect.unit (s := S1024x512) ![o, 0] ![256, 512] inb').emb x) := by
  have key : ∀ z : S1024x512.Idx, (z 0 : ℕ) = o + x 0 → (z 1 : ℕ) = x 1 → k0_pay16 (k0_pay5 (View.ld x0 (Rect.unit (s := S1024x1024) ![o, 0] ![256, 1024] inb)) x1) x5 x = firsts x0 x1 x5 z := by
    intro z e0 e1
    obtain ⟨x0', x1', rfl⟩ : ∃ a b, x = ix2 a b := ⟨x 0, x 1, by funext a; fin_cases a <;> rfl⟩
    have g : ∀ k : Fin 1024, k0_pay5 (View.ld x0 (Rect.unit (s := S1024x1024) ![o, 0] ![256, 1024] inb)) x1 (ix2 x0' k) = norm x0 x1 (z 0) k := fun k => group_apply x0 x1 o inb _ k _ e0
    have e1 : x1' = z 1 := Fin.ext e1.symm
    subst e1
    refine (firsts_apply _ _ x0' (z 1)).trans ?_
    simp only [g]
    rfl
  refine key _ ?_ ?_ <;> refine (Rect.idx_unit_val ..).trans ?_ <;> simp

/-- One group's values are the block's. -/
theorem seconds_piece (x0 : Vec Ideal S1024x1024 .f32) (x1 : Vec Ideal S1x1024 .f32) (x5 : Vec Ideal S1024x1024 .bf16) (o : ℕ) (inb) (inb') (x : S256x512.Idx) :
    k0_pay17 (k0_pay5 (View.ld x0 (Rect.unit (s := S1024x1024) ![o, 0] ![256, 1024] inb)) x1) x5 x
      = seconds x0 x1 x5 ((Rect.unit (s := S1024x512) ![o, 0] ![256, 512] inb').emb x) := by
  have key : ∀ z : S1024x512.Idx, (z 0 : ℕ) = o + x 0 → (z 1 : ℕ) = x 1 → k0_pay17 (k0_pay5 (View.ld x0 (Rect.unit (s := S1024x1024) ![o, 0] ![256, 1024] inb)) x1) x5 x = seconds x0 x1 x5 z := by
    intro z e0 e1
    obtain ⟨x0', x1', rfl⟩ : ∃ a b, x = ix2 a b := ⟨x 0, x 1, by funext a; fin_cases a <;> rfl⟩
    have g : ∀ k : Fin 1024, k0_pay5 (View.ld x0 (Rect.unit (s := S1024x1024) ![o, 0] ![256, 1024] inb)) x1 (ix2 x0' k) = norm x0 x1 (z 0) k := fun k => group_apply x0 x1 o inb _ k _ e0
    have e1 : x1' = z 1 := Fin.ext e1.symm
    subst e1
    refine (seconds_apply _ _ x0' (z 1)).trans ?_
    simp only [g]
    rfl
  refine key _ ?_ ?_ <;> refine (Rect.idx_unit_val ..).trans ?_ <;> simp

/-- One group's gates are the block's. -/
theorem swished_piece (x0 : Vec Ideal S1024x1024 .f32) (x1 : Vec Ideal S1x1024 .f32) (x6 : Vec Ideal S1024x512 .bf16) (o : ℕ) (inb) (inb') (x : S256x512.Idx) :
    k0_pay26 (k0_pay5 (View.ld x0 (Rect.unit (s := S1024x1024) ![o, 0] ![256, 1024] inb)) x1) x6 x
      = swished x0 x1 x6 ((Rect.unit (s := S1024x512) ![o, 0] ![256, 512] inb').emb x) := by
  have key : ∀ z : S1024x512.Idx, (z 0 : ℕ) = o + x 0 → (z 1 : ℕ) = x 1 → k0_pay26 (k0_pay5 (View.ld x0 (Rect.unit (s := S1024x1024) ![o, 0] ![256, 1024] inb)) x1) x6 x = swished x0 x1 x6 z := by
    intro z e0 e1
    obtain ⟨x0', x1', rfl⟩ : ∃ a b, x = ix2 a b := ⟨x 0, x 1, by funext a; fin_cases a <;> rfl⟩
    have g : ∀ k : Fin 1024, k0_pay5 (View.ld x0 (Rect.unit (s := S1024x1024) ![o, 0] ![256, 1024] inb)) x1 (ix2 x0' k) = norm x0 x1 (z 0) k := fun k => group_apply x0 x1 o inb _ k _ e0
    have e1 : x1' = z 1 := Fin.ext e1.symm
    subst e1
    refine (swished_apply _ _ x0' (z 1)).trans ?_
    simp only [g]
    rfl
  refine key _ ?_ ?_ <;> refine (Rect.idx_unit_val ..).trans ?_ <;> simp

/-- One group's log decays are the block's. -/
theorem decays_piece (x0 : Vec Ideal S1024x1024 .f32) (x1 : Vec Ideal S1x1024 .f32) (x7 : Vec Ideal S1024x128 .bf16) (x11 : Vec Ideal S128x256 .f32) (x12 : Vec Ideal S1x256 .f32) (o : ℕ) (inb) (inb') (x : S256x256.Idx) :
    k0_pay309 (k0_pay30 (k0_pay5 (View.ld x0 (Rect.unit (s := S1024x1024) ![o, 0] ![256, 1024] inb)) x1) x7) x11 x12 x
      = decays x0 x1 x7 x11 x12 ((Rect.unit (s := S1024x256) ![o, 0] ![256, 256] inb').emb x) := by
  have key : ∀ z : S1024x256.Idx, (z 0 : ℕ) = o + x 0 → (z 1 : ℕ) = x 1 → k0_pay309 (k0_pay30 (k0_pay5 (View.ld x0 (Rect.unit (s := S1024x1024) ![o, 0] ![256, 1024] inb)) x1) x7) x11 x12 x = decays x0 x1 x7 x11 x12 z := by
    intro z e0 e1
    obtain ⟨x0', x1', rfl⟩ : ∃ a b, x = ix2 a b := ⟨x 0, x 1, by funext a; fin_cases a <;> rfl⟩
    have g : ∀ k : Fin 1024, k0_pay5 (View.ld x0 (Rect.unit (s := S1024x1024) ![o, 0] ![256, 1024] inb)) x1 (ix2 x0' k) = norm x0 x1 (z 0) k := fun k => group_apply x0 x1 o inb _ k _ e0
    have e1 : x1' = z 1 := Fin.ext e1.symm
    subst e1
    refine (decay_apply _ _ _ x0' (z 1)).trans ?_
    simp only [small_apply, g]
    rfl
  refine key _ ?_ ?_ <;> refine (Rect.idx_unit_val ..).trans ?_ <;> simp

/-- Sixty-four rows of one group's stacked values are the block's. -/
theorem values_piece (x0 : Vec Ideal S1024x1024 .f32) (x1 : Vec Ideal S1x1024 .f32) (x4 : Vec Ideal S512x1024 .bf16) (n o p q : ℕ) (ho : o % 64 = 0) (ho' : o < 512) (hp : p = 80 * (o / 64))
    (hq : q = 256 * n) (inb) (inb') (hs) (x : S1x64x256.Idx) :
    shapeCast S1x64x256 (extractStridedSlice S64x256 ![o, 0] (k0_pay124 (k0_pay5 (View.ld x0 (Rect.unit (s := S1024x1024) ![q, 0] ![256, 1024] inb)) x1) x4) hs)
        shapeCasts_S64x256_S1x64x256 x
      = stacked x0 x1 x4 ((Rect.unit (s := S4x640x256) ![n, p, 0] ![1, 64, 256] inb').emb x) := by
  obtain ⟨a, i, j, rfl⟩ : ∃ a b c, x = ix3 a b c := ⟨x 0, x 1, x 2, by funext a; fin_cases a <;> rfl⟩
  have key : ∀ z : S4x640x256.Idx, (z 0 : ℕ) = n → (z 1 : ℕ) = p + i → (z 2 : ℕ) = j →
      shapeCast S1x64x256 (extractStridedSlice S64x256 ![o, 0] (k0_pay124 (k0_pay5 (View.ld x0 (Rect.unit (s := S1024x1024) ![q, 0] ![256, 1024] inb)) x1) x4) hs)
        shapeCasts_S64x256_S1x64x256 (ix3 a i j) = stackedAt x0 x1 x4 (z 0) (z 1) (z 2) := by
    intro z e0 e1 e2
    have hz : ((z 1 : Fin 640) : ℕ) % 80 = i := by omega
    have hz' : 64 * (((z 1 : Fin 640) : ℕ) / 80) = o := by omega
    rw [head_apply _ o hs a i j ⟨o + i, by omega⟩ rfl, values_apply]
    unfold stackedAt
    rw [dif_pos (by omega)]
    refine Finset.sum_congr rfl fun k _ => ?_
    refine congrArg₂ (· * ·) (congrArg (fun r => x4 (ix2 r k)) (Fin.ext ?_)) (group_apply x0 x1 q inb j k _ ?_)
    · show o + (i : ℕ) = 64 * (((z 1 : Fin 640) : ℕ) / 80) + ((z 1 : Fin 640) : ℕ) % 80
      omega
    · show 256 * ((z 0 : Fin 4) : ℕ) + ((z 2 : Fin 256) : ℕ) = q + j
      omega
  refine key _ ?_ ?_ ?_ <;> refine (Rect.idx_unit_val ..).trans ?_
  · have := a.isLt
    simp
  · simp
  · simp

/-- The sixteen rows below a head's values are the block's. -/
theorem ones_piece (x0 : Vec Ideal S1024x1024 .f32) (x1 : Vec Ideal S1x1024 .f32) (x4 : Vec Ideal S512x1024 .bf16) (n p : ℕ) (hp : p % 80 = 64) (inb') (x : S1x16x256.Idx) :
    shapeCast S1x16x256 (k0_pay128 (F := Ideal)) shapeCasts_S16x256_S1x16x256 x
      = stacked x0 x1 x4 ((Rect.unit (s := S4x640x256) ![n, p, 0] ![1, 16, 256] inb').emb x) := by
  obtain ⟨a, i, j, rfl⟩ : ∃ a b c, x = ix3 a b c := ⟨x 0, x 1, x 2, by funext a; fin_cases a <;> rfl⟩
  have key : ∀ z : S4x640x256.Idx, (z 1 : ℕ) = p + i →
      shapeCast S1x16x256 (k0_pay128 (F := Ideal)) shapeCasts_S16x256_S1x16x256 (ix3 a i j) = stackedAt x0 x1 x4 (z 0) (z 1) (z 2) := by
    intro z e1
    have hz : ((z 1 : Fin 640) : ℕ) % 80 = 64 + i := by omega
    rw [ones_apply]
    unfold stackedAt
    rw [dif_neg (by omega), hz]
    simp
  refine key _ ?_ <;> refine (Rect.idx_unit_val ..).trans ?_
  simp

variable (m : (ℓ : Loc nD τ sig) → Buf (Elt Ideal) ℓ)

set_option maxHeartbeats 2000000 in
/-- The block of queries and keys after a point. -/
theorem firsts_block (c : Dev nD) (t : Fin cfg0.N) (y : S1024x512.Idx) :
    (outsAt0 m c t.val t.isLt).2.2.2.1 y = firsts (iblk m c 0 t) (iblk m c 1 t) (iblk m c 5 t) y := by
  by_cases h : t.val % 4 = 0
  · rw [outsAt0_A m c t h]
    frame_out
    refine canon_of (firsts (iblk m c 0 t) (iblk m c 1 t) (iblk m c 5 t)) [_, _, _, _] ⟨?_, ?_, ?_, ?_, trivial⟩ y ?_
    · exact firsts_piece (iblk m c 0 t) (iblk m c 1 t) (iblk m c 5 t) 768 inb_S1024x1024_S256x1024_768_0 inb_S1024x512_S256x512_768_0
    · exact firsts_piece (iblk m c 0 t) (iblk m c 1 t) (iblk m c 5 t) 512 inb_S1024x1024_S256x1024_512_0 inb_S1024x512_S256x512_512_0
    · exact firsts_piece (iblk m c 0 t) (iblk m c 1 t) (iblk m c 5 t) 256 inb_S1024x1024_S256x1024_256_0 inb_S1024x512_S256x512_256_0
    · exact firsts_piece (iblk m c 0 t) (iblk m c 1 t) (iblk m c 5 t) 0 inb_S1024x1024_S256x1024_0_0 inb_S1024x512_S256x512_0_0
    · exact View.cover_of_tiledL _ ![256, 512] (by sl_kernel_rfl) y
  · rw [outsAt0_B m c t h]
    frame_out
    refine canon_of (firsts (iblk m c 0 t) (iblk m c 1 t) (iblk m c 5 t)) [_, _, _, _] ⟨?_, ?_, ?_, ?_, trivial⟩ y ?_
    · exact firsts_piece (iblk m c 0 t) (iblk m c 1 t) (iblk m c 5 t) 768 inb_S1024x1024_S256x1024_768_0 inb_S1024x512_S256x512_768_0
    · exact firsts_piece (iblk m c 0 t) (iblk m c 1 t) (iblk m c 5 t) 512 inb_S1024x1024_S256x1024_512_0 inb_S1024x512_S256x512_512_0
    · exact firsts_piece (iblk m c 0 t) (iblk m c 1 t) (iblk m c 5 t) 256 inb_S1024x1024_S256x1024_256_0 inb_S1024x512_S256x512_256_0
    · exact firsts_piece (iblk m c 0 t) (iblk m c 1 t) (iblk m c 5 t) 0 inb_S1024x1024_S256x1024_0_0 inb_S1024x512_S256x512_0_0
    · exact View.cover_of_tiledL _ ![256, 512] (by sl_kernel_rfl) y

set_option maxHeartbeats 2000000 in
/-- The block of values after a point. -/
theorem seconds_block (c : Dev nD) (t : Fin cfg0.N) (y : S1024x512.Idx) :
    (outsAt0 m c t.val t.isLt).2.2.2.2.1 y = seconds (iblk m c 0 t) (iblk m c 1 t) (iblk m c 5 t) y := by
  by_cases h : t.val % 4 = 0
  · rw [outsAt0_A m c t h]
    frame_out
    refine canon_of (seconds (iblk m c 0 t) (iblk m c 1 t) (iblk m c 5 t)) [_, _, _, _] ⟨?_, ?_, ?_, ?_, trivial⟩ y ?_
    · exact seconds_piece (iblk m c 0 t) (iblk m c 1 t) (iblk m c 5 t) 768 inb_S1024x1024_S256x1024_768_0 inb_S1024x512_S256x512_768_0
    · exact seconds_piece (iblk m c 0 t) (iblk m c 1 t) (iblk m c 5 t) 512 inb_S1024x1024_S256x1024_512_0 inb_S1024x512_S256x512_512_0
    · exact seconds_piece (iblk m c 0 t) (iblk m c 1 t) (iblk m c 5 t) 256 inb_S1024x1024_S256x1024_256_0 inb_S1024x512_S256x512_256_0
    · exact seconds_piece (iblk m c 0 t) (iblk m c 1 t) (iblk m c 5 t) 0 inb_S1024x1024_S256x1024_0_0 inb_S1024x512_S256x512_0_0
    · exact View.cover_of_tiledL _ ![256, 512] (by sl_kernel_rfl) y
  · rw [outsAt0_B m c t h]
    frame_out
    refine canon_of (seconds (iblk m c 0 t) (iblk m c 1 t) (iblk m c 5 t)) [_, _, _, _] ⟨?_, ?_, ?_, ?_, trivial⟩ y ?_
    · exact seconds_piece (iblk m c 0 t) (iblk m c 1 t) (iblk m c 5 t) 768 inb_S1024x1024_S256x1024_768_0 inb_S1024x512_S256x512_768_0
    · exact seconds_piece (iblk m c 0 t) (iblk m c 1 t) (iblk m c 5 t) 512 inb_S1024x1024_S256x1024_512_0 inb_S1024x512_S256x512_512_0
    · exact seconds_piece (iblk m c 0 t) (iblk m c 1 t) (iblk m c 5 t) 256 inb_S1024x1024_S256x1024_256_0 inb_S1024x512_S256x512_256_0
    · exact seconds_piece (iblk m c 0 t) (iblk m c 1 t) (iblk m c 5 t) 0 inb_S1024x1024_S256x1024_0_0 inb_S1024x512_S256x512_0_0
    · exact View.cover_of_tiledL _ ![256, 512] (by sl_kernel_rfl) y

set_option maxHeartbeats 2000000 in
/-- The block of log decays after a point. -/
theorem decays_block (c : Dev nD) (t : Fin cfg0.N) (y : S1024x256.Idx) :
    (outsAt0 m c t.val t.isLt).2.2.2.2.2.1 y = decays (iblk m c 0 t) (iblk m c 1 t) (iblk m c 7 t) (iblk m c 11 t) (iblk m c 12 t) y := by
  by_cases h : t.val % 4 = 0
  · rw [outsAt0_A m c t h]
    frame_out
    refine canon_of (decays (iblk m c 0 t) (iblk m c 1 t) (iblk m c 7 t) (iblk m c 11 t) (iblk m c 12 t)) [_, _, _, _] ⟨?_, ?_, ?_, ?_, trivial⟩ y ?_
    · exact decays_piece (iblk m c 0 t) (iblk m c 1 t) (iblk m c 7 t) (iblk m c 11 t) (iblk m c 12 t) 768 inb_S1024x1024_S256x1024_768_0 inb_S1024x256_S256x256_768_0
    · exact decays_piece (iblk m c 0 t) (iblk m c 1 t) (iblk m c 7 t) (iblk m c 11 t) (iblk m c 12 t) 512 inb_S1024x1024_S256x1024_512_0 inb_S1024x256_S256x256_512_0
    · exact decays_piece (iblk m c 0 t) (iblk m c 1 t) (iblk m c 7 t) (iblk m c 11 t) (iblk m c 12 t) 256 inb_S1024x1024_S256x1024_256_0 inb_S1024x256_S256x256_256_0
    · exact decays_piece (iblk m c 0 t) (iblk m c 1 t) (iblk m c 7 t) (iblk m c 11 t) (iblk m c 12 t) 0 inb_S1024x1024_S256x1024_0_0 inb_S1024x256_S256x256_0_0
    · exact View.cover_of_tiledL _ ![256, 256] (by sl_kernel_rfl) y
  · rw [outsAt0_B m c t h]
    frame_out
    refine canon_of (decays (iblk m c 0 t) (iblk m c 1 t) (iblk m c 7 t) (iblk m c 11 t) (iblk m c 12 t)) [_, _, _, _] ⟨?_, ?_, ?_, ?_, trivial⟩ y ?_
    · exact decays_piece (iblk m c 0 t) (iblk m c 1 t) (iblk m c 7 t) (iblk m c 11 t) (iblk m c 12 t) 768 inb_S1024x1024_S256x1024_768_0 inb_S1024x256_S256x256_768_0
    · exact decays_piece (iblk m c 0 t) (iblk m c 1 t) (iblk m c 7 t) (iblk m c 11 t) (iblk m c 12 t) 512 inb_S1024x1024_S256x1024_512_0 inb_S1024x256_S256x256_512_0
    · exact decays_piece (iblk m c 0 t) (iblk m c 1 t) (iblk m c 7 t) (iblk m c 11 t) (iblk m c 12 t) 256 inb_S1024x1024_S256x1024_256_0 inb_S1024x256_S256x256_256_0
    · exact decays_piece (iblk m c 0 t) (iblk m c 1 t) (iblk m c 7 t) (iblk m c 11 t) (iblk m c 12 t) 0 inb_S1024x1024_S256x1024_0_0 inb_S1024x256_S256x256_0_0
    · exact View.cover_of_tiledL _ ![256, 256] (by sl_kernel_rfl) y

set_option maxHeartbeats 2000000 in
/-- The block of gates after a point. -/
theorem swished_block (c : Dev nD) (t : Fin cfg0.N) (y : S1024x512.Idx) :
    (outsAt0 m c t.val t.isLt).2.2.2.2.2.2.1 y = swished (iblk m c 0 t) (iblk m c 1 t) (iblk m c 6 t) y := by
  by_cases h : t.val % 4 = 0
  · rw [outsAt0_A m c t h]
    frame_out
    refine canon_of (swished (iblk m c 0 t) (iblk m c 1 t) (iblk m c 6 t)) [_, _, _, _] ⟨?_, ?_, ?_, ?_, trivial⟩ y ?_
    · exact swished_piece (iblk m c 0 t) (iblk m c 1 t) (iblk m c 6 t) 768 inb_S1024x1024_S256x1024_768_0 inb_S1024x512_S256x512_768_0
    · exact swished_piece (iblk m c 0 t) (iblk m c 1 t) (iblk m c 6 t) 512 inb_S1024x1024_S256x1024_512_0 inb_S1024x512_S256x512_512_0
    · exact swished_piece (iblk m c 0 t) (iblk m c 1 t) (iblk m c 6 t) 256 inb_S1024x1024_S256x1024_256_0 inb_S1024x512_S256x512_256_0
    · exact swished_piece (iblk m c 0 t) (iblk m c 1 t) (iblk m c 6 t) 0 inb_S1024x1024_S256x1024_0_0 inb_S1024x512_S256x512_0_0
    · exact View.cover_of_tiledL _ ![256, 512] (by sl_kernel_rfl) y
  · rw [outsAt0_B m c t h]
    frame_out
    refine canon_of (swished (iblk m c 0 t) (iblk m c 1 t) (iblk m c 6 t)) [_, _, _, _] ⟨?_, ?_, ?_, ?_, trivial⟩ y ?_
    · exact swished_piece (iblk m c 0 t) (iblk m c 1 t) (iblk m c 6 t) 768 inb_S1024x1024_S256x1024_768_0 inb_S1024x512_S256x512_768_0
    · exact swished_piece (iblk m c 0 t) (iblk m c 1 t) (iblk m c 6 t) 512 inb_S1024x1024_S256x1024_512_0 inb_S1024x512_S256x512_512_0
    · exact swished_piece (iblk m c 0 t) (iblk m c 1 t) (iblk m c 6 t) 256 inb_S1024x1024_S256x1024_256_0 inb_S1024x512_S256x512_256_0
    · exact swished_piece (iblk m c 0 t) (iblk m c 1 t) (iblk m c 6 t) 0 inb_S1024x1024_S256x1024_0_0 inb_S1024x512_S256x512_0_0
    · exact View.cover_of_tiledL _ ![256, 512] (by sl_kernel_rfl) y

end Cert.Kernel6Ideal.In

end
-- ==== Proof.InStack.lean ====
/-
  What one grid point of the input projection leaves in the block of stacked values.
-/
module

public import proofs.«01_k».proof.Proof.InOpen

@[expose] public section

set_option maxRecDepth 16384

noncomputable section

namespace Cert.Kernel6Ideal.In

open Cert.Proof
open Cert.Kernel6Ideal Cert.Kernel6Ideal.Gen Idealize.ShloMosaic Idealize.ShloMosaic.TcCoe Idealize.SL.Sem

variable (m : (ℓ : Loc nD τ sig) → Buf (Elt Ideal) ℓ)

/-- The second group's rows are normed as the first's. -/
theorem rows2 (x : Vec Ideal S256x1024 .f32) (g : Vec Ideal S1x1024 .f32) : k0_pay6 x g = k0_pay5 x g := rfl
/-- The third group's rows are normed as the first's. -/
theorem rows3 (x : Vec Ideal S256x1024 .f32) (g : Vec Ideal S1x1024 .f32) : k0_pay7 x g = k0_pay5 x g := rfl
/-- The last group's rows are normed as the first's. -/
theorem rows4 (x : Vec Ideal S256x1024 .f32) (g : Vec Ideal S1x1024 .f32) : k0_pay11 (k0_pay8 x) (k0_pay9 g) (k0_pay10 x) = k0_pay5 x g := rfl
/-- The second group's values are computed as the first's. -/
theorem turned2 (h : FVec Ideal S256x1024 .bf16) (w : Vec Ideal S512x1024 .bf16) : k0_pay125 h w = k0_pay124 h w := rfl
/-- The third group's values are computed as the first's. -/
theorem turned3 (h : FVec Ideal S256x1024 .bf16) (w : Vec Ideal S512x1024 .bf16) : k0_pay126 h w = k0_pay124 h w := rfl
/-- The last group's values are computed as the first's. -/
theorem turned4 (h : FVec Ideal S256x1024 .bf16) (w : Vec Ideal S512x1024 .bf16) : k0_pay127 h w = k0_pay124 h w := rfl

set_option maxHeartbeats 4000000 in
/-- The block of stacked values after a point. -/
theorem stacked_block (c : Dev nD) (t : Fin cfg0.N) (y : S4x640x256.Idx) :
    (outsAt0 m c t.val t.isLt).2.2.1 y = stacked (iblk m c 0 t) (iblk m c 1 t) (iblk m c 4 t) y := by
  by_cases h : t.val % 4 = 0
  · rw [outsAt0_A m c t h]
    frame_out
    simp only [rows2, rows3, rows4, turned2, turned3, turned4]
    refine canon_of (stacked (iblk m c 0 t) (iblk m c 1 t) (iblk m c 4 t)) _ ?_ y ?_
    · repeat' first
        | exact trivial
        | refine And.intro (ones_piece (iblk m c 0 t) (iblk m c 1 t) (iblk m c 4 t) _ _ ?_ ?_)
            (And.intro (values_piece (iblk m c 0 t) (iblk m c 1 t) (iblk m c 4 t) _ _ _ _ ?_ ?_ ?_ ?_ ?_ ?_ ?_) ?_)
      all_goals first | rfl | decide
    · exact View.cover_of_tiledBy _ ![1, 16, 256] (by sl_kernel_rfl) y
  · rw [outsAt0_B m c t h]
    frame_out
    simp only [rows2, rows3, rows4, turned2, turned3, turned4]
    refine canon_of (stacked (iblk m c 0 t) (iblk m c 1 t) (iblk m c 4 t)) _ ?_ y ?_
    · repeat' first
        | exact trivial
        | refine And.intro (ones_piece (iblk m c 0 t) (iblk m c 1 t) (iblk m c 4 t) _ _ ?_ ?_)
            (And.intro (values_piece (iblk m c 0 t) (iblk m c 1 t) (iblk m c 4 t) _ _ _ _ ?_ ?_ ?_ ?_ ?_ ?_ ?_) ?_)
      all_goals first | rfl | decide
    · exact View.cover_of_tiledBy _ ![1, 16, 256] (by sl_kernel_rfl) y

end Cert.Kernel6Ideal.In

end
-- ==== Proof.InKeys.lean ====
/-
  The input projection: the packed keys and the packed transposed queries of a block of rows, and the sums carried on.
-/
module

public import proofs.«01_k».proof.Proof.InSums
public import proofs.«01_k».proof.Proof.InStack

@[expose] public section

set_option maxRecDepth 16384

noncomputable section

namespace Cert.Kernel6Ideal.In

open Cert.Kernel6Ideal Cert.Kernel6Ideal.Gen Idealize.ShloMosaic Idealize.ShloMosaic.TcCoe Idealize.SL.Sem
open Cert.Proof

/-- The log forget gate of row `R` and lane `l` of a block; none beyond the block or the heads' lanes. -/
def gateRow (x0 : Vec Ideal S1024x1024 .f32) (x1 : Vec Ideal S1x1024 .f32) (x7 : Vec Ideal S1024x128 .bf16) (x8 : Vec Ideal S1x128 .f32) (l : Fin 128) (R : ℕ) : EReal :=
  if h : R < 1024 then (if (l : ℕ) < 8 then logSig (Rows.rowMul (norm x0 x1 ⟨R, h⟩) (fun k l => x7 (ix2 k l)) l + x8 (ix2 0 l)) else 0) else 0

/-- The running sum of a block's log forget gates over its first `n` rows, on top of what was carried. -/
def total (x0 : Vec Ideal S1024x1024 .f32) (x1 : Vec Ideal S1x1024 .f32) (x7 : Vec Ideal S1024x128 .bf16) (x8 : Vec Ideal S1x128 .f32) (c : Vec Ideal S1x128 .f32)
    (n : ℕ) (l : Fin 128) : EReal :=
  (∑ R ∈ Finset.range n, gateRow x0 x1 x7 x8 l R) + c (ix2 0 l)

/-- A block's small products and biases are real, and so are the carried sums, which are nothing beyond the heads' lanes. -/
structure Fine (x0 : Vec Ideal S1024x1024 .f32) (x1 : Vec Ideal S1x1024 .f32) (x7 : Vec Ideal S1024x128 .bf16) (x8 : Vec Ideal S1x128 .f32) (c : Vec Ideal S1x128 .f32) : Prop where
  small : ∀ R l, Inp.IsReal (Rows.rowMul (norm x0 x1 R) (fun k l => x7 (ix2 k l)) l)
  bias : ∀ i, Inp.IsReal (x8 i)
  carry : ∀ i, Inp.IsReal (c i)
  none : ∀ l : Fin 128, ¬ (l : ℕ) < 8 → c (ix2 0 l) = 0

variable (x0 : Vec Ideal S1024x1024 .f32) (x1 : Vec Ideal S1x1024 .f32) (x7 : Vec Ideal S1024x128 .bf16) (x8 : Vec Ideal S1x128 .f32) (c : Vec Ideal S1x128 .f32)

/-- A group's small products are the block's. -/
theorem small_group (o : ℕ) (inb) (r : Fin 256) (R : Fin 1024) (l : Fin 128) (hR : (R : ℕ) = o + r) :
    k0_pay30 (k0_pay5 (View.ld x0 (Rect.unit (s := S1024x1024) ![o, 0] ![256, 1024] inb)) x1) x7 (ix2 r l)
      = Rows.rowMul (norm x0 x1 R) (fun k l => x7 (ix2 k l)) l := by
  rw [small_apply]
  exact Finset.sum_congr rfl fun k _ => congrArg (· * x7 (ix2 k l)) (group_apply x0 x1 o inb r k R hR)

/-- A group's running sums continue those carried into it. -/
theorem sums_group (hF : Fine x0 x1 x7 x8 c) (o : ℕ) (ho : o + 256 ≤ 1024) (inb) (x : FVec Ideal S1x128 .f32) (hx : ∀ l, x (ix2 0 l) = total x0 x1 x7 x8 c o l) (r : Fin 256) (l : Fin 128) :
    sums (k0_pay30 (k0_pay5 (View.ld x0 (Rect.unit (s := S1024x1024) ![o, 0] ![256, 1024] inb)) x1) x7) x8 x (ix2 r l) = total x0 x1 x7 x8 c (o + r + 1) l := by
  have hs : ∀ i, Inp.IsReal (k0_pay30 (k0_pay5 (View.ld x0 (Rect.unit (s := S1024x1024) ![o, 0] ![256, 1024] inb)) x1) x7 i) := fun i => by
    obtain ⟨a, b, rfl⟩ : ∃ a b, i = ix2 a b := ⟨i 0, i 1, by funext a; fin_cases a <;> rfl⟩
    rw [small_group x0 x1 x7 o inb a ⟨o + a, by omega⟩ b rfl]
    exact hF.small _ _
  rw [sums_apply _ _ _ hs hF.bias, hx, total, total, add_assoc o, Finset.sum_range_add, ← add_assoc, add_comm (∑ R ∈ Finset.range o, _)]
  refine congrArg (· + c (ix2 0 l)) (congrArg (· + _) ?_)
  rw [Finset.sum_range, ← Finset.sum_subset (Finset.subset_univ (Finset.univ.filter fun k : Fin 256 => (k : ℕ) ≤ r)) (fun k _ hk => if_neg (by simpa using hk))]
  refine Finset.sum_bij (fun k hk => ⟨k, by simp at hk; omega⟩) (fun _ _ => Finset.mem_univ _) (fun _ _ _ _ h => Fin.ext (by simpa using h))
    (fun k _ => ⟨⟨k, by omega⟩, by simp only [Finset.mem_filter, Finset.mem_univ, true_and]; exact Nat.lt_succ_iff.mp k.2, rfl⟩) fun k hk => ?_
  have hk' : (k : ℕ) ≤ r := by simpa using hk
  have e : ((o : ℕ) + k) < 1024 := by omega
  rw [if_pos hk', gateAt, gateRow, dif_pos e, small_group x0 x1 x7 o inb k ⟨o + k, e⟩ l rfl]

/-- What a group hands on. -/
theorem lasts_group (hF : Fine x0 x1 x7 x8 c) (o : ℕ) (ho : o + 256 ≤ 1024) (inb) (x : FVec Ideal S1x128 .f32) (hx : ∀ l, x (ix2 0 l) = total x0 x1 x7 x8 c o l) (l : Fin 128) :
    lasts (k0_pay30 (k0_pay5 (View.ld x0 (Rect.unit (s := S1024x1024) ![o, 0] ![256, 1024] inb)) x1) x7) x8 x (ix2 0 l) = total x0 x1 x7 x8 c (o + 256) l := by
  rw [lasts_apply, sums_group x0 x1 x7 x8 c hF o ho inb x hx]

/-- A block's running sum is real. -/
theorem total_real (hF : Fine x0 x1 x7 x8 c) (n : ℕ) (l : Fin 128) : Inp.IsReal (total x0 x1 x7 x8 c n l) := by
  refine (Inp.IsReal.sum _ _ fun R => ?_).add (hF.carry _)
  unfold gateRow
  split_ifs
  · exact logSig_real ((hF.small _ _).add (hF.bias _))
  · exact ⟨0, rfl⟩
  · exact ⟨0, rfl⟩

/-- No sum beyond the heads' lanes. -/
theorem total_none (hF : Fine x0 x1 x7 x8 c) (n : ℕ) (l : Fin 128) (hl : ¬ (l : ℕ) < 8) : total x0 x1 x7 x8 c n l = 0 := by
  rw [total, hF.none l hl, add_zero]
  refine Finset.sum_eq_zero fun R _ => ?_
  unfold gateRow
  split_ifs <;> rfl

/-- The packed sums of a row of the block. -/
def packedAt (R : Fin 1024) (l : Fin 128) : EReal :=
  if (l : ℕ) < 8 then total x0 x1 x7 x8 c (R + 1) l * log2e else if (l : ℕ) = 24 then 1 else 0

/-- A group's packed sums are the block's. -/
theorem packed_group (hF : Fine x0 x1 x7 x8 c) (o : ℕ) (ho : o + 256 ≤ 1024) (inb) (x : FVec Ideal S1x128 .f32) (hx : ∀ l, x (ix2 0 l) = total x0 x1 x7 x8 c o l) (r : Fin 256)
    (l : Fin 128) (R : Fin 1024) (hR : (R : ℕ) = o + r) :
    packed (k0_pay30 (k0_pay5 (View.ld x0 (Rect.unit (s := S1024x1024) ![o, 0] ![256, 1024] inb)) x1) x7) x8 x (ix2 r l) = packedAt x0 x1 x7 x8 c R l := by
  have hs : ∀ i, Inp.IsReal (k0_pay30 (k0_pay5 (View.ld x0 (Rect.unit (s := S1024x1024) ![o, 0] ![256, 1024] inb)) x1) x7 i) := fun i => by
    obtain ⟨a, b, rfl⟩ : ∃ a b, i = ix2 a b := ⟨i 0, i 1, by funext a; fin_cases a <;> rfl⟩
    rw [small_group x0 x1 x7 o inb a ⟨o + a, by omega⟩ b rfl]
    exact hF.small _ _
  have hr : ∀ i, Inp.IsReal (x i) := fun i => by
    obtain ⟨a, l, rfl⟩ : ∃ a l, i = ix2 a l := ⟨i 0, i 1, by funext a; fin_cases a <;> rfl⟩
    obtain rfl : a = 0 := Subsingleton.elim _ _
    rw [hx]
    exact total_real x0 x1 x7 x8 c hF _ _
  rw [packed_apply _ _ _ hs hF.bias hr (fun l hl => by rw [hx]; exact total_none x0 x1 x7 x8 c hF _ _ hl), sums_group x0 x1 x7 x8 c hF o ho inb x hx]
  unfold packedAt
  rw [hR]

/-- The mask of a head's first half. -/
theorem half_apply (l : Fin 128) : k0_pay3 (ix2 0 l) = if (l : ℕ) < 64 then 1#1 else 0#1 := by
  unfold k0_pay3
  pointwise
  revert l; decide +kernel

/-- An even head's keys: its own in the first half, the side lanes in the second. -/
def evenKeys (p q : FVec Ideal S256x512 .f32) (o : ℕ) (hs : S256x512.Slices ![0, o] S256x128) : FVec Ideal S256x128 .bf16 :=
  truncf .bf16 (select (broadcastTo S256x128 (shapeCast S1x128 k0_pay3 shapeCasts_S1x128_S1x128) broadcasts_S1x128_S256x128)
    (extractStridedSlice S256x128 ![0, o] p hs) (extractStridedSlice S256x128 ![0, o] q hs)) bitsLt_bf16_f32

/-- An odd head's keys: the side lanes in the first half, its own in the second. -/
def oddKeys (p q : FVec Ideal S256x512 .f32) (o : ℕ) (hs : S256x512.Slices ![0, o] S256x128) : FVec Ideal S256x128 .bf16 :=
  truncf .bf16 (select (broadcastTo S256x128 (shapeCast S1x128 (xori k0_pay3 (constantI S1x128 1 1#1)) shapeCasts_S1x128_S1x128) broadcasts_S1x128_S256x128)
    (extractStridedSlice S256x128 ![0, o] p hs) (extractStridedSlice S256x128 ![0, o] q hs)) bitsLt_bf16_f32

/-- An even head's keys at an index. -/
theorem even_apply (p q : FVec Ideal S256x512 .f32) (o : ℕ) (hs) (r : Fin 256) (l : Fin 128) (C : Fin 512) (hC : (C : ℕ) = o + l) :
    evenKeys p q o hs (ix2 r l) = if (l : ℕ) < 64 then p (ix2 r C) else q (ix2 r C) := by
  unfold evenKeys
  pointwise
  rw [half_apply, Fin.ext (a := C) (b := ⟨o + l, by omega⟩) hC]
  split_ifs <;> rfl

/-- An odd head's keys at an index. -/
theorem odd_apply (p q : FVec Ideal S256x512 .f32) (o : ℕ) (hs) (r : Fin 256) (l : Fin 128) (C : Fin 512) (hC : (C : ℕ) = o + l) :
    oddKeys p q o hs (ix2 r l) = if (l : ℕ) < 64 then q (ix2 r C) else p (ix2 r C) := by
  unfold oddKeys
  pointwise
  rw [half_apply, Fin.ext (a := C) (b := ⟨o + l, by omega⟩) hC]
  split_ifs <;> rfl

/-- The keys' products at an index. -/
theorem kp_apply (h : FVec Ideal S256x1024 .bf16) (w : Vec Ideal S1024x512 .bf16) (r : Fin 256) (l : Fin 512) :
    k0_pay70 h w (ix2 r l) = ∑ k, h (ix2 r k) * w (ix2 k l) := by
  unfold k0_pay70
  pointwise [dot_S256x1024_S1024x512_S256x512_1_0_0_1_n_n]

/-- The keys' side lanes at an index. -/
theorem kside_apply (p : FVec Ideal S256x128 .bf16) (w : Vec Ideal S128x512 .bf16) (r : Fin 256) (l : Fin 512) :
    k0_pay74 p w (ix2 r l) = ∑ k, p (ix2 r k) * w (ix2 k l) := by
  unfold k0_pay74
  pointwise [dot_S256x128_S128x512_S256x512_1_0_0_1_n_n]

/-- The queries' products at an index. -/
theorem qp_apply (h : FVec Ideal S256x1024 .bf16) (w : Vec Ideal S512x1024 .bf16) (l : Fin 512) (r : Fin 256) :
    k0_pay116 h w (ix2 l r) = ∑ k, w (ix2 l k) * h (ix2 r k) := by
  unfold k0_pay116
  pointwise [dot_S512x1024_S256x1024_S512x256_1_1_0_0_n_n]

/-- The queries' side lanes at an index. -/
theorem qside_apply (p : FVec Ideal S256x128 .bf16) (w : Vec Ideal S128x128 .bf16) (l : Fin 128) (r : Fin 256) :
    k0_pay120 p w (ix2 l r) = ∑ k, w (ix2 l k) * p (ix2 r k) := by
  unfold k0_pay120
  pointwise [dot_S128x128_S256x128_S128x256_1_1_0_0_n_n]

/-- The packed keys of a block at row `R` and lane `C`. -/
def keyAt (N : Fin 1024 → Fin 1024 → EReal) (P : Fin 1024 → Fin 128 → EReal) (w : Fin 1024 → Fin 512 → EReal) (w' : Fin 128 → Fin 512 → EReal) (R C : Fin 1024) : EReal :=
  if ((C : ℕ) % 128 < 64 ↔ (C : ℕ) / 128 % 2 = 0) then ∑ k, N R k * w k ⟨128 * ((C : ℕ) / 256) + (C : ℕ) % 128, by omega⟩
  else ∑ k, P R k * w' k ⟨128 * ((C : ℕ) / 256) + (C : ℕ) % 128, by omega⟩

/-- The packed keys of a block. -/
def keyed (N : Fin 1024 → Fin 1024 → EReal) (P : Fin 1024 → Fin 128 → EReal) (x2 : Vec Ideal S1024x512 .bf16) (x9 : Vec Ideal S128x512 .bf16) : Vec Ideal S1024x1024 .bf16 :=
  fun y => keyAt N P (fun k l => x2 (ix2 k l)) (fun k l => x9 (ix2 k l)) (y 0) (y 1)

/-- An even head's keys of a group are the block's. -/
theorem even_piece (N : Fin 1024 → Fin 1024 → EReal) (P : Fin 1024 → Fin 128 → EReal) (x2 : Vec Ideal S1024x512 .bf16) (x9 : Vec Ideal S128x512 .bf16) (ro co o : ℕ) (inb')
    (h : FVec Ideal S256x1024 .bf16) (p : FVec Ideal S256x128 .bf16) (v : FVec Ideal S256x128 .bf16) (hs)
    (hh : ∀ (r : Fin 256) (k R : Fin 1024), (R : ℕ) = ro + r → h (ix2 r k) = N R k) (hp : ∀ (r : Fin 256) (l : Fin 128) (R : Fin 1024), (R : ℕ) = ro + r → p (ix2 r l) = P R l)
    (hv : v = evenKeys (k0_pay70 h x2) (k0_pay74 p x9) o hs) (ho : o % 128 = 0) (ho' : o < 512) (hco : co = 2 * o) (x : S256x128.Idx) :
    v x = keyed N P x2 x9 ((Rect.unit (s := S1024x1024) ![ro, co] ![256, 128] inb').emb x) := by
  obtain ⟨i, j, rfl⟩ : ∃ a b, x = ix2 a b := ⟨x 0, x 1, by funext a; fin_cases a <;> rfl⟩
  have key : ∀ z : S1024x1024.Idx, (z 0 : ℕ) = ro + i → (z 1 : ℕ) = co + j → v (ix2 i j) = keyAt N P (fun k l => x2 (ix2 k l)) (fun k l => x9 (ix2 k l)) (z 0) (z 1) := by
    intro z e0 e1
    subst hv
    unfold keyAt
    rw [even_apply _ _ o hs i j ⟨128 * (((z 1 : Fin 1024) : ℕ) / 256) + ((z 1 : Fin 1024) : ℕ) % 128, by omega⟩ (by simp only; omega), kp_apply, kside_apply]
    refine if_congr (by omega) (Finset.sum_congr rfl fun k _ => ?_) (Finset.sum_congr rfl fun k _ => ?_)
    · rw [hh i k (z 0) e0]
    · rw [hp i k (z 0) e0]
  refine key _ ?_ ?_ <;> refine (Rect.idx_unit_val ..).trans ?_ <;> simp

/-- An odd head's keys of a group are the block's. -/
theorem odd_piece (N : Fin 1024 → Fin 1024 → EReal) (P : Fin 1024 → Fin 128 → EReal) (x2 : Vec Ideal S1024x512 .bf16) (x9 : Vec Ideal S128x512 .bf16) (ro co o : ℕ) (inb')
    (h : FVec Ideal S256x1024 .bf16) (p : FVec Ideal S256x128 .bf16) (v : FVec Ideal S256x128 .bf16) (hs)
    (hh : ∀ (r : Fin 256) (k R : Fin 1024), (R : ℕ) = ro + r → h (ix2 r k) = N R k) (hp : ∀ (r : Fin 256) (l : Fin 128) (R : Fin 1024), (R : ℕ) = ro + r → p (ix2 r l) = P R l)
    (hv : v = oddKeys (k0_pay70 h x2) (k0_pay74 p x9) o hs) (ho : o % 128 = 0) (ho' : o < 512) (hco : co = 2 * o + 128) (x : S256x128.Idx) :
    v x = keyed N P x2 x9 ((Rect.unit (s := S1024x1024) ![ro, co] ![256, 128] inb').emb x) := by
  obtain ⟨i, j, rfl⟩ : ∃ a b, x = ix2 a b := ⟨x 0, x 1, by funext a; fin_cases a <;> rfl⟩
  have key : ∀ z : S1024x1024.Idx, (z 0 : ℕ) = ro + i → (z 1 : ℕ) = co + j → v (ix2 i j) = keyAt N P (fun k l => x2 (ix2 k l)) (fun k l => x9 (ix2 k l)) (z 0) (z 1) := by
    intro z e0 e1
    subst hv
    unfold keyAt
    rw [odd_apply _ _ o hs i j ⟨128 * (((z 1 : Fin 1024) : ℕ) / 256) + ((z 1 : Fin 1024) : ℕ) % 128, by omega⟩ (by simp only; omega), kp_apply, kside_apply, ← ite_not]
    refine if_congr (by omega) (Finset.sum_congr rfl fun k _ => ?_) (Finset.sum_congr rfl fun k _ => ?_)
    · rw [hh i k (z 0) e0]
    · rw [hp i k (z 0) e0]
  refine key _ ?_ ?_ <;> refine (Rect.idx_unit_val ..).trans ?_ <;> simp

/-- The packed transposed queries of a block at token group `b`, lane `C` and token `j`. -/
def queryAt (N : Fin 1024 → Fin 1024 → EReal) (P : Fin 1024 → Fin 128 → EReal) (w : Fin 512 → Fin 1024 → EReal) (w' : Fin 128 → Fin 128 → EReal) (b : Fin 4) (C : Fin 1024) (j : Fin 256) : EReal :=
  if ((C : ℕ) % 128 < 64 ↔ (C : ℕ) / 128 % 2 = 0) then ∑ k, w ⟨64 * ((C : ℕ) / 128) + (C : ℕ) % 64, by omega⟩ k * N ⟨256 * (b : ℕ) + (j : ℕ), by omega⟩ k
  else if (C : ℕ) % 64 < 16 then ∑ k, w' ⟨(16 * ((C : ℕ) / 128) + (C : ℕ) % 64) % 128, by omega⟩ k * P ⟨256 * (b : ℕ) + (j : ℕ), by omega⟩ k
  else 0

/-- The packed transposed queries of a block. -/
def queried (N : Fin 1024 → Fin 1024 → EReal) (P : Fin 1024 → Fin 128 → EReal) (x3 : Vec Ideal S512x1024 .bf16) (x10 : Vec Ideal S128x128 .bf16) : Vec Ideal S4x1024x256 .bf16 :=
  fun y => queryAt N P (fun k l => x3 (ix2 k l)) (fun k l => x10 (ix2 k l)) (y 0) (y 1) (y 2)

/-- A head's own queries of a group are the block's. -/
theorem own_piece (N : Fin 1024 → Fin 1024 → EReal) (P : Fin 1024 → Fin 128 → EReal) (x3 : Vec Ideal S512x1024 .bf16) (x10 : Vec Ideal S128x128 .bf16) (n co o : ℕ) (inb')
    (h : FVec Ideal S256x1024 .bf16) (v : FVec Ideal S512x256 .bf16) (hs)
    (hh : ∀ (r : Fin 256) (k R : Fin 1024), (R : ℕ) = 256 * n + r → h (ix2 r k) = N R k)
    (hv : v = k0_pay116 h x3) (ho : o % 64 = 0) (ho' : o < 512) (hco : co = 2 * o + 64 * (o / 64 % 2)) (x : S1x64x256.Idx) :
    shapeCast S1x64x256 (extractStridedSlice S64x256 ![o, 0] v hs) shapeCasts_S64x256_S1x64x256 x
      = queried N P x3 x10 ((Rect.unit (s := S4x1024x256) ![n, co, 0] ![1, 64, 256] inb').emb x) := by
  obtain ⟨a, i, j, rfl⟩ : ∃ a b c, x = ix3 a b c := ⟨x 0, x 1, x 2, by funext a; fin_cases a <;> rfl⟩
  have key : ∀ z : S4x1024x256.Idx, (z 0 : ℕ) = n → (z 1 : ℕ) = co + i → (z 2 : ℕ) = j →
      shapeCast S1x64x256 (extractStridedSlice S64x256 ![o, 0] v hs) shapeCasts_S64x256_S1x64x256 (ix3 a i j)
        = queryAt N P (fun k l => x3 (ix2 k l)) (fun k l => x10 (ix2 k l)) (z 0) (z 1) (z 2) := by
    intro z e0 e1 e2
    subst hv
    rw [head_apply _ o hs a i j ⟨64 * (((z 1 : Fin 1024) : ℕ) / 128) + ((z 1 : Fin 1024) : ℕ) % 64, by omega⟩ (by simp only; omega), qp_apply]
    unfold queryAt
    rw [if_pos (by omega)]
    refine Finset.sum_congr rfl fun k _ => congrArg (_ * ·) (hh j k _ ?_)
    show 256 * ((z 0 : Fin 4) : ℕ) + ((z 2 : Fin 256) : ℕ) = _
    omega
  refine key _ ?_ ?_ ?_ <;> refine (Rect.idx_unit_val ..).trans ?_
  · have := a.isLt
    simp
  · simp
  · simp

/-- Sixteen rows from `o` on, as the block's piece holds them. -/
theorem sides_apply (v : FVec Ideal S128x256 .bf16) (o : ℕ) (hs) (a : Fin 1) (c : Fin 16) (r : Fin 256) (C : Fin 128) (hC : (C : ℕ) = o + c) :
    shapeCast S1x16x256 (extractStridedSlice S16x256 ![o, 0] v hs) shapeCasts_S16x256_S1x16x256 (ix3 a c r) = v (ix2 C r) := by
  pointwise
  exact congrArg (fun i => v (ix2 i r)) (Fin.ext hC.symm)

/-- A head's side lanes of a group are the block's. -/
theorem sides_piece (N : Fin 1024 → Fin 1024 → EReal) (P : Fin 1024 → Fin 128 → EReal) (x3 : Vec Ideal S512x1024 .bf16) (x10 : Vec Ideal S128x128 .bf16) (n co o : ℕ) (inb')
    (p : FVec Ideal S256x128 .bf16) (v : FVec Ideal S128x256 .bf16) (hs)
    (hp : ∀ (r : Fin 256) (l : Fin 128) (R : Fin 1024), (R : ℕ) = 256 * n + r → p (ix2 r l) = P R l)
    (hv : v = k0_pay120 p x10) (ho : o % 16 = 0) (ho' : o < 128) (hco : co = 8 * o + 64 * ((o / 16 + 1) % 2)) (x : S1x16x256.Idx) :
    shapeCast S1x16x256 (extractStridedSlice S16x256 ![o, 0] v hs) shapeCasts_S16x256_S1x16x256 x
      = queried N P x3 x10 ((Rect.unit (s := S4x1024x256) ![n, co, 0] ![1, 16, 256] inb').emb x) := by
  obtain ⟨a, i, j, rfl⟩ : ∃ a b c, x = ix3 a b c := ⟨x 0, x 1, x 2, by funext a; fin_cases a <;> rfl⟩
  have key : ∀ z : S4x1024x256.Idx, (z 0 : ℕ) = n → (z 1 : ℕ) = co + i → (z 2 : ℕ) = j →
      shapeCast S1x16x256 (extractStridedSlice S16x256 ![o, 0] v hs) shapeCasts_S16x256_S1x16x256 (ix3 a i j)
        = queryAt N P (fun k l => x3 (ix2 k l)) (fun k l => x10 (ix2 k l)) (z 0) (z 1) (z 2) := by
    intro z e0 e1 e2
    subst hv
    have a1 : ((z 1 : Fin 1024) : ℕ) / 128 = o / 16 := by omega
    have a2 : ((z 1 : Fin 1024) : ℕ) % 64 = i := by omega
    rw [sides_apply _ o hs a i j ⟨(16 * (((z 1 : Fin 1024) : ℕ) / 128) + ((z 1 : Fin 1024) : ℕ) % 64) % 128, by omega⟩ (by simp only; omega), qside_apply]
    unfold queryAt
    rw [if_neg (by omega), if_pos (by omega)]
    refine Finset.sum_congr rfl fun k _ => congrArg (_ * ·) (hp j k _ ?_)
    show 256 * ((z 0 : Fin 4) : ℕ) + ((z 2 : Fin 256) : ℕ) = _
    omega
  refine key _ ?_ ?_ ?_ <;> refine (Rect.idx_unit_val ..).trans ?_
  · have := a.isLt
    simp
  · simp
  · simp

/-- The rows of nothing below a head's side lanes are the block's. -/
theorem zeros_piece (N : Fin 1024 → Fin 1024 → EReal) (P : Fin 1024 → Fin 128 → EReal) (x3 : Vec Ideal S512x1024 .bf16) (x10 : Vec Ideal S128x128 .bf16) (n co o : ℕ) (inb')
    (ho' : o < 8) (hco : co = 128 * o + 64 * ((o + 1) % 2) + 16) (x : S1x48x256.Idx) :
    shapeCast S1x48x256 (broadcast S48x256 (FloatOps.ofBits (F := Ideal) FTy.bf16 0#16)) shapeCasts_S48x256_S1x48x256 x
      = queried N P x3 x10 ((Rect.unit (s := S4x1024x256) ![n, co, 0] ![1, 48, 256] inb').emb x) := by
  obtain ⟨a, i, j, rfl⟩ : ∃ a b c, x = ix3 a b c := ⟨x 0, x 1, x 2, by funext a; fin_cases a <;> rfl⟩
  have key : ∀ z : S4x1024x256.Idx, (z 0 : ℕ) = n → (z 1 : ℕ) = co + i → (z 2 : ℕ) = j →
      shapeCast S1x48x256 (broadcast S48x256 (FloatOps.ofBits (F := Ideal) FTy.bf16 0#16)) shapeCasts_S48x256_S1x48x256 (ix3 a i j)
        = queryAt N P (fun k l => x3 (ix2 k l)) (fun k l => x10 (ix2 k l)) (z 0) (z 1) (z 2) := by
    intro z e0 e1 e2
    unfold queryAt
    rw [if_neg (by omega), if_neg (by omega)]
    pointwise
  refine key _ ?_ ?_ ?_ <;> refine (Rect.idx_unit_val ..).trans ?_
  · have := a.isLt
    simp
  · simp
  · simp

end Cert.Kernel6Ideal.In

end
-- ==== Proof.InCarry.lean ====
/-
  The input projection: the blocks of packed keys and queries after a point, and the sums it hands on.
-/
module

public import proofs.«01_k».proof.Proof.InKeys

@[expose] public section

set_option maxRecDepth 16384

noncomputable section

namespace Cert.Kernel6Ideal.In

open Cert.Kernel6Ideal Cert.Kernel6Ideal.Gen Idealize.ShloMosaic Idealize.ShloMosaic.TcCoe Idealize.SL.Sem
open Cert.Proof

variable (m : (ℓ : Loc nD τ sig) → Buf (Elt Ideal) ℓ) (c : Dev nD)

/-- The sums a sequence starts from. -/
abbrev none0 : FVec Ideal S1x128 .f32 := k0_pay2

section Block
variable (x0 : Vec Ideal S1024x1024 .f32) (x1 : Vec Ideal S1x1024 .f32) (x7 : Vec Ideal S1024x128 .bf16) (x8 : Vec Ideal S1x128 .f32) (x : Vec Ideal S1x128 .f32)

/-- The first group's small products. -/
abbrev grp0 : FVec Ideal S256x128 .f32 := k0_pay30 (k0_pay5 (View.ld x0 (Rect.unit (s := S1024x1024) ![0, 0] ![256, 1024] inb_S1024x1024_S256x1024_0_0)) x1) x7
/-- The second group's small products. -/
abbrev grp1 : FVec Ideal S256x128 .f32 := k0_pay30 (k0_pay5 (View.ld x0 (Rect.unit (s := S1024x1024) ![256, 0] ![256, 1024] inb_S1024x1024_S256x1024_256_0)) x1) x7
/-- The third group's small products. -/
abbrev grp2 : FVec Ideal S256x128 .f32 := k0_pay30 (k0_pay5 (View.ld x0 (Rect.unit (s := S1024x1024) ![512, 0] ![256, 1024] inb_S1024x1024_S256x1024_512_0)) x1) x7
/-- The last group's small products. -/
abbrev grp3 : FVec Ideal S256x128 .f32 := k0_pay30 (k0_pay5 (View.ld x0 (Rect.unit (s := S1024x1024) ![768, 0] ![256, 1024] inb_S1024x1024_S256x1024_768_0)) x1) x7

/-- What the first group hands on. -/
abbrev car1 : FVec Ideal S1x128 .f32 := lasts (grp0 x0 x1 x7) x8 x
/-- What the second group hands on. -/
abbrev car2 : FVec Ideal S1x128 .f32 := lasts (grp1 x0 x1 x7) x8 (car1 x0 x1 x7 x8 x)
/-- What the third group hands on. -/
abbrev car3 : FVec Ideal S1x128 .f32 := lasts (grp2 x0 x1 x7) x8 (car2 x0 x1 x7 x8 x)
/-- What the last group hands on. -/
abbrev car4 : FVec Ideal S1x128 .f32 := lasts (grp3 x0 x1 x7) x8 (car3 x0 x1 x7 x8 x)

variable (hF : Fine x0 x1 x7 x8 x)
include hF

/-- What is carried into a block is no row's sum yet. -/
theorem car0_apply (l : Fin 128) : x (ix2 0 l) = total x0 x1 x7 x8 x 0 l := by rw [total, Finset.range_zero, Finset.sum_empty, zero_add]
/-- What the first group hands on, as a sum. -/
theorem car1_apply (l : Fin 128) : car1 x0 x1 x7 x8 x (ix2 0 l) = total x0 x1 x7 x8 x 256 l :=
  lasts_group x0 x1 x7 x8 x hF 0 (by norm_num) _ x (car0_apply x0 x1 x7 x8 x hF) l
/-- What the second group hands on, as a sum. -/
theorem car2_apply (l : Fin 128) : car2 x0 x1 x7 x8 x (ix2 0 l) = total x0 x1 x7 x8 x 512 l :=
  lasts_group x0 x1 x7 x8 x hF 256 (by norm_num) _ _ (car1_apply x0 x1 x7 x8 x hF) l
/-- What the third group hands on, as a sum. -/
theorem car3_apply (l : Fin 128) : car3 x0 x1 x7 x8 x (ix2 0 l) = total x0 x1 x7 x8 x 768 l :=
  lasts_group x0 x1 x7 x8 x hF 512 (by norm_num) _ _ (car2_apply x0 x1 x7 x8 x hF) l
/-- What the last group hands on, as a sum. -/
theorem car4_apply (l : Fin 128) : car4 x0 x1 x7 x8 x (ix2 0 l) = total x0 x1 x7 x8 x 1024 l :=
  lasts_group x0 x1 x7 x8 x hF 768 (by norm_num) _ _ (car3_apply x0 x1 x7 x8 x hF) l

end Block

set_option maxHeartbeats 4000000 in
/-- The sums a sequence's first point hands on. -/
theorem carry_A (t : Fin cfg0.N) (h : t.val % 4 = 0) :
    (outsAt0 m c t.val t.isLt).2.2.2.2.2.2.2 = car4 (iblk m c 0 t) (iblk m c 1 t) (iblk m c 7 t) (iblk m c 8 t) none0 := by
  rw [outsAt0_A m c t h]
  frame_out
  simp only [rows2, rows3, rows4, small2, small3, small4]
  rw [lasts1, lasts2, lasts3, lasts4]

set_option maxHeartbeats 4000000 in
/-- The sums a later point hands on. -/
theorem carry_B (t : Fin cfg0.N) (h : ¬ t.val % 4 = 0) (s)
    (hs : (outsAt0 m c (t.val - 1) (Nat.lt_of_le_of_lt (Nat.sub_le t.val 1) t.isLt)).2.2.2.2.2.2.2 = s) :
    (outsAt0 m c t.val t.isLt).2.2.2.2.2.2.2 = car4 (iblk m c 0 t) (iblk m c 1 t) (iblk m c 7 t) (iblk m c 8 t) s := by
  rw [outsAt0_B m c t h]
  frame_out
  simp only [read_unread_whole, hs]
  simp only [rows2, rows3, rows4, small2, small3, small4]
  rw [lasts1, lasts2, lasts3, lasts4]

/-- The normed rows of a block. -/
abbrev nrm (t : Fin cfg0.N) : Fin 1024 → Fin 1024 → EReal := norm (iblk m c 0 t) (iblk m c 1 t)

/-- The packed sums of a block. -/
abbrev pck (t : Fin cfg0.N) (x : Vec Ideal S1x128 .f32) : Fin 1024 → Fin 128 → EReal :=
  packedAt (iblk m c 0 t) (iblk m c 1 t) (iblk m c 7 t) (iblk m c 8 t) x

set_option maxHeartbeats 8000000 in
/-- The block of packed keys after a sequence's first point. -/
theorem keys_A (t : Fin cfg0.N) (h : t.val % 4 = 0) (hF : Fine (iblk m c 0 t) (iblk m c 1 t) (iblk m c 7 t) (iblk m c 8 t) none0) (y : S1024x1024.Idx) :
    (outsAt0 m c t.val t.isLt).1 y = keyed (nrm m c t) (pck m c t none0) (iblk m c 2 t) (iblk m c 9 t) y := by
  have n0 : ∀ (r : Fin 256) (k R : Fin 1024), (R : ℕ) = 0 + r → k0_pay5 (View.ld (iblk m c 0 t) (Rect.unit (s := S1024x1024) ![0, 0] ![256, 1024] inb_S1024x1024_S256x1024_0_0)) (iblk m c 1 t) (ix2 r k) = nrm m c t R k :=
    fun r k R hR => group_apply _ _ 0 _ r k R hR
  have n1 : ∀ (r : Fin 256) (k R : Fin 1024), (R : ℕ) = 256 + r → k0_pay5 (View.ld (iblk m c 0 t) (Rect.unit (s := S1024x1024) ![256, 0] ![256, 1024] inb_S1024x1024_S256x1024_256_0)) (iblk m c 1 t) (ix2 r k) = nrm m c t R k :=
    fun r k R hR => group_apply _ _ 256 _ r k R hR
  have n2 : ∀ (r : Fin 256) (k R : Fin 1024), (R : ℕ) = 512 + r → k0_pay5 (View.ld (iblk m c 0 t) (Rect.unit (s := S1024x1024) ![512, 0] ![256, 1024] inb_S1024x1024_S256x1024_512_0)) (iblk m c 1 t) (ix2 r k) = nrm m c t R k :=
    fun r k R hR => group_apply _ _ 512 _ r k R hR
  have n3 : ∀ (r : Fin 256) (k R : Fin 1024), (R : ℕ) = 768 + r → k0_pay5 (View.ld (iblk m c 0 t) (Rect.unit (s := S1024x1024) ![768, 0] ![256, 1024] inb_S1024x1024_S256x1024_768_0)) (iblk m c 1 t) (ix2 r k) = nrm m c t R k :=
    fun r k R hR => group_apply _ _ 768 _ r k R hR
  have p0 := packed_group _ _ _ _ _ hF 0 (by norm_num) inb_S1024x1024_S256x1024_0_0 _ (car0_apply (iblk m c 0 t) (iblk m c 1 t) (iblk m c 7 t) (iblk m c 8 t) _ hF)
  have p1 := packed_group _ _ _ _ _ hF 256 (by norm_num) inb_S1024x1024_S256x1024_256_0 _ (car1_apply (iblk m c 0 t) (iblk m c 1 t) (iblk m c 7 t) (iblk m c 8 t) _ hF)
  have p2 := packed_group _ _ _ _ _ hF 512 (by norm_num) inb_S1024x1024_S256x1024_512_0 _ (car2_apply (iblk m c 0 t) (iblk m c 1 t) (iblk m c 7 t) (iblk m c 8 t) _ hF)
  have p3 := packed_group _ _ _ _ _ hF 768 (by norm_num) inb_S1024x1024_S256x1024_768_0 _ (car3_apply (iblk m c 0 t) (iblk m c 1 t) (iblk m c 7 t) (iblk m c 8 t) _ hF)
  rw [outsAt0_A m c t h]
  frame_out
  simp only [rows2, rows3, rows4, small2, small3, small4]
  rw [lasts1, lasts2, lasts3, packed1, packed2, packed3, packed4]
  refine canon_of (keyed (nrm m c t) (pck m c t none0) (iblk m c 2 t) (iblk m c 9 t)) _ ?_ y ?_
  · exact ⟨odd_piece (nrm m c t) (pck m c t none0) (iblk m c 2 t) (iblk m c 9 t) 768 896 384 inb_S1024x1024_S256x128_768_896 _ _ _ slices_S256x512_o0_384_S256x128 n3 p3 rfl (by norm_num) (by norm_num) (by norm_num),
      even_piece (nrm m c t) (pck m c t none0) (iblk m c 2 t) (iblk m c 9 t) 768 768 384 inb_S1024x1024_S256x128_768_768 _ _ _ slices_S256x512_o0_384_S256x128 n3 p3 rfl (by norm_num) (by norm_num) (by norm_num),
      odd_piece (nrm m c t) (pck m c t none0) (iblk m c 2 t) (iblk m c 9 t) 768 640 256 inb_S1024x1024_S256x128_768_640 _ _ _ slices_S256x512_o0_256_S256x128 n3 p3 rfl (by norm_num) (by norm_num) (by norm_num),
      even_piece (nrm m c t) (pck m c t none0) (iblk m c 2 t) (iblk m c 9 t) 768 512 256 inb_S1024x1024_S256x128_768_512 _ _ _ slices_S256x512_o0_256_S256x128 n3 p3 rfl (by norm_num) (by norm_num) (by norm_num),
      odd_piece (nrm m c t) (pck m c t none0) (iblk m c 2 t) (iblk m c 9 t) 768 384 128 inb_S1024x1024_S256x128_768_384 _ _ _ slices_S256x512_o0_128_S256x128 n3 p3 rfl (by norm_num) (by norm_num) (by norm_num),
      even_piece (nrm m c t) (pck m c t none0) (iblk m c 2 t) (iblk m c 9 t) 768 256 128 inb_S1024x1024_S256x128_768_256 _ _ _ slices_S256x512_o0_128_S256x128 n3 p3 rfl (by norm_num) (by norm_num) (by norm_num),
      odd_piece (nrm m c t) (pck m c t none0) (iblk m c 2 t) (iblk m c 9 t) 768 128 0 inb_S1024x1024_S256x128_768_128 _ _ _ slices_S256x512_o0_0_S256x128 n3 p3 rfl (by norm_num) (by norm_num) (by norm_num),
      even_piece (nrm m c t) (pck m c t none0) (iblk m c 2 t) (iblk m c 9 t) 768 0 0 inb_S1024x1024_S256x128_768_0 _ _ _ slices_S256x512_o0_0_S256x128 n3 p3 rfl (by norm_num) (by norm_num) (by norm_num),
      odd_piece (nrm m c t) (pck m c t none0) (iblk m c 2 t) (iblk m c 9 t) 512 896 384 inb_S1024x1024_S256x128_512_896 _ _ _ slices_S256x512_o0_384_S256x128 n2 p2 rfl (by norm_num) (by norm_num) (by norm_num),
      even_piece (nrm m c t) (pck m c t none0) (iblk m c 2 t) (iblk m c 9 t) 512 768 384 inb_S1024x1024_S256x128_512_768 _ _ _ slices_S256x512_o0_384_S256x128 n2 p2 rfl (by norm_num) (by norm_num) (by norm_num),
      odd_piece (nrm m c t) (pck m c t none0) (iblk m c 2 t) (iblk m c 9 t) 512 640 256 inb_S1024x1024_S256x128_512_640 _ _ _ slices_S256x512_o0_256_S256x128 n2 p2 rfl (by norm_num) (by norm_num) (by norm_num),
      even_piece (nrm m c t) (pck m c t none0) (iblk m c 2 t) (iblk m c 9 t) 512 512 256 inb_S1024x1024_S256x128_512_512 _ _ _ slices_S256x512_o0_256_S256x128 n2 p2 rfl (by norm_num) (by norm_num) (by norm_num),
      odd_piece (nrm m c t) (pck m c t none0) (iblk m c 2 t) (iblk m c 9 t) 512 384 128 inb_S1024x1024_S256x128_512_384 _ _ _ slices_S256x512_o0_128_S256x128 n2 p2 rfl (by norm_num) (by norm_num) (by norm_num),
      even_piece (nrm m c t) (pck m c t none0) (iblk m c 2 t) (iblk m c 9 t) 512 256 128 inb_S1024x1024_S256x128_512_256 _ _ _ slices_S256x512_o0_128_S256x128 n2 p2 rfl (by norm_num) (by norm_num) (by norm_num),
      odd_piece (nrm m c t) (pck m c t none0) (iblk m c 2 t) (iblk m c 9 t) 512 128 0 inb_S1024x1024_S256x128_512_128 _ _ _ slices_S256x512_o0_0_S256x128 n2 p2 rfl (by norm_num) (by norm_num) (by norm_num),
      even_piece (nrm m c t) (pck m c t none0) (iblk m c 2 t) (iblk m c 9 t) 512 0 0 inb_S1024x1024_S256x128_512_0 _ _ _ slices_S256x512_o0_0_S256x128 n2 p2 rfl (by norm_num) (by norm_num) (by norm_num),
      odd_piece (nrm m c t) (pck m c t none0) (iblk m c 2 t) (iblk m c 9 t) 256 896 384 inb_S1024x1024_S256x128_256_896 _ _ _ slices_S256x512_o0_384_S256x128 n1 p1 rfl (by norm_num) (by norm_num) (by norm_num),
      even_piece (nrm m c t) (pck m c t none0) (iblk m c 2 t) (iblk m c 9 t) 256 768 384 inb_S1024x1024_S256x128_256_768 _ _ _ slices_S256x512_o0_384_S256x128 n1 p1 rfl (by norm_num) (by norm_num) (by norm_num),
      odd_piece (nrm m c t) (pck m c t none0) (iblk m c 2 t) (iblk m c 9 t) 256 640 256 inb_S1024x1024_S256x128_256_640 _ _ _ slices_S256x512_o0_256_S256x128 n1 p1 rfl (by norm_num) (by norm_num) (by norm_num),
      even_piece (nrm m c t) (pck m c t none0) (iblk m c 2 t) (iblk m c 9 t) 256 512 256 inb_S1024x1024_S256x128_256_512 _ _ _ slices_S256x512_o0_256_S256x128 n1 p1 rfl (by norm_num) (by norm_num) (by norm_num),
      odd_piece (nrm m c t) (pck m c t none0) (iblk m c 2 t) (iblk m c 9 t) 256 384 128 inb_S1024x1024_S256x128_256_384 _ _ _ slices_S256x512_o0_128_S256x128 n1 p1 rfl (by norm_num) (by norm_num) (by norm_num),
      even_piece (nrm m c t) (pck m c t none0) (iblk m c 2 t) (iblk m c 9 t) 256 256 128 inb_S1024x1024_S256x128_256_256 _ _ _ slices_S256x512_o0_128_S256x128 n1 p1 rfl (by norm_num) (by norm_num) (by norm_num),
      odd_piece (nrm m c t) (pck m c t none0) (iblk m c 2 t) (iblk m c 9 t) 256 128 0 inb_S1024x1024_S256x128_256_128 _ _ _ slices_S256x512_o0_0_S256x128 n1 p1 rfl (by norm_num) (by norm_num) (by norm_num),
      even_piece (nrm m c t) (pck m c t none0) (iblk m c 2 t) (iblk m c 9 t) 256 0 0 inb_S1024x1024_S256x128_256_0 _ _ _ slices_S256x512_o0_0_S256x128 n1 p1 rfl (by norm_num) (by norm_num) (by norm_num),
      odd_piece (nrm m c t) (pck m c t none0) (iblk m c 2 t) (iblk m c 9 t) 0 896 384 inb_S1024x1024_S256x128_0_896 _ _ _ slices_S256x512_o0_384_S256x128 n0 p0 rfl (by norm_num) (by norm_num) (by norm_num),
      even_piece (nrm m c t) (pck m c t none0) (iblk m c 2 t) (iblk m c 9 t) 0 768 384 inb_S1024x1024_S256x128_0_768 _ _ _ slices_S256x512_o0_384_S256x128 n0 p0 rfl (by norm_num) (by norm_num) (by norm_num),
      odd_piece (nrm m c t) (pck m c t none0) (iblk m c 2 t) (iblk m c 9 t) 0 640 256 inb_S1024x1024_S256x128_0_640 _ _ _ slices_S256x512_o0_256_S256x128 n0 p0 rfl (by norm_num) (by norm_num) (by norm_num),
      even_piece (nrm m c t) (pck m c t none0) (iblk m c 2 t) (iblk m c 9 t) 0 512 256 inb_S1024x1024_S256x128_0_512 _ _ _ slices_S256x512_o0_256_S256x128 n0 p0 rfl (by norm_num) (by norm_num) (by norm_num),
      odd_piece (nrm m c t) (pck m c t none0) (iblk m c 2 t) (iblk m c 9 t) 0 384 128 inb_S1024x1024_S256x128_0_384 _ _ _ slices_S256x512_o0_128_S256x128 n0 p0 rfl (by norm_num) (by norm_num) (by norm_num),
      even_piece (nrm m c t) (pck m c t none0) (iblk m c 2 t) (iblk m c 9 t) 0 256 128 inb_S1024x1024_S256x128_0_256 _ _ _ slices_S256x512_o0_128_S256x128 n0 p0 rfl (by norm_num) (by norm_num) (by norm_num),
      odd_piece (nrm m c t) (pck m c t none0) (iblk m c 2 t) (iblk m c 9 t) 0 128 0 inb_S1024x1024_S256x128_0_128 _ _ _ slices_S256x512_o0_0_S256x128 n0 p0 rfl (by norm_num) (by norm_num) (by norm_num),
      even_piece (nrm m c t) (pck m c t none0) (iblk m c 2 t) (iblk m c 9 t) 0 0 0 inb_S1024x1024_S256x128_0_0 _ _ _ slices_S256x512_o0_0_S256x128 n0 p0 rfl (by norm_num) (by norm_num) (by norm_num), trivial⟩
  · exact View.cover_of_tiledBy _ ![256, 128] (by sl_kernel_rfl) y

set_option maxHeartbeats 8000000 in
/-- The block of packed keys after a later point. -/
theorem keys_B (t : Fin cfg0.N) (h : ¬ t.val % 4 = 0) (s : Vec Ideal S1x128 .f32)
    (hs : (outsAt0 m c (t.val - 1) (Nat.lt_of_le_of_lt (Nat.sub_le t.val 1) t.isLt)).2.2.2.2.2.2.2 = s) (hF : Fine (iblk m c 0 t) (iblk m c 1 t) (iblk m c 7 t) (iblk m c 8 t) s) (y : S1024x1024.Idx) :
    (outsAt0 m c t.val t.isLt).1 y = keyed (nrm m c t) (pck m c t s) (iblk m c 2 t) (iblk m c 9 t) y := by
  have n0 : ∀ (r : Fin 256) (k R : Fin 1024), (R : ℕ) = 0 + r → k0_pay5 (View.ld (iblk m c 0 t) (Rect.unit (s := S1024x1024) ![0, 0] ![256, 1024] inb_S1024x1024_S256x1024_0_0)) (iblk m c 1 t) (ix2 r k) = nrm m c t R k :=
    fun r k R hR => group_apply _ _ 0 _ r k R hR
  have n1 : ∀ (r : Fin 256) (k R : Fin 1024), (R : ℕ) = 256 + r → k0_pay5 (View.ld (iblk m c 0 t) (Rect.unit (s := S1024x1024) ![256, 0] ![256, 1024] inb_S1024x1024_S256x1024_256_0)) (iblk m c 1 t) (ix2 r k) = nrm m c t R k :=
    fun r k R hR => group_apply _ _ 256 _ r k R hR
  have n2 : ∀ (r : Fin 256) (k R : Fin 1024), (R : ℕ) = 512 + r → k0_pay5 (View.ld (iblk m c 0 t) (Rect.unit (s := S1024x1024) ![512, 0] ![256, 1024] inb_S1024x1024_S256x1024_512_0)) (iblk m c 1 t) (ix2 r k) = nrm m c t R k :=
    fun r k R hR => group_apply _ _ 512 _ r k R hR
  have n3 : ∀ (r : Fin 256) (k R : Fin 1024), (R : ℕ) = 768 + r → k0_pay5 (View.ld (iblk m c 0 t) (Rect.unit (s := S1024x1024) ![768, 0] ![256, 1024] inb_S1024x1024_S256x1024_768_0)) (iblk m c 1 t) (ix2 r k) = nrm m c t R k :=
    fun r k R hR => group_apply _ _ 768 _ r k R hR
  have p0 := packed_group _ _ _ _ _ hF 0 (by norm_num) inb_S1024x1024_S256x1024_0_0 _ (car0_apply (iblk m c 0 t) (iblk m c 1 t) (iblk m c 7 t) (iblk m c 8 t) _ hF)
  have p1 := packed_group _ _ _ _ _ hF 256 (by norm_num) inb_S1024x1024_S256x1024_256_0 _ (car1_apply (iblk m c 0 t) (iblk m c 1 t) (iblk m c 7 t) (iblk m c 8 t) _ hF)
  have p2 := packed_group _ _ _ _ _ hF 512 (by norm_num) inb_S1024x1024_S256x1024_512_0 _ (car2_apply (iblk m c 0 t) (iblk m c 1 t) (iblk m c 7 t) (iblk m c 8 t) _ hF)
  have p3 := packed_group _ _ _ _ _ hF 768 (by norm_num) inb_S1024x1024_S256x1024_768_0 _ (car3_apply (iblk m c 0 t) (iblk m c 1 t) (iblk m c 7 t) (iblk m c 8 t) _ hF)
  rw [outsAt0_B m c t h]
  frame_out
  simp only [read_unread_whole, hs]
  simp only [rows2, rows3, rows4, small2, small3, small4]
  rw [lasts1, lasts2, lasts3, packed1, packed2, packed3, packed4]
  refine canon_of (keyed (nrm m c t) (pck m c t s) (iblk m c 2 t) (iblk m c 9 t)) _ ?_ y ?_
  · exact ⟨odd_piece (nrm m c t) (pck m c t s) (iblk m c 2 t) (iblk m c 9 t) 768 896 384 inb_S1024x1024_S256x128_768_896 _ _ _ slices_S256x512_o0_384_S256x128 n3 p3 rfl (by norm_num) (by norm_num) (by norm_num),
      even_piece (nrm m c t) (pck m c t s) (iblk m c 2 t) (iblk m c 9 t) 768 768 384 inb_S1024x1024_S256x128_768_768 _ _ _ slices_S256x512_o0_384_S256x128 n3 p3 rfl (by norm_num) (by norm_num) (by norm_num),
      odd_piece (nrm m c t) (pck m c t s) (iblk m c 2 t) (iblk m c 9 t) 768 640 256 inb_S1024x1024_S256x128_768_640 _ _ _ slices_S256x512_o0_256_S256x128 n3 p3 rfl (by norm_num) (by norm_num) (by norm_num),
      even_piece (nrm m c t) (pck m c t s) (iblk m c 2 t) (iblk m c 9 t) 768 512 256 inb_S1024x1024_S256x128_768_512 _ _ _ slices_S256x512_o0_256_S256x128 n3 p3 rfl (by norm_num) (by norm_num) (by norm_num),
      odd_piece (nrm m c t) (pck m c t s) (iblk m c 2 t) (iblk m c 9 t) 768 384 128 inb_S1024x1024_S256x128_768_384 _ _ _ slices_S256x512_o0_128_S256x128 n3 p3 rfl (by norm_num) (by norm_num) (by norm_num),
      even_piece (nrm m c t) (pck m c t s) (iblk m c 2 t) (iblk m c 9 t) 768 256 128 inb_S1024x1024_S256x128_768_256 _ _ _ slices_S256x512_o0_128_S256x128 n3 p3 rfl (by norm_num) (by norm_num) (by norm_num),
      odd_piece (nrm m c t) (pck m c t s) (iblk m c 2 t) (iblk m c 9 t) 768 128 0 inb_S1024x1024_S256x128_768_128 _ _ _ slices_S256x512_o0_0_S256x128 n3 p3 rfl (by norm_num) (by norm_num) (by norm_num),
      even_piece (nrm m c t) (pck m c t s) (iblk m c 2 t) (iblk m c 9 t) 768 0 0 inb_S1024x1024_S256x128_768_0 _ _ _ slices_S256x512_o0_0_S256x128 n3 p3 rfl (by norm_num) (by norm_num) (by norm_num),
      odd_piece (nrm m c t) (pck m c t s) (iblk m c 2 t) (iblk m c 9 t) 512 896 384 inb_S1024x1024_S256x128_512_896 _ _ _ slices_S256x512_o0_384_S256x128 n2 p2 rfl (by norm_num) (by norm_num) (by norm_num),
      even_piece (nrm m c t) (pck m c t s) (iblk m c 2 t) (iblk m c 9 t) 512 768 384 inb_S1024x1024_S256x128_512_768 _ _ _ slices_S256x512_o0_384_S256x128 n2 p2 rfl (by norm_num) (by norm_num) (by norm_num),
      odd_piece (nrm m c t) (pck m c t s) (iblk m c 2 t) (iblk m c 9 t) 512 640 256 inb_S1024x1024_S256x128_512_640 _ _ _ slices_S256x512_o0_256_S256x128 n2 p2 rfl (by norm_num) (by norm_num) (by norm_num),
      even_piece (nrm m c t) (pck m c t s) (iblk m c 2 t) (iblk m c 9 t) 512 512 256 inb_S1024x1024_S256x128_512_512 _ _ _ slices_S256x512_o0_256_S256x128 n2 p2 rfl (by norm_num) (by norm_num) (by norm_num),
      odd_piece (nrm m c t) (pck m c t s) (iblk m c 2 t) (iblk m c 9 t) 512 384 128 inb_S1024x1024_S256x128_512_384 _ _ _ slices_S256x512_o0_128_S256x128 n2 p2 rfl (by norm_num) (by norm_num) (by norm_num),
      even_piece (nrm m c t) (pck m c t s) (iblk m c 2 t) (iblk m c 9 t) 512 256 128 inb_S1024x1024_S256x128_512_256 _ _ _ slices_S256x512_o0_128_S256x128 n2 p2 rfl (by norm_num) (by norm_num) (by norm_num),
      odd_piece (nrm m c t) (pck m c t s) (iblk m c 2 t) (iblk m c 9 t) 512 128 0 inb_S1024x1024_S256x128_512_128 _ _ _ slices_S256x512_o0_0_S256x128 n2 p2 rfl (by norm_num) (by norm_num) (by norm_num),
      even_piece (nrm m c t) (pck m c t s) (iblk m c 2 t) (iblk m c 9 t) 512 0 0 inb_S1024x1024_S256x128_512_0 _ _ _ slices_S256x512_o0_0_S256x128 n2 p2 rfl (by norm_num) (by norm_num) (by norm_num),
      odd_piece (nrm m c t) (pck m c t s) (iblk m c 2 t) (iblk m c 9 t) 256 896 384 inb_S1024x1024_S256x128_256_896 _ _ _ slices_S256x512_o0_384_S256x128 n1 p1 rfl (by norm_num) (by norm_num) (by norm_num),
      even_piece (nrm m c t) (pck m c t s) (iblk m c 2 t) (iblk m c 9 t) 256 768 384 inb_S1024x1024_S256x128_256_768 _ _ _ slices_S256x512_o0_384_S256x128 n1 p1 rfl (by norm_num) (by norm_num) (by norm_num),
      odd_piece (nrm m c t) (pck m c t s) (iblk m c 2 t) (iblk m c 9 t) 256 640 256 inb_S1024x1024_S256x128_256_640 _ _ _ slices_S256x512_o0_256_S256x128 n1 p1 rfl (by norm_num) (by norm_num) (by norm_num),
      even_piece (nrm m c t) (pck m c t s) (iblk m c 2 t) (iblk m c 9 t) 256 512 256 inb_S1024x1024_S256x128_256_512 _ _ _ slices_S256x512_o0_256_S256x128 n1 p1 rfl (by norm_num) (by norm_num) (by norm_num),
      odd_piece (nrm m c t) (pck m c t s) (iblk m c 2 t) (iblk m c 9 t) 256 384 128 inb_S1024x1024_S256x128_256_384 _ _ _ slices_S256x512_o0_128_S256x128 n1 p1 rfl (by norm_num) (by norm_num) (by norm_num),
      even_piece (nrm m c t) (pck m c t s) (iblk m c 2 t) (iblk m c 9 t) 256 256 128 inb_S1024x1024_S256x128_256_256 _ _ _ slices_S256x512_o0_128_S256x128 n1 p1 rfl (by norm_num) (by norm_num) (by norm_num),
      odd_piece (nrm m c t) (pck m c t s) (iblk m c 2 t) (iblk m c 9 t) 256 128 0 inb_S1024x1024_S256x128_256_128 _ _ _ slices_S256x512_o0_0_S256x128 n1 p1 rfl (by norm_num) (by norm_num) (by norm_num),
      even_piece (nrm m c t) (pck m c t s) (iblk m c 2 t) (iblk m c 9 t) 256 0 0 inb_S1024x1024_S256x128_256_0 _ _ _ slices_S256x512_o0_0_S256x128 n1 p1 rfl (by norm_num) (by norm_num) (by norm_num),
      odd_piece (nrm m c t) (pck m c t s) (iblk m c 2 t) (iblk m c 9 t) 0 896 384 inb_S1024x1024_S256x128_0_896 _ _ _ slices_S256x512_o0_384_S256x128 n0 p0 rfl (by norm_num) (by norm_num) (by norm_num),
      even_piece (nrm m c t) (pck m c t s) (iblk m c 2 t) (iblk m c 9 t) 0 768 384 inb_S1024x1024_S256x128_0_768 _ _ _ slices_S256x512_o0_384_S256x128 n0 p0 rfl (by norm_num) (by norm_num) (by norm_num),
      odd_piece (nrm m c t) (pck m c t s) (iblk m c 2 t) (iblk m c 9 t) 0 640 256 inb_S1024x1024_S256x128_0_640 _ _ _ slices_S256x512_o0_256_S256x128 n0 p0 rfl (by norm_num) (by norm_num) (by norm_num),
      even_piece (nrm m c t) (pck m c t s) (iblk m c 2 t) (iblk m c 9 t) 0 512 256 inb_S1024x1024_S256x128_0_512 _ _ _ slices_S256x512_o0_256_S256x128 n0 p0 rfl (by norm_num) (by norm_num) (by norm_num),
      odd_piece (nrm m c t) (pck m c t s) (iblk m c 2 t) (iblk m c 9 t) 0 384 128 inb_S1024x1024_S256x128_0_384 _ _ _ slices_S256x512_o0_128_S256x128 n0 p0 rfl (by norm_num) (by norm_num) (by norm_num),
      even_piece (nrm m c t) (pck m c t s) (iblk m c 2 t) (iblk m c 9 t) 0 256 128 inb_S1024x1024_S256x128_0_256 _ _ _ slices_S256x512_o0_128_S256x128 n0 p0 rfl (by norm_num) (by norm_num) (by norm_num),
      odd_piece (nrm m c t) (pck m c t s) (iblk m c 2 t) (iblk m c 9 t) 0 128 0 inb_S1024x1024_S256x128_0_128 _ _ _ slices_S256x512_o0_0_S256x128 n0 p0 rfl (by norm_num) (by norm_num) (by norm_num),
      even_piece (nrm m c t) (pck m c t s) (iblk m c 2 t) (iblk m c 9 t) 0 0 0 inb_S1024x1024_S256x128_0_0 _ _ _ slices_S256x512_o0_0_S256x128 n0 p0 rfl (by norm_num) (by norm_num) (by norm_num), trivial⟩
  · exact View.cover_of_tiledBy _ ![256, 128] (by sl_kernel_rfl) y

set_option maxHeartbeats 8000000 in
/-- The block of packed transposed queries after a sequence's first point. -/
theorem queries_A (t : Fin cfg0.N) (h : t.val % 4 = 0) (hF : Fine (iblk m c 0 t) (iblk m c 1 t) (iblk m c 7 t) (iblk m c 8 t) none0) (y : S4x1024x256.Idx) :
    (outsAt0 m c t.val t.isLt).2.1 y = queried (nrm m c t) (pck m c t none0) (iblk m c 3 t) (iblk m c 10 t) y := by
  have n0 : ∀ (r : Fin 256) (k R : Fin 1024), (R : ℕ) = 0 + r → k0_pay5 (View.ld (iblk m c 0 t) (Rect.unit (s := S1024x1024) ![0, 0] ![256, 1024] inb_S1024x1024_S256x1024_0_0)) (iblk m c 1 t) (ix2 r k) = nrm m c t R k :=
    fun r k R hR => group_apply _ _ 0 _ r k R hR
  have n1 : ∀ (r : Fin 256) (k R : Fin 1024), (R : ℕ) = 256 + r → k0_pay5 (View.ld (iblk m c 0 t) (Rect.unit (s := S1024x1024) ![256, 0] ![256, 1024] inb_S1024x1024_S256x1024_256_0)) (iblk m c 1 t) (ix2 r k) = nrm m c t R k :=
    fun r k R hR => group_apply _ _ 256 _ r k R hR
  have n2 : ∀ (r : Fin 256) (k R : Fin 1024), (R : ℕ) = 512 + r → k0_pay5 (View.ld (iblk m c 0 t) (Rect.unit (s := S1024x1024) ![512, 0] ![256, 1024] inb_S1024x1024_S256x1024_512_0)) (iblk m c 1 t) (ix2 r k) = nrm m c t R k :=
    fun r k R hR => group_apply _ _ 512 _ r k R hR
  have n3 : ∀ (r : Fin 256) (k R : Fin 1024), (R : ℕ) = 768 + r → k0_pay5 (View.ld (iblk m c 0 t) (Rect.unit (s := S1024x1024) ![768, 0] ![256, 1024] inb_S1024x1024_S256x1024_768_0)) (iblk m c 1 t) (ix2 r k) = nrm m c t R k :=
    fun r k R hR => group_apply _ _ 768 _ r k R hR
  have p0 := packed_group _ _ _ _ _ hF 0 (by norm_num) inb_S1024x1024_S256x1024_0_0 _ (car0_apply (iblk m c 0 t) (iblk m c 1 t) (iblk m c 7 t) (iblk m c 8 t) _ hF)
  have p1 := packed_group _ _ _ _ _ hF 256 (by norm_num) inb_S1024x1024_S256x1024_256_0 _ (car1_apply (iblk m c 0 t) (iblk m c 1 t) (iblk m c 7 t) (iblk m c 8 t) _ hF)
  have p2 := packed_group _ _ _ _ _ hF 512 (by norm_num) inb_S1024x1024_S256x1024_512_0 _ (car2_apply (iblk m c 0 t) (iblk m c 1 t) (iblk m c 7 t) (iblk m c 8 t) _ hF)
  have p3 := packed_group _ _ _ _ _ hF 768 (by norm_num) inb_S1024x1024_S256x1024_768_0 _ (car3_apply (iblk m c 0 t) (iblk m c 1 t) (iblk m c 7 t) (iblk m c 8 t) _ hF)
  rw [outsAt0_A m c t h]
  frame_out
  simp only [rows2, rows3, rows4, small2, small3, small4]
  rw [lasts1, lasts2, lasts3, packed1, packed2, packed3, packed4]
  refine canon_of (queried (nrm m c t) (pck m c t none0) (iblk m c 3 t) (iblk m c 10 t)) _ ?_ y ?_
  · exact ⟨own_piece (nrm m c t) (pck m c t none0) (iblk m c 3 t) (iblk m c 10 t) 3 960 448 inb_S4x1024x256_S1x64x256_3_960_0 _ _ slices_S512x256_o448_0_S64x256 n3 rfl (by norm_num) (by norm_num) (by norm_num),
      zeros_piece (nrm m c t) (pck m c t none0) (iblk m c 3 t) (iblk m c 10 t) 3 912 7 inb_S4x1024x256_S1x48x256_3_912_0 (by norm_num) (by norm_num),
      sides_piece (nrm m c t) (pck m c t none0) (iblk m c 3 t) (iblk m c 10 t) 3 896 112 inb_S4x1024x256_S1x16x256_3_896_0 _ _ slices_S128x256_o112_0_S16x256 p3 rfl (by norm_num) (by norm_num) (by norm_num),
      zeros_piece (nrm m c t) (pck m c t none0) (iblk m c 3 t) (iblk m c 10 t) 3 848 6 inb_S4x1024x256_S1x48x256_3_848_0 (by norm_num) (by norm_num),
      sides_piece (nrm m c t) (pck m c t none0) (iblk m c 3 t) (iblk m c 10 t) 3 832 96 inb_S4x1024x256_S1x16x256_3_832_0 _ _ slices_S128x256_o96_0_S16x256 p3 rfl (by norm_num) (by norm_num) (by norm_num),
      own_piece (nrm m c t) (pck m c t none0) (iblk m c 3 t) (iblk m c 10 t) 3 768 384 inb_S4x1024x256_S1x64x256_3_768_0 _ _ slices_S512x256_o384_0_S64x256 n3 rfl (by norm_num) (by norm_num) (by norm_num),
      own_piece (nrm m c t) (pck m c t none0) (iblk m c 3 t) (iblk m c 10 t) 3 704 320 inb_S4x1024x256_S1x64x256_3_704_0 _ _ slices_S512x256_o320_0_S64x256 n3 rfl (by norm_num) (by norm_num) (by norm_num),
      zeros_piece (nrm m c t) (pck m c t none0) (iblk m c 3 t) (iblk m c 10 t) 3 656 5 inb_S4x1024x256_S1x48x256_3_656_0 (by norm_num) (by norm_num),
      sides_piece (nrm m c t) (pck m c t none0) (iblk m c 3 t) (iblk m c 10 t) 3 640 80 inb_S4x1024x256_S1x16x256_3_640_0 _ _ slices_S128x256_o80_0_S16x256 p3 rfl (by norm_num) (by norm_num) (by norm_num),
      zeros_piece (nrm m c t) (pck m c t none0) (iblk m c 3 t) (iblk m c 10 t) 3 592 4 inb_S4x1024x256_S1x48x256_3_592_0 (by norm_num) (by norm_num),
      sides_piece (nrm m c t) (pck m c t none0) (iblk m c 3 t) (iblk m c 10 t) 3 576 64 inb_S4x1024x256_S1x16x256_3_576_0 _ _ slices_S128x256_o64_0_S16x256 p3 rfl (by norm_num) (by norm_num) (by norm_num),
      own_piece (nrm m c t) (pck m c t none0) (iblk m c 3 t) (iblk m c 10 t) 3 512 256 inb_S4x1024x256_S1x64x256_3_512_0 _ _ slices_S512x256_o256_0_S64x256 n3 rfl (by norm_num) (by norm_num) (by norm_num),
      own_piece (nrm m c t) (pck m c t none0) (iblk m c 3 t) (iblk m c 10 t) 3 448 192 inb_S4x1024x256_S1x64x256_3_448_0 _ _ slices_S512x256_o192_0_S64x256 n3 rfl (by norm_num) (by norm_num) (by norm_num),
      zeros_piece (nrm m c t) (pck m c t none0) (iblk m c 3 t) (iblk m c 10 t) 3 400 3 inb_S4x1024x256_S1x48x256_3_400_0 (by norm_num) (by norm_num),
      sides_piece (nrm m c t) (pck m c t none0) (iblk m c 3 t) (iblk m c 10 t) 3 384 48 inb_S4x1024x256_S1x16x256_3_384_0 _ _ slices_S128x256_o48_0_S16x256 p3 rfl (by norm_num) (by norm_num) (by norm_num),
      zeros_piece (nrm m c t) (pck m c t none0) (iblk m c 3 t) (iblk m c 10 t) 3 336 2 inb_S4x1024x256_S1x48x256_3_336_0 (by norm_num) (by norm_num),
      sides_piece (nrm m c t) (pck m c t none0) (iblk m c 3 t) (iblk m c 10 t) 3 320 32 inb_S4x1024x256_S1x16x256_3_320_0 _ _ slices_S128x256_o32_0_S16x256 p3 rfl (by norm_num) (by norm_num) (by norm_num),
      own_piece (nrm m c t) (pck m c t none0) (iblk m c 3 t) (iblk m c 10 t) 3 256 128 inb_S4x1024x256_S1x64x256_3_256_0 _ _ slices_S512x256_o128_0_S64x256 n3 rfl (by norm_num) (by norm_num) (by norm_num),
      own_piece (nrm m c t) (pck m c t none0) (iblk m c 3 t) (iblk m c 10 t) 3 192 64 inb_S4x1024x256_S1x64x256_3_192_0 _ _ slices_S512x256_o64_0_S64x256 n3 rfl (by norm_num) (by norm_num) (by norm_num),
      zeros_piece (nrm m c t) (pck m c t none0) (iblk m c 3 t) (iblk m c 10 t) 3 144 1 inb_S4x1024x256_S1x48x256_3_144_0 (by norm_num) (by norm_num),
      sides_piece (nrm m c t) (pck m c t none0) (iblk m c 3 t) (iblk m c 10 t) 3 128 16 inb_S4x1024x256_S1x16x256_3_128_0 _ _ slices_S128x256_o16_0_S16x256 p3 rfl (by norm_num) (by norm_num) (by norm_num),
      zeros_piece (nrm m c t) (pck m c t none0) (iblk m c 3 t) (iblk m c 10 t) 3 80 0 inb_S4x1024x256_S1x48x256_3_80_0 (by norm_num) (by norm_num),
      sides_piece (nrm m c t) (pck m c t none0) (iblk m c 3 t) (iblk m c 10 t) 3 64 0 inb_S4x1024x256_S1x16x256_3_64_0 _ _ slices_S128x256_o0_0_S16x256 p3 rfl (by norm_num) (by norm_num) (by norm_num),
      own_piece (nrm m c t) (pck m c t none0) (iblk m c 3 t) (iblk m c 10 t) 3 0 0 inb_S4x1024x256_S1x64x256_3_0_0 _ _ slices_S512x256_o0_0_S64x256 n3 rfl (by norm_num) (by norm_num) (by norm_num),
      own_piece (nrm m c t) (pck m c t none0) (iblk m c 3 t) (iblk m c 10 t) 2 960 448 inb_S4x1024x256_S1x64x256_2_960_0 _ _ slices_S512x256_o448_0_S64x256 n2 rfl (by norm_num) (by norm_num) (by norm_num),
      zeros_piece (nrm m c t) (pck m c t none0) (iblk m c 3 t) (iblk m c 10 t) 2 912 7 inb_S4x1024x256_S1x48x256_2_912_0 (by norm_num) (by norm_num),
      sides_piece (nrm m c t) (pck m c t none0) (iblk m c 3 t) (iblk m c 10 t) 2 896 112 inb_S4x1024x256_S1x16x256_2_896_0 _ _ slices_S128x256_o112_0_S16x256 p2 rfl (by norm_num) (by norm_num) (by norm_num),
      zeros_piece (nrm m c t) (pck m c t none0) (iblk m c 3 t) (iblk m c 10 t) 2 848 6 inb_S4x1024x256_S1x48x256_2_848_0 (by norm_num) (by norm_num),
      sides_piece (nrm m c t) (pck m c t none0) (iblk m c 3 t) (iblk m c 10 t) 2 832 96 inb_S4x1024x256_S1x16x256_2_832_0 _ _ slices_S128x256_o96_0_S16x256 p2 rfl (by norm_num) (by norm_num) (by norm_num),
      own_piece (nrm m c t) (pck m c t none0) (iblk m c 3 t) (iblk m c 10 t) 2 768 384 inb_S4x1024x256_S1x64x256_2_768_0 _ _ slices_S512x256_o384_0_S64x256 n2 rfl (by norm_num) (by norm_num) (by norm_num),
      own_piece (nrm m c t) (pck m c t none0) (iblk m c 3 t) (iblk m c 10 t) 2 704 320 inb_S4x1024x256_S1x64x256_2_704_0 _ _ slices_S512x256_o320_0_S64x256 n2 rfl (by norm_num) (by norm_num) (by norm_num),
      zeros_piece (nrm m c t) (pck m c t none0) (iblk m c 3 t) (iblk m c 10 t) 2 656 5 inb_S4x1024x256_S1x48x256_2_656_0 (by norm_num) (by norm_num),
      sides_piece (nrm m c t) (pck m c t none0) (iblk m c 3 t) (iblk m c 10 t) 2 640 80 inb_S4x1024x256_S1x16x256_2_640_0 _ _ slices_S128x256_o80_0_S16x256 p2 rfl (by norm_num) (by norm_num) (by norm_num),
      zeros_piece (nrm m c t) (pck m c t none0) (iblk m c 3 t) (iblk m c 10 t) 2 592 4 inb_S4x1024x256_S1x48x256_2_592_0 (by norm_num) (by norm_num),
      sides_piece (nrm m c t) (pck m c t none0) (iblk m c 3 t) (iblk m c 10 t) 2 576 64 inb_S4x1024x256_S1x16x256_2_576_0 _ _ slices_S128x256_o64_0_S16x256 p2 rfl (by norm_num) (by norm_num) (by norm_num),
      own_piece (nrm m c t) (pck m c t none0) (iblk m c 3 t) (iblk m c 10 t) 2 512 256 inb_S4x1024x256_S1x64x256_2_512_0 _ _ slices_S512x256_o256_0_S64x256 n2 rfl (by norm_num) (by norm_num) (by norm_num),
      own_piece (nrm m c t) (pck m c t none0) (iblk m c 3 t) (iblk m c 10 t) 2 448 192 inb_S4x1024x256_S1x64x256_2_448_0 _ _ slices_S512x256_o192_0_S64x256 n2 rfl (by norm_num) (by norm_num) (by norm_num),
      zeros_piece (nrm m c t) (pck m c t none0) (iblk m c 3 t) (iblk m c 10 t) 2 400 3 inb_S4x1024x256_S1x48x256_2_400_0 (by norm_num) (by norm_num),
      sides_piece (nrm m c t) (pck m c t none0) (iblk m c 3 t) (iblk m c 10 t) 2 384 48 inb_S4x1024x256_S1x16x256_2_384_0 _ _ slices_S128x256_o48_0_S16x256 p2 rfl (by norm_num) (by norm_num) (by norm_num),
      zeros_piece (nrm m c t) (pck m c t none0) (iblk m c 3 t) (iblk m c 10 t) 2 336 2 inb_S4x1024x256_S1x48x256_2_336_0 (by norm_num) (by norm_num),
      sides_piece (nrm m c t) (pck m c t none0) (iblk m c 3 t) (iblk m c 10 t) 2 320 32 inb_S4x1024x256_S1x16x256_2_320_0 _ _ slices_S128x256_o32_0_S16x256 p2 rfl (by norm_num) (by norm_num) (by norm_num),
      own_piece (nrm m c t) (pck m c t none0) (iblk m c 3 t) (iblk m c 10 t) 2 256 128 inb_S4x1024x256_S1x64x256_2_256_0 _ _ slices_S512x256_o128_0_S64x256 n2 rfl (by norm_num) (by norm_num) (by norm_num),
      own_piece (nrm m c t) (pck m c t none0) (iblk m c 3 t) (iblk m c 10 t) 2 192 64 inb_S4x1024x256_S1x64x256_2_192_0 _ _ slices_S512x256_o64_0_S64x256 n2 rfl (by norm_num) (by norm_num) (by norm_num),
      zeros_piece (nrm m c t) (pck m c t none0) (iblk m c 3 t) (iblk m c 10 t) 2 144 1 inb_S4x1024x256_S1x48x256_2_144_0 (by norm_num) (by norm_num),
      sides_piece (nrm m c t) (pck m c t none0) (iblk m c 3 t) (iblk m c 10 t) 2 128 16 inb_S4x1024x256_S1x16x256_2_128_0 _ _ slices_S128x256_o16_0_S16x256 p2 rfl (by norm_num) (by norm_num) (by norm_num),
      zeros_piece (nrm m c t) (pck m c t none0) (iblk m c 3 t) (iblk m c 10 t) 2 80 0 inb_S4x1024x256_S1x48x256_2_80_0 (by norm_num) (by norm_num),
      sides_piece (nrm m c t) (pck m c t none0) (iblk m c 3 t) (iblk m c 10 t) 2 64 0 inb_S4x1024x256_S1x16x256_2_64_0 _ _ slices_S128x256_o0_0_S16x256 p2 rfl (by norm_num) (by norm_num) (by norm_num),
      own_piece (nrm m c t) (pck m c t none0) (iblk m c 3 t) (iblk m c 10 t) 2 0 0 inb_S4x1024x256_S1x64x256_2_0_0 _ _ slices_S512x256_o0_0_S64x256 n2 rfl (by norm_num) (by norm_num) (by norm_num),
      own_piece (nrm m c t) (pck m c t none0) (iblk m c 3 t) (iblk m c 10 t) 1 960 448 inb_S4x1024x256_S1x64x256_1_960_0 _ _ slices_S512x256_o448_0_S64x256 n1 rfl (by norm_num) (by norm_num) (by norm_num),
      zeros_piece (nrm m c t) (pck m c t none0) (iblk m c 3 t) (iblk m c 10 t) 1 912 7 inb_S4x1024x256_S1x48x256_1_912_0 (by norm_num) (by norm_num),
      sides_piece (nrm m c t) (pck m c t none0) (iblk m c 3 t) (iblk m c 10 t) 1 896 112 inb_S4x1024x256_S1x16x256_1_896_0 _ _ slices_S128x256_o112_0_S16x256 p1 rfl (by norm_num) (by norm_num) (by norm_num),
      zeros_piece (nrm m c t) (pck m c t none0) (iblk m c 3 t) (iblk m c 10 t) 1 848 6 inb_S4x1024x256_S1x48x256_1_848_0 (by norm_num) (by norm_num),
      sides_piece (nrm m c t) (pck m c t none0) (iblk m c 3 t) (iblk m c 10 t) 1 832 96 inb_S4x1024x256_S1x16x256_1_832_0 _ _ slices_S128x256_o96_0_S16x256 p1 rfl (by norm_num) (by norm_num) (by norm_num),
      own_piece (nrm m c t) (pck m c t none0) (iblk m c 3 t) (iblk m c 10 t) 1 768 384 inb_S4x1024x256_S1x64x256_1_768_0 _ _ slices_S512x256_o384_0_S64x256 n1 rfl (by norm_num) (by norm_num) (by norm_num),
      own_piece (nrm m c t) (pck m c t none0) (iblk m c 3 t) (iblk m c 10 t) 1 704 320 inb_S4x1024x256_S1x64x256_1_704_0 _ _ slices_S512x256_o320_0_S64x256 n1 rfl (by norm_num) (by norm_num) (by norm_num),
      zeros_piece (nrm m c t) (pck m c t none0) (iblk m c 3 t) (iblk m c 10 t) 1 656 5 inb_S4x1024x256_S1x48x256_1_656_0 (by norm_num) (by norm_num),
      sides_piece (nrm m c t) (pck m c t none0) (iblk m c 3 t) (iblk m c 10 t) 1 640 80 inb_S4x1024x256_S1x16x256_1_640_0 _ _ slices_S128x256_o80_0_S16x256 p1 rfl (by norm_num) (by norm_num) (by norm_num),
      zeros_piece (nrm m c t) (pck m c t none0) (iblk m c 3 t) (iblk m c 10 t) 1 592 4 inb_S4x1024x256_S1x48x256_1_592_0 (by norm_num) (by norm_num),
      sides_piece (nrm m c t) (pck m c t none0) (iblk m c 3 t) (iblk m c 10 t) 1 576 64 inb_S4x1024x256_S1x16x256_1_576_0 _ _ slices_S128x256_o64_0_S16x256 p1 rfl (by norm_num) (by norm_num) (by norm_num),
      own_piece (nrm m c t) (pck m c t none0) (iblk m c 3 t) (iblk m c 10 t) 1 512 256 inb_S4x1024x256_S1x64x256_1_512_0 _ _ slices_S512x256_o256_0_S64x256 n1 rfl (by norm_num) (by norm_num) (by norm_num),
      own_piece (nrm m c t) (pck m c t none0) (iblk m c 3 t) (iblk m c 10 t) 1 448 192 inb_S4x1024x256_S1x64x256_1_448_0 _ _ slices_S512x256_o192_0_S64x256 n1 rfl (by norm_num) (by norm_num) (by norm_num),
      zeros_piece (nrm m c t) (pck m c t none0) (iblk m c 3 t) (iblk m c 10 t) 1 400 3 inb_S4x1024x256_S1x48x256_1_400_0 (by norm_num) (by norm_num),
      sides_piece (nrm m c t) (pck m c t none0) (iblk m c 3 t) (iblk m c 10 t) 1 384 48 inb_S4x1024x256_S1x16x256_1_384_0 _ _ slices_S128x256_o48_0_S16x256 p1 rfl (by norm_num) (by norm_num) (by norm_num),
      zeros_piece (nrm m c t) (pck m c t none0) (iblk m c 3 t) (iblk m c 10 t) 1 336 2 inb_S4x1024x256_S1x48x256_1_336_0 (by norm_num) (by norm_num),
      sides_piece (nrm m c t) (pck m c t none0) (iblk m c 3 t) (iblk m c 10 t) 1 320 32 inb_S4x1024x256_S1x16x256_1_320_0 _ _ slices_S128x256_o32_0_S16x256 p1 rfl (by norm_num) (by norm_num) (by norm_num),
      own_piece (nrm m c t) (pck m c t none0) (iblk m c 3 t) (iblk m c 10 t) 1 256 128 inb_S4x1024x256_S1x64x256_1_256_0 _ _ slices_S512x256_o128_0_S64x256 n1 rfl (by norm_num) (by norm_num) (by norm_num),
      own_piece (nrm m c t) (pck m c t none0) (iblk m c 3 t) (iblk m c 10 t) 1 192 64 inb_S4x1024x256_S1x64x256_1_192_0 _ _ slices_S512x256_o64_0_S64x256 n1 rfl (by norm_num) (by norm_num) (by norm_num),
      zeros_piece (nrm m c t) (pck m c t none0) (iblk m c 3 t) (iblk m c 10 t) 1 144 1 inb_S4x1024x256_S1x48x256_1_144_0 (by norm_num) (by norm_num),
      sides_piece (nrm m c t) (pck m c t none0) (iblk m c 3 t) (iblk m c 10 t) 1 128 16 inb_S4x1024x256_S1x16x256_1_128_0 _ _ slices_S128x256_o16_0_S16x256 p1 rfl (by norm_num) (by norm_num) (by norm_num),
      zeros_piece (nrm m c t) (pck m c t none0) (iblk m c 3 t) (iblk m c 10 t) 1 80 0 inb_S4x1024x256_S1x48x256_1_80_0 (by norm_num) (by norm_num),
      sides_piece (nrm m c t) (pck m c t none0) (iblk m c 3 t) (iblk m c 10 t) 1 64 0 inb_S4x1024x256_S1x16x256_1_64_0 _ _ slices_S128x256_o0_0_S16x256 p1 rfl (by norm_num) (by norm_num) (by norm_num),
      own_piece (nrm m c t) (pck m c t none0) (iblk m c 3 t) (iblk m c 10 t) 1 0 0 inb_S4x1024x256_S1x64x256_1_0_0 _ _ slices_S512x256_o0_0_S64x256 n1 rfl (by norm_num) (by norm_num) (by norm_num),
      own_piece (nrm m c t) (pck m c t none0) (iblk m c 3 t) (iblk m c 10 t) 0 960 448 inb_S4x1024x256_S1x64x256_0_960_0 _ _ slices_S512x256_o448_0_S64x256 n0 rfl (by norm_num) (by norm_num) (by norm_num),
      zeros_piece (nrm m c t) (pck m c t none0) (iblk m c 3 t) (iblk m c 10 t) 0 912 7 inb_S4x1024x256_S1x48x256_0_912_0 (by norm_num) (by norm_num),
      sides_piece (nrm m c t) (pck m c t none0) (iblk m c 3 t) (iblk m c 10 t) 0 896 112 inb_S4x1024x256_S1x16x256_0_896_0 _ _ slices_S128x256_o112_0_S16x256 p0 rfl (by norm_num) (by norm_num) (by norm_num),
      zeros_piece (nrm m c t) (pck m c t none0) (iblk m c 3 t) (iblk m c 10 t) 0 848 6 inb_S4x1024x256_S1x48x256_0_848_0 (by norm_num) (by norm_num),
      sides_piece (nrm m c t) (pck m c t none0) (iblk m c 3 t) (iblk m c 10 t) 0 832 96 inb_S4x1024x256_S1x16x256_0_832_0 _ _ slices_S128x256_o96_0_S16x256 p0 rfl (by norm_num) (by norm_num) (by norm_num),
      own_piece (nrm m c t) (pck m c t none0) (iblk m c 3 t) (iblk m c 10 t) 0 768 384 inb_S4x1024x256_S1x64x256_0_768_0 _ _ slices_S512x256_o384_0_S64x256 n0 rfl (by norm_num) (by norm_num) (by norm_num),
      own_piece (nrm m c t) (pck m c t none0) (iblk m c 3 t) (iblk m c 10 t) 0 704 320 inb_S4x1024x256_S1x64x256_0_704_0 _ _ slices_S512x256_o320_0_S64x256 n0 rfl (by norm_num) (by norm_num) (by norm_num),
      zeros_piece (nrm m c t) (pck m c t none0) (iblk m c 3 t) (iblk m c 10 t) 0 656 5 inb_S4x1024x256_S1x48x256_0_656_0 (by norm_num) (by norm_num),
      sides_piece (nrm m c t) (pck m c t none0) (iblk m c 3 t) (iblk m c 10 t) 0 640 80 inb_S4x1024x256_S1x16x256_0_640_0 _ _ slices_S128x256_o80_0_S16x256 p0 rfl (by norm_num) (by norm_num) (by norm_num),
      zeros_piece (nrm m c t) (pck m c t none0) (iblk m c 3 t) (iblk m c 10 t) 0 592 4 inb_S4x1024x256_S1x48x256_0_592_0 (by norm_num) (by norm_num),
      sides_piece (nrm m c t) (pck m c t none0) (iblk m c 3 t) (iblk m c 10 t) 0 576 64 inb_S4x1024x256_S1x16x256_0_576_0 _ _ slices_S128x256_o64_0_S16x256 p0 rfl (by norm_num) (by norm_num) (by norm_num),
      own_piece (nrm m c t) (pck m c t none0) (iblk m c 3 t) (iblk m c 10 t) 0 512 256 inb_S4x1024x256_S1x64x256_0_512_0 _ _ slices_S512x256_o256_0_S64x256 n0 rfl (by norm_num) (by norm_num) (by norm_num),
      own_piece (nrm m c t) (pck m c t none0) (iblk m c 3 t) (iblk m c 10 t) 0 448 192 inb_S4x1024x256_S1x64x256_0_448_0 _ _ slices_S512x256_o192_0_S64x256 n0 rfl (by norm_num) (by norm_num) (by norm_num),
      zeros_piece (nrm m c t) (pck m c t none0) (iblk m c 3 t) (iblk m c 10 t) 0 400 3 inb_S4x1024x256_S1x48x256_0_400_0 (by norm_num) (by norm_num),
      sides_piece (nrm m c t) (pck m c t none0) (iblk m c 3 t) (iblk m c 10 t) 0 384 48 inb_S4x1024x256_S1x16x256_0_384_0 _ _ slices_S128x256_o48_0_S16x256 p0 rfl (by norm_num) (by norm_num) (by norm_num),
      zeros_piece (nrm m c t) (pck m c t none0) (iblk m c 3 t) (iblk m c 10 t) 0 336 2 inb_S4x1024x256_S1x48x256_0_336_0 (by norm_num) (by norm_num),
      sides_piece (nrm m c t) (pck m c t none0) (iblk m c 3 t) (iblk m c 10 t) 0 320 32 inb_S4x1024x256_S1x16x256_0_320_0 _ _ slices_S128x256_o32_0_S16x256 p0 rfl (by norm_num) (by norm_num) (by norm_num),
      own_piece (nrm m c t) (pck m c t none0) (iblk m c 3 t) (iblk m c 10 t) 0 256 128 inb_S4x1024x256_S1x64x256_0_256_0 _ _ slices_S512x256_o128_0_S64x256 n0 rfl (by norm_num) (by norm_num) (by norm_num),
      own_piece (nrm m c t) (pck m c t none0) (iblk m c 3 t) (iblk m c 10 t) 0 192 64 inb_S4x1024x256_S1x64x256_0_192_0 _ _ slices_S512x256_o64_0_S64x256 n0 rfl (by norm_num) (by norm_num) (by norm_num),
      zeros_piece (nrm m c t) (pck m c t none0) (iblk m c 3 t) (iblk m c 10 t) 0 144 1 inb_S4x1024x256_S1x48x256_0_144_0 (by norm_num) (by norm_num),
      sides_piece (nrm m c t) (pck m c t none0) (iblk m c 3 t) (iblk m c 10 t) 0 128 16 inb_S4x1024x256_S1x16x256_0_128_0 _ _ slices_S128x256_o16_0_S16x256 p0 rfl (by norm_num) (by norm_num) (by norm_num),
      zeros_piece (nrm m c t) (pck m c t none0) (iblk m c 3 t) (iblk m c 10 t) 0 80 0 inb_S4x1024x256_S1x48x256_0_80_0 (by norm_num) (by norm_num),
      sides_piece (nrm m c t) (pck m c t none0) (iblk m c 3 t) (iblk m c 10 t) 0 64 0 inb_S4x1024x256_S1x16x256_0_64_0 _ _ slices_S128x256_o0_0_S16x256 p0 rfl (by norm_num) (by norm_num) (by norm_num),
      own_piece (nrm m c t) (pck m c t none0) (iblk m c 3 t) (iblk m c 10 t) 0 0 0 inb_S4x1024x256_S1x64x256_0_0_0 _ _ slices_S512x256_o0_0_S64x256 n0 rfl (by norm_num) (by norm_num) (by norm_num), trivial⟩
  · exact View.cover_of_tiledBy _ ![1, 16, 256] (by sl_kernel_rfl) y

set_option maxHeartbeats 8000000 in
/-- The block of packed transposed queries after a later point. -/
theorem queries_B (t : Fin cfg0.N) (h : ¬ t.val % 4 = 0) (s : Vec Ideal S1x128 .f32)
    (hs : (outsAt0 m c (t.val - 1) (Nat.lt_of_le_of_lt (Nat.sub_le t.val 1) t.isLt)).2.2.2.2.2.2.2 = s) (hF : Fine (iblk m c 0 t) (iblk m c 1 t) (iblk m c 7 t) (iblk m c 8 t) s) (y : S4x1024x256.Idx) :
    (outsAt0 m c t.val t.isLt).2.1 y = queried (nrm m c t) (pck m c t s) (iblk m c 3 t) (iblk m c 10 t) y := by
  have n0 : ∀ (r : Fin 256) (k R : Fin 1024), (R : ℕ) = 0 + r → k0_pay5 (View.ld (iblk m c 0 t) (Rect.unit (s := S1024x1024) ![0, 0] ![256, 1024] inb_S1024x1024_S256x1024_0_0)) (iblk m c 1 t) (ix2 r k) = nrm m c t R k :=
    fun r k R hR => group_apply _ _ 0 _ r k R hR
  have n1 : ∀ (r : Fin 256) (k R : Fin 1024), (R : ℕ) = 256 + r → k0_pay5 (View.ld (iblk m c 0 t) (Rect.unit (s := S1024x1024) ![256, 0] ![256, 1024] inb_S1024x1024_S256x1024_256_0)) (iblk m c 1 t) (ix2 r k) = nrm m c t R k :=
    fun r k R hR => group_apply _ _ 256 _ r k R hR
  have n2 : ∀ (r : Fin 256) (k R : Fin 1024), (R : ℕ) = 512 + r → k0_pay5 (View.ld (iblk m c 0 t) (Rect.unit (s := S1024x1024) ![512, 0] ![256, 1024] inb_S1024x1024_S256x1024_512_0)) (iblk m c 1 t) (ix2 r k) = nrm m c t R k :=
    fun r k R hR => group_apply _ _ 512 _ r k R hR
  have n3 : ∀ (r : Fin 256) (k R : Fin 1024), (R : ℕ) = 768 + r → k0_pay5 (View.ld (iblk m c 0 t) (Rect.unit (s := S1024x1024) ![768, 0] ![256, 1024] inb_S1024x1024_S256x1024_768_0)) (iblk m c 1 t) (ix2 r k) = nrm m c t R k :=
    fun r k R hR => group_apply _ _ 768 _ r k R hR
  have p0 := packed_group _ _ _ _ _ hF 0 (by norm_num) inb_S1024x1024_S256x1024_0_0 _ (car0_apply (iblk m c 0 t) (iblk m c 1 t) (iblk m c 7 t) (iblk m c 8 t) _ hF)
  have p1 := packed_group _ _ _ _ _ hF 256 (by norm_num) inb_S1024x1024_S256x1024_256_0 _ (car1_apply (iblk m c 0 t) (iblk m c 1 t) (iblk m c 7 t) (iblk m c 8 t) _ hF)
  have p2 := packed_group _ _ _ _ _ hF 512 (by norm_num) inb_S1024x1024_S256x1024_512_0 _ (car2_apply (iblk m c 0 t) (iblk m c 1 t) (iblk m c 7 t) (iblk m c 8 t) _ hF)
  have p3 := packed_group _ _ _ _ _ hF 768 (by norm_num) inb_S1024x1024_S256x1024_768_0 _ (car3_apply (iblk m c 0 t) (iblk m c 1 t) (iblk m c 7 t) (iblk m c 8 t) _ hF)
  rw [outsAt0_B m c t h]
  frame_out
  simp only [read_unread_whole, hs]
  simp only [rows2, rows3, rows4, small2, small3, small4]
  rw [lasts1, lasts2, lasts3, packed1, packed2, packed3, packed4]
  refine canon_of (queried (nrm m c t) (pck m c t s) (iblk m c 3 t) (iblk m c 10 t)) _ ?_ y ?_
  · exact ⟨own_piece (nrm m c t) (pck m c t s) (iblk m c 3 t) (iblk m c 10 t) 3 960 448 inb_S4x1024x256_S1x64x256_3_960_0 _ _ slices_S512x256_o448_0_S64x256 n3 rfl (by norm_num) (by norm_num) (by norm_num),
      zeros_piece (nrm m c t) (pck m c t s) (iblk m c 3 t) (iblk m c 10 t) 3 912 7 inb_S4x1024x256_S1x48x256_3_912_0 (by norm_num) (by norm_num),
      sides_piece (nrm m c t) (pck m c t s) (iblk m c 3 t) (iblk m c 10 t) 3 896 112 inb_S4x1024x256_S1x16x256_3_896_0 _ _ slices_S128x256_o112_0_S16x256 p3 rfl (by norm_num) (by norm_num) (by norm_num),
      zeros_piece (nrm m c t) (pck m c t s) (iblk m c 3 t) (iblk m c 10 t) 3 848 6 inb_S4x1024x256_S1x48x256_3_848_0 (by norm_num) (by norm_num),
      sides_piece (nrm m c t) (pck m c t s) (iblk m c 3 t) (iblk m c 10 t) 3 832 96 inb_S4x1024x256_S1x16x256_3_832_0 _ _ slices_S128x256_o96_0_S16x256 p3 rfl (by norm_num) (by norm_num) (by norm_num),
      own_piece (nrm m c t) (pck m c t s) (iblk m c 3 t) (iblk m c 10 t) 3 768 384 inb_S4x1024x256_S1x64x256_3_768_0 _ _ slices_S512x256_o384_0_S64x256 n3 rfl (by norm_num) (by norm_num) (by norm_num),
      own_piece (nrm m c t) (pck m c t s) (iblk m c 3 t) (iblk m c 10 t) 3 704 320 inb_S4x1024x256_S1x64x256_3_704_0 _ _ slices_S512x256_o320_0_S64x256 n3 rfl (by norm_num) (by norm_num) (by norm_num),
      zeros_piece (nrm m c t) (pck m c t s) (iblk m c 3 t) (iblk m c 10 t) 3 656 5 inb_S4x1024x256_S1x48x256_3_656_0 (by norm_num) (by norm_num),
      sides_piece (nrm m c t) (pck m c t s) (iblk m c 3 t) (iblk m c 10 t) 3 640 80 inb_S4x1024x256_S1x16x256_3_640_0 _ _ slices_S128x256_o80_0_S16x256 p3 rfl (by norm_num) (by norm_num) (by norm_num),
      zeros_piece (nrm m c t) (pck m c t s) (iblk m c 3 t) (iblk m c 10 t) 3 592 4 inb_S4x1024x256_S1x48x256_3_592_0 (by norm_num) (by norm_num),
      sides_piece (nrm m c t) (pck m c t s) (iblk m c 3 t) (iblk m c 10 t) 3 576 64 inb_S4x1024x256_S1x16x256_3_576_0 _ _ slices_S128x256_o64_0_S16x256 p3 rfl (by norm_num) (by norm_num) (by norm_num),
      own_piece (nrm m c t) (pck m c t s) (iblk m c 3 t) (iblk m c 10 t) 3 512 256 inb_S4x1024x256_S1x64x256_3_512_0 _ _ slices_S512x256_o256_0_S64x256 n3 rfl (by norm_num) (by norm_num) (by norm_num),
      own_piece (nrm m c t) (pck m c t s) (iblk m c 3 t) (iblk m c 10 t) 3 448 192 inb_S4x1024x256_S1x64x256_3_448_0 _ _ slices_S512x256_o192_0_S64x256 n3 rfl (by norm_num) (by norm_num) (by norm_num),
      zeros_piece (nrm m c t) (pck m c t s) (iblk m c 3 t) (iblk m c 10 t) 3 400 3 inb_S4x1024x256_S1x48x256_3_400_0 (by norm_num) (by norm_num),
      sides_piece (nrm m c t) (pck m c t s) (iblk m c 3 t) (iblk m c 10 t) 3 384 48 inb_S4x1024x256_S1x16x256_3_384_0 _ _ slices_S128x256_o48_0_S16x256 p3 rfl (by norm_num) (by norm_num) (by norm_num),
      zeros_piece (nrm m c t) (pck m c t s) (iblk m c 3 t) (iblk m c 10 t) 3 336 2 inb_S4x1024x256_S1x48x256_3_336_0 (by norm_num) (by norm_num),
      sides_piece (nrm m c t) (pck m c t s) (iblk m c 3 t) (iblk m c 10 t) 3 320 32 inb_S4x1024x256_S1x16x256_3_320_0 _ _ slices_S128x256_o32_0_S16x256 p3 rfl (by norm_num) (by norm_num) (by norm_num),
      own_piece (nrm m c t) (pck m c t s) (iblk m c 3 t) (iblk m c 10 t) 3 256 128 inb_S4x1024x256_S1x64x256_3_256_0 _ _ slices_S512x256_o128_0_S64x256 n3 rfl (by norm_num) (by norm_num) (by norm_num),
      own_piece (nrm m c t) (pck m c t s) (iblk m c 3 t) (iblk m c 10 t) 3 192 64 inb_S4x1024x256_S1x64x256_3_192_0 _ _ slices_S512x256_o64_0_S64x256 n3 rfl (by norm_num) (by norm_num) (by norm_num),
      zeros_piece (nrm m c t) (pck m c t s) (iblk m c 3 t) (iblk m c 10 t) 3 144 1 inb_S4x1024x256_S1x48x256_3_144_0 (by norm_num) (by norm_num),
      sides_piece (nrm m c t) (pck m c t s) (iblk m c 3 t) (iblk m c 10 t) 3 128 16 inb_S4x1024x256_S1x16x256_3_128_0 _ _ slices_S128x256_o16_0_S16x256 p3 rfl (by norm_num) (by norm_num) (by norm_num),
      zeros_piece (nrm m c t) (pck m c t s) (iblk m c 3 t) (iblk m c 10 t) 3 80 0 inb_S4x1024x256_S1x48x256_3_80_0 (by norm_num) (by norm_num),
      sides_piece (nrm m c t) (pck m c t s) (iblk m c 3 t) (iblk m c 10 t) 3 64 0 inb_S4x1024x256_S1x16x256_3_64_0 _ _ slices_S128x256_o0_0_S16x256 p3 rfl (by norm_num) (by norm_num) (by norm_num),
      own_piece (nrm m c t) (pck m c t s) (iblk m c 3 t) (iblk m c 10 t) 3 0 0 inb_S4x1024x256_S1x64x256_3_0_0 _ _ slices_S512x256_o0_0_S64x256 n3 rfl (by norm_num) (by norm_num) (by norm_num),
      own_piece (nrm m c t) (pck m c t s) (iblk m c 3 t) (iblk m c 10 t) 2 960 448 inb_S4x1024x256_S1x64x256_2_960_0 _ _ slices_S512x256_o448_0_S64x256 n2 rfl (by norm_num) (by norm_num) (by norm_num),
      zeros_piece (nrm m c t) (pck m c t s) (iblk m c 3 t) (iblk m c 10 t) 2 912 7 inb_S4x1024x256_S1x48x256_2_912_0 (by norm_num) (by norm_num),
      sides_piece (nrm m c t) (pck m c t s) (iblk m c 3 t) (iblk m c 10 t) 2 896 112 inb_S4x1024x256_S1x16x256_2_896_0 _ _ slices_S128x256_o112_0_S16x256 p2 rfl (by norm_num) (by norm_num) (by norm_num),
      zeros_piece (nrm m c t) (pck m c t s) (iblk m c 3 t) (iblk m c 10 t) 2 848 6 inb_S4x1024x256_S1x48x256_2_848_0 (by norm_num) (by norm_num),
      sides_piece (nrm m c t) (pck m c t s) (iblk m c 3 t) (iblk m c 10 t) 2 832 96 inb_S4x1024x256_S1x16x256_2_832_0 _ _ slices_S128x256_o96_0_S16x256 p2 rfl (by norm_num) (by norm_num) (by norm_num),
      own_piece (nrm m c t) (pck m c t s) (iblk m c 3 t) (iblk m c 10 t) 2 768 384 inb_S4x1024x256_S1x64x256_2_768_0 _ _ slices_S512x256_o384_0_S64x256 n2 rfl (by norm_num) (by norm_num) (by norm_num),
      own_piece (nrm m c t) (pck m c t s) (iblk m c 3 t) (iblk m c 10 t) 2 704 320 inb_S4x1024x256_S1x64x256_2_704_0 _ _ slices_S512x256_o320_0_S64x256 n2 rfl (by norm_num) (by norm_num) (by norm_num),
      zeros_piece (nrm m c t) (pck m c t s) (iblk m c 3 t) (iblk m c 10 t) 2 656 5 inb_S4x1024x256_S1x48x256_2_656_0 (by norm_num) (by norm_num),
      sides_piece (nrm m c t) (pck m c t s) (iblk m c 3 t) (iblk m c 10 t) 2 640 80 inb_S4x1024x256_S1x16x256_2_640_0 _ _ slices_S128x256_o80_0_S16x256 p2 rfl (by norm_num) (by norm_num) (by norm_num),
      zeros_piece (nrm m c t) (pck m c t s) (iblk m c 3 t) (iblk m c 10 t) 2 592 4 inb_S4x1024x256_S1x48x256_2_592_0 (by norm_num) (by norm_num),
      sides_piece (nrm m c t) (pck m c t s) (iblk m c 3 t) (iblk m c 10 t) 2 576 64 inb_S4x1024x256_S1x16x256_2_576_0 _ _ slices_S128x256_o64_0_S16x256 p2 rfl (by norm_num) (by norm_num) (by norm_num),
      own_piece (nrm m c t) (pck m c t s) (iblk m c 3 t) (iblk m c 10 t) 2 512 256 inb_S4x1024x256_S1x64x256_2_512_0 _ _ slices_S512x256_o256_0_S64x256 n2 rfl (by norm_num) (by norm_num) (by norm_num),
      own_piece (nrm m c t) (pck m c t s) (iblk m c 3 t) (iblk m c 10 t) 2 448 192 inb_S4x1024x256_S1x64x256_2_448_0 _ _ slices_S512x256_o192_0_S64x256 n2 rfl (by norm_num) (by norm_num) (by norm_num),
      zeros_piece (nrm m c t) (pck m c t s) (iblk m c 3 t) (iblk m c 10 t) 2 400 3 inb_S4x1024x256_S1x48x256_2_400_0 (by norm_num) (by norm_num),
      sides_piece (nrm m c t) (pck m c t s) (iblk m c 3 t) (iblk m c 10 t) 2 384 48 inb_S4x1024x256_S1x16x256_2_384_0 _ _ slices_S128x256_o48_0_S16x256 p2 rfl (by norm_num) (by norm_num) (by norm_num),
      zeros_piece (nrm m c t) (pck m c t s) (iblk m c 3 t) (iblk m c 10 t) 2 336 2 inb_S4x1024x256_S1x48x256_2_336_0 (by norm_num) (by norm_num),
      sides_piece (nrm m c t) (pck m c t s) (iblk m c 3 t) (iblk m c 10 t) 2 320 32 inb_S4x1024x256_S1x16x256_2_320_0 _ _ slices_S128x256_o32_0_S16x256 p2 rfl (by norm_num) (by norm_num) (by norm_num),
      own_piece (nrm m c t) (pck m c t s) (iblk m c 3 t) (iblk m c 10 t) 2 256 128 inb_S4x1024x256_S1x64x256_2_256_0 _ _ slices_S512x256_o128_0_S64x256 n2 rfl (by norm_num) (by norm_num) (by norm_num),
      own_piece (nrm m c t) (pck m c t s) (iblk m c 3 t) (iblk m c 10 t) 2 192 64 inb_S4x1024x256_S1x64x256_2_192_0 _ _ slices_S512x256_o64_0_S64x256 n2 rfl (by norm_num) (by norm_num) (by norm_num),
      zeros_piece (nrm m c t) (pck m c t s) (iblk m c 3 t) (iblk m c 10 t) 2 144 1 inb_S4x1024x256_S1x48x256_2_144_0 (by norm_num) (by norm_num),
      sides_piece (nrm m c t) (pck m c t s) (iblk m c 3 t) (iblk m c 10 t) 2 128 16 inb_S4x1024x256_S1x16x256_2_128_0 _ _ slices_S128x256_o16_0_S16x256 p2 rfl (by norm_num) (by norm_num) (by norm_num),
      zeros_piece (nrm m c t) (pck m c t s) (iblk m c 3 t) (iblk m c 10 t) 2 80 0 inb_S4x1024x256_S1x48x256_2_80_0 (by norm_num) (by norm_num),
      sides_piece (nrm m c t) (pck m c t s) (iblk m c 3 t) (iblk m c 10 t) 2 64 0 inb_S4x1024x256_S1x16x256_2_64_0 _ _ slices_S128x256_o0_0_S16x256 p2 rfl (by norm_num) (by norm_num) (by norm_num),
      own_piece (nrm m c t) (pck m c t s) (iblk m c 3 t) (iblk m c 10 t) 2 0 0 inb_S4x1024x256_S1x64x256_2_0_0 _ _ slices_S512x256_o0_0_S64x256 n2 rfl (by norm_num) (by norm_num) (by norm_num),
      own_piece (nrm m c t) (pck m c t s) (iblk m c 3 t) (iblk m c 10 t) 1 960 448 inb_S4x1024x256_S1x64x256_1_960_0 _ _ slices_S512x256_o448_0_S64x256 n1 rfl (by norm_num) (by norm_num) (by norm_num),
      zeros_piece (nrm m c t) (pck m c t s) (iblk m c 3 t) (iblk m c 10 t) 1 912 7 inb_S4x1024x256_S1x48x256_1_912_0 (by norm_num) (by norm_num),
      sides_piece (nrm m c t) (pck m c t s) (iblk m c 3 t) (iblk m c 10 t) 1 896 112 inb_S4x1024x256_S1x16x256_1_896_0 _ _ slices_S128x256_o112_0_S16x256 p1 rfl (by norm_num) (by norm_num) (by norm_num),
      zeros_piece (nrm m c t) (pck m c t s) (iblk m c 3 t) (iblk m c 10 t) 1 848 6 inb_S4x1024x256_S1x48x256_1_848_0 (by norm_num) (by norm_num),
      sides_piece (nrm m c t) (pck m c t s) (iblk m c 3 t) (iblk m c 10 t) 1 832 96 inb_S4x1024x256_S1x16x256_1_832_0 _ _ slices_S128x256_o96_0_S16x256 p1 rfl (by norm_num) (by norm_num) (by norm_num),
      own_piece (nrm m c t) (pck m c t s) (iblk m c 3 t) (iblk m c 10 t) 1 768 384 inb_S4x1024x256_S1x64x256_1_768_0 _ _ slices_S512x256_o384_0_S64x256 n1 rfl (by norm_num) (by norm_num) (by norm_num),
      own_piece (nrm m c t) (pck m c t s) (iblk m c 3 t) (iblk m c 10 t) 1 704 320 inb_S4x1024x256_S1x64x256_1_704_0 _ _ slices_S512x256_o320_0_S64x256 n1 rfl (by norm_num) (by norm_num) (by norm_num),
      zeros_piece (nrm m c t) (pck m c t s) (iblk m c 3 t) (iblk m c 10 t) 1 656 5 inb_S4x1024x256_S1x48x256_1_656_0 (by norm_num) (by norm_num),
      sides_piece (nrm m c t) (pck m c t s) (iblk m c 3 t) (iblk m c 10 t) 1 640 80 inb_S4x1024x256_S1x16x256_1_640_0 _ _ slices_S128x256_o80_0_S16x256 p1 rfl (by norm_num) (by norm_num) (by norm_num),
      zeros_piece (nrm m c t) (pck m c t s) (iblk m c 3 t) (iblk m c 10 t) 1 592 4 inb_S4x1024x256_S1x48x256_1_592_0 (by norm_num) (by norm_num),
      sides_piece (nrm m c t) (pck m c t s) (iblk m c 3 t) (iblk m c 10 t) 1 576 64 inb_S4x1024x256_S1x16x256_1_576_0 _ _ slices_S128x256_o64_0_S16x256 p1 rfl (by norm_num) (by norm_num) (by norm_num),
      own_piece (nrm m c t) (pck m c t s) (iblk m c 3 t) (iblk m c 10 t) 1 512 256 inb_S4x1024x256_S1x64x256_1_512_0 _ _ slices_S512x256_o256_0_S64x256 n1 rfl (by norm_num) (by norm_num) (by norm_num),
      own_piece (nrm m c t) (pck m c t s) (iblk m c 3 t) (iblk m c 10 t) 1 448 192 inb_S4x1024x256_S1x64x256_1_448_0 _ _ slices_S512x256_o192_0_S64x256 n1 rfl (by norm_num) (by norm_num) (by norm_num),
      zeros_piece (nrm m c t) (pck m c t s) (iblk m c 3 t) (iblk m c 10 t) 1 400 3 inb_S4x1024x256_S1x48x256_1_400_0 (by norm_num) (by norm_num),
      sides_piece (nrm m c t) (pck m c t s) (iblk m c 3 t) (iblk m c 10 t) 1 384 48 inb_S4x1024x256_S1x16x256_1_384_0 _ _ slices_S128x256_o48_0_S16x256 p1 rfl (by norm_num) (by norm_num) (by norm_num),
      zeros_piece (nrm m c t) (pck m c t s) (iblk m c 3 t) (iblk m c 10 t) 1 336 2 inb_S4x1024x256_S1x48x256_1_336_0 (by norm_num) (by norm_num),
      sides_piece (nrm m c t) (pck m c t s) (iblk m c 3 t) (iblk m c 10 t) 1 320 32 inb_S4x1024x256_S1x16x256_1_320_0 _ _ slices_S128x256_o32_0_S16x256 p1 rfl (by norm_num) (by norm_num) (by norm_num),
      own_piece (nrm m c t) (pck m c t s) (iblk m c 3 t) (iblk m c 10 t) 1 256 128 inb_S4x1024x256_S1x64x256_1_256_0 _ _ slices_S512x256_o128_0_S64x256 n1 rfl (by norm_num) (by norm_num) (by norm_num),
      own_piece (nrm m c t) (pck m c t s) (iblk m c 3 t) (iblk m c 10 t) 1 192 64 inb_S4x1024x256_S1x64x256_1_192_0 _ _ slices_S512x256_o64_0_S64x256 n1 rfl (by norm_num) (by norm_num) (by norm_num),
      zeros_piece (nrm m c t) (pck m c t s) (iblk m c 3 t) (iblk m c 10 t) 1 144 1 inb_S4x1024x256_S1x48x256_1_144_0 (by norm_num) (by norm_num),
      sides_piece (nrm m c t) (pck m c t s) (iblk m c 3 t) (iblk m c 10 t) 1 128 16 inb_S4x1024x256_S1x16x256_1_128_0 _ _ slices_S128x256_o16_0_S16x256 p1 rfl (by norm_num) (by norm_num) (by norm_num),
      zeros_piece (nrm m c t) (pck m c t s) (iblk m c 3 t) (iblk m c 10 t) 1 80 0 inb_S4x1024x256_S1x48x256_1_80_0 (by norm_num) (by norm_num),
      sides_piece (nrm m c t) (pck m c t s) (iblk m c 3 t) (iblk m c 10 t) 1 64 0 inb_S4x1024x256_S1x16x256_1_64_0 _ _ slices_S128x256_o0_0_S16x256 p1 rfl (by norm_num) (by norm_num) (by norm_num),
      own_piece (nrm m c t) (pck m c t s) (iblk m c 3 t) (iblk m c 10 t) 1 0 0 inb_S4x1024x256_S1x64x256_1_0_0 _ _ slices_S512x256_o0_0_S64x256 n1 rfl (by norm_num) (by norm_num) (by norm_num),
      own_piece (nrm m c t) (pck m c t s) (iblk m c 3 t) (iblk m c 10 t) 0 960 448 inb_S4x1024x256_S1x64x256_0_960_0 _ _ slices_S512x256_o448_0_S64x256 n0 rfl (by norm_num) (by norm_num) (by norm_num),
      zeros_piece (nrm m c t) (pck m c t s) (iblk m c 3 t) (iblk m c 10 t) 0 912 7 inb_S4x1024x256_S1x48x256_0_912_0 (by norm_num) (by norm_num),
      sides_piece (nrm m c t) (pck m c t s) (iblk m c 3 t) (iblk m c 10 t) 0 896 112 inb_S4x1024x256_S1x16x256_0_896_0 _ _ slices_S128x256_o112_0_S16x256 p0 rfl (by norm_num) (by norm_num) (by norm_num),
      zeros_piece (nrm m c t) (pck m c t s) (iblk m c 3 t) (iblk m c 10 t) 0 848 6 inb_S4x1024x256_S1x48x256_0_848_0 (by norm_num) (by norm_num),
      sides_piece (nrm m c t) (pck m c t s) (iblk m c 3 t) (iblk m c 10 t) 0 832 96 inb_S4x1024x256_S1x16x256_0_832_0 _ _ slices_S128x256_o96_0_S16x256 p0 rfl (by norm_num) (by norm_num) (by norm_num),
      own_piece (nrm m c t) (pck m c t s) (iblk m c 3 t) (iblk m c 10 t) 0 768 384 inb_S4x1024x256_S1x64x256_0_768_0 _ _ slices_S512x256_o384_0_S64x256 n0 rfl (by norm_num) (by norm_num) (by norm_num),
      own_piece (nrm m c t) (pck m c t s) (iblk m c 3 t) (iblk m c 10 t) 0 704 320 inb_S4x1024x256_S1x64x256_0_704_0 _ _ slices_S512x256_o320_0_S64x256 n0 rfl (by norm_num) (by norm_num) (by norm_num),
      zeros_piece (nrm m c t) (pck m c t s) (iblk m c 3 t) (iblk m c 10 t) 0 656 5 inb_S4x1024x256_S1x48x256_0_656_0 (by norm_num) (by norm_num),
      sides_piece (nrm m c t) (pck m c t s) (iblk m c 3 t) (iblk m c 10 t) 0 640 80 inb_S4x1024x256_S1x16x256_0_640_0 _ _ slices_S128x256_o80_0_S16x256 p0 rfl (by norm_num) (by norm_num) (by norm_num),
      zeros_piece (nrm m c t) (pck m c t s) (iblk m c 3 t) (iblk m c 10 t) 0 592 4 inb_S4x1024x256_S1x48x256_0_592_0 (by norm_num) (by norm_num),
      sides_piece (nrm m c t) (pck m c t s) (iblk m c 3 t) (iblk m c 10 t) 0 576 64 inb_S4x1024x256_S1x16x256_0_576_0 _ _ slices_S128x256_o64_0_S16x256 p0 rfl (by norm_num) (by norm_num) (by norm_num),
      own_piece (nrm m c t) (pck m c t s) (iblk m c 3 t) (iblk m c 10 t) 0 512 256 inb_S4x1024x256_S1x64x256_0_512_0 _ _ slices_S512x256_o256_0_S64x256 n0 rfl (by norm_num) (by norm_num) (by norm_num),
      own_piece (nrm m c t) (pck m c t s) (iblk m c 3 t) (iblk m c 10 t) 0 448 192 inb_S4x1024x256_S1x64x256_0_448_0 _ _ slices_S512x256_o192_0_S64x256 n0 rfl (by norm_num) (by norm_num) (by norm_num),
      zeros_piece (nrm m c t) (pck m c t s) (iblk m c 3 t) (iblk m c 10 t) 0 400 3 inb_S4x1024x256_S1x48x256_0_400_0 (by norm_num) (by norm_num),
      sides_piece (nrm m c t) (pck m c t s) (iblk m c 3 t) (iblk m c 10 t) 0 384 48 inb_S4x1024x256_S1x16x256_0_384_0 _ _ slices_S128x256_o48_0_S16x256 p0 rfl (by norm_num) (by norm_num) (by norm_num),
      zeros_piece (nrm m c t) (pck m c t s) (iblk m c 3 t) (iblk m c 10 t) 0 336 2 inb_S4x1024x256_S1x48x256_0_336_0 (by norm_num) (by norm_num),
      sides_piece (nrm m c t) (pck m c t s) (iblk m c 3 t) (iblk m c 10 t) 0 320 32 inb_S4x1024x256_S1x16x256_0_320_0 _ _ slices_S128x256_o32_0_S16x256 p0 rfl (by norm_num) (by norm_num) (by norm_num),
      own_piece (nrm m c t) (pck m c t s) (iblk m c 3 t) (iblk m c 10 t) 0 256 128 inb_S4x1024x256_S1x64x256_0_256_0 _ _ slices_S512x256_o128_0_S64x256 n0 rfl (by norm_num) (by norm_num) (by norm_num),
      own_piece (nrm m c t) (pck m c t s) (iblk m c 3 t) (iblk m c 10 t) 0 192 64 inb_S4x1024x256_S1x64x256_0_192_0 _ _ slices_S512x256_o64_0_S64x256 n0 rfl (by norm_num) (by norm_num) (by norm_num),
      zeros_piece (nrm m c t) (pck m c t s) (iblk m c 3 t) (iblk m c 10 t) 0 144 1 inb_S4x1024x256_S1x48x256_0_144_0 (by norm_num) (by norm_num),
      sides_piece (nrm m c t) (pck m c t s) (iblk m c 3 t) (iblk m c 10 t) 0 128 16 inb_S4x1024x256_S1x16x256_0_128_0 _ _ slices_S128x256_o16_0_S16x256 p0 rfl (by norm_num) (by norm_num) (by norm_num),
      zeros_piece (nrm m c t) (pck m c t s) (iblk m c 3 t) (iblk m c 10 t) 0 80 0 inb_S4x1024x256_S1x48x256_0_80_0 (by norm_num) (by norm_num),
      sides_piece (nrm m c t) (pck m c t s) (iblk m c 3 t) (iblk m c 10 t) 0 64 0 inb_S4x1024x256_S1x16x256_0_64_0 _ _ slices_S128x256_o0_0_S16x256 p0 rfl (by norm_num) (by norm_num) (by norm_num),
      own_piece (nrm m c t) (pck m c t s) (iblk m c 3 t) (iblk m c 10 t) 0 0 0 inb_S4x1024x256_S1x64x256_0_0_0 _ _ slices_S512x256_o0_0_S64x256 n0 rfl (by norm_num) (by norm_num) (by norm_num), trivial⟩
  · exact View.cover_of_tiledBy _ ![1, 16, 256] (by sl_kernel_rfl) y

end Cert.Kernel6Ideal.In

end
-- ==== Proof.InFinal.lean ====
/-
  Five of the input projection's seven result arrays as functions of the prepared arrays.
-/
module

public import proofs.«01_k».proof.Proof.InStack
public import proofs.«01_k».proof.Proof.Gen.Kernel6Ideal.Value

@[expose] public section

set_option maxRecDepth 16384

noncomputable section

namespace Cert.Kernel6Ideal.In

open Cert.Proof
open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The normed row `R` of the prepared activations. -/
def row (R : Fin 32768) : Fin 1024 → EReal :=
  Rows.rms Rows.width (fun k => V m c main_v0 (ix2 R k)) (fun k => V m c main_v27 (ix2 0 k))

/-- The stacked values of token block `b` at row `r` and token `j`, of normed rows `h` and weights `w`: per head 64
    values, a one and 15 zeros. -/
def stackAt (h : Fin 32768 → Fin 1024 → EReal) (w : Fin 512 → Fin 1024 → EReal) (b : Fin 128) (r : Fin 640) (j : Fin 256) : EReal :=
  if hr : (r : ℕ) % 80 < 64 then
    ∑ k, w ⟨64 * ((r : ℕ) / 80) + (r : ℕ) % 80, by omega⟩ k * h ⟨256 * (b : ℕ) + (j : ℕ), by omega⟩ k
  else if (r : ℕ) % 80 = 64 then 1 else 0

/-- The stacked values' array. -/
def stackOut : Buf (Elt Ideal) ((c : Thread nD τ).loc main_v30_2) := fun i : S128x640x256.Idx =>
  stackAt (row m c) (fun k l => V m c main_v11 (ix2 k l)) (i 0) (i 1) (i 2)

/-- The queries' and keys' array. -/
def firstOut : Buf (Elt Ideal) ((c : Thread nD τ).loc main_v30_3) := fun i : S32768x512.Idx =>
  Rows.rowMul (row m c (i 0)) (fun k l => V m c main_v13 (ix2 k l)) (low (i 1))

/-- The values' array. -/
def secondOut : Buf (Elt Ideal) ((c : Thread nD τ).loc main_v30_4) := fun i : S32768x512.Idx =>
  Rows.rowMul (row m c (i 0)) (fun k l => V m c main_v13 (ix2 k l)) (high (i 1))

/-- The log decays' array. -/
def decayOut : Buf (Elt Ideal) ((c : Thread nD τ).loc main_v30_5) := fun i : S32768x256.Idx =>
  Ideal.div (logSig (gateIn (Rows.rowMul (row m c (i 0)) (fun k l => V m c main_v20 (ix2 k l))) (fun k => V m c main_v25 (ix2 k (i 1)))
    (V m c main_v29 (ix2 0 (i 1))))) (Ideal.ofBits .f32 0x41800000#32)

/-- The gates' array. -/
def swishOut : Buf (Elt Ideal) ((c : Thread nD τ).loc main_v30_6) := fun i : S32768x512.Idx =>
  Rows.rowMul (row m c (i 0)) (fun k l => V m c main_v15 (ix2 k l)) (i 1)
    * Ideal.logistic (Rows.rowMul (row m c (i 0)) (fun k l => V m c main_v15 (ix2 k l)) (i 1))

/-- Where each window's block stands at a point. -/
theorem idx : ∀ t : Fin cfg0.N, win0_0.index t = ![t.val, 0] ∧ win0_1.index t = ![0, 0] ∧ win0_4.index t = ![0, 0]
    ∧ win0_5.index t = ![0, 0] ∧ win0_6.index t = ![0, 0] ∧ win0_7.index t = ![0, 0] ∧ win0_11.index t = ![0, 0] ∧ win0_12.index t = ![0, 0]
    ∧ win0_15.index t = ![t.val, 0, 0] ∧ win0_16.index t = ![t.val, 0] ∧ win0_17.index t = ![t.val, 0]
    ∧ win0_18.index t = ![t.val, 0] ∧ win0_19.index t = ![t.val, 0] :=
  (by decide +kernel : ∀ t : Fin grid0.N, _)

/-- A block's normed row is the arrays'. -/
theorem norm_blk (t : Fin cfg0.N) (r : Fin 1024) (R : Fin 32768) (hR : (R : ℕ) = 1024 * t.val + r) :
    norm (iblk m c 0 t) (iblk m c 1 t) r = row m c R := by
  unfold norm row
  have e0 : ∀ k : Fin 1024, iblk m c 0 t (ix2 r k) = V m c main_v0 (ix2 R k) := fun k => by
    blk_ext [iblk, idx t]
  have e1 : ∀ k : Fin 1024, iblk m c 1 t (ix2 0 k) = V m c main_v27 (ix2 0 k) := fun k => by blk_ext [iblk, idx t]
  rw [funext e0, funext e1]

/-- A block's weights are the arrays'. -/
theorem blk4 (t : Fin cfg0.N) (k : Fin 512) (l : Fin 1024) : iblk m c 4 t (ix2 k l) = V m c main_v11 (ix2 k l) := by
  blk_ext [iblk, idx t]

/-- A block's weights are the arrays'. -/
theorem blk5 (t : Fin cfg0.N) (k : Fin 1024) (l : Fin 1024) : iblk m c 5 t (ix2 k l) = V m c main_v13 (ix2 k l) := by
  blk_ext [iblk, idx t]

/-- A block's weights are the arrays'. -/
theorem blk6 (t : Fin cfg0.N) (k : Fin 1024) (l : Fin 512) : iblk m c 6 t (ix2 k l) = V m c main_v15 (ix2 k l) := by
  blk_ext [iblk, idx t]

/-- A block's weights are the arrays'. -/
theorem blk7 (t : Fin cfg0.N) (k : Fin 1024) (l : Fin 128) : iblk m c 7 t (ix2 k l) = V m c main_v20 (ix2 k l) := by
  blk_ext [iblk, idx t]

/-- A block's weights are the arrays'. -/
theorem blk11 (t : Fin cfg0.N) (k : Fin 128) (l : Fin 256) : iblk m c 11 t (ix2 k l) = V m c main_v25 (ix2 k l) := by
  blk_ext [iblk, idx t]

/-- A block's biases are the arrays'. -/
theorem blk12 (t : Fin cfg0.N) (l : Fin 256) : iblk m c 12 t (ix2 0 l) = V m c main_v29 (ix2 0 l) := by
  blk_ext [iblk, idx t]

/-- The stacked values after the run. -/
theorem final_stack : (dats m 0 c).arrAt 15 cfg0.N = stackOut m c := by
  refine (dats m 0 c).arrAt_eq_of_covers 15 _ (by decide +kernel) fun t hf y => ?_
  blk_simp
  rw [after0_15]
  refine (stacked_block m c t y).trans ?_
  have key : ∀ (b : Fin 4) (r : Fin 640) (j : Fin 256) (B : Fin 128), (B : ℕ) = 4 * t.val + b →
      stackedAt (iblk m c 0 t) (iblk m c 1 t) (iblk m c 4 t) b r j = stackAt (row m c) (fun k l => V m c main_v11 (ix2 k l)) B r j := by
    intro b r j B hB
    unfold stackedAt stackAt
    simp only [blk4]
    rw [norm_blk m c t ⟨256 * (b : ℕ) + (j : ℕ), by omega⟩ ⟨256 * (B : ℕ) + (j : ℕ), by omega⟩ (by simp only; omega)]
  unfold stacked stackOut
  have e1 : (win0_15.blk t).view.emb y 1 = y 1 := Fin.ext (by blk_simp [idx t])
  have e2 : (win0_15.blk t).view.emb y 2 = y 2 := Fin.ext (by blk_simp [idx t])
  exact (key (y 0) (y 1) (y 2) ((win0_15.blk t).view.emb y 0) (by blk_simp [idx t]; exact congrArg (· + _) (mul_comm _ _))).trans
    (by rw [e1, e2])

/-- The queries and keys after the run. -/
theorem final_first : (dats m 0 c).arrAt 16 cfg0.N = firstOut m c := by
  refine (dats m 0 c).arrAt_eq_of_covers 16 _ (by decide +kernel) fun t hf y => ?_
  blk_simp
  rw [after0_16]
  refine (firsts_block m c t y).trans ?_
  unfold firsts firstOut
  have e1 : (win0_16.blk t).view.emb y 1 = y 1 := Fin.ext (by blk_simp [idx t])
  rw [norm_blk m c t (y 0) ((win0_16.blk t).view.emb y 0) (by blk_simp [idx t]; exact congrArg (· + _) (mul_comm _ _)), e1]
  simp only [blk5]

/-- The values after the run. -/
theorem final_second : (dats m 0 c).arrAt 17 cfg0.N = secondOut m c := by
  refine (dats m 0 c).arrAt_eq_of_covers 17 _ (by decide +kernel) fun t hf y => ?_
  blk_simp
  rw [after0_17]
  refine (seconds_block m c t y).trans ?_
  unfold seconds secondOut
  have e1 : (win0_17.blk t).view.emb y 1 = y 1 := Fin.ext (by blk_simp [idx t])
  rw [norm_blk m c t (y 0) ((win0_17.blk t).view.emb y 0) (by blk_simp [idx t]; exact congrArg (· + _) (mul_comm _ _)), e1]
  simp only [blk5]

/-- The log decays after the run. -/
theorem final_decay : (dats m 0 c).arrAt 18 cfg0.N = decayOut m c := by
  refine (dats m 0 c).arrAt_eq_of_covers 18 _ (by decide +kernel) fun t hf y => ?_
  blk_simp
  rw [after0_18]
  refine (decays_block m c t y).trans ?_
  unfold decays decayOut
  have e1 : (win0_18.blk t).view.emb y 1 = y 1 := Fin.ext (by blk_simp [idx t])
  rw [norm_blk m c t (y 0) ((win0_18.blk t).view.emb y 0) (by blk_simp [idx t]; exact congrArg (· + _) (mul_comm _ _)), e1]
  simp only [blk7]
  exact congrArg (fun z => Ideal.div (logSig z) (Ideal.ofBits .f32 0x41800000#32))
    (congrArg₂ (gateIn _) (funext fun k => blk11 m c t k (y 1)) (blk12 m c t (y 1)))

/-- The gates after the run. -/
theorem final_swish : (dats m 0 c).arrAt 19 cfg0.N = swishOut m c := by
  refine (dats m 0 c).arrAt_eq_of_covers 19 _ (by decide +kernel) fun t hf y => ?_
  blk_simp
  rw [after0_19]
  refine (swished_block m c t y).trans ?_
  unfold swished swishOut
  have e1 : (win0_19.blk t).view.emb y 1 = y 1 := Fin.ext (by blk_simp [idx t])
  rw [norm_blk m c t (y 0) ((win0_19.blk t).view.emb y 0) (by blk_simp [idx t]; exact congrArg (· + _) (mul_comm _ _)), e1]
  simp only [blk6]

end Cert.Kernel6Ideal.In
-- ==== Proof.InEntry.lean ====
/-
  The input projection's prepared arrays at an index, as entries of the launched arguments.
-/
module

public import proofs.«01_k».proof.Proof.InFinal
public import proofs.«01_k».proof.Proof.InMath
public import Idealize.ShloMosaic.Lib.KernelVsHost

@[expose] public section

set_option maxRecDepth 16384

noncomputable section

namespace Cert.Kernel6Ideal.In

open Cert.Proof
open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The normed row `R` of the launched activations; it is token `R % 4096` of sequence `R / 4096`. -/
def act (R : Fin 32768) : Fin 1024 → EReal :=
  Rows.rms Rows.width (fun k => m ((c : Thread nD τ).loc main_arg0) (ix3 ⟨R / 4096, by omega⟩ ⟨R % 4096, by omega⟩ k))
    (fun k => m ((c : Thread nD τ).loc main_arg1) (ix2 0 k))

/-- The launched weights. -/
def wt (k : Fin 1024) (j : Fin 3096) : EReal := m ((c : Thread nD τ).loc main_arg2) (ix3 0 k j)

/-- The prepared activations. -/
theorem entry_x (R : Fin 32768) (k : Fin 1024) : V m c main_v0 (ix2 R k)
    = m ((c : Thread nD τ).loc main_arg0) (ix3 ⟨R / 4096, by omega⟩ ⟨R % 4096, by omega⟩ k) := by
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise

/-- The prepared norm weights. -/
theorem entry_g (k : Fin 1024) : V m c main_v27 (ix2 0 k) = m ((c : Thread nD τ).loc main_arg1) (ix2 0 k) := by
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise

/-- The prepared biases. -/
theorem entry_b (k : Fin 256) : V m c main_v29 (ix2 0 k) = m ((c : Thread nD τ).loc main_arg5) (ix2 0 k) := by
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise

/-- The prepared weights of the stacked values. -/
theorem entry_v (l : Fin 512) (k : Fin 1024) : V m c main_v11 (ix2 l k) = wt m c k ⟨1024 + l, by omega⟩ := by
  show _ = m ((c : Thread nD τ).loc main_arg2) (ix3 0 k ⟨1024 + l, by omega⟩)
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise

/-- The prepared weights of the queries, keys and values. -/
theorem entry_a (k : Fin 1024) (l : Fin 1024) : V m c main_v13 (ix2 k l) = wt m c k ⟨1544 + l, by omega⟩ := by
  show _ = m ((c : Thread nD τ).loc main_arg2) (ix3 0 k ⟨1544 + l, by omega⟩)
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise

/-- The prepared weights of the gates. -/
theorem entry_r (k : Fin 1024) (l : Fin 512) : V m c main_v15 (ix2 k l) = wt m c k ⟨2584 + l, by omega⟩ := by
  show _ = m ((c : Thread nD τ).loc main_arg2) (ix3 0 k ⟨2584 + l, by omega⟩)
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise

/-- The prepared narrow weights: lanes 8 to 23 are the gate's. -/
theorem entry_s (k : Fin 1024) (l : Fin 16) : V m c main_v20 (ix2 k ⟨8 + l, by omega⟩) = wt m c k ⟨2568 + l, by omega⟩ := by
  show _ = m ((c : Thread nD τ).loc main_arg2) (ix3 0 k ⟨2568 + l, by omega⟩)
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise
  exact dif_pos (by omega)

/-- The prepared second weights inside the padding. -/
theorem entry_w (l : Fin 16) (j : Fin 256) : V m c main_v25 (ix2 ⟨8 + l, by omega⟩ j) = m ((c : Thread nD τ).loc main_arg4) (ix3 0 l j) := by
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise

/-- The padding of the prepared second weights. -/
theorem entry_w0 (k : Fin 128) (j : Fin 256) (hk : ¬ (8 ≤ (k : ℕ) ∧ (k : ℕ) < 24)) : V m c main_v25 (ix2 k j) = (0 : EReal) := by
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise
  refine (dif_neg (by omega)).trans ?_
  show (((0#32).toInt : ℝ) : EReal) = 0
  simp

/-- The normed rows are the arguments'. -/
theorem row_eq (R : Fin 32768) : row m c R = act m c R := by
  unfold row act
  rw [funext (entry_x m c R), funext (entry_g m c)]

/-- The stacked values at an index. -/
theorem stack_entry (b : Fin 128) (r : Fin 640) (j : Fin 256) (R : Fin 32768) (hR : (R : ℕ) = 256 * b + j) : stackOut m c (ix3 b r j)
    = if h : (r : ℕ) % 80 < 64 then Rows.rowMul (act m c R) (wt m c) ⟨1024 + (64 * ((r : ℕ) / 80) + (r : ℕ) % 80), by omega⟩
      else if (r : ℕ) % 80 = 64 then 1 else 0 := by
  show stackAt (row m c) (fun k l => V m c main_v11 (ix2 k l)) b r j = _
  have e : (⟨256 * (b : ℕ) + (j : ℕ), by omega⟩ : Fin 32768) = R := Fin.ext hR.symm
  unfold stackAt
  by_cases h : (r : ℕ) % 80 < 64
  · rw [dif_pos h, dif_pos h, e]
    exact Finset.sum_congr rfl fun k _ => by rw [row_eq]; exact (congrArg (· * act m c R k) (entry_v m c _ k)).trans (mul_comm _ _)
  · rw [dif_neg h, dif_neg h]

/-- The queries and keys at an index. -/
theorem first_entry (R : Fin 32768) (l : Fin 512) : firstOut m c (ix2 R l) = Rows.rowMul (act m c R) (wt m c) ⟨1544 + l, by omega⟩ := by
  show ∑ k, row m c R k * V m c main_v13 (ix2 k (low l)) = _
  exact Finset.sum_congr rfl fun k _ => by rw [entry_a, row_eq]; rfl

/-- The values at an index. -/
theorem second_entry (R : Fin 32768) (l : Fin 512) : secondOut m c (ix2 R l) = Rows.rowMul (act m c R) (wt m c) ⟨2056 + l, by omega⟩ := by
  show ∑ k, row m c R k * V m c main_v13 (ix2 k (high l)) = _
  have e : (⟨1544 + (high l : ℕ), by omega⟩ : Fin 3096) = ⟨2056 + l, by omega⟩ := Fin.ext (by simp only [high]; omega)
  exact Finset.sum_congr rfl fun k _ => by rw [entry_a, row_eq, e]

/-- The gates at an index. -/
theorem swish_entry (R : Fin 32768) (l : Fin 512) : swishOut m c (ix2 R l) = Rows.rowMul (act m c R) (wt m c) ⟨2584 + l, by omega⟩
    * Ideal.logistic (Rows.rowMul (act m c R) (wt m c) ⟨2584 + l, by omega⟩) := by
  have e : Rows.rowMul (row m c R) (fun k l => V m c main_v15 (ix2 k l)) l = Rows.rowMul (act m c R) (wt m c) ⟨2584 + l, by omega⟩ :=
    Finset.sum_congr rfl fun k _ => by rw [row_eq]; exact congrArg (act m c R k * ·) (entry_r m c k l)
  exact congrArg (fun z => z * Ideal.logistic z) e

/-- The log decays at an index, for real activations, norm weights, weights and second weights. -/
theorem decay_entry (hx : ∀ i, Inp.IsReal (m ((c : Thread nD τ).loc main_arg0) i)) (hg : ∀ i, Inp.IsReal (m ((c : Thread nD τ).loc main_arg1) i))
    (hw : ∀ i, Inp.IsReal (m ((c : Thread nD τ).loc main_arg2) i)) (hv : ∀ i, Inp.IsReal (m ((c : Thread nD τ).loc main_arg4) i))
    (R : Fin 32768) (l : Fin 256) (x : EReal)
    (hz : x = ∑ k : Fin 16, Rows.rowMul (act m c R) (wt m c) ⟨2568 + k, by omega⟩ * m ((c : Thread nD τ).loc main_arg4) (ix3 0 k l)
      + m ((c : Thread nD τ).loc main_arg5) (ix2 0 l)) :
    decayOut m c (ix2 R l) = Ideal.div (min x 0 - Ideal.log1p (Ideal.exp (-max x (-x)))) (Ideal.ofBits .f32 0x41800000#32) := by
  have es : ∀ k : Fin 16, Rows.rowMul (row m c R) (fun k l => V m c main_v20 (ix2 k l)) ⟨8 + k, by omega⟩
      = Rows.rowMul (act m c R) (wt m c) ⟨2568 + k, by omega⟩ := fun k =>
    Finset.sum_congr rfl fun i _ => by rw [row_eq]; exact congrArg (act m c R i * ·) (entry_s m c i k)
  have e : gateIn (Rows.rowMul (row m c R) (fun k l => V m c main_v20 (ix2 k l))) (fun k => V m c main_v25 (ix2 k l)) (V m c main_v29 (ix2 0 l)) = x := by
    unfold gateIn
    rw [Inp.three_parts _ _ (fun k hk => entry_w0 m c k l hk)
      (fun k => by rw [es]; exact Inp.rowMul_real _ _ (Inp.rms_real _ _ (fun _ => hx _) (fun _ => hg _)) (fun _ _ => hw _) _)
      (fun k => by rw [entry_w]; exact hv _), hz, entry_b]
    exact congrArg (· + _) (Finset.sum_congr rfl fun k _ => congrArg₂ (· * ·) (es k) (entry_w m c k l))
  show Ideal.div (logSig (gateIn (Rows.rowMul (row m c R) (fun k l => V m c main_v20 (ix2 k l))) (fun k => V m c main_v25 (ix2 k l)) (V m c main_v29 (ix2 0 l)))) _ = _
  rw [e]
  unfold logSig
  rw [zero_sub]
  rfl

end Cert.Kernel6Ideal.In
-- ==== Proof.InPlaces.lean ====
/-
  The input projection's two constant arrays: which packed lane goes to which side lane, and with which sign.
-/
module

public import proofs.«01_k».proof.Proof.InTile

@[expose] public section

set_option maxRecDepth 16384

noncomputable section

namespace Cert.Kernel6Ideal.In

open Cert.Kernel6Ideal Cert.Kernel6Ideal.Gen Idealize.ShloMosaic Idealize.ShloMosaic.TcCoe Idealize.SL.Sem
open Cert.Proof

/-- The keys' placement in the gate lanes: lane `a` goes, negated, to side lane 3 of head `a`. -/
theorem place_k : ∀ a : Fin 8, ∀ b : Fin 512, lit0t (512 * (a : ℕ) + b) =
    if (b : ℕ) % 64 = 3 ∧ (a : ℕ) = 2 * ((b : ℕ) / 128) + (if (b : ℕ) % 128 < 64 then 1 else 0) then 0xBF80#16 else 0#16 := by
  decide +kernel

/-- The keys' placement in lane 24, which holds one: it goes to side lanes 0, 1 and 2. -/
theorem place_k_one : ∀ b : Fin 512, lit0t (512 * 24 + b) = if (b : ℕ) % 64 < 3 then 0x3F80#16 else 0#16 := by
  decide +kernel

/-- The queries' placement in the gate lanes: lane `b` goes to side lane 0 of head `b`. -/
theorem place_q : ∀ a : Fin 128, ∀ b : Fin 8, lit1t (128 * (a : ℕ) + b) =
    if (a : ℕ) % 16 = 0 ∧ (b : ℕ) = (a : ℕ) / 16 then 0x3F80#16 else 0#16 := by
  decide +kernel

/-- The queries' placement in lane 24, which holds one: it goes to side lanes 3, 4 and 5. -/
theorem place_q_one : ∀ a : Fin 128, lit1t (128 * (a : ℕ) + 24) =
    if 3 ≤ (a : ℕ) % 16 ∧ (a : ℕ) % 16 < 6 then 0x3F80#16 else 0#16 := by
  decide +kernel

end Cert.Kernel6Ideal.In

end
-- ==== Proof.InPacked.lean ====
/-
  The input projection: the running sums over the grid's points and the packed keys' and queries' arrays.
-/
module

public import proofs.«01_k».proof.Proof.InCarry
public import proofs.«01_k».proof.Proof.InEntry
public import proofs.«01_k».proof.Proof.InPlaces

@[expose] public section

set_option maxRecDepth 16384

noncomputable section

namespace Cert.Kernel6Ideal.In

open Cert.Proof
open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The prepared weights of the packed keys. -/
theorem entry_k (k : Fin 1024) (l : Fin 512) : V m c main_v8 (ix2 k l) = wt m c k ⟨512 + l, by omega⟩ := by
  show _ = m ((c : Thread nD τ).loc main_arg2) (ix3 0 k ⟨512 + l, by omega⟩)
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise

/-- The queries' scale, as the programs spell it. -/
abbrev qscale : EReal := Ideal.ofBits .f32 0x3E38AA3B#32

/-- The prepared weights of the packed queries. -/
theorem entry_q (l : Fin 512) (k : Fin 1024) : V m c main_v6 (ix2 l k) = wt m c k ⟨l, by omega⟩ * qscale := by
  unfold wt
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise

/-- The prepared narrow weights: lanes 0 to 7 are the forget gates'. -/
theorem entry_f (k : Fin 1024) (l : Fin 128) (hl : (l : ℕ) < 8) : V m c main_v20 (ix2 k l) = wt m c k ⟨1536 + l, by omega⟩ := by
  show _ = m ((c : Thread nD τ).loc main_arg2) (ix3 0 k ⟨1536 + l, by omega⟩)
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise
  exact (dif_pos (by omega)).trans (dif_pos hl)

/-- The padding of the prepared narrow weights. -/
theorem entry_f0 (k : Fin 1024) (l : Fin 128) (hl : 24 ≤ (l : ℕ)) : V m c main_v20 (ix2 k l) = (0 : EReal) := by
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise
  refine (dif_neg (by omega)).trans ?_
  show (((0#32).toInt : ℝ) : EReal) = 0
  simp

/-- The forget gates' biases. -/
def bias (l : Fin 8) : EReal := m ((c : Thread nD τ).loc main_arg3) (ix2 0 l)

/-- The prepared forget biases. -/
theorem entry_p (l : Fin 128) (hl : (l : ℕ) < 8) : V m c main_v23 (ix2 0 l) = bias m c ⟨l, hl⟩ := by
  unfold bias
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise
  exact dif_pos hl

/-- The padding of the prepared forget biases. -/
theorem entry_p0 (l : Fin 128) (hl : ¬ (l : ℕ) < 8) : V m c main_v23 (ix2 0 l) = (0 : EReal) := by
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise
  refine (dif_neg (by omega)).trans ?_
  show (((0#32).toInt : ℝ) : EReal) = 0
  simp

/-- The keys' placement array. -/
theorem entry_pk (a : Fin 128) (b : Fin 512) : V m c main_cst (ix2 a b) = Ideal.ofBits .bf16 (lit0t (512 * (a : ℕ) + b)) := by
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise
  exact congrArg (fun n => Ideal.ofBits .bf16 (lit0t n)) ((Shape.rowMajor_val_two (d := ![128, 512]) (ix2 a b)).trans (congrArg (· + (b : ℕ)) (mul_comm _ _)))

/-- The queries' placement array. -/
theorem entry_pq (a : Fin 128) (b : Fin 128) : V m c main_cst_0 (ix2 a b) = Ideal.ofBits .bf16 (lit1t (128 * (a : ℕ) + b)) := by
  unfold V
  simp only [List.flatten_cons, List.flatten_nil, List.append_nil, List.cons_append, List.nil_append, hostOps0, hostOps0_1,
    hostOps0_2, hostOps0_3, hostOps0_4, hostOps0_5, hostOps0_6, StableHlo.TRef.binary, StableHlo.TRef.unary,
    StableHlo.TRef.toBuf, StableHlo.TRef.ofBuf, cast_eq]
  entry_read
  pointwise
  exact congrArg (fun n => Ideal.ofBits .bf16 (lit1t n)) ((Shape.rowMajor_val_two (d := ![128, 128]) (ix2 a b)).trans (congrArg (· + (b : ℕ)) (mul_comm _ _)))

/-- The queries' scale is not negative and not infinite. -/
theorem qscale_coe : ∃ q : ℝ, 0 ≤ q ∧ qscale = (q : EReal) := by
  refine ⟨12102203 / 67108864, by norm_num, ?_⟩
  simp [qscale, Ideal.ofBits, Ideal.ieee, -EReal.coe_mul]
  norm_num

/-- The placed minus one. -/
theorem minus_one : Ideal.ofBits .bf16 0xBF80#16 = -1 := by
  simp [Ideal.ofBits, Ideal.ieee, -EReal.coe_mul]
  try norm_num

/-- The placed one. -/
theorem plus_one : Ideal.ofBits .bf16 0x3F80#16 = 1 := by
  simp [Ideal.ofBits, Ideal.ieee, -EReal.coe_mul]
  try norm_num

/-- The placed nothing. -/
theorem nothing : Ideal.ofBits .bf16 0#16 = 0 := by
  simp [Ideal.ofBits, Ideal.ieee]

/-- The head whose side lanes column `C` of the keys' placement holds. -/
def headOf (C : Fin 512) : Fin 8 := ⟨2 * ((C : ℕ) / 128) + (if (C : ℕ) % 128 < 64 then 1 else 0), by split_ifs <;> omega⟩

/-- The keys' placement in the gate lanes. -/
theorem pk_gate (l : Fin 128) (hl : (l : ℕ) < 8) (C : Fin 512) : V m c main_cst (ix2 l C) = (if (C : ℕ) % 64 = 3 ∧ (l : ℕ) = headOf C then -1 else 0 : EReal) := by
  refine (entry_pk m c l C).trans ((congrArg (Ideal.ofBits .bf16) (place_k ⟨l, hl⟩ C)).trans ?_)
  rw [apply_ite (Ideal.ofBits .bf16), minus_one, nothing]
  rfl

/-- The keys' placement in the lane of one. -/
theorem pk_one (l : Fin 128) (hl : (l : ℕ) = 24) (C : Fin 512) : V m c main_cst (ix2 l C) = (if (C : ℕ) % 64 < 3 then 1 else 0 : EReal) := by
  refine (entry_pk m c l C).trans ((congrArg (fun n => Ideal.ofBits .bf16 (lit0t (512 * n + (C : ℕ)))) hl).trans ((congrArg (Ideal.ofBits .bf16) (place_k_one C)).trans ?_))
  rw [apply_ite (Ideal.ofBits .bf16), plus_one, nothing]

/-- The queries' placement in the gate lanes. -/
theorem pq_gate (a : Fin 128) (l : Fin 128) (hl : (l : ℕ) < 8) : V m c main_cst_0 (ix2 a l) = (if (a : ℕ) % 16 = 0 ∧ (l : ℕ) = (a : ℕ) / 16 then 1 else 0 : EReal) := by
  refine (entry_pq m c a l).trans ((congrArg (Ideal.ofBits .bf16) (place_q a ⟨l, hl⟩)).trans ?_)
  rw [apply_ite (Ideal.ofBits .bf16), plus_one, nothing]

/-- The queries' placement in the lane of one. -/
theorem pq_one (a : Fin 128) (l : Fin 128) (hl : (l : ℕ) = 24) : V m c main_cst_0 (ix2 a l) = (if 3 ≤ (a : ℕ) % 16 ∧ (a : ℕ) % 16 < 6 then 1 else 0 : EReal) := by
  refine (entry_pq m c a l).trans ((congrArg (fun n => Ideal.ofBits .bf16 (lit1t (128 * (a : ℕ) + n))) hl).trans ((congrArg (Ideal.ofBits .bf16) (place_q_one a)).trans ?_))
  rw [apply_ite (Ideal.ofBits .bf16), plus_one, nothing]

/-- Eight lanes, a one in lane 24 and nothing else. -/
def lanesOf (s : Fin 8 → EReal) (l : Fin 128) : EReal := if h : (l : ℕ) < 8 then s ⟨l, h⟩ else if (l : ℕ) = 24 then 1 else 0

/-- They in the gate lanes. -/
theorem lanesOf_gate (s : Fin 8 → EReal) (l : Fin 128) (h : (l : ℕ) < 8) : lanesOf s l = s ⟨l, h⟩ := dif_pos h

/-- They in the lane of one. -/
theorem lanesOf_one (s : Fin 8 → EReal) (l : Fin 128) (h : (l : ℕ) = 24) : lanesOf s l = 1 := (dif_neg (by omega)).trans (if_pos h)

/-- They elsewhere. -/
theorem lanesOf_none (s : Fin 8 → EReal) (l : Fin 128) (h : ¬ (l : ℕ) < 8) (h' : ¬ (l : ℕ) = 24) : lanesOf s l = 0 := (dif_neg h).trans (if_neg h')

/-- The keys' side lanes. -/
theorem key_side (s : Fin 8 → EReal) (C : Fin 512) (w : Fin 128 → EReal) (hw : ∀ l, w l = V m c main_cst (ix2 l C)) :
    ∑ l, lanesOf s l * w l = if (C : ℕ) % 64 < 3 then 1 else if (C : ℕ) % 64 = 3 then -s (headOf C) else 0 := by
  have g : ∀ l : Fin 128, (l : ℕ) < 8 → w l = if (C : ℕ) % 64 = 3 ∧ (l : ℕ) = headOf C then -1 else 0 := fun l hl => (hw l).trans (pk_gate m c l hl C)
  have o : ∀ l : Fin 128, (l : ℕ) = 24 → w l = if (C : ℕ) % 64 < 3 then 1 else 0 := fun l hl => (hw l).trans (pk_one m c l hl C)
  have hh := (headOf C).isLt
  by_cases h1 : (C : ℕ) % 64 < 3
  · rw [if_pos h1, Finset.sum_eq_single (⟨24, by norm_num⟩ : Fin 128)]
    · rw [lanesOf_one _ _ rfl, o _ rfl, if_pos h1, one_mul]
    · intro l _ hl
      have hl' : ¬ (l : ℕ) = 24 := fun e => hl (Fin.ext e)
      by_cases h8 : (l : ℕ) < 8
      · rw [g l h8, if_neg (by omega), mul_zero]
      · rw [lanesOf_none _ _ h8 hl', zero_mul]
    · exact fun h => absurd (Finset.mem_univ _) h
  rw [if_neg h1]
  by_cases h2 : (C : ℕ) % 64 = 3
  · rw [if_pos h2, Finset.sum_eq_single (⟨headOf C, by omega⟩ : Fin 128)]
    · rw [lanesOf_gate _ _ hh, g _ hh, if_pos ⟨h2, rfl⟩, mul_neg, mul_one]
    · intro l _ hl
      have hl' : ¬ (l : ℕ) = headOf C := fun e => hl (Fin.ext e)
      by_cases h8 : (l : ℕ) < 8
      · rw [g l h8, if_neg (fun h => hl' h.2), mul_zero]
      by_cases h24 : (l : ℕ) = 24
      · rw [o l h24, if_neg h1, mul_zero]
      · rw [lanesOf_none _ _ h8 h24, zero_mul]
    · exact fun h => absurd (Finset.mem_univ _) h
  · rw [if_neg h2]
    refine Finset.sum_eq_zero fun l _ => ?_
    by_cases h8 : (l : ℕ) < 8
    · rw [g l h8, if_neg (fun h => h2 h.1), mul_zero]
    by_cases h24 : (l : ℕ) = 24
    · rw [o l h24, if_neg h1, mul_zero]
    · rw [lanesOf_none _ _ h8 h24, zero_mul]

/-- The queries' side lanes. -/
theorem query_side (s : Fin 8 → EReal) (a : Fin 128) (w : Fin 128 → EReal) (hw : ∀ l, w l = V m c main_cst_0 (ix2 a l)) :
    ∑ l, w l * lanesOf s l = if (a : ℕ) % 16 = 0 then s ⟨(a : ℕ) / 16, by omega⟩ else if 3 ≤ (a : ℕ) % 16 ∧ (a : ℕ) % 16 < 6 then 1 else 0 := by
  have g : ∀ l : Fin 128, (l : ℕ) < 8 → w l = if (a : ℕ) % 16 = 0 ∧ (l : ℕ) = (a : ℕ) / 16 then 1 else 0 := fun l hl => (hw l).trans (pq_gate m c a l hl)
  have o : ∀ l : Fin 128, (l : ℕ) = 24 → w l = if 3 ≤ (a : ℕ) % 16 ∧ (a : ℕ) % 16 < 6 then 1 else 0 := fun l hl => (hw l).trans (pq_one m c a l hl)
  have hh : (a : ℕ) / 16 < 8 := by omega
  by_cases h1 : (a : ℕ) % 16 = 0
  · rw [if_pos h1, Finset.sum_eq_single (⟨(a : ℕ) / 16, by omega⟩ : Fin 128)]
    · rw [lanesOf_gate _ _ hh, g _ hh, if_pos ⟨h1, rfl⟩, one_mul]
    · intro l _ hl
      have hl' : ¬ (l : ℕ) = (a : ℕ) / 16 := fun e => hl (Fin.ext e)
      by_cases h8 : (l : ℕ) < 8
      · rw [g l h8, if_neg (fun h => hl' h.2), zero_mul]
      by_cases h24 : (l : ℕ) = 24
      · rw [o l h24, if_neg (by omega), zero_mul]
      · rw [lanesOf_none _ _ h8 h24, mul_zero]
    · exact fun h => absurd (Finset.mem_univ _) h
  rw [if_neg h1]
  by_cases h2 : 3 ≤ (a : ℕ) % 16 ∧ (a : ℕ) % 16 < 6
  · rw [if_pos h2, Finset.sum_eq_single (⟨24, by norm_num⟩ : Fin 128)]
    · rw [lanesOf_one _ _ rfl, o _ rfl, if_pos h2, one_mul]
    · intro l _ hl
      have hl' : ¬ (l : ℕ) = 24 := fun e => hl (Fin.ext e)
      by_cases h8 : (l : ℕ) < 8
      · rw [g l h8, if_neg (fun h => h1 h.1), zero_mul]
      · rw [lanesOf_none _ _ h8 hl', mul_zero]
    · exact fun h => absurd (Finset.mem_univ _) h
  · rw [if_neg h2]
    refine Finset.sum_eq_zero fun l _ => ?_
    by_cases h8 : (l : ℕ) < 8
    · rw [g l h8, if_neg (fun h => h1 h.1), zero_mul]
    by_cases h24 : (l : ℕ) = 24
    · rw [o l h24, if_neg h2, zero_mul]
    · rw [lanesOf_none _ _ h8 h24, mul_zero]

end Cert.Kernel6Ideal.In

end
-- ==== Proof.InArrays.lean ====
/-
  The input projection: the running sums over the grid's points and the packed keys' and queries' arrays.
-/
module

public import proofs.«01_k».proof.Proof.InPacked

@[expose] public section

set_option maxRecDepth 16384

noncomputable section

namespace Cert.Kernel6Ideal.In

open Cert.Proof
open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- Where the remaining windows' blocks stand at a point. -/
theorem idx' : ∀ t : Fin cfg0.N, win0_2.index t = ![0, 0] ∧ win0_3.index t = ![0, 0] ∧ win0_8.index t = ![0, 0]
    ∧ win0_9.index t = ![0, 0] ∧ win0_10.index t = ![0, 0] ∧ win0_13.index t = ![t.val, 0] ∧ win0_14.index t = ![t.val, 0, 0] :=
  (by decide +kernel : ∀ t : Fin grid0.N, _)

/-- The grid has 32 points. -/
theorem points (t : Fin cfg0.N) : t.val < 32 := lt_of_lt_of_eq t.isLt (by decide +kernel)

/-- A block's weights are the arrays'. -/
theorem blk2 (t : Fin cfg0.N) (k : Fin 1024) (l : Fin 512) : iblk m c 2 t (ix2 k l) = V m c main_v8 (ix2 k l) := by
  blk_ext [iblk, idx' t]

/-- A block's weights are the arrays'. -/
theorem blk3 (t : Fin cfg0.N) (l : Fin 512) (k : Fin 1024) : iblk m c 3 t (ix2 l k) = V m c main_v6 (ix2 l k) := by
  blk_ext [iblk, idx' t]

/-- A block's forget biases are the arrays'. -/
theorem blk8 (t : Fin cfg0.N) (l : Fin 128) : iblk m c 8 t (ix2 0 l) = V m c main_v23 (ix2 0 l) := by
  blk_ext [iblk, idx' t]

/-- A block's placement is the arrays'. -/
theorem blk9 (t : Fin cfg0.N) (k : Fin 128) (l : Fin 512) : iblk m c 9 t (ix2 k l) = V m c main_cst (ix2 k l) := by
  blk_ext [iblk, idx' t]

/-- A block's placement is the arrays'. -/
theorem blk10 (t : Fin cfg0.N) (k : Fin 128) (l : Fin 128) : iblk m c 10 t (ix2 k l) = V m c main_cst_0 (ix2 k l) := by
  blk_ext [iblk, idx' t]

/-- The log forget gate of row `R` and lane `l`; none beyond the rows or the heads' lanes. -/
def gateOf (l : Fin 128) (R : ℕ) : EReal :=
  if h : R < 32768 then (if hl : (l : ℕ) < 8 then logSig (Rows.rowMul (act m c ⟨R, h⟩) (wt m c) ⟨1536 + l, by omega⟩ + bias m c ⟨l, hl⟩) else 0) else 0

/-- The sum of the log forget gates of the first `n` tokens of sequence `S`. -/
def sumOf (S n : ℕ) (l : Fin 128) : EReal := ∑ R ∈ Finset.range n, gateOf m c l (4096 * S + R)

/-- A block's log forget gates are the arguments'. -/
theorem gate_blk (t : Fin cfg0.N) (l : Fin 128) (r : ℕ) (hr : r < 1024) :
    gateRow (iblk m c 0 t) (iblk m c 1 t) (iblk m c 7 t) (iblk m c 8 t) l r = gateOf m c l (1024 * t.val + r) := by
  have hN := points t
  unfold gateRow gateOf
  rw [dif_pos hr, dif_pos (by omega)]
  by_cases hl : (l : ℕ) < 8
  · rw [if_pos hl, dif_pos hl]
    refine congrArg logSig (congrArg₂ (· + ·) (Finset.sum_congr rfl fun k _ => congrArg₂ (· * ·) ?_ ?_) ?_)
    · exact congrFun ((norm_blk m c t ⟨r, hr⟩ ⟨1024 * t.val + r, by omega⟩ rfl).trans (row_eq m c _)) k
    · exact (blk7 m c t k l).trans (entry_f m c k l hl)
    · exact (blk8 m c t l).trans (entry_p m c l hl)
  · rw [if_neg hl, dif_neg hl]

/-- What is carried into a point: the sums of its sequence's earlier tokens. -/
def Carried (t : Fin cfg0.N) (x : Vec Ideal S1x128 .f32) : Prop := ∀ l : Fin 128, x (ix2 0 l) = sumOf m c (t.val / 4) (1024 * (t.val % 4)) l

/-- A block's running sums are the sequence's. -/
theorem total_blk (t : Fin cfg0.N) (x : Vec Ideal S1x128 .f32) (hx : Carried m c t x) (n : ℕ) (hn : n ≤ 1024) (l : Fin 128) :
    total (iblk m c 0 t) (iblk m c 1 t) (iblk m c 7 t) (iblk m c 8 t) x n l = sumOf m c (t.val / 4) (1024 * (t.val % 4) + n) l := by
  rw [total, hx l, sumOf, sumOf, Finset.sum_range_add, add_comm]
  refine congrArg (_ + ·) (Finset.sum_congr rfl fun r hr => ?_)
  have hr' : r < n := Finset.mem_range.mp hr
  rw [gate_blk m c t l r (by omega)]
  exact congrArg (gateOf m c l) (by omega)

/-- Nothing is summed beyond the heads' lanes. -/
theorem sumOf_none (S n : ℕ) (l : Fin 128) (hl : ¬ (l : ℕ) < 8) : sumOf m c S n l = 0 :=
  Finset.sum_eq_zero fun R _ => by
    unfold gateOf
    split_ifs <;> rfl

/-- The launched activations, norm weights, weights and forget biases are real. -/
structure Finite : Prop where
  x : ∀ i, Inp.IsReal (m ((c : Thread nD τ).loc main_arg0) i)
  g : ∀ i, Inp.IsReal (m ((c : Thread nD τ).loc main_arg1) i)
  w : ∀ i, Inp.IsReal (m ((c : Thread nD τ).loc main_arg2) i)
  b : ∀ i, Inp.IsReal (m ((c : Thread nD τ).loc main_arg3) i)

variable (hR : Finite m c)
include hR

/-- The normed rows are real. -/
theorem act_real (R : Fin 32768) (k : Fin 1024) : Inp.IsReal (act m c R k) := Inp.rms_real _ _ (fun _ => hR.x _) (fun _ => hR.g _) k

/-- The log forget gates are real. -/
theorem gateOf_real (l : Fin 128) (R : ℕ) : Inp.IsReal (gateOf m c l R) := by
  unfold gateOf
  split_ifs
  · exact logSig_real ((Inp.rowMul_real _ _ (act_real m c hR _) (fun k l => hR.w _) _).add (hR.b _))
  · exact ⟨0, rfl⟩
  · exact ⟨0, rfl⟩

/-- The prepared narrow weights are real. -/
theorem narrow_real (k : Fin 1024) (l : Fin 128) : Inp.IsReal (V m c main_v20 (ix2 k l)) := by
  by_cases h8 : (l : ℕ) < 8
  · exact (entry_f m c k l h8).symm ▸ hR.w _
  by_cases h24 : (l : ℕ) < 24
  · have e : (⟨8 + ((l : ℕ) - 8), by omega⟩ : Fin 128) = l := Fin.ext (by simp only; omega)
    exact e ▸ (entry_s m c k ⟨(l : ℕ) - 8, by omega⟩).symm ▸ hR.w _
  · exact (entry_f0 m c k l (by omega)).symm ▸ ⟨0, rfl⟩

/-- The facts the running sums need hold at every point. -/
theorem fine (t : Fin cfg0.N) (x : Vec Ideal S1x128 .f32) (hx : Carried m c t x) : Fine (iblk m c 0 t) (iblk m c 1 t) (iblk m c 7 t) (iblk m c 8 t) x := by
  have hN := points t
  refine ⟨fun R l => Inp.rowMul_real _ _ (fun k => ?_) (fun k l => ?_) l, fun i => ?_, fun i => ?_, fun l hl => (hx l).trans (sumOf_none m c _ _ l hl)⟩
  · rw [norm_blk m c t R ⟨1024 * t.val + R, by omega⟩ rfl, row_eq]
    exact act_real m c hR _ k
  · exact (blk7 m c t k l).symm ▸ narrow_real m c hR k l
  · obtain ⟨a, l, rfl⟩ : ∃ a l, i = ix2 a l := ⟨i 0, i 1, by funext a; fin_cases a <;> rfl⟩
    obtain rfl : a = 0 := Subsingleton.elim _ _
    by_cases h8 : (l : ℕ) < 8
    · exact ((blk8 m c t l).trans (entry_p m c l h8)).symm ▸ hR.b _
    · exact ((blk8 m c t l).trans (entry_p0 m c l h8)).symm ▸ ⟨0, rfl⟩
  · obtain ⟨a, l, rfl⟩ : ∃ a l, i = ix2 a l := ⟨i 0, i 1, by funext a; fin_cases a <;> rfl⟩
    obtain rfl : a = 0 := Subsingleton.elim _ _
    rw [hx l]
    exact Inp.IsReal.sum _ _ fun R => gateOf_real m c hR l _

omit hR in
/-- A sequence's first point starts from nothing. -/
theorem carried_first (t : Fin cfg0.N) (h : t.val % 4 = 0) : Carried m c t none0 := fun l => by
  rw [h, Nat.mul_zero, sumOf, Finset.range_zero, Finset.sum_empty]
  unfold none0 k0_pay2
  pointwise

/-- The sums a point hands on. -/
theorem hands (t : Fin cfg0.N) (x : Vec Ideal S1x128 .f32) (hx : Carried m c t x) (l : Fin 128) :
    car4 (iblk m c 0 t) (iblk m c 1 t) (iblk m c 7 t) (iblk m c 8 t) x (ix2 0 l) = sumOf m c (t.val / 4) (1024 * (t.val % 4) + 1024) l := by
  rw [car4_apply _ _ _ _ _ (fine m c hR t x hx), total_blk m c t x hx 1024 le_rfl]

/-- The sums every point leaves. -/
theorem leaves (n : ℕ) (hn : n < cfg0.N) (l : Fin 128) : (outsAt0 m c n hn).2.2.2.2.2.2.2 (ix2 0 l) = sumOf m c (n / 4) (1024 * (n % 4) + 1024) l := by
  induction n generalizing l with
  | zero =>
    rw [carry_A m c ⟨0, hn⟩ rfl]
    exact hands m c hR ⟨0, hn⟩ _ (carried_first m c _ rfl) l
  | succ n ih =>
    by_cases h4 : (n + 1) % 4 = 0
    · rw [carry_A m c ⟨n + 1, hn⟩ h4]
      exact hands m c hR ⟨n + 1, hn⟩ _ (carried_first m c _ h4) l
    · rw [carry_B m c ⟨n + 1, hn⟩ h4 _ rfl]
      refine hands m c hR ⟨n + 1, hn⟩ _ (fun l => (ih (by omega) l).trans ?_) l
      have e1 : n / 4 = (n + 1) / 4 := by omega
      have e2 : 1024 * (n % 4) + 1024 = 1024 * ((n + 1) % 4) := by omega
      rw [e1, e2]

/-- A later point starts from what the point before left. -/
theorem carried_next (t : Fin cfg0.N) (h : ¬ t.val % 4 = 0) :
    Carried m c t (outsAt0 m c (t.val - 1) (Nat.lt_of_le_of_lt (Nat.sub_le t.val 1) t.isLt)).2.2.2.2.2.2.2 := fun l => by
  refine (leaves m c hR (t.val - 1) _ l).trans ?_
  have e1 : (t.val - 1) / 4 = t.val / 4 := by omega
  have e2 : 1024 * ((t.val - 1) % 4) + 1024 = 1024 * (t.val % 4) := by omega
  rw [e1, e2]

omit hR

/-- The running sums of row `R`, in base two, by heads. -/
def runs (R : Fin 32768) (h : Fin 8) : EReal := sumOf m c ((R : ℕ) / 4096) ((R : ℕ) % 4096 + 1) ⟨h, by omega⟩ * log2e

/-- A block's packed sums are the sequences'. -/
theorem packed_blk (t : Fin cfg0.N) (x : Vec Ideal S1x128 .f32) (hx : Carried m c t x) (r : Fin 1024) (R : Fin 32768) (hr : (R : ℕ) = 1024 * t.val + r) (l : Fin 128) :
    pck m c t x r l = lanesOf (runs m c R) l := by
  unfold pck packedAt lanesOf
  by_cases h8 : (l : ℕ) < 8
  · rw [if_pos h8, dif_pos h8, total_blk m c t x hx _ (by omega), runs]
    have e1 : t.val / 4 = (R : ℕ) / 4096 := by omega
    have e2 : 1024 * (t.val % 4) + ((r : ℕ) + 1) = (R : ℕ) % 4096 + 1 := by omega
    rw [e1, e2]
  · rw [if_neg h8, dif_neg h8]

/-- The logarithm of the logistic, with a plain negation. -/
theorem logSig_eq (x : EReal) : logSig x = min x 0 - Ideal.log1p (Ideal.exp (-max x (-x))) := by
  unfold logSig
  rw [zero_sub]
  rfl

/-- The normed row of a sequence's token. -/
theorem act_token (S : Fin 8) (i : Fin 4096) : act m c ⟨4096 * (S : ℕ) + (i : ℕ), by omega⟩
    = Rows.rms Rows.width (fun k => m ((c : Thread nD τ).loc main_arg0) (ix3 S i k)) (fun k => m ((c : Thread nD τ).loc main_arg1) (ix2 0 k)) := by
  have e0 : (⟨(4096 * (S : ℕ) + (i : ℕ)) / 4096, by omega⟩ : Fin 8) = S := Fin.ext (by simp only; omega)
  have e1 : (⟨(4096 * (S : ℕ) + (i : ℕ)) % 4096, by omega⟩ : Fin 4096) = i := Fin.ext (by simp only; omega)
  unfold act
  simp only [e0, e1]

/-- A sum over a sequence's tokens up to one is the sum over the first of them. -/
theorem sum_upto (a : Fin 4096) (f : Fin 4096 → EReal) (g : ℕ → EReal) (h : ∀ i : Fin 4096, f i = g i) :
    (∑ i : Fin 4096, if i ≤ a then f i else 0) = ∑ R ∈ Finset.range ((a : ℕ) + 1), g R := by
  have e : (∑ i : Fin 4096, if i ≤ a then f i else 0) = ∑ i : Fin 4096, (fun R : ℕ => if R ≤ a then g R else 0) i :=
    Finset.sum_congr rfl fun i _ => by rw [h i]; rfl
  rw [e, Fin.sum_univ_eq_sum_range (fun R : ℕ => if R ≤ (a : ℕ) then g R else 0) 4096]
  refine (Finset.sum_subset (Finset.range_mono (by omega)) fun R _ hR => if_neg ?_).symm.trans (Finset.sum_congr rfl fun R hR => if_pos ?_)
  · rw [Finset.mem_range] at hR
    omega
  · rw [Finset.mem_range] at hR
    omega

/-- The running sums of a row, token by token. -/
theorem runs_sum (R : Fin 32768) (h : Fin 8) (y : Fin 4096 → EReal)
    (hy : ∀ i, y i = Rows.rowMul (Rows.rms Rows.width (fun k => m ((c : Thread nD τ).loc main_arg0) (ix3 ⟨R / 4096, by omega⟩ i k)) (fun k => m ((c : Thread nD τ).loc main_arg1) (ix2 0 k)))
      (wt m c) ⟨1536 + h, by omega⟩ + bias m c h) :
    (∑ i : Fin 4096, if i ≤ (⟨R % 4096, by omega⟩ : Fin 4096) then min (y i) 0 - Ideal.log1p (Ideal.exp (-max (y i) (-y i))) else 0) * log2e = runs m c R h := by
  unfold runs sumOf
  refine congrArg (· * log2e) (sum_upto ⟨R % 4096, by omega⟩ _ _ fun i => ?_)
  have h8 := h.isLt
  unfold gateOf
  rw [dif_pos (by omega), dif_pos h.isLt, ← logSig_eq, hy i, act_token m c ⟨R / 4096, by omega⟩ i]

/-- The packed keys of row `R` at lane `C`. -/
def keyVal (R : Fin 32768) (C : Fin 1024) : EReal :=
  if ((C : ℕ) % 128 < 64 ↔ (C : ℕ) / 128 % 2 = 0) then Rows.rowMul (act m c R) (wt m c) ⟨512 + (64 * ((C : ℕ) / 128) + (C : ℕ) % 64), by omega⟩
  else if (C : ℕ) % 64 < 3 then 1 else if (C : ℕ) % 64 = 3 then -runs m c R ⟨C / 128, by omega⟩ else 0

/-- The packed keys' array. -/
def keyOut : Buf (Elt Ideal) ((c : Thread nD τ).loc main_v30_0) := fun i : S32768x1024.Idx => keyVal m c (i 0) (i 1)

/-- A block's packed keys are the arguments'. -/
theorem key_blk (t : Fin cfg0.N) (x : Vec Ideal S1x128 .f32) (hx : Carried m c t x) (r C : Fin 1024) (R : Fin 32768) (hr : (R : ℕ) = 1024 * t.val + r) :
    keyAt (nrm m c t) (pck m c t x) (fun k l => iblk m c 2 t (ix2 k l)) (fun k l => iblk m c 9 t (ix2 k l)) r C = keyVal m c R C := by
  unfold keyAt keyVal
  by_cases h : ((C : ℕ) % 128 < 64 ↔ (C : ℕ) / 128 % 2 = 0)
  · refine (if_pos h).trans (Eq.trans ?_ (if_pos h).symm)
    refine Finset.sum_congr rfl fun k _ => congrArg₂ (· * ·) ?_ ?_
    · exact congrFun ((norm_blk m c t r R hr).trans (row_eq m c R)) k
    · exact (blk2 m c t k _).trans ((entry_k m c k _).trans (congrArg (wt m c k) (Fin.ext (by simp only; omega))))
  · refine (if_neg h).trans (Eq.trans ?_ (if_neg h).symm)
    rw [funext (packed_blk m c t x hx r R hr)]
    refine (key_side m c _ ⟨128 * ((C : ℕ) / 256) + (C : ℕ) % 128, by omega⟩ _ fun l => blk9 m c t l _).trans ?_
    have e0 : (128 * ((C : ℕ) / 256) + (C : ℕ) % 128) % 64 = (C : ℕ) % 64 := by omega
    have e1 : headOf ⟨128 * ((C : ℕ) / 256) + (C : ℕ) % 128, by omega⟩ = ⟨C / 128, by omega⟩ := Fin.ext (by
      simp only [headOf]
      split_ifs <;> omega)
    rw [e1]
    simp only [e0]

/-- The packed queries of row `R` at lane `C`. -/
def queryVal (R : Fin 32768) (C : Fin 1024) : EReal :=
  if ((C : ℕ) % 128 < 64 ↔ (C : ℕ) / 128 % 2 = 0) then Rows.rowMul (act m c R) (wt m c) ⟨64 * ((C : ℕ) / 128) + (C : ℕ) % 64, by omega⟩ * qscale
  else if (C : ℕ) % 64 = 0 then runs m c R ⟨C / 128, by omega⟩ else if 3 ≤ (C : ℕ) % 64 ∧ (C : ℕ) % 64 < 6 then 1 else 0

/-- The packed transposed queries of token block `b` at lane `C` and token `j`. -/
def queryOf (b : Fin 128) (C : Fin 1024) (j : Fin 256) : EReal := queryVal m c ⟨256 * (b : ℕ) + (j : ℕ), by omega⟩ C

/-- The packed transposed queries' array. -/
def queryOut : Buf (Elt Ideal) ((c : Thread nD τ).loc main_v30_1) := fun i : S128x1024x256.Idx => queryOf m c (i 0) (i 1) (i 2)

/-- A block's packed queries are the arguments'. -/
theorem query_blk (t : Fin cfg0.N) (x : Vec Ideal S1x128 .f32) (hx : Carried m c t x) (b : Fin 4) (C : Fin 1024) (j : Fin 256) (R : Fin 32768)
    (hr : (R : ℕ) = 1024 * t.val + (256 * (b : ℕ) + j)) :
    queryAt (nrm m c t) (pck m c t x) (fun l k => iblk m c 3 t (ix2 l k)) (fun a l => iblk m c 10 t (ix2 a l)) b C j = queryVal m c R C := by
  unfold queryAt queryVal
  by_cases h : ((C : ℕ) % 128 < 64 ↔ (C : ℕ) / 128 % 2 = 0)
  · refine (if_pos h).trans (Eq.trans ?_ (if_pos h).symm)
    obtain ⟨q, hq, e⟩ := qscale_coe
    refine Eq.trans ?_ (Rows.sum_mul_of_nonneg Finset.univ _ (by rw [e]; exact_mod_cast hq) (by rw [e]; exact EReal.coe_ne_top q))
    refine Finset.sum_congr rfl fun k _ => ?_
    have a : nrm m c t ⟨256 * (b : ℕ) + (j : ℕ), by omega⟩ k = act m c R k := congrFun ((norm_blk m c t _ R hr).trans (row_eq m c R)) k
    rw [a]
    refine (congrArg (· * act m c R k) ((blk3 m c t _ k).trans (entry_q m c _ k))).trans ?_
    rw [mul_comm, ← mul_assoc]
  · refine (if_neg h).trans (Eq.trans ?_ (if_neg h).symm)
    by_cases h16 : (C : ℕ) % 64 < 16
    · rw [if_pos h16, funext (packed_blk m c t x hx ⟨256 * (b : ℕ) + (j : ℕ), by omega⟩ R hr)]
      refine (query_side m c _ ⟨(16 * ((C : ℕ) / 128) + (C : ℕ) % 64) % 128, by omega⟩ _ fun l => blk10 m c t _ l).trans ?_
      have e0 : (16 * ((C : ℕ) / 128) + (C : ℕ) % 64) % 128 % 16 = (C : ℕ) % 64 := by omega
      have e1 : (⟨(16 * ((C : ℕ) / 128) + (C : ℕ) % 64) % 128 / 16, by omega⟩ : Fin 8) = ⟨C / 128, by omega⟩ := Fin.ext (by simp only; omega)
      rw [e1]
      simp only [e0]
    · rw [if_neg h16, if_neg (by omega), if_neg (by omega)]

include hR

/-- The packed keys after the run. -/
theorem final_key : (dats m 0 c).arrAt 13 cfg0.N = keyOut m c := by
  refine (dats m 0 c).arrAt_eq_of_covers 13 _ (by decide +kernel) fun t hf y => ?_
  blk_simp
  rw [after0_13]
  have e1 : (win0_13.blk t).view.emb y 1 = y 1 := Fin.ext (by blk_simp [idx' t])
  have e0 : (((win0_13.blk t).view.emb y 0 : Fin 32768) : ℕ) = 1024 * t.val + (y 0 : Fin 1024) := by
    blk_simp [idx' t]; exact congrArg (· + _) (mul_comm _ _)
  unfold keyOut
  rw [e1]
  by_cases h4 : t.val % 4 = 0
  · exact (keys_A m c t h4 (fine m c hR t _ (carried_first m c t h4)) y).trans (key_blk m c t _ (carried_first m c t h4) (y 0) (y 1) _ e0)
  · exact (keys_B m c t h4 _ rfl (fine m c hR t _ (carried_next m c hR t h4)) y).trans (key_blk m c t _ (carried_next m c hR t h4) (y 0) (y 1) _ e0)

/-- The packed transposed queries after the run. -/
theorem final_query : (dats m 0 c).arrAt 14 cfg0.N = queryOut m c := by
  refine (dats m 0 c).arrAt_eq_of_covers 14 _ (by decide +kernel) fun t hf y => ?_
  blk_simp
  rw [after0_14]
  have e1 : (win0_14.blk t).view.emb y 1 = y 1 := Fin.ext (by blk_simp [idx' t])
  have e2 : (win0_14.blk t).view.emb y 2 = y 2 := Fin.ext (by blk_simp [idx' t])
  have e0 : (((win0_14.blk t).view.emb y 0 : Fin 128) : ℕ) = 4 * t.val + (y 0 : Fin 4) := by
    blk_simp [idx' t]; exact congrArg (· + _) (mul_comm _ _)
  have key : ∀ B : Fin 128, ∀ j : Fin 256, j = y 2 → (B : ℕ) = 4 * t.val + (y 0 : Fin 4) →
      (outsAt0 m c t.val t.isLt).2.1 y = queryOf m c B (y 1) j := by
    intro B j hj hB
    have hr : 256 * (B : ℕ) + (j : ℕ) = 1024 * t.val + (256 * ((y 0 : Fin 4) : ℕ) + (y 2 : Fin 256)) := by rw [hj]; omega
    by_cases h4 : t.val % 4 = 0
    · exact (queries_A m c t h4 (fine m c hR t _ (carried_first m c t h4)) y).trans (query_blk m c t _ (carried_first m c t h4) (y 0) (y 1) (y 2) _ hr)
    · exact (queries_B m c t h4 _ rfl (fine m c hR t _ (carried_next m c hR t h4)) y).trans (query_blk m c t _ (carried_next m c hR t h4) (y 0) (y 1) (y 2) _ hr)
  unfold queryOut
  rw [e1]
  exact key _ _ e2 e0

end Cert.Kernel6Ideal.In

end
-- ==== Proof.InRefKeys.lean ====
/-
  The input projection's reference: the forget gates' running sums, the packed keys and the packed transposed queries.
-/
module

public import proofs.«01_k».proof.Proof.InMath
public import proofs.«01_k».proof.Proof.GlaRef
public import proofs.«01_k».proof.Proof.Gen.Reference6Ideal.Run

@[expose] public section

set_option maxRecDepth 16384

noncomputable section

namespace Cert.Reference6Ideal.In

open Cert.Reference6Ideal Cert.Reference6Ideal.Gen Idealize.ShloMosaic Idealize.ShloMosaic.TcCoe Idealize.SL.Sem
open Cert.Proof Cert.Proof.Inp

/-- The reference's forget gate inputs: eight columns plus the bias. -/
def forgets {F : FTy → Type} [FloatOps F] (z : FVec F S8x4096x3096 .f32) (b : FVec F S1x8 .f32) : FVec F S8x4096x8 .f32 :=
  addf (extractStridedSlice S8x4096x8 ![0, 0, 1536] z slices_S8x4096x3096_S8x4096x8_0_0_1536)
    (broadcastInDim S8x4096x8 ![0, 1, 2] bcast_S1x1x8_S8x4096x8_0_1_2 (broadcastInDim S1x1x8 ![2] bcast_S8_S1x1x8_2 (shapeCast S8 b shapeCasts_S1x8_S8)))

/-- They at an index. -/
theorem forgets_apply (z : FVec Ideal S8x4096x3096 .f32) (b : FVec Ideal S1x8 .f32) (B : Fin 8) (T : Fin 4096) (l : Fin 8) :
    forgets z b (ix3 B T l) = z (ix3 B T ⟨1536 + l, by omega⟩) + b (ix2 0 l) := by
  unfold forgets
  pointwise

/-- The reference's softplus of the forget gates. -/
def softs {F : FTy → Type} [FloatOps F] (y : FVec F S8x4096x8 .f32) : FVec F S8x4096x8 .f32 :=
  let o : FVec F S8x4096x8 .f32 := broadcastInDim S8x4096x8 ![] bcast_S_S8x4096x8 (constant S_ .f32 0x00000000#32)
  select (cmpf .une (subf y o) (subf y o)) (addf y o) (addf (maximumf y o) (Host.log1p (Host.exp (Host.negf (Host.absf (subf y o))))))

/-- It at an index. -/
theorem softs_apply (y : FVec Ideal S8x4096x8 .f32) (B : Fin 8) (T : Fin 4096) (l : Fin 8) :
    softs y (ix3 B T l) = max (y (ix3 B T l)) 0 + Ideal.log1p (Ideal.exp (-max (y (ix3 B T l)) (-y (ix3 B T l)))) := by
  unfold softs
  pointwise
  exact if_neg fun h => h rfl

/-- The reference's log forget gates. -/
def logs {F : FTy → Type} [FloatOps F] (y : FVec F S8x4096x8 .f32) : FVec F S8x4096x8 .f32 := Host.negf (softs (Host.negf y))

/-- They at an index. -/
theorem logs_apply (y : FVec Ideal S8x4096x8 .f32) (B : Fin 8) (T : Fin 4096) (l : Fin 8) :
    logs y (ix3 B T l) = min (y (ix3 B T l)) 0 - Ideal.log1p (Ideal.exp (-max (y (ix3 B T l)) (-y (ix3 B T l)))) := by
  unfold logs
  pointwise [softs_apply]
  rw [log_logistic]

/-- The reference's running sums over a sequence's tokens. -/
def sums {F : FTy → Type} [FloatOps F] (x : FVec F S8x4096x8 .f32) : FVec F S8x4096x8 .f32 :=
  Host.reduceWindowAdd ![1, 4096, 1] ![1, 1, 1] ![0, 4095, 0] ![0, 0, 0] x (broadcastInDim S_ ![] bcast_S_S_ (constant S_ .f32 0x00000000#32))
    reduceWindows_S8x4096x8_S8x4096x8_w1s1p0_0_w4096s1p4095_0_w1s1p0_0 h_S_

/-- They at an index. -/
theorem sums_apply (x : FVec Ideal S8x4096x8 .f32) (b : Fin 8) (a : Fin 4096) (d : Fin 8) :
    sums x (ix3 b a d) = ∑ i : Fin 4096, if i ≤ a then x (ix3 b i d) else 0 := by
  have hz : (broadcastInDim S_ ![] bcast_S_S_ (constant (F := Ideal) S_ .f32 0x00000000#32)) (Shape.Idx.first h_S_) = (0 : EReal) := by
    pointwise
  unfold sums Host.reduceWindowAdd
  rw [hz]
  refine (Cert.ReferenceIdeal.Gla.window_sum (s := S8x4096x8) (t := S8x4096x8) _ _ _ _ _ x _).trans ?_
  refine (sum_idx3 (n0 := 1) (n1 := 4096) (n2 := 1) _).trans ?_
  simp only [Fin.sum_univ_one, Fin.isValue]
  have key : ∀ w : Fin 4096, (if hin : ∀ e : Fin 3, (![0, 4095, 0] : Fin 3 → ℕ) e ≤ ((ix3 b a d : S8x4096x8.Idx) e : ℕ) * (![1, 1, 1] : Fin 3 → ℕ) e + ((ix3 (0 : Fin 1) w (0 : Fin 1) : (⟨3, ![1, 4096, 1]⟩ : Shape).Idx) e : ℕ) ∧ ((ix3 b a d : S8x4096x8.Idx) e : ℕ) * (![1, 1, 1] : Fin 3 → ℕ) e + ((ix3 (0 : Fin 1) w (0 : Fin 1) : (⟨3, ![1, 4096, 1]⟩ : Shape).Idx) e : ℕ) - (![0, 4095, 0] : Fin 3 → ℕ) e < S8x4096x8.size e
        then x (fun e => ⟨((ix3 b a d : S8x4096x8.Idx) e : ℕ) * (![1, 1, 1] : Fin 3 → ℕ) e + ((ix3 (0 : Fin 1) w (0 : Fin 1) : (⟨3, ![1, 4096, 1]⟩ : Shape).Idx) e : ℕ) - (![0, 4095, 0] : Fin 3 → ℕ) e, (hin e).2⟩) else (0 : EReal))
      = if hw : 4095 ≤ (a : ℕ) + w then x (ix3 b ⟨(a : ℕ) + w - 4095, by omega⟩ d) else 0 := by
    intro w
    by_cases hw : 4095 ≤ (a : ℕ) + w
    · rw [dif_pos hw, dif_pos]
      · refine congrArg x (funext fun e => Fin.ext ?_)
        fin_cases e <;> simp [ix3]
      · intro e
        fin_cases e <;> simp [ix3] <;> omega
    · rw [dif_neg hw, dif_neg]
      intro hin
      have := (hin 1).1
      simp [ix3] at this
      omega
  refine (Finset.sum_congr rfl fun w _ => key w).trans ?_
  refine Finset.sum_bij_ne_zero (fun w _ _ => ⟨((a : ℕ) + w - 4095) % 4096, Nat.mod_lt _ (by norm_num)⟩) (fun _ _ _ => Finset.mem_univ _) ?_ ?_ ?_
  · intro w _ hw w' _ hw' e
    have g : 4095 ≤ (a : ℕ) + w := by by_contra g; exact hw (dif_neg g)
    have g' : 4095 ≤ (a : ℕ) + w' := by by_contra g; exact hw' (dif_neg g)
    have e' := congrArg Fin.val e
    simp only at e'
    exact Fin.ext (by omega)
  · intro i _ hi
    have g : i ≤ a := by by_contra g; exact hi (if_neg g)
    have g' : (i : ℕ) ≤ a := g
    refine ⟨⟨(i : ℕ) + 4095 - a, by omega⟩, Finset.mem_univ _, ?_, ?_⟩
    · have e : (⟨(a : ℕ) + ((i : ℕ) + 4095 - a) - 4095, by omega⟩ : Fin 4096) = i := Fin.ext (by simp only; omega)
      rw [if_pos g] at hi
      rw [dif_pos (by simp only; omega)]
      simp only [e]
      exact hi
    · exact Fin.ext (by simp only; omega)
  · intro w _ hw
    have g : 4095 ≤ (a : ℕ) + w := by by_contra g; exact hw (dif_neg g)
    have e : (⟨((a : ℕ) + w - 4095) % 4096, Nat.mod_lt _ (by norm_num)⟩ : Fin 4096) = ⟨(a : ℕ) + w - 4095, by omega⟩ := Fin.ext (by simp only; omega)
    rw [dif_pos g, e, if_pos (show (⟨(a : ℕ) + w - 4095, by omega⟩ : Fin 4096) ≤ a from by show (a : ℕ) + w - 4095 ≤ a; omega)]

/-- The reference's running sums in base two. -/
def scaled {F : FTy → Type} [FloatOps F] (x : FVec F S8x4096x8 .f32) : FVec F S8x4096x8 .f32 :=
  mulf (sums x) (broadcastInDim S8x4096x8 ![] bcast_S_S8x4096x8 (constant S_ .f32 0x3FB8AA3B#32))

/-- They at an index. -/
theorem scaled_apply (x : FVec Ideal S8x4096x8 .f32) (b : Fin 8) (a : Fin 4096) (d : Fin 8) :
    scaled x (ix3 b a d) = (∑ i : Fin 4096, if i ≤ a then x (ix3 b i d) else 0) * Ideal.ofBits .f32 0x3FB8AA3B#32 := by
  unfold scaled
  pointwise [sums_apply]

/-- A pair of heads: the even head before its side lanes, the odd head behind its own. -/
def pairs {F : FTy → Type} [FloatOps F] (x s : FVec F S32768x4x2x64 .f32) : FVec F S32768x4x256 .f32 :=
  concatenate S32768x4x256 2
    [⟨S32768x4x64, shapeCast S32768x4x64 (extractStridedSlice S32768x4x1x64 ![0, 0, 0, 0] x slices_S32768x4x2x64_S32768x4x1x64_0_0_0_0) shapeCasts_S32768x4x1x64_S32768x4x64⟩,
      ⟨S32768x4x64, shapeCast S32768x4x64 (extractStridedSlice S32768x4x1x64 ![0, 0, 0, 0] s slices_S32768x4x2x64_S32768x4x1x64_0_0_0_0) shapeCasts_S32768x4x1x64_S32768x4x64⟩,
      ⟨S32768x4x64, shapeCast S32768x4x64 (extractStridedSlice S32768x4x1x64 ![0, 0, 1, 0] s slices_S32768x4x2x64_S32768x4x1x64_0_0_1_0) shapeCasts_S32768x4x1x64_S32768x4x64⟩,
      ⟨S32768x4x64, shapeCast S32768x4x64 (extractStridedSlice S32768x4x1x64 ![0, 0, 1, 0] x slices_S32768x4x2x64_S32768x4x1x64_0_0_1_0) shapeCasts_S32768x4x1x64_S32768x4x64⟩]
    concatenates_S32768x4x64_S32768x4x64_S32768x4x64_S32768x4x64_S32768x4x256_d2

/-- They at an index. -/
theorem pairs_apply (x s : FVec Ideal S32768x4x2x64 .f32) (R : Fin 32768) (p : Fin 4) (l : Fin 256) :
    pairs x s (ix3 R p l) = if ((l : ℕ) % 128 < 64 ↔ (l : ℕ) / 128 = 0) then x (ix4 R p ⟨l / 128, by omega⟩ ⟨l % 64, by omega⟩)
      else s (ix4 R p ⟨l / 128, by omega⟩ ⟨l % 64, by omega⟩) := by
  unfold pairs
  pointwise
  by_cases h1 : (l : ℕ) < 64
  · refine (dif_pos h1).trans ?_
    refine Eq.trans ?_ (if_pos (by omega)).symm
    exact congrArg₂ (fun q j => x (ix4 R p q j)) (Fin.ext (by show 0 = (l : ℕ) / 128; omega)) (Fin.ext (by show (l : ℕ) = (l : ℕ) % 64; omega))
  refine (dif_neg h1).trans ?_
  by_cases h2 : (l : ℕ) - 64 < 64
  · refine (dif_pos h2).trans ?_
    refine Eq.trans ?_ (if_neg (by omega)).symm
    exact congrArg₂ (fun q j => s (ix4 R p q j)) (Fin.ext (by show 0 = (l : ℕ) / 128; omega)) (Fin.ext (by show (l : ℕ) - 64 = (l : ℕ) % 64; omega))
  refine (dif_neg h2).trans ?_
  by_cases h3 : (l : ℕ) - 64 - 64 < 64
  · refine (dif_pos h3).trans ?_
    refine Eq.trans ?_ (if_neg (by omega)).symm
    exact congrArg₂ (fun q j => s (ix4 R p q j)) (Fin.ext (by show 1 = (l : ℕ) / 128; omega)) (Fin.ext (by show (l : ℕ) - 64 - 64 = (l : ℕ) % 64; omega))
  · refine (dif_neg h3).trans ?_
    refine Eq.trans ?_ (if_pos (by omega)).symm
    exact congrArg₂ (fun q j => x (ix4 R p q j)) (Fin.ext (by show 1 = (l : ℕ) / 128; omega)) (Fin.ext (by show (l : ℕ) - 64 - 64 - 64 = (l : ℕ) % 64; omega))

/-- The keys' side lanes: one, one, one, the negated running sum, nothing. -/
def keySide {F : FTy → Type} [FloatOps F] (y : FVec F S8x4096x8 .f32) : FVec F S32768x4x2x64 .f32 :=
  concatenate S32768x4x2x64 3
    [⟨S32768x4x2x3, broadcastInDim S32768x4x2x3 ![] bcast_S_S32768x4x2x3 (constant S_ .f32 0x3F800000#32)⟩,
      ⟨S32768x4x2x1, Host.negf (shapeCast S32768x4x2x1 y shapeCasts_S8x4096x8_S32768x4x2x1)⟩,
      ⟨S32768x4x2x60, broadcastInDim S32768x4x2x60 ![] bcast_S_S32768x4x2x60 (constant S_ .f32 0x00000000#32)⟩]
    concatenates_S32768x4x2x3_S32768x4x2x1_S32768x4x2x60_S32768x4x2x64_d3

/-- They at an index. -/
theorem keySide_apply (y : FVec Ideal S8x4096x8 .f32) (R : Fin 32768) (p : Fin 4) (q : Fin 2) (j : Fin 64) :
    keySide y (ix4 R p q j) = if (j : ℕ) < 3 then 1 else if (j : ℕ) = 3 then -y (ix3 ⟨R / 4096, by omega⟩ ⟨R % 4096, by omega⟩ ⟨2 * p + q, by omega⟩) else 0 := by
  unfold keySide
  pointwise
  have e : (⟨(p : ℕ) * 2 + q, by omega⟩ : Fin 8) = ⟨2 * p + q, by omega⟩ := Fin.ext (by simp only; omega)
  rw [e]
  by_cases h1 : (j : ℕ) < 3
  · refine (dif_pos h1).trans ?_
    refine Eq.trans ?_ (if_pos h1).symm
    rfl
  refine (dif_neg h1).trans ?_
  refine Eq.trans ?_ (if_neg h1).symm
  by_cases h2 : (j : ℕ) = 3
  · refine (dif_pos (by omega)).trans ?_
    refine Eq.trans ?_ (if_pos h2).symm
    rfl
  · refine (dif_neg (by omega)).trans ?_
    refine Eq.trans ?_ (if_neg h2).symm
    rfl

/-- The queries' side lanes: the running sum, two of nothing, one, one, one, nothing. -/
def querySide {F : FTy → Type} [FloatOps F] (y : FVec F S8x4096x8 .f32) : FVec F S32768x4x2x64 .f32 :=
  concatenate S32768x4x2x64 3
    [⟨S32768x4x2x1, shapeCast S32768x4x2x1 y shapeCasts_S8x4096x8_S32768x4x2x1⟩,
      ⟨S32768x4x2x2, broadcastInDim S32768x4x2x2 ![] bcast_S_S32768x4x2x2 (constant S_ .f32 0x00000000#32)⟩,
      ⟨S32768x4x2x3, broadcastInDim S32768x4x2x3 ![] bcast_S_S32768x4x2x3 (constant S_ .f32 0x3F800000#32)⟩,
      ⟨S32768x4x2x58, broadcastInDim S32768x4x2x58 ![] bcast_S_S32768x4x2x58 (constant S_ .f32 0x00000000#32)⟩]
    concatenates_S32768x4x2x1_S32768x4x2x2_S32768x4x2x3_S32768x4x2x58_S32768x4x2x64_d3

/-- They at an index. -/
theorem querySide_apply (y : FVec Ideal S8x4096x8 .f32) (R : Fin 32768) (p : Fin 4) (q : Fin 2) (j : Fin 64) :
    querySide y (ix4 R p q j) = if (j : ℕ) = 0 then y (ix3 ⟨R / 4096, by omega⟩ ⟨R % 4096, by omega⟩ ⟨2 * p + q, by omega⟩) else if 3 ≤ (j : ℕ) ∧ (j : ℕ) < 6 then 1 else 0 := by
  unfold querySide
  pointwise
  have e : (⟨(p : ℕ) * 2 + q, by omega⟩ : Fin 8) = ⟨2 * p + q, by omega⟩ := Fin.ext (by simp only; omega)
  rw [e]
  by_cases h1 : (j : ℕ) = 0
  · refine (dif_pos (by omega)).trans ?_
    refine Eq.trans ?_ (if_pos h1).symm
    rfl
  refine (dif_neg (by omega)).trans ?_
  refine Eq.trans ?_ (if_neg h1).symm
  by_cases h2 : (j : ℕ) < 3
  · refine (dif_pos (by omega)).trans ?_
    refine Eq.trans ?_ (if_neg (by omega)).symm
    rfl
  refine (dif_neg (by omega)).trans ?_
  by_cases h3 : (j : ℕ) < 6
  · refine (dif_pos (by omega)).trans ?_
    refine Eq.trans ?_ (if_pos (by omega)).symm
    rfl
  · refine (dif_neg (by omega)).trans ?_
    refine Eq.trans ?_ (if_neg (by omega)).symm
    rfl

/-- The reference's packed keys. -/
def keys {F : FTy → Type} [FloatOps F] (z : FVec F S8x4096x3096 .f32) (y : FVec F S8x4096x8 .f32) : FVec F S32768x1024 .bf16 :=
  truncf .bf16 (shapeCast S32768x1024 (pairs (shapeCast S32768x4x2x64 (extractStridedSlice S8x4096x512 ![0, 0, 512] z slices_S8x4096x3096_S8x4096x512_0_0_512) shapeCasts_S8x4096x512_S32768x4x2x64)
    (keySide y)) shapeCasts_S32768x4x256_S32768x1024) bitsLt_bf16_f32

/-- They at an index. -/
theorem keys_apply (z : FVec Ideal S8x4096x3096 .f32) (y : FVec Ideal S8x4096x8 .f32) (R : Fin 32768) (C : Fin 1024) :
    keys z y (ix2 R C) = if ((C : ℕ) % 128 < 64 ↔ (C : ℕ) / 128 % 2 = 0) then z (ix3 ⟨R / 4096, by omega⟩ ⟨R % 4096, by omega⟩ ⟨512 + (64 * ((C : ℕ) / 128) + (C : ℕ) % 64), by omega⟩)
      else if (C : ℕ) % 64 < 3 then 1 else if (C : ℕ) % 64 = 3 then -y (ix3 ⟨R / 4096, by omega⟩ ⟨R % 4096, by omega⟩ ⟨C / 128, by omega⟩) else 0 := by
  unfold keys
  pointwise [pairs_apply, keySide_apply]
  have e0 : (C : ℕ) % 256 % 64 = (C : ℕ) % 64 := by omega
  have e1 : (⟨2 * ((C : ℕ) / 256) + (C : ℕ) % 256 / 128, by omega⟩ : Fin 8) = ⟨(C : ℕ) / 128, by omega⟩ := Fin.ext (by simp only; omega)
  have e2 : (⟨512 + ((C : ℕ) / 256 * 128 + (C : ℕ) % 256 / 128 * 64 + (C : ℕ) % 256 % 64), by omega⟩ : Fin 3096) = ⟨512 + (64 * ((C : ℕ) / 128) + (C : ℕ) % 64), by omega⟩ :=
    Fin.ext (by simp only; omega)
  rw [e1, e2]
  simp only [e0]
  exact if_congr (by omega) rfl rfl

/-- The reference's packed transposed queries. -/
def queries {F : FTy → Type} [FloatOps F] (z : FVec F S8x4096x3096 .f32) (y : FVec F S8x4096x8 .f32) : FVec F S128x1024x256 .bf16 :=
  truncf .bf16 (transpose S128x1024x256 [0, 2, 1] (shapeCast S128x256x1024 (pairs (shapeCast S32768x4x2x64
      (mulf (extractStridedSlice S8x4096x512 ![0, 0, 0] z slices_S8x4096x3096_S8x4096x512_0_0_0) (broadcastInDim S8x4096x512 ![] bcast_S_S8x4096x512 (constant S_ .f32 0x3E38AA3B#32)))
      shapeCasts_S8x4096x512_S32768x4x2x64) (querySide y)) shapeCasts_S32768x4x256_S128x256x1024) transposes_S128x256x1024_S128x1024x256_0_2_1) bitsLt_bf16_f32

/-- They at an index. -/
theorem queries_apply (z : FVec Ideal S8x4096x3096 .f32) (y : FVec Ideal S8x4096x8 .f32) (b : Fin 128) (C : Fin 1024) (j : Fin 256) (R : Fin 32768) (hR : (R : ℕ) = 256 * b + j) :
    queries z y (ix3 b C j) = if ((C : ℕ) % 128 < 64 ↔ (C : ℕ) / 128 % 2 = 0) then
        z (ix3 ⟨R / 4096, by omega⟩ ⟨R % 4096, by omega⟩ ⟨64 * ((C : ℕ) / 128) + (C : ℕ) % 64, by omega⟩) * Ideal.ofBits .f32 0x3E38AA3B#32
      else if (C : ℕ) % 64 = 0 then y (ix3 ⟨R / 4096, by omega⟩ ⟨R % 4096, by omega⟩ ⟨C / 128, by omega⟩) else if 3 ≤ (C : ℕ) % 64 ∧ (C : ℕ) % 64 < 6 then 1 else 0 := by
  unfold queries
  pointwise [pairs_apply, querySide_apply]
  have e0 : (C : ℕ) % 256 % 64 = (C : ℕ) % 64 := by omega
  have e1 : (⟨2 * ((C : ℕ) / 256) + (C : ℕ) % 256 / 128, by omega⟩ : Fin 8) = ⟨(C : ℕ) / 128, by omega⟩ := Fin.ext (by simp only; omega)
  have e2 : (⟨(C : ℕ) / 256 * 128 + (C : ℕ) % 256 / 128 * 64 + (C : ℕ) % 256 % 64, by omega⟩ : Fin 3096) = ⟨64 * ((C : ℕ) / 128) + (C : ℕ) % 64, by omega⟩ :=
    Fin.ext (by simp only; omega)
  have e3 : (⟨((b : ℕ) * 256 + j) / 4096, by omega⟩ : Fin 8) = ⟨R / 4096, by omega⟩ := Fin.ext (by simp only; omega)
  have e4 : (⟨((b : ℕ) * 256 + j) % 4096, by omega⟩ : Fin 4096) = ⟨R % 4096, by omega⟩ := Fin.ext (by simp only; omega)
  rw [e1, e2, e3, e4]
  simp only [e0]
  exact if_congr (by omega) rfl rfl

end Cert.Reference6Ideal.In

end
-- ==== Proof.InRef.lean ====
/-
  The input projection's reference: its stages and its seven results at an index.
-/
module

public import proofs.«01_k».proof.Proof.InRefKeys
public import proofs.«01_k».proof.Proof.FfnFinal
public import proofs.«01_k».proof.Proof.Gen.Reference6Ideal.Run

@[expose] public section

set_option maxRecDepth 16384

noncomputable section

namespace Cert.Reference6Ideal.In

open Cert.Reference6Ideal Cert.Reference6Ideal.Gen Idealize.ShloMosaic Idealize.ShloMosaic.TcCoe Idealize.SL.Sem
open Cert.Proof Cert.Proof.Inp Cert.Reference2Ideal.Ffn

/-- The reference's projection of the normed activations. -/
def proj {F : FTy → Type} [FloatOps F] (x : FVec F S8x4096x1024 .f32) (g : FVec F S1x1024 .f32) (w : FVec F S1x1024x3096 .f32) : FVec F S8x4096x3096 .f32 :=
  Host.dotGeneral dot_S8x4096x1024_S1024x3096_S8x4096x3096_2_0_01_1_n_n none (norm x (shapeCast S1024 g shapeCasts_S1x1024_S1024))
    (shapeCast S1024x3096 w shapeCasts_S1x1024x3096_S1024x3096)

/-- It at an index. -/
theorem proj_apply (x : FVec Ideal S8x4096x1024 .f32) (g : FVec Ideal S1x1024 .f32) (w : FVec Ideal S1x1024x3096 .f32) (b : Fin 8) (t : Fin 4096) (j : Fin 3096) :
    proj x g w (ix3 b t j)
      = Rows.rowMul (Rows.rms Rows.width (fun k => x (ix3 b t k)) (fun k => g (ix2 0 k))) (fun k l => w (ix3 0 k l)) j := by
  unfold proj
  pointwise [dot_S8x4096x1024_S1024x3096_S8x4096x3096_2_0_01_1_n_n, norm_apply]
  rfl

/-- The reference's stacked values: per head 64 values, a one and 15 zeros, the tokens last. -/
def stack {F : FTy → Type} [FloatOps F] (z : FVec F S8x4096x3096 .f32) : FVec F S128x640x256 .bf16 :=
  truncf .bf16 (shapeCast S128x640x256 (transpose S128x8x80x256 [0, 2, 3, 1] (concatenate S128x256x8x80 3
      [⟨S128x256x8x64, shapeCast S128x256x8x64 (extractStridedSlice S8x4096x512 ![0, 0, 1024] z slices_S8x4096x3096_S8x4096x512_0_0_1024) shapeCasts_S8x4096x512_S128x256x8x64⟩,
        ⟨S128x256x8x1, broadcastInDim S128x256x8x1 ![] bcast_S_S128x256x8x1 (constant S_ .f32 0x3F800000#32)⟩,
        ⟨S128x256x8x15, broadcastInDim S128x256x8x15 ![] bcast_S_S128x256x8x15 (constant S_ .f32 0x00000000#32)⟩]
      concatenates_S128x256x8x64_S128x256x8x1_S128x256x8x15_S128x256x8x80_d3) transposes_S128x256x8x80_S128x8x80x256_0_2_3_1)
    shapeCasts_S128x8x80x256_S128x640x256) bitsLt_bf16_f32

/-- They at an index. -/
theorem stack_apply (z : FVec Ideal S8x4096x3096 .f32) (b : Fin 128) (r : Fin 640) (j : Fin 256) (R : Fin 32768) (hR : (R : ℕ) = 256 * b + j) :
    stack z (ix3 b r j) = if h : (r : ℕ) % 80 < 64 then z (ix3 ⟨R / 4096, by omega⟩ ⟨R % 4096, by omega⟩ ⟨1024 + (64 * ((r : ℕ) / 80) + (r : ℕ) % 80), by omega⟩)
      else if (r : ℕ) % 80 = 64 then 1 else 0 := by
  unfold stack
  pointwise
  have e0 : (⟨(b : ℕ) / 16, by omega⟩ : Fin 8) = ⟨R / 4096, by omega⟩ := Fin.ext (by simp only; omega)
  have e1 : (⟨(b : ℕ) % 16 * 256 + j, by omega⟩ : Fin 4096) = ⟨R % 4096, by omega⟩ := Fin.ext (by simp only; omega)
  by_cases h : (r : ℕ) % 80 < 64
  · rw [dif_pos h, dif_pos h, e0, e1]
    exact congrArg (fun t => z (ix3 _ _ t)) (Fin.ext (by simp only; omega))
  · rw [dif_neg h, dif_neg h]
    by_cases h' : (r : ℕ) % 80 = 64
    · rw [dif_pos (by omega), if_pos h']
    · rw [dif_neg (by omega), if_neg h']

/-- The reference's queries and keys, or its values: 512 columns from column `o`. -/
def first {F : FTy → Type} [FloatOps F] (z : FVec F S8x4096x3096 .f32) : FVec F S32768x512 .bf16 :=
  truncf .bf16 (shapeCast S32768x512 (extractStridedSlice S8x4096x512 ![0, 0, 1544] z slices_S8x4096x3096_S8x4096x512_0_0_1544) shapeCasts_S8x4096x512_S32768x512) bitsLt_bf16_f32

/-- They at an index. -/
theorem first_apply (z : FVec Ideal S8x4096x3096 .f32) (R : Fin 32768) (l : Fin 512) :
    first z (ix2 R l) = z (ix3 ⟨R / 4096, by omega⟩ ⟨R % 4096, by omega⟩ ⟨1544 + l, by omega⟩) := by
  unfold first
  pointwise

/-- The reference's values. -/
def second {F : FTy → Type} [FloatOps F] (z : FVec F S8x4096x3096 .f32) : FVec F S32768x512 .bf16 :=
  truncf .bf16 (shapeCast S32768x512 (extractStridedSlice S8x4096x512 ![0, 0, 2056] z slices_S8x4096x3096_S8x4096x512_0_0_2056) shapeCasts_S8x4096x512_S32768x512) bitsLt_bf16_f32

/-- They at an index. -/
theorem second_apply (z : FVec Ideal S8x4096x3096 .f32) (R : Fin 32768) (l : Fin 512) :
    second z (ix2 R l) = z (ix3 ⟨R / 4096, by omega⟩ ⟨R % 4096, by omega⟩ ⟨2056 + l, by omega⟩) := by
  unfold second
  pointwise

/-- The reference's gates. -/
def swish {F : FTy → Type} [FloatOps F] (z : FVec F S8x4096x3096 .f32) : FVec F S32768x512 .bf16 :=
  truncf .bf16 (shapeCast S32768x512 (mulf (extractStridedSlice S8x4096x512 ![0, 0, 2584] z slices_S8x4096x3096_S8x4096x512_0_0_2584)
      (Host.divf (broadcastInDim S8x4096x512 ![] bcast_S_S8x4096x512 (constant S_ .f32 0x3F800000#32))
        (addf (broadcastInDim S8x4096x512 ![] bcast_S_S8x4096x512 (constant S_ .f32 0x3F800000#32))
          (Host.exp (Host.negf (extractStridedSlice S8x4096x512 ![0, 0, 2584] z slices_S8x4096x3096_S8x4096x512_0_0_2584))))))
    shapeCasts_S8x4096x512_S32768x512) bitsLt_bf16_f32

/-- They at an index. -/
theorem swish_apply (z : FVec Ideal S8x4096x3096 .f32) (R : Fin 32768) (l : Fin 512) :
    swish z (ix2 R l) = z (ix3 ⟨R / 4096, by omega⟩ ⟨R % 4096, by omega⟩ ⟨2584 + l, by omega⟩)
      * Ideal.logistic (z (ix3 ⟨R / 4096, by omega⟩ ⟨R % 4096, by omega⟩ ⟨2584 + l, by omega⟩)) := by
  unfold swish
  pointwise
  rfl

/-- The reference's gate inputs: the narrow columns' product with the second weights plus the bias. -/
def inputs {F : FTy → Type} [FloatOps F] (z : FVec F S8x4096x3096 .f32) (w : FVec F S1x16x256 .f32) (b : FVec F S1x256 .f32) : FVec F S8x4096x256 .f32 :=
  addf (Host.dotGeneral dot_S8x4096x16_S16x256_S8x4096x256_2_0_01_1_n_n none
      (extractStridedSlice S8x4096x16 ![0, 0, 2568] z slices_S8x4096x3096_S8x4096x16_0_0_2568) (shapeCast S16x256 w shapeCasts_S1x16x256_S16x256))
    (broadcastInDim S8x4096x256 ![0, 1, 2] bcast_S1x1x256_S8x4096x256_0_1_2
      (broadcastInDim S1x1x256 ![2] bcast_S256_S1x1x256_2 (shapeCast S256 b shapeCasts_S1x256_S256)))

/-- They at an index. -/
theorem inputs_apply (z : FVec Ideal S8x4096x3096 .f32) (w : FVec Ideal S1x16x256 .f32) (b : FVec Ideal S1x256 .f32) (B : Fin 8) (T : Fin 4096) (l : Fin 256) :
    inputs z w b (ix3 B T l) = ∑ k : Fin 16, z (ix3 B T ⟨2568 + k, by omega⟩) * w (ix3 0 k l) + b (ix2 0 l) := by
  unfold inputs
  pointwise [dot_S8x4096x16_S16x256_S8x4096x256_2_0_01_1_n_n]

/-- The reference's softplus. -/
def soft {F : FTy → Type} [FloatOps F] (y : FVec F S8x4096x256 .f32) : FVec F S8x4096x256 .f32 :=
  let o : FVec F S8x4096x256 .f32 := broadcastInDim S8x4096x256 ![] bcast_S_S8x4096x256 (constant S_ .f32 0x00000000#32)
  select (cmpf .une (subf y o) (subf y o)) (addf y o) (addf (maximumf y o) (Host.log1p (Host.exp (Host.negf (Host.absf (subf y o))))))

/-- It at an index. -/
theorem soft_apply (y : FVec Ideal S8x4096x256 .f32) (B : Fin 8) (T : Fin 4096) (l : Fin 256) :
    soft y (ix3 B T l) = max (y (ix3 B T l)) 0 + Ideal.log1p (Ideal.exp (-max (y (ix3 B T l)) (-y (ix3 B T l)))) := by
  unfold soft
  pointwise
  exact if_neg fun h => h rfl

/-- The reference's log decays. -/
def decay {F : FTy → Type} [FloatOps F] (y : FVec F S8x4096x256 .f32) : FVec F S32768x256 .f32 :=
  shapeCast S32768x256 (Host.divf (Host.negf (soft (Host.negf y))) (broadcastInDim S8x4096x256 ![] bcast_S_S8x4096x256 (constant S_ .f32 0x41800000#32)))
    shapeCasts_S8x4096x256_S32768x256

/-- They at an index. -/
theorem decay_apply (y : FVec Ideal S8x4096x256 .f32) (R : Fin 32768) (l : Fin 256) (x : EReal)
    (hx : y (ix3 ⟨R / 4096, by omega⟩ ⟨R % 4096, by omega⟩ l) = x) :
    decay y (ix2 R l) = Ideal.div (min x 0 - Ideal.log1p (Ideal.exp (-max x (-x)))) (Ideal.ofBits .f32 0x41800000#32) := by
  unfold decay
  pointwise [soft_apply]
  rw [hx, log_logistic]

/-- The reference's composed log decays are those stages of the launched arguments. -/
theorem res_eq {F : FTy → Type} [FloatOps F] (m : (ℓ : Loc nD τ sig) → Buf (Elt F) ℓ) (c : Dev nD) :
    Value.res_main_v81 m c = decay (inputs (proj (m ((c : Thread nD τ).loc main_arg0)) (m ((c : Thread nD τ).loc main_arg1)) (m ((c : Thread nD τ).loc main_arg2)))
      (m ((c : Thread nD τ).loc main_arg4)) (m ((c : Thread nD τ).loc main_arg5))) := rfl

/-- So are its packed keys. -/
theorem keys_eq {F : FTy → Type} [FloatOps F] (m : (ℓ : Loc nD τ sig) → Buf (Elt F) ℓ) (c : Dev nD) :
    Value.res_main_v85 m c = keys (proj (m ((c : Thread nD τ).loc main_arg0)) (m ((c : Thread nD τ).loc main_arg1)) (m ((c : Thread nD τ).loc main_arg2)))
      (scaled (logs (forgets (proj (m ((c : Thread nD τ).loc main_arg0)) (m ((c : Thread nD τ).loc main_arg1)) (m ((c : Thread nD τ).loc main_arg2))) (m ((c : Thread nD τ).loc main_arg3))))) := rfl

/-- So are its packed transposed queries. -/
theorem queries_eq {F : FTy → Type} [FloatOps F] (m : (ℓ : Loc nD τ sig) → Buf (Elt F) ℓ) (c : Dev nD) :
    Value.res_main_v86 m c = queries (proj (m ((c : Thread nD τ).loc main_arg0)) (m ((c : Thread nD τ).loc main_arg1)) (m ((c : Thread nD τ).loc main_arg2)))
      (scaled (logs (forgets (proj (m ((c : Thread nD τ).loc main_arg0)) (m ((c : Thread nD τ).loc main_arg1)) (m ((c : Thread nD τ).loc main_arg2))) (m ((c : Thread nD τ).loc main_arg3))))) := rfl

/-- The reference runs and ends at those stages. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v85) = keys (proj (m ((c : Thread nD τ).loc main_arg0)) (m ((c : Thread nD τ).loc main_arg1)) (m ((c : Thread nD τ).loc main_arg2)))
          (scaled (logs (forgets (proj (m ((c : Thread nD τ).loc main_arg0)) (m ((c : Thread nD τ).loc main_arg1)) (m ((c : Thread nD τ).loc main_arg2))) (m ((c : Thread nD τ).loc main_arg3)))))
      ∧ r.2.mem ((c.tc : Thread nD τ).loc main_v86) = queries (proj (m ((c : Thread nD τ).loc main_arg0)) (m ((c : Thread nD τ).loc main_arg1)) (m ((c : Thread nD τ).loc main_arg2)))
          (scaled (logs (forgets (proj (m ((c : Thread nD τ).loc main_arg0)) (m ((c : Thread nD τ).loc main_arg1)) (m ((c : Thread nD τ).loc main_arg2))) (m ((c : Thread nD τ).loc main_arg3)))))
      ∧ r.2.mem ((c.tc : Thread nD τ).loc main_v87) = stack (proj (m ((c : Thread nD τ).loc main_arg0)) (m ((c : Thread nD τ).loc main_arg1)) (m ((c : Thread nD τ).loc main_arg2)))
      ∧ r.2.mem ((c.tc : Thread nD τ).loc main_v88) = first (proj (m ((c : Thread nD τ).loc main_arg0)) (m ((c : Thread nD τ).loc main_arg1)) (m ((c : Thread nD τ).loc main_arg2)))
      ∧ r.2.mem ((c.tc : Thread nD τ).loc main_v89) = second (proj (m ((c : Thread nD τ).loc main_arg0)) (m ((c : Thread nD τ).loc main_arg1)) (m ((c : Thread nD τ).loc main_arg2)))
      ∧ r.2.mem ((c.tc : Thread nD τ).loc main_v81) = decay (inputs (proj (m ((c : Thread nD τ).loc main_arg0)) (m ((c : Thread nD τ).loc main_arg1)) (m ((c : Thread nD τ).loc main_arg2)))
          (m ((c : Thread nD τ).loc main_arg4)) (m ((c : Thread nD τ).loc main_arg5)))
      ∧ r.2.mem ((c.tc : Thread nD τ).loc main_v90) = swish (proj (m ((c : Thread nD τ).loc main_arg0)) (m ((c : Thread nD τ).loc main_arg1)) (m ((c : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨⟨(h c).1.trans (keys_eq m c), (h c).2.1.trans (queries_eq m c), (h c).2.2.1, (h c).2.2.2.1, (h c).2.2.2.2.1, (h c).2.2.2.2.2.1.trans (res_eq m c), (h c).2.2.2.2.2.2.1⟩,
    (h c).2.2.2.2.2.2.2⟩) (Value.run m ρ)

end Cert.Reference6Ideal.In
-- ==== Proof.InClaims.lean ====
/-
  The input projection: the precondition and the claims.
-/
module

public import proofs.«01_k».proof.Defs
public import proofs.«01_k».proof.Proof.InArrays
public import proofs.«01_k».proof.Proof.InRef
public import proofs.«01_k».proof.Proof.Gen.Kernel6.Frame
public import Idealize.ShloMosaic.Lib.ReduceAll

@[expose] public section

set_option maxRecDepth 16384

noncomputable section

namespace Cert.Proof.Inp

open Idealize.ShloMosaic Idealize.ShloMosaic.TcCoe Idealize.SL.Sem

/-- The precondition's shape relations. -/
theorem finite_facts : Cert.Pre_finite.Facts :=
  ⟨by decide, by decide, by decide, by decide, by decide, by decide, by decide, by decide, by decide, by decide, by decide⟩

/-- A conjunction of two bits that is one has both bits one. -/
theorem andi_one {a b : BitVec 1} (h : IntOp.andi a b = 1#1) : a = 1#1 ∧ b = 1#1 := by
  revert a b
  decide

/-- A number whose magnitude compares below +∞ is real. -/
theorem isReal_of_cmp {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  refine isReal_of_abs ?_
  by_contra hn
  simp [Ideal.cmp, hn] at h

/-- Under the precondition the activations, the norm weights, both weights and the forget biases are real. -/
theorem reals [hPre_finite : Cert.Pre_finite.Facts] (m : (ℓ : Loc Cert.Kernel6Ideal.nD Cert.Kernel6Ideal.τ Cert.Kernel6Ideal.sig) → Buf (Elt Ideal) ℓ)
    (h : Cert.Pre_Kernel6Ideal_finite m) (c : Dev Cert.Kernel6Ideal.nD) :
    (∀ i, IsReal (m ((c.tc : Thread Cert.Kernel6Ideal.nD Cert.Kernel6Ideal.τ).loc Cert.Kernel6Ideal.main_arg0) i))
      ∧ (∀ i, IsReal (m ((c.tc : Thread Cert.Kernel6Ideal.nD Cert.Kernel6Ideal.τ).loc Cert.Kernel6Ideal.main_arg1) i))
      ∧ (∀ i, IsReal (m ((c.tc : Thread Cert.Kernel6Ideal.nD Cert.Kernel6Ideal.τ).loc Cert.Kernel6Ideal.main_arg2) i))
      ∧ (∀ i, IsReal (m ((c.tc : Thread Cert.Kernel6Ideal.nD Cert.Kernel6Ideal.τ).loc Cert.Kernel6Ideal.main_arg3) i))
      ∧ (∀ i, IsReal (m ((c.tc : Thread Cert.Kernel6Ideal.nD Cert.Kernel6Ideal.τ).loc Cert.Kernel6Ideal.main_arg4) i)) := by
  have e := congrFun (h c) (Shape.Idx.first Cert.Pre_finite.Facts.h_S_)
  obtain ⟨e0123, e4⟩ := andi_one e
  obtain ⟨e012, e3⟩ := andi_one e0123
  obtain ⟨e01, e2⟩ := andi_one e012
  obtain ⟨e0, e1⟩ := andi_one e01
  exact ⟨fun i => isReal_of_cmp (Host.reduce_andi_all _ _ _ _ _ e0 i), fun i => isReal_of_cmp (Host.reduce_andi_all _ _ _ _ _ e1 i),
    fun i => isReal_of_cmp (Host.reduce_andi_all _ _ _ _ _ e2 i),
    fun i => isReal_of_cmp (Host.reduce_andi_all _ _ _ _ _ e3 i), fun i => isReal_of_cmp (Host.reduce_andi_all _ _ _ _ _ e4 i)⟩

/-- The kernel program runs and leaves its arguments. -/
theorem frame_kernel : Cert.quiescent_Kernel6 := fun m ρ _ => Cert.Kernel6.Gen.frame m ρ

/-- The idealized kernel program runs and leaves its arguments. -/
theorem frame_ideal : Cert.quiescent_Kernel6Ideal := fun m ρ _ => Cert.Kernel6Ideal.Gen.frame m ρ

/-- So it does under the precondition. -/
theorem frame_ideal_pre [hPre_finite : Cert.Pre_finite.Facts] : Cert.quiescent_Kernel6Ideal_pre_finite := fun m ρ _ => Cert.Kernel6Ideal.Gen.frame m ρ

/-- The reference program runs and leaves its arguments. -/
theorem frame_reference : Cert.quiescent_Reference6Ideal := fun m ρ _ =>
  (θ_run Cert.Reference6Ideal.defs _ _).mono (fun r h => ⟨fun c => (h c).2, sem_eq_zero_of_no_sems (by decide) r.2⟩) (Cert.Reference6Ideal.In.run (F := Ideal) m ρ)

/-- So it does under the precondition. -/
theorem frame_reference_pre [hPre_finite : Cert.Pre_finite.Facts] : Cert.quiescent_Reference6Ideal_pre_finite := fun m ρ _ => frame_reference m ρ trivial

/-- For real activations, weights and forget biases the kernel's seven results over the extended reals are the reference's. -/
theorem algebraic [hPre_finite : Cert.Pre_finite.Facts] : Cert.algebraic_Kernel6Ideal_Reference6Ideal_pre_finite := by
  intro m ρ m' ρ' hpre hagree
  refine ⟨fun c => Cert.Kernel6Ideal.In.keyOut m c, fun c => Cert.Kernel6Ideal.In.queryOut m c, fun c => Cert.Kernel6Ideal.In.stackOut m c, fun c => Cert.Kernel6Ideal.In.firstOut m c, fun c => Cert.Kernel6Ideal.In.secondOut m c,
    fun c => Cert.Kernel6Ideal.In.decayOut m c, fun c => Cert.Kernel6Ideal.In.swishOut m c, ?_, ?_⟩
  · refine (θ_run Cert.Kernel6Ideal.defs _ _).mono (fun _ h c => ?_) (Cert.Kernel6Ideal.Value.run_blocks (F := Ideal) m ρ)
    obtain ⟨h0, h1, h2, h3, h4, h5, h6, ha⟩ := h c
    obtain ⟨r0, r1, r2, r3, -⟩ := reals m hpre c
    exact ⟨h0.trans (Cert.Kernel6Ideal.In.final_key m c ⟨r0, r1, r2, r3⟩), h1.trans (Cert.Kernel6Ideal.In.final_query m c ⟨r0, r1, r2, r3⟩),
      h2.trans (Cert.Kernel6Ideal.In.final_stack m c), h3.trans (Cert.Kernel6Ideal.In.final_first m c), h4.trans (Cert.Kernel6Ideal.In.final_second m c),
      h5.trans (Cert.Kernel6Ideal.In.final_decay m c), h6.trans (Cert.Kernel6Ideal.In.final_swish m c), ha⟩
  refine (θ_run Cert.Reference6Ideal.defs _ _).mono (fun _ h c => ?_) (Cert.Reference6Ideal.In.run (F := Ideal) m' ρ')
  obtain ⟨⟨k0, k1, h0, h1, h2, h3, h4⟩, ha⟩ := h c
  obtain ⟨a0, a1, a2, a3, a4, a5⟩ := hagree c
  obtain ⟨r0, r1, r2, r3, r4⟩ := reals m hpre c
  rw [a0, a1, a2] at h0 h1 h2 h4
  rw [a0, a1, a2, a4, a5] at h3
  rw [a0, a1, a2, a3] at k0 k1
  have runs : ∀ (R : Fin 32768) (h : Fin 8), Cert.Reference6Ideal.In.scaled (F := Ideal) (Cert.Reference6Ideal.In.logs (F := Ideal) (Cert.Reference6Ideal.In.forgets (F := Ideal)
      (Cert.Reference6Ideal.In.proj (F := Ideal) (m ((c.tc : Thread Cert.Kernel6Ideal.nD Cert.Kernel6Ideal.τ).loc Cert.Kernel6Ideal.main_arg0))
        (m ((c.tc : Thread Cert.Kernel6Ideal.nD Cert.Kernel6Ideal.τ).loc Cert.Kernel6Ideal.main_arg1))
        (m ((c.tc : Thread Cert.Kernel6Ideal.nD Cert.Kernel6Ideal.τ).loc Cert.Kernel6Ideal.main_arg2)))
      (m ((c.tc : Thread Cert.Kernel6Ideal.nD Cert.Kernel6Ideal.τ).loc Cert.Kernel6Ideal.main_arg3)))) (ix3 ⟨R / 4096, by omega⟩ ⟨R % 4096, by omega⟩ h)
        = Cert.Kernel6Ideal.In.runs m c R h := fun R h => by
    rw [Cert.Reference6Ideal.In.scaled_apply]
    simp only [Cert.Reference6Ideal.In.logs_apply]
    exact Cert.Kernel6Ideal.In.runs_sum m c R h _ fun i => (Cert.Reference6Ideal.In.forgets_apply _ _ _ _ _).trans
      (congrArg (· + Cert.Kernel6Ideal.In.bias m c h) (Cert.Reference6Ideal.In.proj_apply _ _ _ _ _ _))
  refine ⟨k0.trans ?_, k1.trans ?_, h0.trans ?_, h1.trans ?_, h2.trans ?_, h3.trans ?_, h4.trans ?_, ha⟩
  · funext i
    idx_vars i
    refine (Cert.Reference6Ideal.In.keys_apply _ _ i0 i1).trans ?_
    rw [runs, Cert.Reference6Ideal.In.proj_apply]
    rfl
  · funext i
    idx_vars i
    have b0 := i0.isLt
    have b2 := i2.isLt
    refine (Cert.Reference6Ideal.In.queries_apply _ _ i0 i1 i2 ⟨256 * (i0 : ℕ) + (i2 : ℕ), by omega⟩ rfl).trans ?_
    rw [runs ⟨256 * (i0 : ℕ) + (i2 : ℕ), by omega⟩, Cert.Reference6Ideal.In.proj_apply]
    rfl
  · funext i
    idx_vars i
    have b0 := i0.isLt
    have b2 := i2.isLt
    refine (Cert.Reference6Ideal.In.stack_apply _ i0 i1 i2 ⟨256 * (i0 : ℕ) + (i2 : ℕ), by omega⟩ rfl).trans ?_
    refine Eq.trans ?_ (Cert.Kernel6Ideal.In.stack_entry m c i0 i1 i2 ⟨256 * (i0 : ℕ) + (i2 : ℕ), by omega⟩ rfl).symm
    simp only [Cert.Reference6Ideal.In.proj_apply]
    rfl
  · funext i
    idx_vars i
    refine (Cert.Reference6Ideal.In.first_apply _ i0 i1).trans ?_
    exact (Cert.Reference6Ideal.In.proj_apply _ _ _ _ _ _).trans (Cert.Kernel6Ideal.In.first_entry m c i0 i1).symm
  · funext i
    idx_vars i
    refine (Cert.Reference6Ideal.In.second_apply _ i0 i1).trans ?_
    exact (Cert.Reference6Ideal.In.proj_apply _ _ _ _ _ _).trans (Cert.Kernel6Ideal.In.second_entry m c i0 i1).symm
  · funext i
    idx_vars i
    refine (Cert.Reference6Ideal.In.decay_apply _ i0 i1 _ rfl).trans (Cert.Kernel6Ideal.In.decay_entry m c r0 r1 r2 r4 i0 i1 _ ?_).symm
    refine (Cert.Reference6Ideal.In.inputs_apply _ _ _ _ _ _).trans ?_
    simp only [Cert.Reference6Ideal.In.proj_apply]
    rfl
  · funext i
    idx_vars i
    refine (Cert.Reference6Ideal.In.swish_apply _ i0 i1).trans ?_
    refine Eq.trans ?_ (Cert.Kernel6Ideal.In.swish_entry m c i0 i1).symm
    exact congrArg (fun z => z * Ideal.logistic z) (Cert.Reference6Ideal.In.proj_apply _ _ _ _ _ _)

end Cert.Proof.Inp
-- ==== Proof.FfnFirst.lean ====
/-
  The first feed-forward block: the same call without the last norm. Its stages are those of the last block
  (`Proof/FfnFinal.lean`); here are the tile without the norm, the staging block, the arrays, and the claims.
-/
module

public import proofs.«01_k».proof.Proof.FfnFinal
public import proofs.«01_k».proof.Proof.Gen.Kernel3.Frame
public import proofs.«01_k».proof.Proof.Gen.Kernel3Ideal.Value
public import proofs.«01_k».proof.Proof.Gen.Reference3Ideal.Run

@[expose] public section

set_option maxRecDepth 16384

noncomputable section

namespace Cert.Kernel3Ideal.Ffn

open Cert.Kernel3Ideal Cert.Kernel3Ideal.Gen Idealize.ShloMosaic Idealize.ShloMosaic.TcCoe Idealize.SL.Sem
open Cert.Proof

/-- What the body computes for one group of 128 rows: norm, gated product, down product, half residual. -/
def tile {F : FTy → Type} [FloatOps F] (x : Vec F S128x1024 .f32) (g : Vec F S1x1024 .f32)
    (wg wu : Vec F S1024x2816 .bf16) (wd : Vec F S2816x1024 .bf16) (gp : Vec F S1x1024 .f32) : FVec F S128x1024 .f32 :=
  k0_pay43 (Cert.Kernel2Ideal.Gen.k0_pay2 x)
    (Cert.Kernel2Ideal.Gen.k0_pay34 (Cert.Kernel2Ideal.Gen.k0_pay24 (Cert.Kernel2Ideal.Gen.k0_pay10 x g) wg wu) wd) gp

/-- The residual at an index. -/
theorem residual_apply (x y : FVec Ideal S128x1024 .f32) (gp : Vec Ideal S1x1024 .f32) (r : Fin 128) (c : Fin 1024) :
    k0_pay43 x y gp (ix2 r c) = x (ix2 r c) + Ideal.ofBits .f32 0x3F000000#32
      * Rows.rms Rows.width (fun l => y (ix2 r l)) (fun l => gp (ix2 0 l)) c := by
  unfold k0_pay43
  pointwise
  rfl

/-- A group of 128 rows at an index: the block's row formula. -/
theorem tile_apply (x : Vec Ideal S128x1024 .f32) (g : Vec Ideal S1x1024 .f32) (wg wu : Vec Ideal S1024x2816 .bf16)
    (wd : Vec Ideal S2816x1024 .bf16) (gp : Vec Ideal S1x1024 .f32) (r : Fin 128) (c : Fin 1024) :
    tile x g wg wu wd gp (ix2 r c)
      = Rows.ffn (fun k => x (ix2 r k)) (fun k => g (ix2 0 k)) (fun k l => wg (ix2 k l)) (fun k l => wu (ix2 k l))
          (fun k l => wd (ix2 k l)) (fun k => gp (ix2 0 k)) c := by
  unfold tile
  rw [residual_apply]
  simp only [Cert.Kernel2Ideal.Ffn.down_apply, Cert.Kernel2Ideal.Ffn.hidden_apply, Cert.Kernel2Ideal.Ffn.norm_apply]
  unfold Cert.Kernel2Ideal.Gen.k0_pay2
  pointwise
  rfl

/-- One group of rows of the input block at an index: if `x` is the block's rows from `o`, the group's row `y 0` is the
    row formula of the block's row `o + y 0`. -/
theorem group_apply (x0 : Vec Ideal S1024x1024 .f32) (x1 : Vec Ideal S1x1024 .f32) (x2 x3 : Vec Ideal S1024x2816 .bf16)
    (x4 : Vec Ideal S2816x1024 .bf16) (x5 : Vec Ideal S1x1024 .f32) (x : Vec Ideal S128x1024 .f32) (o : ℕ)
    (hx : ∀ (r : Fin 128) (k R : Fin 1024), (R : ℕ) = o + r → x (ix2 r k) = x0 (ix2 R k))
    (y : S128x1024.Idx) (z : S1024x1024.Idx) (h0 : (z 0 : ℕ) = o + (y 0 : ℕ)) (h1 : (z 1 : ℕ) = (y 1 : ℕ)) :
    tile x (View.ld x1 r0_8) (View.ld x2 r0_9) (View.ld x3 r0_9) (View.ld x4 r0_10) (View.ld x5 r0_8) y
      = Rows.ffn (fun k => x0 (ix2 (z 0) k)) (fun k => x1 (ix2 0 k)) (fun k l => x2 (ix2 k l)) (fun k l => x3 (ix2 k l))
          (fun k l => x4 (ix2 k l)) (fun k => x5 (ix2 0 k)) (z 1) := by
  simp (disch := decide) only [View.ld_unit_lit]
  idx_vars y
  rw [tile_apply]
  have e : ∀ k : Fin 1024, x (ix2 y0 k) = x0 (ix2 (z 0) k) := fun k => hx _ _ _ h0
  simp only [e]
  exact congrArg _ (Fin.ext h1.symm)

/-- The staging block after a point, at an index: the row formula of the input block's row. -/
theorem out_apply (x0 : Vec Ideal S1024x1024 .f32) (x1 : Vec Ideal S1x1024 .f32) (x2 x3 : Vec Ideal S1024x2816 .bf16)
    (x4 : Vec Ideal S2816x1024 .bf16) (x5 x6 : Vec Ideal S1x1024 .f32) (y : S1024x1024.Idx) :
    out0_7 x0 x1 x2 x3 x4 x5 x6 y
      = Rows.ffn (fun k => x0 (ix2 (y 0) k)) (fun k => x1 (ix2 0 k)) (fun k l => x2 (ix2 k l)) (fun k l => x3 (ix2 k l))
          (fun k l => x4 (ix2 k l)) (fun k => x5 (ix2 0 k)) (y 1) := by
  unfold out0_7
  canon_tiles x h
  · exact group_apply x0 x1 x2 x3 x4 x5 (View.ld x0 r0_7) 896 (Cert.Kernel2Ideal.Ffn.rows_apply x0 _ _) x _ h0 h1
  · exact group_apply x0 x1 x2 x3 x4 x5 (View.ld x0 r0_6) 768 (Cert.Kernel2Ideal.Ffn.rows_apply x0 _ _) x _ h0 h1
  · exact group_apply x0 x1 x2 x3 x4 x5 (View.ld x0 r0_5) 640 (Cert.Kernel2Ideal.Ffn.rows_apply x0 _ _) x _ h0 h1
  · exact group_apply x0 x1 x2 x3 x4 x5 (View.ld x0 r0_4) 512 (Cert.Kernel2Ideal.Ffn.rows_apply x0 _ _) x _ h0 h1
  · exact group_apply x0 x1 x2 x3 x4 x5 (View.ld x0 r0_3) 384 (Cert.Kernel2Ideal.Ffn.rows_apply x0 _ _) x _ h0 h1
  · exact group_apply x0 x1 x2 x3 x4 x5 (View.ld x0 r0_2) 256 (Cert.Kernel2Ideal.Ffn.rows_apply x0 _ _) x _ h0 h1
  · exact group_apply x0 x1 x2 x3 x4 x5 (View.ld x0 r0_1) 128 (Cert.Kernel2Ideal.Ffn.rows_apply x0 _ _) x _ h0 h1
  · exact group_apply x0 x1 x2 x3 x4 x5 (View.ld x0 r0_0) 0 (Cert.Kernel2Ideal.Ffn.rows_apply x0 _ _) x _ (by omega) h1

variable (m : (ℓ : Loc nD τ sig) → Buf (Elt Ideal) ℓ) (ρ : Dev nD → PrngReg)

/-- The result array as one function of the arrays at the region's entry. -/
def result (c : Dev nD) : Buf (Elt Ideal) ((c : Thread nD τ).loc main_v12) := fun i : S32768x1024.Idx =>
  Rows.ffn
    (fun k => V m c main_v0 (ix2 (i 0) k)) (fun k => V m c main_v3 (ix2 0 k))
    (fun k l => V m c main_v5 (ix2 k l)) (fun k l => V m c main_v7 (ix2 k l)) (fun k l => V m c main_v9 (ix2 k l))
    (fun k => V m c main_v11 (ix2 0 k)) (i 1)

/-- Where each window's block stands at a point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_7.index t = ![t.val, 0] :=
  (by decide +kernel : ∀ t : Fin grid0.N, _)

/-- The result array after the run. -/
theorem final (c : Dev nD) : (dats m 0 c).arrAt 7 cfg0.N = result m c := by
  refine (dats m 0 c).arrAt_eq_of_covers 7 _ (by decide +kernel) fun t hf y => ?_
  blk_simp
  rw [after0_7]
  refine (out_apply _ _ _ _ _ _ _ y).trans ?_
  unfold result
  have e0 : ∀ k : Fin 1024, iblk m c 0 t (ix2 (y 0) k) = V m c main_v0 (ix2 ((win0_7.blk t).view.emb y 0) k) :=
    fun k => by blk_ext [iblk, idx t]
  have e1 : ∀ k : Fin 1024, iblk m c 1 t (ix2 0 k) = V m c main_v3 (ix2 0 k) := fun k => by blk_ext [iblk, idx t]
  have e2 : ∀ (k : Fin 1024) (l : Fin 2816), iblk m c 2 t (ix2 k l) = V m c main_v5 (ix2 k l) :=
    fun k l => by blk_ext [iblk, idx t]
  have e3 : ∀ (k : Fin 1024) (l : Fin 2816), iblk m c 3 t (ix2 k l) = V m c main_v7 (ix2 k l) :=
    fun k l => by blk_ext [iblk, idx t]
  have e4 : ∀ (k : Fin 2816) (l : Fin 1024), iblk m c 4 t (ix2 k l) = V m c main_v9 (ix2 k l) :=
    fun k l => by blk_ext [iblk, idx t]
  have e5 : ∀ k : Fin 1024, iblk m c 5 t (ix2 0 k) = V m c main_v11 (ix2 0 k) := fun k => by blk_ext [iblk, idx t]
  have e7 : y 1 = (win0_7.blk t).view.emb y 1 := Fin.ext (by blk_simp [idx t])
  simp only [e0, e1, e2, e3, e4, e5, e7]

/-- The kernel's result at an index: the row formula of the launched arguments; row `R` is token `R % 4096` of
    sequence `R / 4096`. -/
theorem result_apply (c : Dev nD) (i0 : Fin 32768) (i1 : Fin 1024) : result m c (ix2 i0 i1)
    = Rows.ffn
        (fun k => m ((c : Thread nD τ).loc main_arg0) (ix3 ⟨i0 / 4096, by omega⟩ ⟨i0 % 4096, by omega⟩ k))
        (fun k => m ((c : Thread nD τ).loc main_arg1) (ix2 0 k)) (fun k l => m ((c : Thread nD τ).loc main_arg2) (ix3 0 k l))
        (fun k l => m ((c : Thread nD τ).loc main_arg3) (ix3 0 k l)) (fun k l => m ((c : Thread nD τ).loc main_arg4) (ix3 0 k l))
        (fun k => m ((c : Thread nD τ).loc main_arg5) (ix2 0 k)) i1 := by
  have e0 : ∀ k : Fin 1024, V m c main_v0 (ix2 i0 k)
      = m ((c : Thread nD τ).loc main_arg0) (ix3 ⟨i0 / 4096, by omega⟩ ⟨i0 % 4096, by omega⟩ k) := fun k => by
    entry_read; pointwise
  have e1 : ∀ k : Fin 1024, V m c main_v3 (ix2 0 k) = m ((c : Thread nD τ).loc main_arg1) (ix2 0 k) := fun k => by
    entry_read; pointwise
  have e2 : ∀ (k : Fin 1024) (l : Fin 2816), V m c main_v5 (ix2 k l) = m ((c : Thread nD τ).loc main_arg2) (ix3 0 k l) :=
    fun k l => by entry_read; pointwise
  have e3 : ∀ (k : Fin 1024) (l : Fin 2816), V m c main_v7 (ix2 k l) = m ((c : Thread nD τ).loc main_arg3) (ix3 0 k l) :=
    fun k l => by entry_read; pointwise
  have e4 : ∀ (k : Fin 2816) (l : Fin 1024), V m c main_v9 (ix2 k l) = m ((c : Thread nD τ).loc main_arg4) (ix3 0 k l) :=
    fun k l => by entry_read; pointwise
  have e5 : ∀ k : Fin 1024, V m c main_v11 (ix2 0 k) = m ((c : Thread nD τ).loc main_arg5) (ix2 0 k) := fun k => by
    entry_read; pointwise
  show Rows.ffn (fun k => V m c main_v0 (ix2 i0 k)) (fun k => V m c main_v3 (ix2 0 k))
    (fun k l => V m c main_v5 (ix2 k l)) (fun k l => V m c main_v7 (ix2 k l)) (fun k l => V m c main_v9 (ix2 k l))
    (fun k => V m c main_v11 (ix2 0 k)) i1 = _
  rw [funext e0, funext e1, funext fun k => funext (e2 k), funext fun k => funext (e3 k), funext fun k => funext (e4 k),
    funext e5]

end Cert.Kernel3Ideal.Ffn

namespace Cert.Reference3Ideal.Ffn

open Cert.Reference3Ideal Cert.Reference3Ideal.Gen Idealize.ShloMosaic Idealize.ShloMosaic.TcCoe Idealize.SL.Sem
open Cert.Proof Cert.Reference2Ideal.Ffn

/-- The reference's result of its arguments, by the stages of the last block's reference. -/
def whole {F : FTy → Type} [FloatOps F] (x : FVec F S8x4096x1024 .f32) (g : FVec F S1x1024 .f32) (wg wu : FVec F S1x1024x2816 .f32)
    (wd : FVec F S1x2816x1024 .f32) (gp : FVec F S1x1024 .f32) : FVec F S32768x1024 .f32 :=
  shapeCast S32768x1024
    (residual x
      (down (hidden (norm x (shapeCast S1024 g shapeCasts_S1x1024_S1024))
          (shapeCast S1024x2816 wg shapeCasts_S1x1024x2816_S1024x2816) (shapeCast S1024x2816 wu shapeCasts_S1x1024x2816_S1024x2816))
        (shapeCast S2816x1024 wd shapeCasts_S1x2816x1024_S2816x1024))
      (shapeCast S1024 gp shapeCasts_S1x1024_S1024)) shapeCasts_S8x4096x1024_S32768x1024

/-- It at an index: the row formula of the arguments. -/
theorem whole_apply (x : FVec Ideal S8x4096x1024 .f32) (g : FVec Ideal S1x1024 .f32) (wg wu : FVec Ideal S1x1024x2816 .f32)
    (wd : FVec Ideal S1x2816x1024 .f32) (gp : FVec Ideal S1x1024 .f32) (i0 : Fin 32768) (i1 : Fin 1024) :
    whole x g wg wu wd gp (ix2 i0 i1)
      = Rows.ffn (fun k => x (ix3 ⟨i0 / 4096, by omega⟩ ⟨i0 % 4096, by omega⟩ k)) (fun k => g (ix2 0 k))
          (fun k l => wg (ix3 0 k l)) (fun k l => wu (ix3 0 k l)) (fun k l => wd (ix3 0 k l)) (fun k => gp (ix2 0 k)) i1 := by
  unfold whole
  pointwise [norm_apply, residual_apply, down_apply, hidden_apply]
  rfl

/-- The reference's composed term is that result of the launched arguments. -/
theorem res_eq {F : FTy → Type} [FloatOps F] (m : (ℓ : Loc nD τ sig) → Buf (Elt F) ℓ) (c : Dev nD) :
    Value.res_main_v39 m c = whole (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := rfl

end Cert.Reference3Ideal.Ffn

namespace Cert.Proof.FfnFirst

open Idealize.ShloMosaic Idealize.ShloMosaic.TcCoe Idealize.SL.Sem

/-- The generated frame of the first feed-forward block's kernel, read at the machine's floats. -/
theorem frame_kernel : Cert.quiescent_Kernel3 := fun m ρ _ => Cert.Kernel3.Gen.frame m ρ
/-- The same frame, read at the extended reals. -/
theorem frame_ideal : Cert.quiescent_Kernel3Ideal := fun m ρ _ => Cert.Kernel3Ideal.Gen.frame m ρ

/-- The reference's frame: its run, read at the arguments; it declares no semaphore. -/
theorem frame_reference : Cert.quiescent_Reference3Ideal := fun m ρ _ =>
  (θ_run Cert.Reference3Ideal.defs _ _).mono (fun r h => ⟨fun c => (h c).2,
      sem_eq_zero_of_no_sems (by decide) r.2⟩)
    (Cert.Reference3Ideal.Value.run (F := Ideal) m ρ)

/-- On the extended reals the kernel's result is the reference's, index by index. -/
theorem algebraic : Cert.algebraic_Kernel3Ideal_Reference3Ideal := by
  intro m ρ m' ρ' _ hagree
  refine ⟨fun c => Cert.Kernel3Ideal.Ffn.result m c, ?_, ?_⟩
  · exact (θ_run Cert.Kernel3Ideal.defs _ _).mono
      (fun _ h c => ⟨(h c).1.trans (Cert.Kernel3Ideal.Ffn.final m c), (h c).2⟩)
      (Cert.Kernel3Ideal.Value.run_blocks (F := Ideal) m ρ)
  refine (θ_run Cert.Reference3Ideal.defs _ _).mono (fun _ h c => ⟨(h c).1.trans ?_, (h c).2⟩)
    (Cert.Reference3Ideal.Value.run (F := Ideal) m' ρ')
  refine funext fun i => ?_
  obtain ⟨a0, a1, a2, a3, a4, a5, a6⟩ := hagree c
  have key : ∀ (i0 : Fin 32768) (i1 : Fin 1024),
      Cert.Reference3Ideal.Value.res_main_v39 m' c (ix2 i0 i1) = Cert.Kernel3Ideal.Ffn.result m c (ix2 i0 i1) := fun i0 i1 => by
    rw [Cert.Reference3Ideal.Ffn.res_eq, Cert.Reference3Ideal.Ffn.whole_apply, Cert.Kernel3Ideal.Ffn.result_apply, a0, a1, a2, a3, a4, a5]
  have hi : i = ix2 (i 0 : Fin 32768) (i 1 : Fin 1024) := by funext a; fin_cases a <;> rfl
  rw [hi]
  exact key _ _

end Cert.Proof.FfnFirst

end
-- ==== Proof.MixOut.lean ====
/-
  The mixer's output projection and the memory attention: the tile of 256 rows, its heads, the staging block, the array
  the call returns, then the reference's stages, then the claims.
-/
module

public import proofs.«01_k».proof.Proof.FfnFinal
public import proofs.«01_k».proof.Proof.Gen.Kernel4.Frame
public import proofs.«01_k».proof.Proof.Gen.Kernel4Ideal.Value
public import proofs.«01_k».proof.Proof.Gen.Reference4Ideal.Run

@[expose] public section

set_option maxRecDepth 16384

noncomputable section

namespace Cert.Proof.Mix
open Idealize.ShloMosaic
/-- A rectangle load at an index: the element at the offset plus the index. -/
theorem ld_eq {s : Shape} {e : EltTy} (x : Vec Ideal s e) (o : Fin s.rank → ℕ) (sz : Fin s.rank → ℕ) (inb) (j) (i : s.Idx)
    (h : ∀ a, (i a : ℕ) = o a + (j a : ℕ)) : View.ld x (Rect.unit (s := s) o sz inb) j = x i :=
  congrArg x (funext fun a => Fin.ext (by rw [Rect.idx_unit_val]; exact (h a).symm))
end Cert.Proof.Mix

namespace Cert.Kernel4Ideal.Mix

open Cert.Kernel4Ideal Cert.Kernel4Ideal.Gen Idealize.ShloMosaic Idealize.ShloMosaic.TcCoe Idealize.SL.Sem
open Cert.Proof

/-- The output projection of a group's two heads' rows at an index; `a` holds the first heads transposed. -/
theorem joint_apply (a : Vec Ideal S512x256 .bf16) (b : Vec Ideal S256x512 .bf16) (w1 w2 : Vec Ideal S512x1024 .bf16) (r : Fin 256) (c : Fin 1024) :
    k0_pay1 a w1 b w2 (ix2 r c) = ∑ k, a (ix2 k r) * w1 (ix2 k c) + ∑ k, b (ix2 r k) * w2 (ix2 k c) := by
  unfold k0_pay1
  pointwise [dot_S512x256_S512x1024_S256x1024_0_0_1_1_n_n, dot_S256x512_S512x1024_S256x1024_1_0_0_1_n_n]

/-- The row after the mixer at an index. -/
theorem first_apply (y x : FVec Ideal S256x1024 .f32) (g : Vec Ideal S1x1024 .f32) (r : Fin 256) (c : Fin 1024) :
    k0_pay7 y x g (ix2 r c) = Rows.mixed (fun k => x (ix2 r k)) (fun k => y (ix2 r k)) (fun k => g (ix2 0 k)) c := by
  unfold k0_pay7
  pointwise
  rfl

/-- The scaled queries at an index. -/
theorem query_apply (x : FVec Ideal S256x1024 .f32) (g : Vec Ideal S1x1024 .f32) (w : Vec Ideal S1024x1024 .bf16) (r : Fin 256) (c : Fin 1024) :
    k0_pay19 (k0_pay16 x g) w (ix2 r c)
      = Rows.rowMul (Rows.rms Rows.width (fun k => x (ix2 r k)) (fun k => g (ix2 0 k))) (fun k l => w (ix2 k l)) c * Rows.sixteenth := by
  unfold k0_pay19 k0_pay16
  pointwise [dot_S256x1024_S1024x1024_S256x1024_1_0_0_1_n_n]
  rfl

/-- One head of a group from its scores and values. -/
def head {F : FTy → Type} [FloatOps F] (s : FVec F S256x256 .f32) (v : Vec F S256x256 .bf16) : FVec F S256x256 .bf16 := k0_pay43 s v

/-- A head at an index: the softmax of its row of scores against the values' column. -/
theorem head_apply (s : FVec Ideal S256x256 .f32) (v : Vec Ideal S256x256 .bf16) (r c : Fin 256) :
    head s v (ix2 r c) = ∑ k, Rows.soft (fun k => s (ix2 r k)) k * v (ix2 k c) := by
  unfold head k0_pay43
  pointwise [dot_S256x256_S256x256_S256x256_1_0_0_1_n_n]
  rfl

/-- The heads' scores at an index, head by head: the product of the head's columns of the query and its keys. -/
theorem scores_apply (q : FVec Ideal S256x1024 .bf16) (k : Vec Ideal S256x256 .bf16) (r c : Fin 256) :
    k0_pay24 q k (ix2 r c) = ∑ d : Fin 256, q (ix2 r ⟨256 * (0 : Fin 4) + d, by omega⟩) * k (ix2 c d)
    ∧ k0_pay25 q k (ix2 r c) = ∑ d : Fin 256, q (ix2 r ⟨256 * (1 : Fin 4) + d, by simp; omega⟩) * k (ix2 c d)
    ∧ k0_pay26 q k (ix2 r c) = ∑ d : Fin 256, q (ix2 r ⟨256 * (2 : Fin 4) + d, by simp; omega⟩) * k (ix2 c d)
    ∧ k0_pay27 q k (ix2 r c) = ∑ d : Fin 256, q (ix2 r ⟨256 * (3 : Fin 4) + d, by simp; omega⟩) * k (ix2 c d) := by
  refine ⟨?_, ?_, ?_, ?_⟩
  · unfold k0_pay24; pointwise [dot_S256x256_S256x256_S256x256_1_1_0_0_n_n]
  · unfold k0_pay25; pointwise [dot_S256x256_S256x256_S256x256_1_1_0_0_n_n]
  · unfold k0_pay26; pointwise [dot_S256x256_S256x256_S256x256_1_1_0_0_n_n]
  · unfold k0_pay27; pointwise [dot_S256x256_S256x256_S256x256_1_1_0_0_n_n]

/-- A group's four heads side by side. -/
def cat {F : FTy → Type} [FloatOps F] (o0 o1 o2 o3 : FVec F S256x256 .bf16) : FVec F S256x1024 .bf16 :=
  concatenate S256x1024 1 [⟨S256x256, o0⟩, ⟨S256x256, o1⟩, ⟨S256x256, o2⟩, ⟨S256x256, o3⟩] concatenates_S256x256_S256x256_S256x256_S256x256_S256x1024_d1

/-- They at an index: the column's head at the column within the head. -/
theorem cat_apply (o0 o1 o2 o3 : FVec Ideal S256x256 .bf16) (r : Fin 256) (G : Fin 4 → Fin 256 → EReal)
    (h0 : ∀ e, o0 (ix2 r e) = G 0 e) (h1 : ∀ e, o1 (ix2 r e) = G 1 e) (h2 : ∀ e, o2 (ix2 r e) = G 2 e)
    (h3 : ∀ e, o3 (ix2 r e) = G 3 e) (c : Fin 1024) :
    cat o0 o1 o2 o3 (ix2 r c) = G ⟨c / 256, by omega⟩ ⟨c % 256, by omega⟩ := by
  unfold cat
  pointwise
  simp only [h0, h1, h2, h3]
  split_ifs
  all_goals exact congrArg₂ G (Fin.ext (by simp; omega)) (Fin.ext (by simp; omega))

/-- The residual of the attention's projection at an index. -/
theorem last_apply (x : FVec Ideal S256x1024 .f32) (o : FVec Ideal S256x1024 .bf16) (w : Vec Ideal S1024x1024 .bf16) (g : Vec Ideal S1x1024 .f32) (r : Fin 256) (c : Fin 1024) :
    k0_pay64 x o w g (ix2 r c) = Rows.mixed (fun k => x (ix2 r k)) (Rows.rowMul (fun k => o (ix2 r k)) (fun k l => w (ix2 k l)))
      (fun k => g (ix2 0 k)) c := by
  unfold k0_pay64
  pointwise [dot_S256x1024_S1024x1024_S256x1024_1_0_0_1_n_n]
  rfl

/-- The attention's part of a group, from the row after the mixer. -/
def attention {F : FTy → Type} [FloatOps F] (x : FVec F S256x1024 .f32) (gpre : Vec F S1x1024 .f32) (wq : Vec F S1024x1024 .bf16)
    (k0 k1 k2 k3 v0 v1 v2 v3 : Vec F S256x256 .bf16) (wo : Vec F S1024x1024 .bf16) (gm : Vec F S1x1024 .f32) : FVec F S256x1024 .f32 :=
  k0_pay64 x (cat (head (k0_pay24 (k0_pay19 (k0_pay16 x gpre) wq) k0) v0) (head (k0_pay25 (k0_pay19 (k0_pay16 x gpre) wq) k1) v1)
    (head (k0_pay26 (k0_pay19 (k0_pay16 x gpre) wq) k2) v2) (head (k0_pay27 (k0_pay19 (k0_pay16 x gpre) wq) k3) v3)) wo gm

/-- It at an index: the attention's row formula, the keys and values being columns of the memory block `kv`. -/
theorem attention_apply (x : FVec Ideal S256x1024 .f32) (gpre : Vec Ideal S1x1024 .f32) (wq : Vec Ideal S1024x1024 .bf16)
    (k0 k1 k2 k3 v0 v1 v2 v3 : Vec Ideal S256x256 .bf16) (wo : Vec Ideal S1024x1024 .bf16) (gm : Vec Ideal S1x1024 .f32)
    (kv : Fin 256 → Fin 2048 → EReal)
    (hk0 : ∀ j d : Fin 256, k0 (ix2 j d) = kv j ⟨256 * (0 : Fin 4) + d, by omega⟩) (hk1 : ∀ j d : Fin 256, k1 (ix2 j d) = kv j ⟨256 * (1 : Fin 4) + d, by simp; omega⟩)
    (hk2 : ∀ j d : Fin 256, k2 (ix2 j d) = kv j ⟨256 * (2 : Fin 4) + d, by simp; omega⟩) (hk3 : ∀ j d : Fin 256, k3 (ix2 j d) = kv j ⟨256 * (3 : Fin 4) + d, by simp; omega⟩)
    (hv0 : ∀ j e : Fin 256, v0 (ix2 j e) = kv j ⟨1024 + 256 * (0 : Fin 4) + e, by simp; omega⟩) (hv1 : ∀ j e : Fin 256, v1 (ix2 j e) = kv j ⟨1024 + 256 * (1 : Fin 4) + e, by simp; omega⟩)
    (hv2 : ∀ j e : Fin 256, v2 (ix2 j e) = kv j ⟨1024 + 256 * (2 : Fin 4) + e, by simp; omega⟩) (hv3 : ∀ j e : Fin 256, v3 (ix2 j e) = kv j ⟨1024 + 256 * (3 : Fin 4) + e, by simp; omega⟩)
    (r : Fin 256) (c : Fin 1024) :
    attention x gpre wq k0 k1 k2 k3 v0 v1 v2 v3 wo gm (ix2 r c)
      = Rows.memory (fun k => x (ix2 r k)) (fun k => gpre (ix2 0 k)) (fun k l => wq (ix2 k l)) kv (fun k l => wo (ix2 k l)) (fun k => gm (ix2 0 k)) c := by
  unfold attention
  rw [last_apply]
  have e : ∀ c : Fin 1024, cat (head (k0_pay24 (k0_pay19 (k0_pay16 x gpre) wq) k0) v0) (head (k0_pay25 (k0_pay19 (k0_pay16 x gpre) wq) k1) v1)
      (head (k0_pay26 (k0_pay19 (k0_pay16 x gpre) wq) k2) v2) (head (k0_pay27 (k0_pay19 (k0_pay16 x gpre) wq) k3) v3) (ix2 r c)
      = Rows.attended (fun l => Rows.rowMul (Rows.rms Rows.width (fun k => x (ix2 r k)) (fun k => gpre (ix2 0 k))) (fun k l => wq (ix2 k l)) l * Rows.sixteenth) kv c := fun c => by
    unfold Rows.attended
    refine cat_apply _ _ _ _ r _ (fun e => ?_) (fun e => ?_) (fun e => ?_) (fun e => ?_) c
    all_goals
      rw [head_apply]
      unfold Rows.memHead
      simp only [(scores_apply _ _ _ _).1, (scores_apply _ _ _ _).2.1, (scores_apply _ _ _ _).2.2.1, (scores_apply _ _ _ _).2.2.2,
        query_apply, hk0, hk1, hk2, hk3, hv0, hv1, hv2, hv3]
  simp only [e]
  rfl

/-- One group of rows of the block at an index. -/
theorem group_apply (x0 : Vec Ideal S1024x1024 .f32) (x1 : Vec Ideal S512x1024 .bf16) (x2 : Vec Ideal S1024x512 .bf16) (x3 : Vec Ideal S256x2048 .bf16)
    (x4 : Vec Ideal S1024x1024 .bf16) (x5 x6 : Vec Ideal S1x1024 .f32) (x7 x8 : Vec Ideal S1024x1024 .bf16) (x9 : Vec Ideal S1x1024 .f32)
    (x : Vec Ideal S256x1024 .f32) (a : Vec Ideal S512x256 .bf16) (b : Vec Ideal S256x512 .bf16) (o : ℕ)
    (hx : ∀ (r : Fin 256) (k R : Fin 1024), (R : ℕ) = o + r → x (ix2 r k) = x0 (ix2 R k))
    (ha : ∀ (r : Fin 256) (k : Fin 512) (R : Fin 1024), (R : ℕ) = o + r → a (ix2 k r) = x1 (ix2 k R))
    (hb : ∀ (r : Fin 256) (k : Fin 512) (R : Fin 1024), (R : ℕ) = o + r → b (ix2 r k) = x2 (ix2 R k))
    (y : S256x1024.Idx) (z : S1024x1024.Idx) (h0 : (z 0 : ℕ) = o + (y 0 : ℕ)) (h1 : (z 1 : ℕ) = (y 1 : ℕ)) :
    attention (k0_pay7 (k0_pay1 a (View.ld x4 r0_1) b (View.ld x4 r0_3)) x (View.ld x5 r0_11)) (View.ld x6 r0_11) (View.ld x7 r0_15)
      (View.ld x3 r0_16) (View.ld x3 r0_17) (View.ld x3 r0_18) (View.ld x3 r0_19) (View.ld x3 r0_20) (View.ld x3 r0_21) (View.ld x3 r0_22) (View.ld x3 r0_23)
      (View.ld x8 r0_15) (View.ld x9 r0_11) y
      = Rows.memory (Rows.mixed (fun k => x0 (ix2 (z 0) k)) (Rows.joint (fun k => x1 (ix2 k (z 0))) (fun k => x2 (ix2 (z 0) k)) (fun k l => x4 (ix2 k l))) (fun k => x5 (ix2 0 k)))
          (fun k => x6 (ix2 0 k)) (fun k l => x7 (ix2 k l)) (fun k l => x3 (ix2 k l)) (fun k l => x8 (ix2 k l)) (fun k => x9 (ix2 0 k)) (z 1) := by
  simp (disch := decide) only [View.ld_unit_lit]
  idx_vars y
  have w1 : ∀ (k : Fin 512) (l : Fin 1024), View.ld x4 r0_1 (ix2 k l) = x4 (ix2 ⟨k, by omega⟩ l) := fun k l =>
    Mix.ld_eq _ _ _ _ _ _ fun a => by fin_cases a <;> simp
  have w2 : ∀ (k : Fin 512) (l : Fin 1024), View.ld x4 r0_3 (ix2 k l) = x4 (ix2 ⟨512 + k, by omega⟩ l) := fun k l =>
    Mix.ld_eq _ _ _ _ _ _ fun a => by fin_cases a <;> simp
  have k0 : ∀ j d : Fin 256, View.ld x3 r0_16 (ix2 j d) = x3 (ix2 j ⟨256 * (0 : Fin 4) + d, by simp; omega⟩) := fun j d =>
    Mix.ld_eq _ _ _ _ _ _ fun a => by fin_cases a <;> simp
  have v0 : ∀ j d : Fin 256, View.ld x3 r0_20 (ix2 j d) = x3 (ix2 j ⟨1024 + 256 * (0 : Fin 4) + d, by simp; omega⟩) := fun j d =>
    Mix.ld_eq _ _ _ _ _ _ fun a => by fin_cases a <;> simp
  have k1 : ∀ j d : Fin 256, View.ld x3 r0_17 (ix2 j d) = x3 (ix2 j ⟨256 * (1 : Fin 4) + d, by simp; omega⟩) := fun j d =>
    Mix.ld_eq _ _ _ _ _ _ fun a => by fin_cases a <;> simp
  have v1 : ∀ j d : Fin 256, View.ld x3 r0_21 (ix2 j d) = x3 (ix2 j ⟨1024 + 256 * (1 : Fin 4) + d, by simp; omega⟩) := fun j d =>
    Mix.ld_eq _ _ _ _ _ _ fun a => by fin_cases a <;> simp
  have k2 : ∀ j d : Fin 256, View.ld x3 r0_18 (ix2 j d) = x3 (ix2 j ⟨256 * (2 : Fin 4) + d, by simp; omega⟩) := fun j d =>
    Mix.ld_eq _ _ _ _ _ _ fun a => by fin_cases a <;> simp
  have v2 : ∀ j d : Fin 256, View.ld x3 r0_22 (ix2 j d) = x3 (ix2 j ⟨1024 + 256 * (2 : Fin 4) + d, by simp; omega⟩) := fun j d =>
    Mix.ld_eq _ _ _ _ _ _ fun a => by fin_cases a <;> simp
  have k3 : ∀ j d : Fin 256, View.ld x3 r0_19 (ix2 j d) = x3 (ix2 j ⟨256 * (3 : Fin 4) + d, by simp; omega⟩) := fun j d =>
    Mix.ld_eq _ _ _ _ _ _ fun a => by fin_cases a <;> simp
  have v3 : ∀ j d : Fin 256, View.ld x3 r0_23 (ix2 j d) = x3 (ix2 j ⟨1024 + 256 * (3 : Fin 4) + d, by simp; omega⟩) := fun j d =>
    Mix.ld_eq _ _ _ _ _ _ fun a => by fin_cases a <;> simp
  refine (attention_apply _ _ _ _ _ _ _ _ _ _ _ _ _ (fun k l => x3 (ix2 k l)) k0 k1 k2 k3 v0 v1 v2 v3 y0 y1).trans ?_
  have ex : ∀ k : Fin 1024, x (ix2 y0 k) = x0 (ix2 (z 0) k) := fun k => hx _ _ _ h0
  have ea : ∀ k : Fin 512, a (ix2 k y0) = x1 (ix2 k (z 0)) := fun k => ha _ _ _ h0
  have eb : ∀ k : Fin 512, b (ix2 y0 k) = x2 (ix2 (z 0) k) := fun k => hb _ _ _ h0
  have ej : ∀ c : Fin 1024, k0_pay1 a (View.ld x4 r0_1) b (View.ld x4 r0_3) (ix2 y0 c)
      = Rows.joint (fun k => x1 (ix2 k (z 0))) (fun k => x2 (ix2 (z 0) k)) (fun k l => x4 (ix2 k l)) c := fun c => by
    rw [joint_apply]
    simp only [w1, w2, ea, eb]
    rfl
  have e1 : y1 = z 1 := Fin.ext h1.symm
  simp only [first_apply, ej, ex, e1]

/-- The staging block after a point, at an index: the row formula of the input blocks' rows. -/
theorem out_apply (x0 : Vec Ideal S1024x1024 .f32) (x1 : Vec Ideal S512x1024 .bf16) (x2 : Vec Ideal S1024x512 .bf16) (x3 : Vec Ideal S256x2048 .bf16)
    (x4 : Vec Ideal S1024x1024 .bf16) (x5 x6 : Vec Ideal S1x1024 .f32) (x7 x8 : Vec Ideal S1024x1024 .bf16) (x9 : Vec Ideal S1x1024 .f32) (y : S1024x1024.Idx) :
    out0_10 x0 x1 x2 x3 x4 x5 x6 x7 x8 x9 y
      = Rows.memory (Rows.mixed (fun k => x0 (ix2 (y 0) k)) (Rows.joint (fun k => x1 (ix2 k (y 0))) (fun k => x2 (ix2 (y 0) k)) (fun k l => x4 (ix2 k l))) (fun k => x5 (ix2 0 k)))
          (fun k => x6 (ix2 0 k)) (fun k l => x7 (ix2 k l)) (fun k l => x3 (ix2 k l)) (fun k l => x8 (ix2 k l)) (fun k => x9 (ix2 0 k)) (y 1) := by
  unfold out0_10
  canon_tiles x h
  · exact group_apply x0 x1 x2 x3 x4 x5 x6 x7 x8 x9 (View.ld x0 r0_14) (View.ld x1 r0_8) (View.ld x2 r0_9) 768
      (fun r k R h => Mix.ld_eq _ _ _ _ _ _ fun a => by fin_cases a <;> simp [h]) (fun r k R h => Mix.ld_eq _ _ _ _ _ _ fun a => by fin_cases a <;> simp [h])
      (fun r k R h => Mix.ld_eq _ _ _ _ _ _ fun a => by fin_cases a <;> simp [h]) x _ h0 h1
  · exact group_apply x0 x1 x2 x3 x4 x5 x6 x7 x8 x9 (View.ld x0 r0_13) (View.ld x1 r0_6) (View.ld x2 r0_7) 512
      (fun r k R h => Mix.ld_eq _ _ _ _ _ _ fun a => by fin_cases a <;> simp [h]) (fun r k R h => Mix.ld_eq _ _ _ _ _ _ fun a => by fin_cases a <;> simp [h])
      (fun r k R h => Mix.ld_eq _ _ _ _ _ _ fun a => by fin_cases a <;> simp [h]) x _ h0 h1
  · exact group_apply x0 x1 x2 x3 x4 x5 x6 x7 x8 x9 (View.ld x0 r0_12) (View.ld x1 r0_4) (View.ld x2 r0_5) 256
      (fun r k R h => Mix.ld_eq _ _ _ _ _ _ fun a => by fin_cases a <;> simp [h]) (fun r k R h => Mix.ld_eq _ _ _ _ _ _ fun a => by fin_cases a <;> simp [h])
      (fun r k R h => Mix.ld_eq _ _ _ _ _ _ fun a => by fin_cases a <;> simp [h]) x _ h0 h1
  · exact group_apply x0 x1 x2 x3 x4 x5 x6 x7 x8 x9 (View.ld x0 r0_10) (View.ld x1 r0_0) (View.ld x2 r0_2) 0
      (fun r k R h => Mix.ld_eq _ _ _ _ _ _ fun a => by fin_cases a <;> simp [h]) (fun r k R h => Mix.ld_eq _ _ _ _ _ _ fun a => by fin_cases a <;> simp [h])
      (fun r k R h => Mix.ld_eq _ _ _ _ _ _ fun a => by fin_cases a <;> simp [h]) x _ (by omega) h1

variable (m : (ℓ : Loc nD τ sig) → Buf (Elt Ideal) ℓ) (ρ : Dev nD → PrngReg)

/-- The row of the memory block that row `R` reads as its `k`-th token. -/
def kvRow (R : Fin 32768) (k : Fin 256) : Fin 2048 := ⟨256 * ((R : ℕ) / 4096) + k, by omega⟩

/-- The result array as one function of the arrays at the region's entry. -/
def result (c : Dev nD) : Buf (Elt Ideal) ((c : Thread nD τ).loc main_v20) := fun i : S32768x1024.Idx =>
  Rows.memory (Rows.mixed (fun k => V m c main_v0 (ix2 (i 0) k))
      (Rows.joint (fun k => V m c main_v3 (ix2 k (i 0))) (fun k => V m c main_v5 (ix2 (i 0) k)) (fun k l => V m c main_v9 (ix2 k l)))
      (fun k => V m c main_v11 (ix2 0 k)))
    (fun k => V m c main_v13 (ix2 0 k)) (fun k l => V m c main_v15 (ix2 k l))
    (fun k l => V m c main_v7 (ix2 (kvRow (i 0) k) l))
    (fun k l => V m c main_v17 (ix2 k l)) (fun k => V m c main_v19 (ix2 0 k)) (i 1)

/-- Where each window's block stands at a point. -/
theorem idx : ∀ t : Fin cfg0.N, win0_0.index t = ![t.val, 0] ∧ win0_1.index t = ![0, t.val] ∧ win0_2.index t = ![t.val, 0]
    ∧ win0_3.index t = ![t.val / 4, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

set_option maxHeartbeats 4000000 in
/-- The result array after the run. -/
theorem final (c : Dev nD) : (dats m 0 c).arrAt 10 cfg0.N = result m c := by
  refine (dats m 0 c).arrAt_eq_of_covers 10 _ (by decide +kernel) fun t hf y => ?_
  blk_simp
  rw [after0_10]
  refine (out_apply _ _ _ _ _ _ _ _ _ _ y).trans ?_
  unfold result
  have e0 : ∀ k : Fin 1024, iblk m c 0 t (ix2 (y 0) k) = V m c main_v0 (ix2 ((win0_10.blk t).view.emb y 0) k) :=
    fun k => by blk_ext [iblk, idx t]
  have e1 : ∀ k : Fin 512, iblk m c 1 t (ix2 k (y 0)) = V m c main_v3 (ix2 k ((win0_10.blk t).view.emb y 0)) :=
    fun k => by blk_ext [iblk, idx t]
  have e2 : ∀ k : Fin 512, iblk m c 2 t (ix2 (y 0) k) = V m c main_v5 (ix2 ((win0_10.blk t).view.emb y 0) k) :=
    fun k => by blk_ext [iblk, idx t]
  have e3 : ∀ (k : Fin 256) (l : Fin 2048), iblk m c 3 t (ix2 k l)
      = V m c main_v7 (ix2 (kvRow ((win0_10.blk t).view.emb y 0) k) l) := fun k l => by
    have hy : (y 0 : ℕ) < 1024 := (y 0).2
    blk_ext [iblk, idx t, kvRow]
  have e4 : ∀ (k : Fin 1024) (l : Fin 1024), iblk m c 4 t (ix2 k l) = V m c main_v9 (ix2 k l) :=
    fun k l => by blk_ext [iblk, idx t]
  have e5 : ∀ k : Fin 1024, iblk m c 5 t (ix2 0 k) = V m c main_v11 (ix2 0 k) := fun k => by blk_ext [iblk, idx t]
  have e6 : ∀ k : Fin 1024, iblk m c 6 t (ix2 0 k) = V m c main_v13 (ix2 0 k) := fun k => by blk_ext [iblk, idx t]
  have e7 : ∀ (k : Fin 1024) (l : Fin 1024), iblk m c 7 t (ix2 k l) = V m c main_v15 (ix2 k l) :=
    fun k l => by blk_ext [iblk, idx t]
  have e8 : ∀ (k : Fin 1024) (l : Fin 1024), iblk m c 8 t (ix2 k l) = V m c main_v17 (ix2 k l) :=
    fun k l => by blk_ext [iblk, idx t]
  have e9 : ∀ k : Fin 1024, iblk m c 9 t (ix2 0 k) = V m c main_v19 (ix2 0 k) := fun k => by blk_ext [iblk, idx t]
  have e10 : y 1 = (win0_10.blk t).view.emb y 1 := Fin.ext (by blk_simp [idx t])
  simp only [e0, e1, e2, e3, e4, e5, e6, e7, e8, e9, e10]

/-- The kernel's result at an index: the row formula of the launched arguments; row `R` is token `R % 4096` of
    sequence `R / 4096`. -/
theorem result_apply (c : Dev nD) (i0 : Fin 32768) (i1 : Fin 1024) : result m c (ix2 i0 i1)
    = Rows.memory (Rows.mixed (fun k => m ((c : Thread nD τ).loc main_arg0) (ix3 ⟨i0 / 4096, by omega⟩ ⟨i0 % 4096, by omega⟩ k))
        (Rows.joint (fun k => m ((c : Thread nD τ).loc main_arg1) (ix3 ⟨i0 / 4096, by omega⟩ ⟨i0 % 4096, by omega⟩ k))
          (fun k => m ((c : Thread nD τ).loc main_arg2) (ix3 ⟨i0 / 4096, by omega⟩ ⟨i0 % 4096, by omega⟩ k))
          (fun k l => m ((c : Thread nD τ).loc main_arg4) (ix3 0 k l)))
        (fun k => m ((c : Thread nD τ).loc main_arg5) (ix2 0 k)))
      (fun k => m ((c : Thread nD τ).loc main_arg6) (ix2 0 k)) (fun k l => m ((c : Thread nD τ).loc main_arg7) (ix3 0 k l))
      (fun k l => m ((c : Thread nD τ).loc main_arg3) (ix3 ⟨i0 / 4096, by omega⟩ k l))
      (fun k l => m ((c : Thread nD τ).loc main_arg8) (ix3 0 k l)) (fun k => m ((c : Thread nD τ).loc main_arg9) (ix2 0 k)) i1 := by
  have e0 : ∀ k : Fin 1024, V m c main_v0 (ix2 i0 k)
      = m ((c : Thread nD τ).loc main_arg0) (ix3 ⟨i0 / 4096, by omega⟩ ⟨i0 % 4096, by omega⟩ k) := fun k => by
    entry_read; pointwise
  have e1 : ∀ k : Fin 512, V m c main_v3 (ix2 k i0)
      = m ((c : Thread nD τ).loc main_arg1) (ix3 ⟨i0 / 4096, by omega⟩ ⟨i0 % 4096, by omega⟩ k) := fun k => by
    entry_read; pointwise
  have e2 : ∀ k : Fin 512, V m c main_v5 (ix2 i0 k)
      = m ((c : Thread nD τ).loc main_arg2) (ix3 ⟨i0 / 4096, by omega⟩ ⟨i0 % 4096, by omega⟩ k) := fun k => by
    entry_read; pointwise
  have e3 : ∀ (k : Fin 256) (l : Fin 2048), V m c main_v7 (ix2 (kvRow i0 k) l)
      = m ((c : Thread nD τ).loc main_arg3) (ix3 ⟨i0 / 4096, by omega⟩ k l) := fun k l => by
    have a : (256 * ((i0 : ℕ) / 4096) + k) / 256 = i0 / 4096 := by omega
    have b : (256 * ((i0 : ℕ) / 4096) + k) % 256 = k := by omega
    entry_read; unfold kvRow; pointwise
    simp only [a, b]
  have e4 : ∀ k l : Fin 1024, V m c main_v9 (ix2 k l) = m ((c : Thread nD τ).loc main_arg4) (ix3 0 k l) :=
    fun k l => by entry_read; pointwise
  have e5 : ∀ k : Fin 1024, V m c main_v11 (ix2 0 k) = m ((c : Thread nD τ).loc main_arg5) (ix2 0 k) := fun k => by
    entry_read; pointwise
  have e6 : ∀ k : Fin 1024, V m c main_v13 (ix2 0 k) = m ((c : Thread nD τ).loc main_arg6) (ix2 0 k) := fun k => by
    entry_read; pointwise
  have e7 : ∀ k l : Fin 1024, V m c main_v15 (ix2 k l) = m ((c : Thread nD τ).loc main_arg7) (ix3 0 k l) :=
    fun k l => by entry_read; pointwise
  have e8 : ∀ k l : Fin 1024, V m c main_v17 (ix2 k l) = m ((c : Thread nD τ).loc main_arg8) (ix3 0 k l) :=
    fun k l => by entry_read; pointwise
  have e9 : ∀ k : Fin 1024, V m c main_v19 (ix2 0 k) = m ((c : Thread nD τ).loc main_arg9) (ix2 0 k) := fun k => by
    entry_read; pointwise
  show Rows.memory (Rows.mixed (fun k => V m c main_v0 (ix2 i0 k))
      (Rows.joint (fun k => V m c main_v3 (ix2 k i0)) (fun k => V m c main_v5 (ix2 i0 k)) (fun k l => V m c main_v9 (ix2 k l)))
      (fun k => V m c main_v11 (ix2 0 k)))
    (fun k => V m c main_v13 (ix2 0 k)) (fun k l => V m c main_v15 (ix2 k l))
    (fun k l => V m c main_v7 (ix2 (kvRow i0 k) l))
    (fun k l => V m c main_v17 (ix2 k l)) (fun k => V m c main_v19 (ix2 0 k)) i1 = _
  rw [funext e0, funext e1, funext e2, funext fun k => funext (e3 k), funext fun k => funext (e4 k), funext e5, funext e6,
    funext fun k => funext (e7 k), funext fun k => funext (e8 k), funext e9]

end Cert.Kernel4Ideal.Mix

namespace Cert.Reference4Ideal.Mix

open Cert.Reference4Ideal Cert.Reference4Ideal.Gen Idealize.ShloMosaic Idealize.ShloMosaic.TcCoe Idealize.SL.Sem
open Cert.Proof Cert.Reference2Ideal.Ffn

/-- The reference's product of an activation and a square matrix. -/
def proj {F : FTy → Type} [FloatOps F] (x : FVec F S8x4096x1024 .f32) (w : FVec F S1024x1024 .f32) : FVec F S8x4096x1024 .f32 :=
  Host.dotGeneral dot_S8x4096x1024_S1024x1024_S8x4096x1024_2_0_01_1_n_n none x w

/-- It at an index. -/
theorem proj_apply (x : FVec Ideal S8x4096x1024 .f32) (w : FVec Ideal S1024x1024 .f32) (b : Fin 8) (t : Fin 4096) (c : Fin 1024) :
    proj x w (ix3 b t c) = Rows.rowMul (fun k => x (ix3 b t k)) (fun k l => w (ix2 k l)) c := by
  unfold proj
  pointwise [dot_S8x4096x1024_S1024x1024_S8x4096x1024_2_0_01_1_n_n]
  rfl

/-- The two halves of the mixer's output side by side. -/
def both {F : FTy → Type} [FloatOps F] (x y : FVec F S8x4096x512 .f32) : FVec F S8x4096x1024 .f32 :=
  concatenate S8x4096x1024 2 [⟨S8x4096x512, x⟩, ⟨S8x4096x512, y⟩] concatenates_S8x4096x512_S8x4096x512_S8x4096x1024_d2

/-- They at an index: the half the column lies in. -/
theorem both_apply (x y : FVec Ideal S8x4096x512 .f32) (b : Fin 8) (t : Fin 4096) (c : Fin 1024) :
    both x y (ix3 b t c) = if h : (c : ℕ) < 512 then x (ix3 b t ⟨c, h⟩) else y (ix3 b t ⟨c - 512, by omega⟩) := by
  unfold both
  pointwise

/-- The reference's scores of a query: per head the products over the head's columns, times 1/16. -/
def scores {F : FTy → Type} [FloatOps F] (q : FVec F S8x4096x1024 .f32) (kv : FVec F S8x256x2048 .f32) : FVec F S8x4x4096x256 .f32 :=
  mulf (Host.dotGeneral dot_S8x4096x4x256_S8x256x4x256_S8x4x4096x256_3_3_1_1_02_02 none
      (shapeCast S8x4096x4x256 q shapeCasts_S8x4096x1024_S8x4096x4x256)
      (shapeCast S8x256x4x256 (extractStridedSlice S8x256x1x4x256 ![0, 0, 0, 0, 0] (shapeCast S8x256x2x4x256 kv shapeCasts_S8x256x2048_S8x256x2x4x256)
        slices_S8x256x2x4x256_S8x256x1x4x256_0_0_0_0_0) shapeCasts_S8x256x1x4x256_S8x256x4x256))
    (broadcastInDim S8x4x4096x256 ![] bcast_S_S8x4x4096x256 (constant S_ .f32 0x3D800000#32))

/-- The reference's largest score of each row. -/
def tops {F : FTy → Type} [FloatOps F] (s : FVec F S8x4x4096x256 .f32) : FVec F S8x4x4096 .f32 :=
  Host.reduce FloatOps.maximumf s (constant S_ .f32 0xFF800000#32) reducesTo_S8x4x4096x256_S8x4x4096_d3 h_S_

/-- The reference's exponentials of the scores' distances to their largest. -/
def exps {F : FTy → Type} [FloatOps F] (s : FVec F S8x4x4096x256 .f32) (z : FVec F S8x4x4096 .f32) : FVec F S8x4x4096x256 .f32 :=
  Host.exp (subf s (broadcastInDim S8x4x4096x256 ![0, 1, 2, 3] bcast_S8x4x4096x1_S8x4x4096x256_0_1_2_3
      (broadcastInDim S8x4x4096x1 ![0, 1, 2] bcast_S8x4x4096_S8x4x4096x1_0_1_2
        (maximumf (broadcastInDim S8x4x4096 ![] bcast_S_S8x4x4096 (constant S_ .f32 0xFF800000#32)) z))))

/-- The reference's weights: the exponentials over their sum. -/
def weights {F : FTy → Type} [FloatOps F] (e : FVec F S8x4x4096x256 .f32) : FVec F S8x4x4096x256 .f32 :=
  Host.divf e (broadcastInDim S8x4x4096x256 ![0, 1, 2, 3] bcast_S8x4x4096x1_S8x4x4096x256_0_1_2_3
        (broadcastInDim S8x4x4096x1 ![0, 1, 2] bcast_S8x4x4096_S8x4x4096x1_0_1_2
          (Host.reduceAdd e (constant S_ .f32 0x00000000#32) reducesTo_S8x4x4096x256_S8x4x4096_d3 h_S_)))

/-- The reference's weighted sums of the values, the heads side by side. -/
def sums {F : FTy → Type} [FloatOps F] (p : FVec F S8x4x4096x256 .f32) (kv : FVec F S8x256x2048 .f32) : FVec F S8x4096x1024 .f32 :=
  shapeCast S8x4096x1024 (transpose S8x4096x4x256 [0, 3, 1, 2] (Host.dotGeneral dot_S8x256x4x256_S8x4x4096x256_S8x4x256x4096_1_3_3_2_02_01 none
      (shapeCast S8x256x4x256 (extractStridedSlice S8x256x1x4x256 ![0, 0, 1, 0, 0] (shapeCast S8x256x2x4x256 kv shapeCasts_S8x256x2048_S8x256x2x4x256)
        slices_S8x256x2x4x256_S8x256x1x4x256_0_0_1_0_0) shapeCasts_S8x256x1x4x256_S8x256x4x256) p)
    transposes_S8x4x256x4096_S8x4096x4x256_0_3_1_2) shapeCasts_S8x4096x4x256_S8x4096x1024

/-- They at an index. -/
theorem scores_apply (q : FVec Ideal S8x4096x1024 .f32) (kv : FVec Ideal S8x256x2048 .f32) (b : Fin 8) (h : Fin 4) (t : Fin 4096) (k : Fin 256) :
    scores q kv (ix4 b h t k) = (∑ d : Fin 256, q (ix3 b t ⟨256 * h + d, by omega⟩) * kv (ix3 b k ⟨256 * h + d, by omega⟩)) * Rows.sixteenth := by
  unfold scores
  pointwise [dot_S8x4096x4x256_S8x256x4x256_S8x4x4096x256_3_3_1_1_02_02]
  simp only [Nat.mul_comm 256]

/-- They at an index. -/
theorem tops_apply (s : FVec Ideal S8x4x4096x256 .f32) (b : Fin 8) (h : Fin 4) (t : Fin 4096) :
    tops s (ix3 b h t) = Rows.peak fun k => s (ix4 b h t k) := by
  unfold tops
  pointwise
  rfl

/-- They at an index. -/
theorem exps_apply (s : FVec Ideal S8x4x4096x256 .f32) (z : FVec Ideal S8x4x4096 .f32) (b : Fin 8) (h : Fin 4) (t : Fin 4096) (k : Fin 256) :
    exps s z (ix4 b h t k) = Ideal.exp (s (ix4 b h t k) - max (Ideal.ofBits .f32 0xFF800000#32) (z (ix3 b h t))) := by
  unfold exps
  pointwise

/-- They at an index. -/
theorem weights_apply (e : FVec Ideal S8x4x4096x256 .f32) (b : Fin 8) (h : Fin 4) (t : Fin 4096) (k : Fin 256) :
    weights e (ix4 b h t k) = Ideal.div (e (ix4 b h t k)) (∑ k, e (ix4 b h t k)) := by
  unfold weights
  pointwise

/-- They at an index. -/
theorem sums_apply (p : FVec Ideal S8x4x4096x256 .f32) (kv : FVec Ideal S8x256x2048 .f32) (b : Fin 8) (t : Fin 4096) (c : Fin 1024) :
    sums p kv (ix3 b t c) = ∑ k : Fin 256, p (ix4 b ⟨c / 256, by omega⟩ t k) * kv (ix3 b k ⟨1024 + 256 * (c / 256) + c % 256, by omega⟩) := by
  unfold sums
  pointwise [dot_S8x256x4x256_S8x4x4096x256_S8x4x256x4096_1_3_3_2_02_01]
  simp only [Nat.mul_comm 256]
  exact Finset.sum_congr rfl fun k _ => mul_comm _ _

/-- The reference's heads on a query. -/
def attend {F : FTy → Type} [FloatOps F] (q : FVec F S8x4096x1024 .f32) (kv : FVec F S8x256x2048 .f32) : FVec F S8x4096x1024 .f32 :=
  sums (weights (exps (scores q kv) (tops (scores q kv)))) kv

/-- It at an index: the attention's row formula of scaled queries. -/
theorem attend_apply (q : FVec Ideal S8x4096x1024 .f32) (kv : FVec Ideal S8x256x2048 .f32) (b : Fin 8) (t : Fin 4096) (c : Fin 1024) :
    attend q kv (ix3 b t c) = Rows.attended (fun k => q (ix3 b t k) * Rows.sixteenth) (fun k l => kv (ix3 b k l)) c := by
  unfold attend Rows.attended Rows.memHead Rows.soft
  simp only [sums_apply, weights_apply, exps_apply, tops_apply, scores_apply, Rows.max_peak, Rows.score_scaled]

/-- The reference as one term of its arguments. -/
def whole {F : FTy → Type} [FloatOps F] (x : FVec F S8x4096x1024 .f32) (of og : FVec F S8x4096x512 .f32) (kv : FVec F S8x256x2048 .f32)
    (w : FVec F S1x1024x1024 .f32) (gp gpre : FVec F S1x1024 .f32) (wq wo : FVec F S1x1024x1024 .f32) (gm : FVec F S1x1024 .f32) :
    FVec F S32768x1024 .f32 :=
  let mid : FVec F S8x4096x1024 .f32 := addf x (norm (proj (both of og) (shapeCast S1024x1024 w shapeCasts_S1x1024x1024_S1024x1024))
      (shapeCast S1024 gp shapeCasts_S1x1024_S1024))
  shapeCast S32768x1024 (addf mid (norm (proj (attend (proj (norm mid (shapeCast S1024 gpre shapeCasts_S1x1024_S1024))
      (shapeCast S1024x1024 wq shapeCasts_S1x1024x1024_S1024x1024)) kv) (shapeCast S1024x1024 wo shapeCasts_S1x1024x1024_S1024x1024))
      (shapeCast S1024 gm shapeCasts_S1x1024_S1024))) shapeCasts_S8x4096x1024_S32768x1024

/-- The reference's composed term is that result of the launched arguments. -/
theorem res_eq {F : FTy → Type} [FloatOps F] (m : (ℓ : Loc nD τ sig) → Buf (Elt F) ℓ) (c : Dev nD) :
    Value.res_main_v74 m c = whole (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := rfl

/-- It at an index: the row formula of the arguments. -/
theorem whole_apply (x : FVec Ideal S8x4096x1024 .f32) (of og : FVec Ideal S8x4096x512 .f32) (kv : FVec Ideal S8x256x2048 .f32)
    (w : FVec Ideal S1x1024x1024 .f32) (gp gpre : FVec Ideal S1x1024 .f32) (wq wo : FVec Ideal S1x1024x1024 .f32) (gm : FVec Ideal S1x1024 .f32)
    (i0 : Fin 32768) (i1 : Fin 1024) :
    whole x of og kv w gp gpre wq wo gm (ix2 i0 i1)
      = Rows.memory (Rows.mixed (fun k => x (ix3 ⟨i0 / 4096, by omega⟩ ⟨i0 % 4096, by omega⟩ k))
          (Rows.joint (fun k => of (ix3 ⟨i0 / 4096, by omega⟩ ⟨i0 % 4096, by omega⟩ k))
            (fun k => og (ix3 ⟨i0 / 4096, by omega⟩ ⟨i0 % 4096, by omega⟩ k)) (fun k l => w (ix3 0 k l)))
          (fun k => gp (ix2 0 k)))
        (fun k => gpre (ix2 0 k)) (fun k l => wq (ix3 0 k l)) (fun k l => kv (ix3 ⟨i0 / 4096, by omega⟩ k l))
        (fun k l => wo (ix3 0 k l)) (fun k => gm (ix2 0 k)) i1 := by
  have e : ∀ k : Fin 1024, Rows.rowMul (fun k => both of og (ix3 ⟨i0 / 4096, by omega⟩ ⟨i0 % 4096, by omega⟩ k)) (fun k l => w (ix3 0 k l)) k
      = Rows.joint (fun k => of (ix3 ⟨i0 / 4096, by omega⟩ ⟨i0 % 4096, by omega⟩ k))
            (fun k => og (ix3 ⟨i0 / 4096, by omega⟩ ⟨i0 % 4096, by omega⟩ k)) (fun k l => w (ix3 0 k l)) k := fun k => by
    simp only [both_apply]
    exact Rows.rowMul_joint (fun k => of (ix3 ⟨i0 / 4096, by omega⟩ ⟨i0 % 4096, by omega⟩ k))
      (fun k => og (ix3 ⟨i0 / 4096, by omega⟩ ⟨i0 % 4096, by omega⟩ k)) _ _
  unfold whole
  pointwise [norm_apply, proj_apply, attend_apply]
  simp only [e]
  rfl

end Cert.Reference4Ideal.Mix

namespace Cert.Proof.Mix

open Idealize.ShloMosaic Idealize.ShloMosaic.TcCoe Idealize.SL.Sem

/-- The generated frame of the call's kernel, read at the machine's floats. -/
theorem frame_kernel : Cert.quiescent_Kernel4 := fun m ρ _ => Cert.Kernel4.Gen.frame m ρ
/-- The same frame, read at the extended reals. -/
theorem frame_ideal : Cert.quiescent_Kernel4Ideal := fun m ρ _ => Cert.Kernel4Ideal.Gen.frame m ρ

/-- The reference's frame: its run, read at the arguments; it declares no semaphore. -/
theorem frame_reference : Cert.quiescent_Reference4Ideal := fun m ρ _ =>
  (θ_run Cert.Reference4Ideal.defs _ _).mono (fun r h => ⟨fun c => (h c).2,
      sem_eq_zero_of_no_sems (by decide) r.2⟩)
    (Cert.Reference4Ideal.Value.run (F := Ideal) m ρ)

/-- On the extended reals the kernel's result is the reference's, index by index. -/
theorem algebraic : Cert.algebraic_Kernel4Ideal_Reference4Ideal := by
  intro m ρ m' ρ' _ hagree
  refine ⟨fun c => Cert.Kernel4Ideal.Mix.result m c, ?_, ?_⟩
  · exact (θ_run Cert.Kernel4Ideal.defs _ _).mono
      (fun _ h c => ⟨(h c).1.trans (Cert.Kernel4Ideal.Mix.final m c), (h c).2⟩)
      (Cert.Kernel4Ideal.Value.run_blocks (F := Ideal) m ρ)
  refine (θ_run Cert.Reference4Ideal.defs _ _).mono (fun _ h c => ⟨(h c).1.trans ?_, (h c).2⟩)
    (Cert.Reference4Ideal.Value.run (F := Ideal) m' ρ')
  refine funext fun i => ?_
  obtain ⟨a0, a1, a2, a3, a4, a5, a6, a7, a8, a9⟩ := hagree c
  have key : ∀ (i0 : Fin 32768) (i1 : Fin 1024),
      Cert.Reference4Ideal.Value.res_main_v74 m' c (ix2 i0 i1) = Cert.Kernel4Ideal.Mix.result m c (ix2 i0 i1) := fun i0 i1 => by
    rw [Cert.Reference4Ideal.Mix.res_eq, Cert.Reference4Ideal.Mix.whole_apply, Cert.Kernel4Ideal.Mix.result_apply, a0, a1, a2, a3, a4, a5, a6, a7, a8, a9]
  have hi : i = ix2 (i 0 : Fin 32768) (i 1 : Fin 1024) := by funext a; fin_cases a <;> rfl
  rw [hi]
  exact key _ _

end Cert.Proof.Mix

end
-- ==== Proof.MemKv.lean ====
/-
  The memory tokens' keys and values: the norm of the memory's rows times one matrix. First the block of a grid point,
  then the array the call returns, then the reference, then the claims.
-/
module

public import proofs.«01_k».proof.Proof.FfnFinal
public import proofs.«01_k».proof.Proof.Gen.Kernel5.Frame
public import proofs.«01_k».proof.Proof.Gen.Kernel5Ideal.Value
public import proofs.«01_k».proof.Proof.Gen.Reference5Ideal.Run

@[expose] public section

set_option maxRecDepth 16384

noncomputable section

namespace Cert.Kernel5Ideal.Mem

open Cert.Kernel5Ideal Cert.Kernel5Ideal.Gen Idealize.ShloMosaic Idealize.ShloMosaic.TcCoe Idealize.SL.Sem
open Cert.Proof

/-- The body's product at an index: the normed row times the matrix. -/
theorem product_apply (x : Vec Ideal S256x1024 .f32) (g : Vec Ideal S1x1024 .f32) (w : Vec Ideal S1024x2048 .bf16) (r : Fin 256) (c : Fin 2048) :
    k0_pay1 x g w (ix2 r c)
      = Rows.rowMul (Rows.rms Rows.width (fun k => x (ix2 r k)) (fun k => g (ix2 0 k))) (fun k l => w (ix2 k l)) c := by
  unfold k0_pay1
  pointwise [dot_S256x1024_S1024x2048_S256x2048_1_0_0_1_n_n]
  rfl

/-- The staging block after a point, at an index. -/
theorem out_apply (x0 : Vec Ideal S256x1024 .f32) (x1 : Vec Ideal S1x1024 .f32) (x2 : Vec Ideal S1024x2048 .bf16) (y : S256x2048.Idx) :
    out0_3 x0 x1 x2 y
      = Rows.rowMul (Rows.rms Rows.width (fun k => x0 (ix2 (y 0) k)) (fun k => x1 (ix2 0 k))) (fun k l => x2 (ix2 k l)) (y 1) := by
  unfold out0_3
  simp (disch := decide) only [View.canon_cons_unit_lit, View.ld_unit_lit]
  idx_vars y
  exact product_apply x0 x1 x2 y0 y1

variable (m : (ℓ : Loc nD τ sig) → Buf (Elt Ideal) ℓ) (ρ : Dev nD → PrngReg)

/-- The result array as one function of the arrays at the region's entry. -/
def result (c : Dev nD) : Buf (Elt Ideal) ((c : Thread nD τ).loc main_v5) := fun i : S2048x2048.Idx =>
  Rows.rowMul (Rows.rms Rows.width (fun k => V m c main_v0 (ix2 (i 0) k)) (fun k => V m c main_v2 (ix2 0 k)))
    (fun k l => V m c main_v4 (ix2 k l)) (i 1)

/-- Where each window's block stands at a point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The result array after the run. -/
theorem final (c : Dev nD) : (dats m 0 c).arrAt 3 cfg0.N = result m c := by
  refine (dats m 0 c).arrAt_eq_of_covers 3 _ (by decide +kernel) fun t hf y => ?_
  blk_simp
  rw [after0_3]
  refine (out_apply _ _ _ y).trans ?_
  unfold result
  have e0 : ∀ k : Fin 1024, iblk m c 0 t (ix2 (y 0) k) = V m c main_v0 (ix2 ((win0_3.blk t).view.emb y 0) k) :=
    fun k => by blk_ext [iblk, idx t]
  have e1 : ∀ k : Fin 1024, iblk m c 1 t (ix2 0 k) = V m c main_v2 (ix2 0 k) := fun k => by blk_ext [iblk, idx t]
  have e2 : ∀ (k : Fin 1024) (l : Fin 2048), iblk m c 2 t (ix2 k l) = V m c main_v4 (ix2 k l) :=
    fun k l => by blk_ext [iblk, idx t]
  have e3 : y 1 = (win0_3.blk t).view.emb y 1 := Fin.ext (by blk_simp [idx t])
  simp only [e0, e1, e2, e3]

/-- The kernel's result at an index, of the launched arguments; row `R` is token `R % 256` of sequence `R / 256`. -/
theorem result_apply (c : Dev nD) (i0 i1 : Fin 2048) : result m c (ix2 i0 i1)
    = Rows.rowMul (Rows.rms Rows.width (fun k => m ((c : Thread nD τ).loc main_arg0) (ix3 ⟨i0 / 256, by omega⟩ ⟨i0 % 256, by omega⟩ k))
        (fun k => m ((c : Thread nD τ).loc main_arg1) (ix2 0 k))) (fun k l => m ((c : Thread nD τ).loc main_arg2) (ix3 0 k l)) i1 := by
  have e0 : ∀ k : Fin 1024, V m c main_v0 (ix2 i0 k)
      = m ((c : Thread nD τ).loc main_arg0) (ix3 ⟨i0 / 256, by omega⟩ ⟨i0 % 256, by omega⟩ k) := fun k => by
    entry_read; pointwise
  have e1 : ∀ k : Fin 1024, V m c main_v2 (ix2 0 k) = m ((c : Thread nD τ).loc main_arg1) (ix2 0 k) := fun k => by
    entry_read; pointwise
  have e2 : ∀ (k : Fin 1024) (l : Fin 2048), V m c main_v4 (ix2 k l) = m ((c : Thread nD τ).loc main_arg2) (ix3 0 k l) :=
    fun k l => by entry_read; pointwise
  show Rows.rowMul (Rows.rms Rows.width (fun k => V m c main_v0 (ix2 i0 k)) (fun k => V m c main_v2 (ix2 0 k)))
    (fun k l => V m c main_v4 (ix2 k l)) i1 = _
  rw [funext e0, funext e1, funext fun k => funext (e2 k)]

end Cert.Kernel5Ideal.Mem

namespace Cert.Reference5Ideal.Mem

open Cert.Reference5Ideal Cert.Reference5Ideal.Gen Idealize.ShloMosaic Idealize.ShloMosaic.TcCoe Idealize.SL.Sem
open Cert.Proof

/-- The reference's norm of the memory. -/
def norm {F : FTy → Type} [FloatOps F] (x : FVec F S8x256x1024 .f32) (g : FVec F S1024 .f32) : FVec F S8x256x1024 .f32 :=
  mulf (mulf x (broadcastInDim S8x256x1024 ![0, 1, 2] bcast_S8x256x1_S8x256x1024_0_1_2 (Host.rsqrt (addf (Host.divf
    (broadcastInDim S8x256x1 ![0, 1] bcast_S8x256_S8x256x1_0_1 (Host.reduceAdd (mulf x x) (constant S_ .f32 0x00000000#32)
      reducesTo_S8x256x1024_S8x256_d2 h_S_)) (broadcastInDim S8x256x1 ![] bcast_S_S8x256x1 (constant S_ .f32 0x44800000#32)))
    (broadcastInDim S8x256x1 ![] bcast_S_S8x256x1 (constant S_ .f32 0x358637BD#32))))))
    (broadcastInDim S8x256x1024 ![0, 1, 2] bcast_S1x1x1024_S8x256x1024_0_1_2
      (broadcastInDim S1x1x1024 ![2] bcast_S1024_S1x1x1024_2 g))

/-- It at an index: the row's root-mean-square norm. -/
theorem norm_apply (x : FVec Ideal S8x256x1024 .f32) (g : FVec Ideal S1024 .f32) (b : Fin 8) (t : Fin 256) (c : Fin 1024) :
    norm x g (ix3 b t c) = Rows.rms Rows.width (fun k => x (ix3 b t k)) (fun k => g (ix1 k)) c := by
  unfold norm
  pointwise
  rfl

/-- The reference as one term of its arguments. -/
def whole {F : FTy → Type} [FloatOps F] (x : FVec F S8x256x1024 .f32) (g : FVec F S1x1024 .f32) (w : FVec F S1x1024x2048 .f32) :
    FVec F S2048x2048 .bf16 :=
  truncf .bf16 (shapeCast S2048x2048 (Host.dotGeneral dot_S8x256x1024_S1024x2048_S8x256x2048_2_0_01_1_n_n none
    (norm x (shapeCast S1024 g shapeCasts_S1x1024_S1024)) (shapeCast S1024x2048 w shapeCasts_S1x1024x2048_S1024x2048))
    shapeCasts_S8x256x2048_S2048x2048) bitsLt_bf16_f32

/-- It at an index. -/
theorem whole_apply (x : FVec Ideal S8x256x1024 .f32) (g : FVec Ideal S1x1024 .f32) (w : FVec Ideal S1x1024x2048 .f32) (i0 i1 : Fin 2048) :
    whole x g w (ix2 i0 i1)
      = Rows.rowMul (Rows.rms Rows.width (fun k => x (ix3 ⟨i0 / 256, by omega⟩ ⟨i0 % 256, by omega⟩ k)) (fun k => g (ix2 0 k)))
          (fun k l => w (ix3 0 k l)) i1 := by
  unfold whole
  pointwise [norm_apply, dot_S8x256x1024_S1024x2048_S8x256x2048_2_0_01_1_n_n]
  rfl

end Cert.Reference5Ideal.Mem

namespace Cert.Proof.Mem

open Idealize.ShloMosaic Idealize.ShloMosaic.TcCoe Idealize.SL.Sem

/-- The generated frame of the call's kernel, read at the machine's floats. -/
theorem frame_kernel : Cert.quiescent_Kernel5 := fun m ρ _ => Cert.Kernel5.Gen.frame m ρ
/-- The same frame, read at the extended reals. -/
theorem frame_ideal : Cert.quiescent_Kernel5Ideal := fun m ρ _ => Cert.Kernel5Ideal.Gen.frame m ρ

/-- The reference's frame: its run, read at the arguments; it declares no semaphore. -/
theorem frame_reference : Cert.quiescent_Reference5Ideal := fun m ρ _ =>
  (θ_run Cert.Reference5Ideal.defs _ _).mono (fun r h => ⟨fun c => (h c).2,
      sem_eq_zero_of_no_sems (by decide) r.2⟩)
    (Cert.Reference5Ideal.Value.run (F := Ideal) m ρ)

/-- On the extended reals the kernel's result is the reference's, index by index. -/
theorem algebraic : Cert.algebraic_Kernel5Ideal_Reference5Ideal := by
  intro m ρ m' ρ' _ hagree
  refine ⟨fun c => Cert.Kernel5Ideal.Mem.result m c, ?_, ?_⟩
  · exact (θ_run Cert.Kernel5Ideal.defs _ _).mono
      (fun _ h c => ⟨(h c).1.trans (Cert.Kernel5Ideal.Mem.final m c), (h c).2⟩)
      (Cert.Kernel5Ideal.Value.run_blocks (F := Ideal) m ρ)
  refine (θ_run Cert.Reference5Ideal.defs _ _).mono (fun _ h c => ⟨(h c).1.trans ?_, (h c).2⟩)
    (Cert.Reference5Ideal.Value.run (F := Ideal) m' ρ')
  obtain ⟨a0, a1, a2⟩ := hagree c
  have key : Cert.Reference5Ideal.Mem.whole (F := Ideal) (m' ((c : Thread Cert.Reference5Ideal.nD Cert.Reference5Ideal.τ).loc Cert.Reference5Ideal.main_arg0))
      (m' ((c : Thread Cert.Reference5Ideal.nD Cert.Reference5Ideal.τ).loc Cert.Reference5Ideal.main_arg1))
      (m' ((c : Thread Cert.Reference5Ideal.nD Cert.Reference5Ideal.τ).loc Cert.Reference5Ideal.main_arg2)) = (Cert.Kernel5Ideal.Mem.result m c : Cert.Kernel5Ideal.S2048x2048.Idx → EReal) := by
    refine funext fun i => ?_
    have hi : i = ix2 (i 0 : Fin 2048) (i 1 : Fin 2048) := by funext a; fin_cases a <;> rfl
    rw [hi]
    exact (Cert.Reference5Ideal.Mem.whole_apply _ _ _ _ _).trans (by
      rw [a0, a1, a2]; exact (Cert.Kernel5Ideal.Mem.result_apply m c _ _).symm)
  exact key

end Cert.Proof.Mem
-- ==== Proof.lean ====
/- The certificate: every claim of `Cert.Claim`, from the modules that prove them. -/
module

public import proofs.«01_k».proof.Defs
public import proofs.«01_k».proof.Proof.GlaClaims
public import proofs.«01_k».proof.Proof.InClaims
public import proofs.«01_k».proof.Proof.FfnFinal
public import proofs.«01_k».proof.Proof.FfnFirst
public import proofs.«01_k».proof.Proof.MixOut
public import proofs.«01_k».proof.Proof.MemKv
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Gla.decays_facts, Inp.finite_facts,
  Gla.frame_kernel, Gla.frame_ideal, Gla.frame_ideal_pre (hPre_decays := Gla.decays_facts), Gla.frame_reference,
  Gla.frame_reference_pre (hPre_decays := Gla.decays_facts),
  FfnFinal.frame_kernel, FfnFinal.frame_ideal, FfnFinal.frame_reference,
  FfnFirst.frame_kernel, FfnFirst.frame_ideal, FfnFirst.frame_reference,
  Mix.frame_kernel, Mix.frame_ideal, Mix.frame_reference,
  Mem.frame_kernel, Mem.frame_ideal, Mem.frame_reference,
  Inp.frame_kernel, Inp.frame_ideal, Inp.frame_ideal_pre (hPre_finite := Inp.finite_facts), Inp.frame_reference,
  Inp.frame_reference_pre (hPre_finite := Inp.finite_facts),
  trivial, Gla.algebraic (hPre_decays := Gla.decays_facts), trivial, FfnFinal.algebraic, trivial, FfnFirst.algebraic, trivial, Mix.algebraic, trivial, Mem.algebraic,
  trivial, Inp.algebraic (hPre_finite := Inp.finite_facts)⟩

end Cert.Proof
